-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 2048, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 2048, 4, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 2048, 4, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 2048, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S2x128x512 1 × IVec S512x256 1 × IVec S2x128x4x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x128x4x64 .bf16 := Host.absf main_arg2
  let main_cst_1 : FVec F S_ .bf16 := constant S_ .bf16 0x7F80#16
  let main_v7 : FVec F S2x128x4x64 .bf16 := broadcastInDim S2x128x4x64 ![] bcast_S_S2x128x4x64 main_cst_1
  let main_v8 : IVec S2x128x4x64 1 := cmpf .olt main_v6 main_v7
  (main_v2, main_v5, main_v8)
-- ==== Pre_finite_ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x2048x512 : S_.BroadcastsInDim S2x2048x512 (![] : Fin 0 → Fin S2x2048x512.rank)
  bcast_S_S512x256 : S_.BroadcastsInDim S512x256 (![] : Fin 0 → Fin S512x256.rank)
  bcast_S_S2x2048x4x64 : S_.BroadcastsInDim S2x2048x4x64 (![] : Fin 0 → Fin S2x2048x4x64.rank)

variable [Facts]

def fn {F : FTy → Type} [FloatOps F] (main_arg0 : FVec F S2x2048x512 .bf16) (main_arg1 : FVec F S512x256 .bf16) (main_arg2 : FVec F S2x2048x4x64 .bf16) (main_arg3 : FVec F S2x2048x4x64 .bf16) (main_arg4 : FVec F S256x512 .bf16) : IVec S2x2048x512 1 × IVec S512x256 1 × IVec S2x2048x4x64 1 :=
  let main_v0 : FVec F S2x2048x512 .bf16 := Host.absf main_arg0
  let main_cst : FVec F S_ .bf16 := constant S_ .bf16 0x7F80#16
  let main_v1 : FVec F S2x2048x512 .bf16 := broadcastInDim S2x2048x512 ![] bcast_S_S2x2048x512 main_cst
  let main_v2 : IVec S2x2048x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x2048x4x64 .bf16 := Host.absf main_arg2
  let main_cst_1 : FVec F S_ .bf16 := constant S_ .bf16 0x7F80#16
  let main_v7 : FVec F S2x2048x4x64 .bf16 := broadcastInDim S2x2048x4x64 ![] bcast_S_S2x2048x4x64 main_cst_1
  let main_v8 : IVec S2x2048x4x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S3x2x4x128x64 : Shape := ⟨5, ![3, 2, 4, 128, 64]⟩
abbrev S2x4x32x64 : Shape := ⟨4, ![2, 4, 32, 64]⟩
abbrev S2x4x32x65 : Shape := ⟨4, ![2, 4, 32, 65]⟩
abbrev S16x2x4x32x65 : Shape := ⟨5, ![16, 2, 4, 32, 65]⟩
abbrev S4 : Shape := ⟨1, ![4]⟩
abbrev S48 : Shape := ⟨1, ![48]⟩
abbrev S3 : Shape := ⟨1, ![3]⟩
abbrev S16 : Shape := ⟨1, ![16]⟩
abbrev S2x4x128x64 : Shape := ⟨4, ![2, 4, 128, 64]⟩
abbrev S1x2x4x128x64 : Shape := ⟨5, ![1, 2, 4, 128, 64]⟩
abbrev S1x128x512 : Shape := ⟨3, ![1, 128, 512]⟩
abbrev S128x512 : Shape := ⟨2, ![128, 512]⟩
abbrev S128x256 : Shape := ⟨2, ![128, 256]⟩
abbrev S1x2x4x32x64 : Shape := ⟨5, ![1, 2, 4, 32, 64]⟩
abbrev S32x256 : Shape := ⟨2, ![32, 256]⟩
abbrev S32x4x64 : Shape := ⟨3, ![32, 4, 64]⟩
abbrev S4x32x64 : Shape := ⟨3, ![4, 32, 64]⟩
abbrev S1x4x32x64 : Shape := ⟨4, ![1, 4, 32, 64]⟩
abbrev S_ : Shape := ⟨0, ![]⟩
abbrev S1 : Shape := ⟨1, ![1]⟩
abbrev S1x1x32x64 : Shape := ⟨4, ![1, 1, 32, 64]⟩
abbrev S32x64 : Shape := ⟨2, ![32, 64]⟩
abbrev S1x1x1x128x64 : Shape := ⟨5, ![1, 1, 1, 128, 64]⟩
abbrev S128x64 : Shape := ⟨2, ![128, 64]⟩
abbrev S32x128 : Shape := ⟨2, ![32, 128]⟩
abbrev S32 : Shape := ⟨1, ![32]⟩
abbrev S32x1 : Shape := ⟨2, ![32, 1]⟩
abbrev S32x65 : Shape := ⟨2, ![32, 65]⟩
abbrev S1x1x32x65 : Shape := ⟨4, ![1, 1, 32, 65]⟩
abbrev S1x2x4x32x65 : Shape := ⟨5, ![1, 2, 4, 32, 65]⟩
abbrev S128x128 : Shape := ⟨2, ![128, 128]⟩
abbrev S128x32 : Shape := ⟨2, ![128, 32]⟩
abbrev S128x416 : Shape := ⟨2, ![128, 416]⟩
abbrev S416x64 : Shape := ⟨2, ![416, 64]⟩
abbrev S128 : Shape := ⟨1, ![128]⟩
abbrev S128x1 : Shape := ⟨2, ![128, 1]⟩
abbrev S16x2x4x32x64 : Shape := ⟨5, ![16, 2, 4, 32, 64]⟩
abbrev S16x2x4x32x1 : Shape := ⟨5, ![16, 2, 4, 32, 1]⟩
abbrev S2x4x32x1 : Shape := ⟨4, ![2, 4, 32, 1]⟩
abbrev S32x512 : Shape := ⟨2, ![32, 512]⟩
abbrev S1x32x512 : Shape := ⟨3, ![1, 32, 512]⟩

abbrev nBuf : Space → Nat
  | .hbm => 6
  | .vmem => 13
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S3x2x4x128x64, .bf16⟩
  | .local _ .vmem, ⟨7, _⟩ => ⟨S3x2x4x128x64, .bf16⟩
  | .local _ .vmem, ⟨8, _⟩ => ⟨S2x4x32x64, .bf16⟩
  | .local _ .vmem, ⟨9, _⟩ => ⟨S2x4x32x64, .bf16⟩
  | .local _ .vmem, ⟨10, _⟩ => ⟨S2x4x32x64, .bf16⟩
  | .local _ .vmem, ⟨11, _⟩ => ⟨S2x4x32x65, .bf16⟩
  | .local _ .vmem, ⟨12, _⟩ => ⟨S16x2x4x32x65, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  (ofTc nBuf bufTy 1 97 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_33 : BitVec 32 := 1#32
  let v34 : BitVec 32 := Scalar.addi v2 c1_i32_33
  let c16_i32_34 : BitVec 32 := 16#32
  let v35 : BitVec 32 := Scalar.remsi v34 c16_i32_34
  let c1_i32_36 : BitVec 32 := 1#32
  let v36 : BitVec 32 := Scalar.muli v35 c1_i32_36
  let v37 : BitVec 32 := Scalar.addi c0_i32_37 v36
  v37.toNat
def k0_dev2 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v38 : BitVec 32 := Scalar.addi v2 c2_i32
  let c16_i32_38 : BitVec 32 := 16#32
  let v39 : BitVec 32 := Scalar.remsi v38 c16_i32_38
  let c1_i32_40 : BitVec 32 := 1#32
  let v40 : BitVec 32 := Scalar.muli v39 c1_i32_40
  let v41 : BitVec 32 := Scalar.addi c0_i32_41 v40
  v41.toNat
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v42 : BitVec 32 := Scalar.addi v2 c3_i32
  let c16_i32_42 : BitVec 32 := 16#32
  let v43 : BitVec 32 := Scalar.remsi v42 c16_i32_42
  let c1_i32_44 : BitVec 32 := 1#32
  let v44 : BitVec 32 := Scalar.muli v43 c1_i32_44
  let v45 : BitVec 32 := Scalar.addi c0_i32_45 v44
  v45.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v46 : BitVec 32 := Scalar.addi v2 c4_i32
  let c16_i32_46 : BitVec 32 := 16#32
  let v47 : BitVec 32 := Scalar.remsi v46 c16_i32_46
  let c1_i32_48 : BitVec 32 := 1#32
  let v48 : BitVec 32 := Scalar.muli v47 c1_i32_48
  let v49 : BitVec 32 := Scalar.addi c0_i32_49 v48
  v49.toNat
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v50 : BitVec 32 := Scalar.addi v2 c5_i32
  let c16_i32_50 : BitVec 32 := 16#32
  let v51 : BitVec 32 := Scalar.remsi v50 c16_i32_50
  let c1_i32_52 : BitVec 32 := 1#32
  let v52 : BitVec 32 := Scalar.muli v51 c1_i32_52
  let v53 : BitVec 32 := Scalar.addi c0_i32_53 v52
  v53.toNat
def k0_dev6 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v54 : BitVec 32 := Scalar.addi v2 c6_i32
  let c16_i32_54 : BitVec 32 := 16#32
  let v55 : BitVec 32 := Scalar.remsi v54 c16_i32_54
  let c1_i32_56 : BitVec 32 := 1#32
  let v56 : BitVec 32 := Scalar.muli v55 c1_i32_56
  let v57 : BitVec 32 := Scalar.addi c0_i32_57 v56
  v57.toNat
def k0_dev7 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v58 : BitVec 32 := Scalar.addi v2 c7_i32
  let c16_i32_58 : BitVec 32 := 16#32
  let v59 : BitVec 32 := Scalar.remsi v58 c16_i32_58
  let c1_i32_60 : BitVec 32 := 1#32
  let v60 : BitVec 32 := Scalar.muli v59 c1_i32_60
  let v61 : BitVec 32 := Scalar.addi c0_i32_61 v60
  v61.toNat
def k0_dev8 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v62 : BitVec 32 := Scalar.addi v2 c8_i32
  let c16_i32_62 : BitVec 32 := 16#32
  let v63 : BitVec 32 := Scalar.remsi v62 c16_i32_62
  let c1_i32_64 : BitVec 32 := 1#32
  let v64 : BitVec 32 := Scalar.muli v63 c1_i32_64
  let v65 : BitVec 32 := Scalar.addi c0_i32_65 v64
  v65.toNat
def k0_dev9 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v66 : BitVec 32 := Scalar.addi v2 c9_i32
  let c16_i32_66 : BitVec 32 := 16#32
  let v67 : BitVec 32 := Scalar.remsi v66 c16_i32_66
  let c1_i32_68 : BitVec 32 := 1#32
  let v68 : BitVec 32 := Scalar.muli v67 c1_i32_68
  let v69 : BitVec 32 := Scalar.addi c0_i32_69 v68
  v69.toNat
def k0_dev10 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v70 : BitVec 32 := Scalar.addi v2 c10_i32
  let c16_i32_70 : BitVec 32 := 16#32
  let v71 : BitVec 32 := Scalar.remsi v70 c16_i32_70
  let c1_i32_72 : BitVec 32 := 1#32
  let v72 : BitVec 32 := Scalar.muli v71 c1_i32_72
  let v73 : BitVec 32 := Scalar.addi c0_i32_73 v72
  v73.toNat
def k0_dev11 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v74 : BitVec 32 := Scalar.addi v2 c11_i32
  let c16_i32_74 : BitVec 32 := 16#32
  let v75 : BitVec 32 := Scalar.remsi v74 c16_i32_74
  let c1_i32_76 : BitVec 32 := 1#32
  let v76 : BitVec 32 := Scalar.muli v75 c1_i32_76
  let v77 : BitVec 32 := Scalar.addi c0_i32_77 v76
  v77.toNat
def k0_dev12 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v78 : BitVec 32 := Scalar.addi v2 c12_i32
  let c16_i32_78 : BitVec 32 := 16#32
  let v79 : BitVec 32 := Scalar.remsi v78 c16_i32_78
  let c1_i32_80 : BitVec 32 := 1#32
  let v80 : BitVec 32 := Scalar.muli v79 c1_i32_80
  let v81 : BitVec 32 := Scalar.addi c0_i32_81 v80
  v81.toNat
def k0_dev13 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v82 : BitVec 32 := Scalar.addi v2 c13_i32
  let c16_i32_82 : BitVec 32 := 16#32
  let v83 : BitVec 32 := Scalar.remsi v82 c16_i32_82
  let c1_i32_84 : BitVec 32 := 1#32
  let v84 : BitVec 32 := Scalar.muli v83 c1_i32_84
  let v85 : BitVec 32 := Scalar.addi c0_i32_85 v84
  v85.toNat
def k0_dev14 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v86 : BitVec 32 := Scalar.addi v2 c14_i32
  let c16_i32_86 : BitVec 32 := 16#32
  let v87 : BitVec 32 := Scalar.remsi v86 c16_i32_86
  let c1_i32_88 : BitVec 32 := 1#32
  let v88 : BitVec 32 := Scalar.muli v87 c1_i32_88
  let v89 : BitVec 32 := Scalar.addi c0_i32_89 v88
  v89.toNat
def k0_dev15 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v90 : BitVec 32 := Scalar.addi v2 c15_i32
  let c16_i32_90 : BitVec 32 := 16#32
  let v91 : BitVec 32 := Scalar.remsi v90 c16_i32_90
  let c1_i32_92 : BitVec 32 := 1#32
  let v92 : BitVec 32 := Scalar.muli v91 c1_i32_92
  let v93 : BitVec 32 := Scalar.addi c0_i32_93 v92
  v93.toNat
def k0_dev16 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_99 : BitVec 32 := 1#32
  let v94 : BitVec 32 := Scalar.muli v5 c1_i32_99
  let v95 : BitVec 32 := Scalar.addi c0_i32_100 v94
  v95.toNat
def k0_dev17 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_113 : BitVec 32 := 1#32
  let v104 : BitVec 32 := Scalar.muli v5 c1_i32_113
  let v105 : BitVec 32 := Scalar.addi c0_i32_114 v104
  v105.toNat
def k0_dev18 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_127 : BitVec 32 := 1#32
  let v114 : BitVec 32 := Scalar.muli v7 c1_i32_127
  let v115 : BitVec 32 := Scalar.addi c0_i32_128 v114
  v115.toNat
def k0_dev19 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_141 : BitVec 32 := 1#32
  let v124 : BitVec 32 := Scalar.muli v7 c1_i32_141
  let v125 : BitVec 32 := Scalar.addi c0_i32_142 v124
  v125.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let v134 : BitVec 1 := Scalar.cmpi .eq v2 c0_i32_151
  let v135 : BitVec 32 := Scalar.extui v134
  let c0_i32_152 : BitVec 32 := 0#32
  let v136 : BitVec 1 := Scalar.cmpi .ne v135 c0_i32_152
  v136

def k0_dev20 : Nat :=
  let c0_i32_875 : BitVec 32 := 0#32
  let c1_i32_873 : BitVec 32 := 1#32
  let c1_i32_874 : BitVec 32 := 1#32
  let v783 : BitVec 32 := Scalar.muli c1_i32_873 c1_i32_874
  let v784 : BitVec 32 := Scalar.addi c0_i32_875 v783
  v784.toNat
def k0_dev21 : Nat :=
  let c0_i32_880 : BitVec 32 := 0#32
  let c1_i32_878 : BitVec 32 := 1#32
  let c1_i32_879 : BitVec 32 := 1#32
  let v789 : BitVec 32 := Scalar.muli c1_i32_878 c1_i32_879
  let v790 : BitVec 32 := Scalar.addi c0_i32_880 v789
  v790.toNat
def k0_dev22 : Nat :=
  let c0_i32_885 : BitVec 32 := 0#32
  let c1_i32_883 : BitVec 32 := 1#32
  let c1_i32_884 : BitVec 32 := 1#32
  let v795 : BitVec 32 := Scalar.muli c1_i32_883 c1_i32_884
  let v796 : BitVec 32 := Scalar.addi c0_i32_885 v795
  v796.toNat
def k0_dev23 : Nat :=
  let c0_i32_890 : BitVec 32 := 0#32
  let c2_i32_888 : BitVec 32 := 2#32
  let c1_i32_889 : BitVec 32 := 1#32
  let v801 : BitVec 32 := Scalar.muli c2_i32_888 c1_i32_889
  let v802 : BitVec 32 := Scalar.addi c0_i32_890 v801
  v802.toNat
def k0_dev24 : Nat :=
  let c0_i32_895 : BitVec 32 := 0#32
  let c2_i32_893 : BitVec 32 := 2#32
  let c1_i32_894 : BitVec 32 := 1#32
  let v807 : BitVec 32 := Scalar.muli c2_i32_893 c1_i32_894
  let v808 : BitVec 32 := Scalar.addi c0_i32_895 v807
  v808.toNat
def k0_dev25 : Nat :=
  let c0_i32_900 : BitVec 32 := 0#32
  let c2_i32_898 : BitVec 32 := 2#32
  let c1_i32_899 : BitVec 32 := 1#32
  let v813 : BitVec 32 := Scalar.muli c2_i32_898 c1_i32_899
  let v814 : BitVec 32 := Scalar.addi c0_i32_900 v813
  v814.toNat
def k0_dev26 : Nat :=
  let c0_i32_905 : BitVec 32 := 0#32
  let c3_i32_903 : BitVec 32 := 3#32
  let c1_i32_904 : BitVec 32 := 1#32
  let v819 : BitVec 32 := Scalar.muli c3_i32_903 c1_i32_904
  let v820 : BitVec 32 := Scalar.addi c0_i32_905 v819
  v820.toNat
def k0_dev27 : Nat :=
  let c0_i32_910 : BitVec 32 := 0#32
  let c3_i32_908 : BitVec 32 := 3#32
  let c1_i32_909 : BitVec 32 := 1#32
  let v825 : BitVec 32 := Scalar.muli c3_i32_908 c1_i32_909
  let v826 : BitVec 32 := Scalar.addi c0_i32_910 v825
  v826.toNat
def k0_dev28 : Nat :=
  let c0_i32_915 : BitVec 32 := 0#32
  let c3_i32_913 : BitVec 32 := 3#32
  let c1_i32_914 : BitVec 32 := 1#32
  let v831 : BitVec 32 := Scalar.muli c3_i32_913 c1_i32_914
  let v832 : BitVec 32 := Scalar.addi c0_i32_915 v831
  v832.toNat
def k0_dev29 : Nat :=
  let c0_i32_920 : BitVec 32 := 0#32
  let c4_i32_918 : BitVec 32 := 4#32
  let c1_i32_919 : BitVec 32 := 1#32
  let v837 : BitVec 32 := Scalar.muli c4_i32_918 c1_i32_919
  let v838 : BitVec 32 := Scalar.addi c0_i32_920 v837
  v838.toNat
def k0_dev30 : Nat :=
  let c0_i32_925 : BitVec 32 := 0#32
  let c4_i32_923 : BitVec 32 := 4#32
  let c1_i32_924 : BitVec 32 := 1#32
  let v843 : BitVec 32 := Scalar.muli c4_i32_923 c1_i32_924
  let v844 : BitVec 32 := Scalar.addi c0_i32_925 v843
  v844.toNat
def k0_dev31 : Nat :=
  let c0_i32_930 : BitVec 32 := 0#32
  let c4_i32_928 : BitVec 32 := 4#32
  let c1_i32_929 : BitVec 32 := 1#32
  let v849 : BitVec 32 := Scalar.muli c4_i32_928 c1_i32_929
  let v850 : BitVec 32 := Scalar.addi c0_i32_930 v849
  v850.toNat
def k0_dev32 : Nat :=
  let c0_i32_935 : BitVec 32 := 0#32
  let c5_i32_933 : BitVec 32 := 5#32
  let c1_i32_934 : BitVec 32 := 1#32
  let v855 : BitVec 32 := Scalar.muli c5_i32_933 c1_i32_934
  let v856 : BitVec 32 := Scalar.addi c0_i32_935 v855
  v856.toNat
def k0_dev33 : Nat :=
  let c0_i32_940 : BitVec 32 := 0#32
  let c5_i32_938 : BitVec 32 := 5#32
  let c1_i32_939 : BitVec 32 := 1#32
  let v861 : BitVec 32 := Scalar.muli c5_i32_938 c1_i32_939
  let v862 : BitVec 32 := Scalar.addi c0_i32_940 v861
  v862.toNat
def k0_dev34 : Nat :=
  let c0_i32_944 : BitVec 32 := 0#32
  let c5_i32_942 : BitVec 32 := 5#32
  let c1_i32_943 : BitVec 32 := 1#32
  let v867 : BitVec 32 := Scalar.muli c5_i32_942 c1_i32_943
  let v868 : BitVec 32 := Scalar.addi c0_i32_944 v867
  v868.toNat
def k0_dev35 : Nat :=
  let c0_i32_948 : BitVec 32 := 0#32
  let c6_i32_946 : BitVec 32 := 6#32
  let c1_i32_947 : BitVec 32 := 1#32
  let v873 : BitVec 32 := Scalar.muli c6_i32_946 c1_i32_947
  let v874 : BitVec 32 := Scalar.addi c0_i32_948 v873
  v874.toNat
def k0_dev36 : Nat :=
  let c0_i32_952 : BitVec 32 := 0#32
  let c6_i32_950 : BitVec 32 := 6#32
  let c1_i32_951 : BitVec 32 := 1#32
  let v879 : BitVec 32 := Scalar.muli c6_i32_950 c1_i32_951
  let v880 : BitVec 32 := Scalar.addi c0_i32_952 v879
  v880.toNat
def k0_dev37 : Nat :=
  let c0_i32_956 : BitVec 32 := 0#32
  let c6_i32_954 : BitVec 32 := 6#32
  let c1_i32_955 : BitVec 32 := 1#32
  let v885 : BitVec 32 := Scalar.muli c6_i32_954 c1_i32_955
  let v886 : BitVec 32 := Scalar.addi c0_i32_956 v885
  v886.toNat
def k0_dev38 : Nat :=
  let c0_i32_960 : BitVec 32 := 0#32
  let c7_i32_958 : BitVec 32 := 7#32
  let c1_i32_959 : BitVec 32 := 1#32
  let v891 : BitVec 32 := Scalar.muli c7_i32_958 c1_i32_959
  let v892 : BitVec 32 := Scalar.addi c0_i32_960 v891
  v892.toNat
def k0_dev39 : Nat :=
  let c0_i32_964 : BitVec 32 := 0#32
  let c7_i32_962 : BitVec 32 := 7#32
  let c1_i32_963 : BitVec 32 := 1#32
  let v897 : BitVec 32 := Scalar.muli c7_i32_962 c1_i32_963
  let v898 : BitVec 32 := Scalar.addi c0_i32_964 v897
  v898.toNat
def k0_dev40 : Nat :=
  let c0_i32_968 : BitVec 32 := 0#32
  let c7_i32_966 : BitVec 32 := 7#32
  let c1_i32_967 : BitVec 32 := 1#32
  let v903 : BitVec 32 := Scalar.muli c7_i32_966 c1_i32_967
  let v904 : BitVec 32 := Scalar.addi c0_i32_968 v903
  v904.toNat
def k0_dev41 : Nat :=
  let c0_i32_972 : BitVec 32 := 0#32
  let c8_i32_970 : BitVec 32 := 8#32
  let c1_i32_971 : BitVec 32 := 1#32
  let v909 : BitVec 32 := Scalar.muli c8_i32_970 c1_i32_971
  let v910 : BitVec 32 := Scalar.addi c0_i32_972 v909
  v910.toNat
def k0_dev42 : Nat :=
  let c0_i32_976 : BitVec 32 := 0#32
  let c8_i32_974 : BitVec 32 := 8#32
  let c1_i32_975 : BitVec 32 := 1#32
  let v915 : BitVec 32 := Scalar.muli c8_i32_974 c1_i32_975
  let v916 : BitVec 32 := Scalar.addi c0_i32_976 v915
  v916.toNat
def k0_dev43 : Nat :=
  let c0_i32_980 : BitVec 32 := 0#32
  let c8_i32_978 : BitVec 32 := 8#32
  let c1_i32_979 : BitVec 32 := 1#32
  let v921 : BitVec 32 := Scalar.muli c8_i32_978 c1_i32_979
  let v922 : BitVec 32 := Scalar.addi c0_i32_980 v921
  v922.toNat
def k0_dev44 : Nat :=
  let c0_i32_984 : BitVec 32 := 0#32
  let c9_i32_982 : BitVec 32 := 9#32
  let c1_i32_983 : BitVec 32 := 1#32
  let v927 : BitVec 32 := Scalar.muli c9_i32_982 c1_i32_983
  let v928 : BitVec 32 := Scalar.addi c0_i32_984 v927
  v928.toNat
def k0_dev45 : Nat :=
  let c0_i32_988 : BitVec 32 := 0#32
  let c9_i32_986 : BitVec 32 := 9#32
  let c1_i32_987 : BitVec 32 := 1#32
  let v933 : BitVec 32 := Scalar.muli c9_i32_986 c1_i32_987
  let v934 : BitVec 32 := Scalar.addi c0_i32_988 v933
  v934.toNat
def k0_dev46 : Nat :=
  let c0_i32_992 : BitVec 32 := 0#32
  let c9_i32_990 : BitVec 32 := 9#32
  let c1_i32_991 : BitVec 32 := 1#32
  let v939 : BitVec 32 := Scalar.muli c9_i32_990 c1_i32_991
  let v940 : BitVec 32 := Scalar.addi c0_i32_992 v939
  v940.toNat
def k0_dev47 : Nat :=
  let c0_i32_996 : BitVec 32 := 0#32
  let c10_i32_994 : BitVec 32 := 10#32
  let c1_i32_995 : BitVec 32 := 1#32
  let v945 : BitVec 32 := Scalar.muli c10_i32_994 c1_i32_995
  let v946 : BitVec 32 := Scalar.addi c0_i32_996 v945
  v946.toNat
def k0_dev48 : Nat :=
  let c0_i32_1000 : BitVec 32 := 0#32
  let c10_i32_998 : BitVec 32 := 10#32
  let c1_i32_999 : BitVec 32 := 1#32
  let v951 : BitVec 32 := Scalar.muli c10_i32_998 c1_i32_999
  let v952 : BitVec 32 := Scalar.addi c0_i32_1000 v951
  v952.toNat
def k0_dev49 : Nat :=
  let c0_i32_1004 : BitVec 32 := 0#32
  let c10_i32_1002 : BitVec 32 := 10#32
  let c1_i32_1003 : BitVec 32 := 1#32
  let v957 : BitVec 32 := Scalar.muli c10_i32_1002 c1_i32_1003
  let v958 : BitVec 32 := Scalar.addi c0_i32_1004 v957
  v958.toNat
def k0_dev50 : Nat :=
  let c0_i32_1008 : BitVec 32 := 0#32
  let c11_i32_1006 : BitVec 32 := 11#32
  let c1_i32_1007 : BitVec 32 := 1#32
  let v963 : BitVec 32 := Scalar.muli c11_i32_1006 c1_i32_1007
  let v964 : BitVec 32 := Scalar.addi c0_i32_1008 v963
  v964.toNat
def k0_dev51 : Nat :=
  let c0_i32_1012 : BitVec 32 := 0#32
  let c11_i32_1010 : BitVec 32 := 11#32
  let c1_i32_1011 : BitVec 32 := 1#32
  let v969 : BitVec 32 := Scalar.muli c11_i32_1010 c1_i32_1011
  let v970 : BitVec 32 := Scalar.addi c0_i32_1012 v969
  v970.toNat
def k0_dev52 : Nat :=
  let c0_i32_1016 : BitVec 32 := 0#32
  let c11_i32_1014 : BitVec 32 := 11#32
  let c1_i32_1015 : BitVec 32 := 1#32
  let v975 : BitVec 32 := Scalar.muli c11_i32_1014 c1_i32_1015
  let v976 : BitVec 32 := Scalar.addi c0_i32_1016 v975
  v976.toNat
def k0_dev53 : Nat :=
  let c0_i32_1020 : BitVec 32 := 0#32
  let c12_i32_1018 : BitVec 32 := 12#32
  let c1_i32_1019 : BitVec 32 := 1#32
  let v981 : BitVec 32 := Scalar.muli c12_i32_1018 c1_i32_1019
  let v982 : BitVec 32 := Scalar.addi c0_i32_1020 v981
  v982.toNat
def k0_dev54 : Nat :=
  let c0_i32_1024 : BitVec 32 := 0#32
  let c12_i32_1022 : BitVec 32 := 12#32
  let c1_i32_1023 : BitVec 32 := 1#32
  let v987 : BitVec 32 := Scalar.muli c12_i32_1022 c1_i32_1023
  let v988 : BitVec 32 := Scalar.addi c0_i32_1024 v987
  v988.toNat
def k0_dev55 : Nat :=
  let c0_i32_1028 : BitVec 32 := 0#32
  let c12_i32_1026 : BitVec 32 := 12#32
  let c1_i32_1027 : BitVec 32 := 1#32
  let v993 : BitVec 32 := Scalar.muli c12_i32_1026 c1_i32_1027
  let v994 : BitVec 32 := Scalar.addi c0_i32_1028 v993
  v994.toNat
def k0_dev56 : Nat :=
  let c0_i32_1032 : BitVec 32 := 0#32
  let c13_i32_1030 : BitVec 32 := 13#32
  let c1_i32_1031 : BitVec 32 := 1#32
  let v999 : BitVec 32 := Scalar.muli c13_i32_1030 c1_i32_1031
  let v1000 : BitVec 32 := Scalar.addi c0_i32_1032 v999
  v1000.toNat
def k0_dev57 : Nat :=
  let c0_i32_1036 : BitVec 32 := 0#32
  let c13_i32_1034 : BitVec 32 := 13#32
  let c1_i32_1035 : BitVec 32 := 1#32
  let v1005 : BitVec 32 := Scalar.muli c13_i32_1034 c1_i32_1035
  let v1006 : BitVec 32 := Scalar.addi c0_i32_1036 v1005
  v1006.toNat
def k0_dev58 : Nat :=
  let c0_i32_1040 : BitVec 32 := 0#32
  let c13_i32_1038 : BitVec 32 := 13#32
  let c1_i32_1039 : BitVec 32 := 1#32
  let v1011 : BitVec 32 := Scalar.muli c13_i32_1038 c1_i32_1039
  let v1012 : BitVec 32 := Scalar.addi c0_i32_1040 v1011
  v1012.toNat
def k0_dev59 : Nat :=
  let c0_i32_1044 : BitVec 32 := 0#32
  let c14_i32_1042 : BitVec 32 := 14#32
  let c1_i32_1043 : BitVec 32 := 1#32
  let v1017 : BitVec 32 := Scalar.muli c14_i32_1042 c1_i32_1043
  let v1018 : BitVec 32 := Scalar.addi c0_i32_1044 v1017
  v1018.toNat
def k0_dev60 : Nat :=
  let c0_i32_1048 : BitVec 32 := 0#32
  let c14_i32_1046 : BitVec 32 := 14#32
  let c1_i32_1047 : BitVec 32 := 1#32
  let v1023 : BitVec 32 := Scalar.muli c14_i32_1046 c1_i32_1047
  let v1024 : BitVec 32 := Scalar.addi c0_i32_1048 v1023
  v1024.toNat
def k0_dev61 : Nat :=
  let c0_i32_1052 : BitVec 32 := 0#32
  let c14_i32_1050 : BitVec 32 := 14#32
  let c1_i32_1051 : BitVec 32 := 1#32
  let v1029 : BitVec 32 := Scalar.muli c14_i32_1050 c1_i32_1051
  let v1030 : BitVec 32 := Scalar.addi c0_i32_1052 v1029
  v1030.toNat
def k0_dev62 : Nat :=
  let c0_i32_1056 : BitVec 32 := 0#32
  let c15_i32_1054 : BitVec 32 := 15#32
  let c1_i32_1055 : BitVec 32 := 1#32
  let v1035 : BitVec 32 := Scalar.muli c15_i32_1054 c1_i32_1055
  let v1036 : BitVec 32 := Scalar.addi c0_i32_1056 v1035
  v1036.toNat
def k0_dev63 : Nat :=
  let c0_i32_1060 : BitVec 32 := 0#32
  let c15_i32_1058 : BitVec 32 := 15#32
  let c1_i32_1059 : BitVec 32 := 1#32
  let v1041 : BitVec 32 := Scalar.muli c15_i32_1058 c1_i32_1059
  let v1042 : BitVec 32 := Scalar.addi c0_i32_1060 v1041
  v1042.toNat
def k0_dev64 : Nat :=
  let c0_i32_1064 : BitVec 32 := 0#32
  let c15_i32_1062 : BitVec 32 := 15#32
  let c1_i32_1063 : BitVec 32 := 1#32
  let v1047 : BitVec 32 := Scalar.muli c15_i32_1062 c1_i32_1063
  let v1048 : BitVec 32 := Scalar.addi c0_i32_1064 v1047
  v1048.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_329 : BitVec 32 := 1#32
  let v292 : BitVec 1 := Scalar.cmpi .eq v2 c1_i32_329
  let v293 : BitVec 32 := Scalar.extui v292
  let c0_i32_330 : BitVec 32 := 0#32
  let v294 : BitVec 1 := Scalar.cmpi .ne v293 c0_i32_330
  v294

def k0_dev65 : Nat :=
  let c0_i32_876 : BitVec 32 := 0#32
  let c0_i32_874 : BitVec 32 := 0#32
  let c1_i32_875 : BitVec 32 := 1#32
  let v783 : BitVec 32 := Scalar.muli c0_i32_874 c1_i32_875
  let v784 : BitVec 32 := Scalar.addi c0_i32_876 v783
  v784.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_331 : BitVec 32 := 2#32
  let v295 : BitVec 1 := Scalar.cmpi .eq v2 c2_i32_331
  let v296 : BitVec 32 := Scalar.extui v295
  let c0_i32_332 : BitVec 32 := 0#32
  let v297 : BitVec 1 := Scalar.cmpi .ne v296 c0_i32_332
  v297

def k0_dev66 : Nat :=
  let c0_i32_876 : BitVec 32 := 0#32
  let c0_i32_874 : BitVec 32 := 0#32
  let c1_i32_875 : BitVec 32 := 1#32
  let v783 : BitVec 32 := Scalar.muli c0_i32_874 c1_i32_875
  let v784 : BitVec 32 := Scalar.addi c0_i32_876 v783
  v784.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_333 : BitVec 32 := 3#32
  let v298 : BitVec 1 := Scalar.cmpi .eq v2 c3_i32_333
  let v299 : BitVec 32 := Scalar.extui v298
  let c0_i32_334 : BitVec 32 := 0#32
  let v300 : BitVec 1 := Scalar.cmpi .ne v299 c0_i32_334
  v300

def k0_dev67 : Nat :=
  let c0_i32_876 : BitVec 32 := 0#32
  let c0_i32_874 : BitVec 32 := 0#32
  let c1_i32_875 : BitVec 32 := 1#32
  let v783 : BitVec 32 := Scalar.muli c0_i32_874 c1_i32_875
  let v784 : BitVec 32 := Scalar.addi c0_i32_876 v783
  v784.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_335 : BitVec 32 := 4#32
  let v301 : BitVec 1 := Scalar.cmpi .eq v2 c4_i32_335
  let v302 : BitVec 32 := Scalar.extui v301
  let c0_i32_336 : BitVec 32 := 0#32
  let v303 : BitVec 1 := Scalar.cmpi .ne v302 c0_i32_336
  v303

def k0_dev68 : Nat :=
  let c0_i32_876 : BitVec 32 := 0#32
  let c0_i32_874 : BitVec 32 := 0#32
  let c1_i32_875 : BitVec 32 := 1#32
  let v783 : BitVec 32 := Scalar.muli c0_i32_874 c1_i32_875
  let v784 : BitVec 32 := Scalar.addi c0_i32_876 v783
  v784.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_337 : BitVec 32 := 5#32
  let v304 : BitVec 1 := Scalar.cmpi .eq v2 c5_i32_337
  let v305 : BitVec 32 := Scalar.extui v304
  let c0_i32_338 : BitVec 32 := 0#32
  let v306 : BitVec 1 := Scalar.cmpi .ne v305 c0_i32_338
  v306

def k0_dev69 : Nat :=
  let c0_i32_876 : BitVec 32 := 0#32
  let c0_i32_874 : BitVec 32 := 0#32
  let c1_i32_875 : BitVec 32 := 1#32
  let v783 : BitVec 32 := Scalar.muli c0_i32_874 c1_i32_875
  let v784 : BitVec 32 := Scalar.addi c0_i32_876 v783
  v784.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_339 : BitVec 32 := 6#32
  let v307 : BitVec 1 := Scalar.cmpi .eq v2 c6_i32_339
  let v308 : BitVec 32 := Scalar.extui v307
  let c0_i32_340 : BitVec 32 := 0#32
  let v309 : BitVec 1 := Scalar.cmpi .ne v308 c0_i32_340
  v309

def k0_dev70 : Nat :=
  let c0_i32_876 : BitVec 32 := 0#32
  let c0_i32_874 : BitVec 32 := 0#32
  let c1_i32_875 : BitVec 32 := 1#32
  let v783 : BitVec 32 := Scalar.muli c0_i32_874 c1_i32_875
  let v784 : BitVec 32 := Scalar.addi c0_i32_876 v783
  v784.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_341 : BitVec 32 := 7#32
  let v310 : BitVec 1 := Scalar.cmpi .eq v2 c7_i32_341
  let v311 : BitVec 32 := Scalar.extui v310
  let c0_i32_342 : BitVec 32 := 0#32
  let v312 : BitVec 1 := Scalar.cmpi .ne v311 c0_i32_342
  v312

def k0_dev71 : Nat :=
  let c0_i32_876 : BitVec 32 := 0#32
  let c0_i32_874 : BitVec 32 := 0#32
  let c1_i32_875 : BitVec 32 := 1#32
  let v783 : BitVec 32 := Scalar.muli c0_i32_874 c1_i32_875
  let v784 : BitVec 32 := Scalar.addi c0_i32_876 v783
  v784.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_343 : BitVec 32 := 8#32
  let v313 : BitVec 1 := Scalar.cmpi .eq v2 c8_i32_343
  let v314 : BitVec 32 := Scalar.extui v313
  let c0_i32_344 : BitVec 32 := 0#32
  let v315 : BitVec 1 := Scalar.cmpi .ne v314 c0_i32_344
  v315

def k0_dev72 : Nat :=
  let c0_i32_876 : BitVec 32 := 0#32
  let c0_i32_874 : BitVec 32 := 0#32
  let c1_i32_875 : BitVec 32 := 1#32
  let v783 : BitVec 32 := Scalar.muli c0_i32_874 c1_i32_875
  let v784 : BitVec 32 := Scalar.addi c0_i32_876 v783
  v784.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_345 : BitVec 32 := 9#32
  let v316 : BitVec 1 := Scalar.cmpi .eq v2 c9_i32_345
  let v317 : BitVec 32 := Scalar.extui v316
  let c0_i32_346 : BitVec 32 := 0#32
  let v318 : BitVec 1 := Scalar.cmpi .ne v317 c0_i32_346
  v318

def k0_dev73 : Nat :=
  let c0_i32_876 : BitVec 32 := 0#32
  let c0_i32_874 : BitVec 32 := 0#32
  let c1_i32_875 : BitVec 32 := 1#32
  let v783 : BitVec 32 := Scalar.muli c0_i32_874 c1_i32_875
  let v784 : BitVec 32 := Scalar.addi c0_i32_876 v783
  v784.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_347 : BitVec 32 := 10#32
  let v319 : BitVec 1 := Scalar.cmpi .eq v2 c10_i32_347
  let v320 : BitVec 32 := Scalar.extui v319
  let c0_i32_348 : BitVec 32 := 0#32
  let v321 : BitVec 1 := Scalar.cmpi .ne v320 c0_i32_348
  v321

def k0_dev74 : Nat :=
  let c0_i32_876 : BitVec 32 := 0#32
  let c0_i32_874 : BitVec 32 := 0#32
  let c1_i32_875 : BitVec 32 := 1#32
  let v783 : BitVec 32 := Scalar.muli c0_i32_874 c1_i32_875
  let v784 : BitVec 32 := Scalar.addi c0_i32_876 v783
  v784.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_349 : BitVec 32 := 11#32
  let v322 : BitVec 1 := Scalar.cmpi .eq v2 c11_i32_349
  let v323 : BitVec 32 := Scalar.extui v322
  let c0_i32_350 : BitVec 32 := 0#32
  let v324 : BitVec 1 := Scalar.cmpi .ne v323 c0_i32_350
  v324

def k0_dev75 : Nat :=
  let c0_i32_876 : BitVec 32 := 0#32
  let c0_i32_874 : BitVec 32 := 0#32
  let c1_i32_875 : BitVec 32 := 1#32
  let v783 : BitVec 32 := Scalar.muli c0_i32_874 c1_i32_875
  let v784 : BitVec 32 := Scalar.addi c0_i32_876 v783
  v784.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_351 : BitVec 32 := 12#32
  let v325 : BitVec 1 := Scalar.cmpi .eq v2 c12_i32_351
  let v326 : BitVec 32 := Scalar.extui v325
  let c0_i32_352 : BitVec 32 := 0#32
  let v327 : BitVec 1 := Scalar.cmpi .ne v326 c0_i32_352
  v327

def k0_dev76 : Nat :=
  let c0_i32_876 : BitVec 32 := 0#32
  let c0_i32_874 : BitVec 32 := 0#32
  let c1_i32_875 : BitVec 32 := 1#32
  let v783 : BitVec 32 := Scalar.muli c0_i32_874 c1_i32_875
  let v784 : BitVec 32 := Scalar.addi c0_i32_876 v783
  v784.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_353 : BitVec 32 := 13#32
  let v328 : BitVec 1 := Scalar.cmpi .eq v2 c13_i32_353
  let v329 : BitVec 32 := Scalar.extui v328
  let c0_i32_354 : BitVec 32 := 0#32
  let v330 : BitVec 1 := Scalar.cmpi .ne v329 c0_i32_354
  v330

def k0_dev77 : Nat :=
  let c0_i32_876 : BitVec 32 := 0#32
  let c0_i32_874 : BitVec 32 := 0#32
  let c1_i32_875 : BitVec 32 := 1#32
  let v783 : BitVec 32 := Scalar.muli c0_i32_874 c1_i32_875
  let v784 : BitVec 32 := Scalar.addi c0_i32_876 v783
  v784.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_355 : BitVec 32 := 14#32
  let v331 : BitVec 1 := Scalar.cmpi .eq v2 c14_i32_355
  let v332 : BitVec 32 := Scalar.extui v331
  let c0_i32_356 : BitVec 32 := 0#32
  let v333 : BitVec 1 := Scalar.cmpi .ne v332 c0_i32_356
  v333

def k0_dev78 : Nat :=
  let c0_i32_876 : BitVec 32 := 0#32
  let c0_i32_874 : BitVec 32 := 0#32
  let c1_i32_875 : BitVec 32 := 1#32
  let v783 : BitVec 32 := Scalar.muli c0_i32_874 c1_i32_875
  let v784 : BitVec 32 := Scalar.addi c0_i32_876 v783
  v784.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_357 : BitVec 32 := 15#32
  let v334 : BitVec 1 := Scalar.cmpi .eq v2 c15_i32_357
  let v335 : BitVec 32 := Scalar.extui v334
  let c0_i32_358 : BitVec 32 := 0#32
  let v336 : BitVec 1 := Scalar.cmpi .ne v335 c0_i32_358
  v336

def k0_dev79 : Nat :=
  let c0_i32_876 : BitVec 32 := 0#32
  let c0_i32_874 : BitVec 32 := 0#32
  let c1_i32_875 : BitVec 32 := 1#32
  let v783 : BitVec 32 := Scalar.muli c0_i32_874 c1_i32_875
  let v784 : BitVec 32 := Scalar.addi c0_i32_876 v783
  v784.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S2x2048x256 : Shape := ⟨3, ![2, 2048, 256]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2x4x2048x2048 : Shape := ⟨4, ![2, 4, 2048, 2048]⟩
abbrev S1x1x2048x2048 : Shape := ⟨4, ![1, 1, 2048, 2048]⟩
abbrev S2x4x2048 : Shape := ⟨3, ![2, 4, 2048]⟩
abbrev S2x4x2048x1 : Shape := ⟨4, ![2, 4, 2048, 1]⟩
abbrev S1x1x2048x1 : Shape := ⟨4, ![1, 1, 2048, 1]⟩
abbrev S2x4x64x2048 : Shape := ⟨4, ![2, 4, 64, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S512x256, .bf16⟩
  | .hbm, ⟨2, _⟩ => ⟨S2x2048x4x64, .bf16⟩
  | .hbm, ⟨3, _⟩ => ⟨S2x2048x4x64, .bf16⟩
  | .hbm, ⟨4, _⟩ => ⟨S256x512, .bf16⟩
  | .hbm, ⟨5, _⟩ => ⟨S2x2048x256, .f32⟩
  | .hbm, ⟨6, _⟩ => ⟨S2x2048x256, .bf16⟩
  | .hbm, ⟨7, _⟩ => ⟨S2x2048x4x64, .bf16⟩
  | .hbm, ⟨8, _⟩ => ⟨S2048, .i32⟩
  | .hbm, ⟨9, _⟩ => ⟨S2048x1, .i32⟩
  | .hbm, ⟨10, _⟩ => ⟨S2048, .i32⟩
  | .hbm, ⟨11, _⟩ => ⟨S1x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i32⟩
  | .hbm, ⟨16, _⟩ => ⟨S_, .i32⟩
  | .hbm, ⟨17, _⟩ => ⟨S2048x2048, .i32⟩
  | .hbm, ⟨18, _⟩ => ⟨S2048x2048, .i1⟩
  | .hbm, ⟨19, _⟩ => ⟨S_, .i32⟩
  | .hbm, ⟨20, _⟩ => ⟨S1x2048, .i32⟩
  | .hbm, ⟨21, _⟩ => ⟨S1x2048, .i1⟩
  | .hbm, ⟨22, _⟩ => ⟨S_, .i32⟩
  | .hbm, ⟨23, _⟩ => ⟨S2048x1, .i32⟩
  | .hbm, ⟨24, _⟩ => ⟨S2048x1, .i1⟩
  | .hbm, ⟨25, _⟩ => ⟨S2048x2048, .i1⟩
  | .hbm, ⟨26, _⟩ => ⟨S2048x2048, .i1⟩
  | .hbm, ⟨27, _⟩ => ⟨S2048x2048, .i1⟩
  | .hbm, ⟨28, _⟩ => ⟨S2048x2048, .i1⟩
  | .hbm, ⟨29, _⟩ => ⟨S2x4x2048x2048, .f32⟩
  | .hbm, ⟨30, _⟩ => ⟨S2x4x2048x2048, .bf16⟩
  | .hbm, ⟨31, _⟩ => ⟨S2x4x2048x2048, .f32⟩
  | .hbm, ⟨32, _⟩ => ⟨S_, .f32⟩
  | .hbm, ⟨33, _⟩ => ⟨S2x4x2048x2048, .f32⟩
  | .hbm, ⟨34, _⟩ => ⟨S2x4x2048x2048, .f32⟩
  | .hbm, ⟨35, _⟩ => ⟨S1x1x2048x2048, .i1⟩
  | .hbm, ⟨36, _⟩ => ⟨S_, .f32⟩
  | .hbm, ⟨37, _⟩ => ⟨S_, .f32⟩
  | .hbm, ⟨38, _⟩ => ⟨S2x4x2048x2048, .i1⟩
  | .hbm, ⟨39, _⟩ => ⟨S2x4x2048x2048, .f32⟩
  | .hbm, ⟨40, _⟩ => ⟨S2x4x2048x2048, .f32⟩
  | .hbm, ⟨41, _⟩ => ⟨S_, .f32⟩
  | .hbm, ⟨42, _⟩ => ⟨S2x4x2048, .f32⟩
  | .hbm, ⟨43, _⟩ => ⟨S2x4x2048x1, .f32⟩
  | .hbm, ⟨44, _⟩ => ⟨S2x4x2048x2048, .f32⟩
  | .hbm, ⟨45, _⟩ => ⟨S2x4x2048x2048, .f32⟩
  | .hbm, ⟨46, _⟩ => ⟨S2x4x2048x2048, .f32⟩
  | .hbm, ⟨47, _⟩ => ⟨S_, .i1⟩
  | .hbm, ⟨48, _⟩ => ⟨S2048, .i1⟩
  | .hbm, ⟨49, _⟩ => ⟨S1x1x2048x1, .i1⟩
  | .hbm, ⟨50, _⟩ => ⟨S_, .f32⟩
  | .hbm, ⟨51, _⟩ => ⟨S2x4x2048, .f32⟩
  | .hbm, ⟨52, _⟩ => ⟨S2x4x2048x1, .f32⟩
  | .hbm, ⟨53, _⟩ => ⟨S_, .f32⟩
  | .hbm, ⟨54, _⟩ => ⟨S_, .f32⟩
  | .hbm, ⟨55, _⟩ => ⟨S2x4x2048x1, .i1⟩
  | .hbm, ⟨56, _⟩ => ⟨S2x4x2048x1, .f32⟩
  | .hbm, ⟨57, _⟩ => ⟨S2x4x2048x1, .f32⟩
  | .hbm, ⟨58, _⟩ => ⟨S2x4x2048x2048, .f32⟩
  | .hbm, ⟨59, _⟩ => ⟨S2x4x2048x2048, .f32⟩
  | .hbm, ⟨60, _⟩ => ⟨S1x1x2048x1, .i1⟩
  | .hbm, ⟨61, _⟩ => ⟨S_, .f32⟩
  | .hbm, ⟨62, _⟩ => ⟨S_, .f32⟩
  | .hbm, ⟨63, _⟩ => ⟨S2x4x2048x2048, .i1⟩
  | .hbm, ⟨64, _⟩ => ⟨S2x4x2048x2048, .f32⟩
  | .hbm, ⟨65, _⟩ => ⟨S2x4x2048x2048, .f32⟩
  | .hbm, ⟨66, _⟩ => ⟨S2x2048x4x64, .f32⟩
  | .hbm, ⟨67, _⟩ => ⟨S2x4x64x2048, .f32⟩
  | .hbm, ⟨68, _⟩ => ⟨S2x2048x4x64, .f32⟩
  | .hbm, ⟨69, _⟩ => ⟨S2x2048x256, .f32⟩
  | .hbm, ⟨70, _⟩ => ⟨S256x512, .f32⟩
  | .hbm, ⟨71, _⟩ => ⟨S2x2048x512, .f32⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Same.lean ====
/-
# One text, two readings

At the bit-exact floats the idealized program is the kernel itself: its named constant reads as the printed one.
-/
module

public import proofs.«01_k».proof.Defs
public import proofs.«01_k».proof.Proof.Gen.Kernel
public import proofs.«01_k».proof.Proof.Gen.KernelIdeal
@[expose] public section
noncomputable section
namespace Cert.Same
open Idealize.ShloMosaic Idealize.SL.Sem

/-- The named constant read at the bit-exact instance is the constant as printed. -/
local instance namedBits : Named Bits where
  named _ _ {φ} bits := FloatOps.ofBits (F := Bits) φ bits

attribute [local instance] Cert.Kernel.Gen.facts Cert.KernelIdeal.Gen.facts

/-- The two programs declare the same buffers and semaphores, -/
theorem sig_eq : Cert.Kernel.sig = Cert.KernelIdeal.sig := rfl
/-- the same kernel table, -/
theorem defs0_eq : Cert.Kernel.defs₀ (F := Bits) = Cert.KernelIdeal.defs₀ (F := Bits) := by
  refine congrArg (Defs.onTc (nD := 16) (τ := Cert.KernelIdeal.τ) (sig := Cert.KernelIdeal.sig) (Val := Elt Bits) (Λ := Cert.KernelIdeal.Λ₀)) ?_
  funext p a
  match p, a with
  | 0, (t, s) => with_unfolding_all exact rfl
  | ⟨_ + 1, h⟩, _ => exact absurd h (Nat.not_lt.2 (Nat.le_add_left _ _))
/-- the same table with the pipeline around it, -/
theorem defs_eq : Cert.Kernel.defs (F := Bits) = Cert.KernelIdeal.defs (F := Bits) := by
  show Pipeline.defs (Cert.KernelIdeal.pcfgs (F := Bits)) (Cert.Kernel.defs₀ (F := Bits)) = _
  rw [defs0_eq]; rfl
/-- and the same entry. -/
theorem main_eq : Cert.Kernel.main (F := Bits) = Cert.KernelIdeal.main (F := Bits) := rfl
end Cert.Same
-- ==== Proof.Cont.lean ====
/-
# The buffers of the kernel and what each holds

The memrefs the body runs over, the element sets a transfer or a store touches, and the contents every buffer ends
with, device by device: the three band slots, the global blocks of device 0, the partial sums and the output block.
Nothing here depends on the floats' meaning.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

noncomputable section

namespace Cert.Att

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## Devices -/

/-- The device `i` places after `c` on the ring. -/
def off (c : Dev nD) (i : ℕ) : Dev nD := ⟨(c.val + i) % 16, Nat.mod_lt _ (by decide)⟩
/-- The right neighbour. -/
abbrev nxt (c : Dev nD) : Dev nD := off c 1
/-- The left neighbour. -/
abbrev prv (c : Dev nD) : Dev nD := off c 15
/-- The first device, which gathers the global rows. -/
abbrev dev0 : Dev nD := ⟨0, by decide⟩

/-- Two steps along the ring are one step of the sum. -/
theorem off_off (c : Dev nD) (i j : ℕ) : off (off c i) j = off c (i + j) := by
  apply Fin.ext; simp only [off]; omega
/-- Sixteen steps come back. -/
theorem off_16 (c : Dev nD) : off c 16 = c := by
  apply Fin.ext; simp only [off]; have : c.val < 16 := c.isLt; omega
/-- The step is periodic. -/
theorem off_mod (c : Dev nD) (i : ℕ) : off c (i + 16) = off c i := by
  apply Fin.ext; simp only [off]; omega
/-- No step of fewer than sixteen comes back. -/
theorem off_ne (c : Dev nD) (i : ℕ) (h0 : 0 < i) (h1 : i < 16) : off c i ≠ c := by
  intro h; have := congrArg Fin.val h; simp only [off] at this; have : c.val < 16 := c.isLt; omega

/-! ## The memrefs -/

abbrev xM : Memref sig .tc .vmem S2x128x512 .bf16 := Memref.whole cc0_stg0_0
abbrev wqM : Memref sig .tc .vmem S512x256 .bf16 := Memref.whole cc0_stg1_0
abbrev kiM : Memref sig .tc .vmem S2x128x4x64 .bf16 := Memref.whole cc0_stg2_0
abbrev viM : Memref sig .tc .vmem S2x128x4x64 .bf16 := Memref.whole cc0_stg3_0
abbrev woM : Memref sig .tc .vmem S256x512 .bf16 := Memref.whole cc0_stg4_0
abbrev oM : Memref sig .tc .vmem S2x128x512 .f32 := Memref.whole cc0_stg5_0
abbrev kM : Memref sig .tc .vmem S3x2x4x128x64 .bf16 := Memref.whole cc0_scratch0
abbrev vM : Memref sig .tc .vmem S3x2x4x128x64 .bf16 := Memref.whole cc0_scratch1
abbrev kgM : Memref sig .tc .vmem S2x4x32x64 .bf16 := Memref.whole cc0_scratch2
abbrev vgM : Memref sig .tc .vmem S2x4x32x64 .bf16 := Memref.whole cc0_scratch3
abbrev qgM : Memref sig .tc .vmem S2x4x32x64 .bf16 := Memref.whole cc0_scratch4
abbrev ppM : Memref sig .tc .vmem S2x4x32x65 .bf16 := Memref.whole cc0_scratch5
abbrev paM : Memref sig .tc .vmem S16x2x4x32x65 .bf16 := Memref.whole cc0_scratch6

/-! ## The element sets -/

/-- Slot `s` of a band buffer. -/
def slotSet (s : ℕ) : Finset S3x2x4x128x64.Idx := Finset.univ.filter fun i => (i 0).val = s
/-- Slot `s` of the buffer the partial sums land in. -/
def paSet (s : ℕ) : Finset S16x2x4x32x65.Idx := Finset.univ.filter fun i => (i 0).val = s

/-- Membership in the box of one slot of a band buffer. -/
theorem slot_box (s : ℕ) (h : ∀ a, (![s, 0, 0, 0, 0] : Fin 5 → ℕ) a + S1x2x4x128x64.size a ≤ S3x2x4x128x64.size a) :
    (Rect.unit (s := S3x2x4x128x64) ![s, 0, 0, 0, 0] S1x2x4x128x64.size h).set = slotSet s := by
  ext i
  rw [Rect.mem_set_unit, slotSet, Finset.mem_filter]
  constructor
  · intro hi
    have h0 := hi 0
    refine ⟨Finset.mem_univ _, ?_⟩
    have : s ≤ (i 0).val ∧ (i 0).val < s + 1 := h0
    omega
  · rintro ⟨-, h0⟩ a
    have hlt : (i a).val < S3x2x4x128x64.size a := (i a).isLt
    match a with
    | ⟨0, _⟩ => exact ⟨Nat.le_of_eq h0.symm, by show (i 0).val < s + 1; omega⟩
    | ⟨1, _⟩ => exact ⟨Nat.zero_le _, by simpa using hlt⟩
    | ⟨2, _⟩ => exact ⟨Nat.zero_le _, by simpa using hlt⟩
    | ⟨3, _⟩ => exact ⟨Nat.zero_le _, by simpa using hlt⟩
    | ⟨4, _⟩ => exact ⟨Nat.zero_le _, by simpa using hlt⟩

/-- Membership in the box of one slot of the partial sums' buffer. -/
theorem pa_box (s : ℕ) (h : ∀ a, (![s, 0, 0, 0, 0] : Fin 5 → ℕ) a + S1x2x4x32x65.size a ≤ S16x2x4x32x65.size a) :
    (Rect.unit (s := S16x2x4x32x65) ![s, 0, 0, 0, 0] S1x2x4x32x65.size h).set = paSet s := by
  ext i
  rw [Rect.mem_set_unit, paSet, Finset.mem_filter]
  constructor
  · intro hi
    have h0 := hi 0
    refine ⟨Finset.mem_univ _, ?_⟩
    have : s ≤ (i 0).val ∧ (i 0).val < s + 1 := h0
    omega
  · rintro ⟨-, h0⟩ a
    have hlt : (i a).val < S16x2x4x32x65.size a := (i a).isLt
    match a with
    | ⟨0, _⟩ => exact ⟨Nat.le_of_eq h0.symm, by show (i 0).val < s + 1; omega⟩
    | ⟨1, _⟩ => exact ⟨Nat.zero_le _, by simpa using hlt⟩
    | ⟨2, _⟩ => exact ⟨Nat.zero_le _, by simpa using hlt⟩
    | ⟨3, _⟩ => exact ⟨Nat.zero_le _, by simpa using hlt⟩
    | ⟨4, _⟩ => exact ⟨Nat.zero_le _, by simpa using hlt⟩

/-- Different slots of a band buffer share nothing. -/
theorem slot_disj {s s' : ℕ} (h : s ≠ s') : Disjoint (slotSet s) (slotSet s') := by
  rw [Finset.disjoint_left]; intro i hi hi'
  exact h ((Finset.mem_filter.mp hi).2.symm.trans (Finset.mem_filter.mp hi').2)
/-- Different slots of the partial sums' buffer share nothing. -/
theorem pa_disj {s s' : ℕ} (h : s ≠ s') : Disjoint (paSet s) (paSet s') := by
  rw [Finset.disjoint_left]; intro i hi hi'
  exact h ((Finset.mem_filter.mp hi).2.symm.trans (Finset.mem_filter.mp hi').2)
/-- The three slots are a band buffer. -/
theorem slot_univ : (Finset.univ : Finset S3x2x4x128x64.Idx) = (Finset.range 3).biUnion slotSet := by
  ext i
  simp only [Finset.mem_univ, Finset.mem_biUnion, Finset.mem_range, true_iff]
  exact ⟨(i 0).val, (i 0).isLt, Finset.mem_filter.mpr ⟨Finset.mem_univ _, rfl⟩⟩
/-- The sixteen slots are the partial sums' buffer. -/
theorem pa_univ : (Finset.univ : Finset S16x2x4x32x65.Idx) = (Finset.range 16).biUnion paSet := by
  ext i
  simp only [Finset.mem_univ, Finset.mem_biUnion, Finset.mem_range, true_iff]
  exact ⟨(i 0).val, (i 0).isLt, Finset.mem_filter.mpr ⟨Finset.mem_univ _, rfl⟩⟩

/-! ## Contents -/

variable (m : (ℓ : Loc nD τ sig) → Buf (Elt F) ℓ) (ρ : Dev nD → PrngReg)

/-- The launch's memory. -/
def s₀ : MemSt nD τ sig (Elt F) := ⟨m, fun _ => 0, ρ⟩

def xstg (c : Dev nD) : (cc0_stg0_0 : Ref sig .tc).ty.Contents (Elt F) :=
  (win0_0.blk (0 : Fin 1)).view.read (Elt F) (m ((c : Thread nD τ).loc main_arg0))
def wqstg (c : Dev nD) : (cc0_stg1_0 : Ref sig .tc).ty.Contents (Elt F) :=
  (win0_1.blk (0 : Fin 1)).view.read (Elt F) (m ((c : Thread nD τ).loc main_arg1))
def kstg (c : Dev nD) : (cc0_stg2_0 : Ref sig .tc).ty.Contents (Elt F) :=
  (win0_2.blk (0 : Fin 1)).view.read (Elt F) (m ((c : Thread nD τ).loc main_arg2))
def vstg (c : Dev nD) : (cc0_stg3_0 : Ref sig .tc).ty.Contents (Elt F) :=
  (win0_3.blk (0 : Fin 1)).view.read (Elt F) (m ((c : Thread nD τ).loc main_arg3))
def wostg (c : Dev nD) : (cc0_stg4_0 : Ref sig .tc).ty.Contents (Elt F) :=
  (win0_4.blk (0 : Fin 1)).view.read (Elt F) (m ((c : Thread nD τ).loc main_arg4))

/-- The two batches of device `c`'s activations. -/
def x0 (c : Dev nD) : Vec F S1x128x512 .bf16 :=
  xM.view.readAt (Elt F) (Rect.unit (s := S2x128x512) ![0, 0, 0] S1x128x512.size inb_S2x128x512_S1x128x512_0_0_0).toLoadRect (xstg m c)
def x1 (c : Dev nD) : Vec F S1x128x512 .bf16 :=
  xM.view.readAt (Elt F) (Rect.unit (s := S2x128x512) ![1, 0, 0] S1x128x512.size inb_S2x128x512_S1x128x512_1_0_0).toLoadRect (xstg m c)
/-- The two weights as the body uses them. -/
def wq (c : Dev nD) : FVec F S512x256 .bf16 := k0_pay6 (wqstg m c)
def wo (c : Dev nD) : FVec F S256x512 .bf16 := k0_pay7 (wostg m c)
/-- The two batches' queries. -/
def q0 (c : Dev nD) : FVec F S128x256 .f32 := k0_pay8 (wq m c) (x0 m c)
def q1 (c : Dev nD) : FVec F S128x256 .f32 := k0_pay9 (wq m c) (x1 m c)

/-- Device `c`'s own key and value blocks as stored in slot 1. -/
def KS (c : Dev nD) : FVec F S1x2x4x128x64 .bf16 := k0_pay4 (kstg m c)
def VS (c : Dev nD) : FVec F S1x2x4x128x64 .bf16 := k0_pay5 (vstg m c)

/-- The band buffers when the three slots are in: the left neighbour's block, the device's own, the right neighbour's. -/
def KB (c : Dev nD) : (cc0_scratch0 : Ref sig .tc).ty.Contents (Elt F) :=
  fun (i : S3x2x4x128x64.Idx) => KS m (off c ((i 0).val + 15)) (ix5 (0 : Fin 1) (i 1) (i 2) (i 3) (i 4))
def VB (c : Dev nD) : (cc0_scratch1 : Ref sig .tc).ty.Contents (Elt F) :=
  fun (i : S3x2x4x128x64.Idx) => VS m (off c ((i 0).val + 15)) (ix5 (0 : Fin 1) (i 1) (i 2) (i 3) (i 4))

/-- The global keys, values and queries: device 0's first rows. -/
def KG : (cc0_scratch2 : Ref sig .tc).ty.Contents (Elt F) :=
  k0_pay10 (kM.view.readAt (Elt F) (Rect.unit (s := S3x2x4x128x64) ![1, 0, 0, 0, 0] S1x2x4x32x64.size inb_S3x2x4x128x64_S1x2x4x32x64_1_0_0_0_0).toLoadRect (KB m dev0))
def VG : (cc0_scratch3 : Ref sig .tc).ty.Contents (Elt F) :=
  k0_pay11 (vM.view.readAt (Elt F) (Rect.unit (s := S3x2x4x128x64) ![1, 0, 0, 0, 0] S1x2x4x32x64.size inb_S3x2x4x128x64_S1x2x4x32x64_1_0_0_0_0).toLoadRect (VB m dev0))
def QG : (cc0_scratch4 : Ref sig .tc).ty.Contents (Elt F) :=
  fun (i : S2x4x32x64.Idx) => if (i 0).val = 0 then k0_pay12 (wq m dev0) (x0 m dev0) (ix4 (0 : Fin 1) (i 1) (i 2) (i 3))
    else k0_pay13 (wq m dev0) (x1 m dev0) (ix4 (0 : Fin 1) (i 1) (i 2) (i 3))

/-- Batch `b`, head `h` of a global block lies in the buffer; -/
theorem inbG (b h : ℕ) (hb : b < 2) (hh : h < 4) : ∀ a, (![b, h, 0, 0] : Fin 4 → ℕ) a + S1x1x32x64.size a ≤ S2x4x32x64.size a
  | ⟨0, _⟩ => by show b + 1 ≤ 2; omega
  | ⟨1, _⟩ => by show h + 1 ≤ 4; omega
  | ⟨2, _⟩ => by show 0 + 32 ≤ 32; omega
  | ⟨3, _⟩ => by show 0 + 64 ≤ 64; omega
/-- and of slot `s` of a band buffer in that. -/
theorem inbB (s b h : ℕ) (hs : s < 3) (hb : b < 2) (hh : h < 4) :
    ∀ a, (![s, b, h, 0, 0] : Fin 5 → ℕ) a + S1x1x1x128x64.size a ≤ S3x2x4x128x64.size a
  | ⟨0, _⟩ => by show s + 1 ≤ 3; omega
  | ⟨1, _⟩ => by show b + 1 ≤ 2; omega
  | ⟨2, _⟩ => by show h + 1 ≤ 4; omega
  | ⟨3, _⟩ => by show 0 + 128 ≤ 128; omega
  | ⟨4, _⟩ => by show 0 + 64 ≤ 64; omega

/-- Batch `b`, head `h` of slot `s` of the keys; of the values; -/
def kAt (c : Dev nD) (s b h : ℕ) (hs : s < 3) (hb : b < 2) (hh : h < 4) : Vec F S1x1x1x128x64 .bf16 :=
  kM.view.readAt (Elt F) (Rect.unit (s := S3x2x4x128x64) ![s, b, h, 0, 0] S1x1x1x128x64.size (inbB s b h hs hb hh)).toLoadRect (KB m c)
def vAt (c : Dev nD) (s b h : ℕ) (hs : s < 3) (hb : b < 2) (hh : h < 4) : Vec F S1x1x1x128x64 .bf16 :=
  vM.view.readAt (Elt F) (Rect.unit (s := S3x2x4x128x64) ![s, b, h, 0, 0] S1x1x1x128x64.size (inbB s b h hs hb hh)).toLoadRect (VB m c)
/-- of the global keys, values and queries. -/
def kgAt (b h : ℕ) (hb : b < 2) (hh : h < 4) : Vec F S1x1x32x64 .bf16 :=
  kgM.view.readAt (Elt F) (Rect.unit (s := S2x4x32x64) ![b, h, 0, 0] S1x1x32x64.size (inbG b h hb hh)).toLoadRect (KG m)
def vgAt (b h : ℕ) (hb : b < 2) (hh : h < 4) : Vec F S1x1x32x64 .bf16 :=
  vgM.view.readAt (Elt F) (Rect.unit (s := S2x4x32x64) ![b, h, 0, 0] S1x1x32x64.size (inbG b h hb hh)).toLoadRect (VG m)
def qgAt (b h : ℕ) (hb : b < 2) (hh : h < 4) : Vec F S1x1x32x64 .bf16 :=
  qgM.view.readAt (Elt F) (Rect.unit (s := S2x4x32x64) ![b, h, 0, 0] S1x1x32x64.size (inbG b h hb hh)).toLoadRect (QG m)

/-- The partial sums of one batch and head: the unnormalised weighted values and, in the last column, the weights' sum. -/
def part (c : Dev nD) (b h : ℕ) (hb : b < 2) (hh : h < 4) : FVec F S1x1x32x65 .bf16 :=
  k0_pay18 (qgAt m b h hb hh) (kAt m c 1 b h (by decide) hb hh) (vAt m c 1 b h (by decide) hb hh)
/-- Device `c`'s partial sums. -/
def PP (c : Dev nD) : (cc0_scratch5 : Ref sig .tc).ty.Contents (Elt F) :=
  fun (i : S2x4x32x65.Idx) => part m c (i 0).val (i 1).val (i 0).isLt (i 1).isLt (ix4 (0 : Fin 1) (0 : Fin 1) (i 2) (i 3))
/-- All devices' partial sums, gathered on device 0. -/
def PA : (cc0_scratch6 : Ref sig .tc).ty.Contents (Elt F) :=
  fun (i : S16x2x4x32x65.Idx) => PP m (off dev0 (i 0).val) (ix4 (i 1) (i 2) (i 3) (i 4))

end Cert.Att
-- ==== Proof.Sched.lean ====
/-
# The schedule of the kernel's semaphores

Every cell runs one round. Device `p`'s barrier cell collects one unit from each other device, and with it the
buffers of that device that `p` will write: a neighbour's free band slots, for device 0 everyone's global blocks, from
device 0 everyone's slot of the gathered partial sums. A transfer's source cell gives the lent share of its source
back, its destination cell the destination at its final contents.
-/
module

public import proofs.«01_k».proof.Proof.Cont

@[expose] public section

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) (Dev nD)
abbrev UU : Type := URounds (GSem nD τ sig) Unit × UB

local notation "𝕄" => MT nD τ sig Unit (Elt F) ℕ UU ℕ

abbrev EP : Emb (URounds (GSem nD τ sig) Unit) (MT nD τ sig Unit (Elt F) ℕ UU ℕ) := embL
abbrev ER : Emb UB (MT nD τ sig Unit (Elt F) ℕ UU ℕ) := embR

/-! ## Cells -/

/-- The barrier semaphore. -/
abbrev barS : Sem sig := (SemArray.scalar (sig.barrier 0 rfl) : Sems sig S_).sem
abbrev barCell (c : Dev nD) : GSem nD τ sig := ((c : Thread nD τ), .reg barS)
/-- The `n`-th transfer semaphore of device `c`. -/
abbrev dcell (c : Dev nD) (n : ℕ) : GSem nD τ sig := ((c : Thread nD τ), .dma (Fin.ofNat 97 n))

/-- What a transfer of a band slot, of a global block, of the partial sums counts. -/
abbrev NK : ℕ := ((kM.slice (Rect.unit (s := S3x2x4x128x64) ![1, 0, 0, 0, 0] S1x2x4x128x64.size inb_S3x2x4x128x64_S1x2x4x128x64_1_0_0_0_0) (fun _ => rfl)).squeeze S2x4x128x64 squeezes_S1x2x4x128x64_S2x4x128x64).view.dmaCredit
abbrev NG : ℕ := kgM.view.dmaCredit
abbrev NP : ℕ := ppM.view.dmaCredit
/-- A copy of keys or values counts for something. -/
theorem NK_pos : 0 < NK := View.dmaCredit_pos _ (by decide)
/-- A broadcast counts for something. -/
theorem NG_pos : 0 < NG := View.dmaCredit_pos _ (by decide)
/-- A partial result's copy counts for something. -/
theorem NP_pos : 0 < NP := View.dmaCredit_pos _ (by decide)

/-! ## Points-tos -/

variable (m : (ℓ : Loc nD τ sig) → Buf (Elt F) ℓ) (ρ : Dev nD → PrngReg)

/-- Slot `s` of device `c`'s keys (values) at share `q`, the neighbour's block in. -/
def kSlot (c : Dev nD) (s : ℕ) (q : PosShare TreeShare) : sProp 𝕄 := kM.view.loc (c : Thread nD τ) ↦[slotSet s]{q} KB m c
def vSlot (c : Dev nD) (s : ℕ) (q : PosShare TreeShare) : sProp 𝕄 := vM.view.loc (c : Thread nD τ) ↦[slotSet s]{q} VB m c
/-- The same slot before anything is in it. -/
def kFree (c : Dev nD) (s : ℕ) : sProp 𝕄 := iprop(∃ f : Buf (Elt F) (kM.view.loc (c : Thread nD τ)), kM.view.loc (c : Thread nD τ) ↦[slotSet s]{fullShare} f)
def vFree (c : Dev nD) (s : ℕ) : sProp 𝕄 := iprop(∃ f : Buf (Elt F) (vM.view.loc (c : Thread nD τ)), vM.view.loc (c : Thread nD τ) ↦[slotSet s]{fullShare} f)
/-- Device `c`'s copies of the global blocks. -/
def kgPts (c : Dev nD) (q : PosShare TreeShare) : sProp 𝕄 := kgM.view.loc (c : Thread nD τ) ↦{q} KG m
def vgPts (c : Dev nD) (q : PosShare TreeShare) : sProp 𝕄 := vgM.view.loc (c : Thread nD τ) ↦{q} VG m
def qgPts (c : Dev nD) (q : PosShare TreeShare) : sProp 𝕄 := qgM.view.loc (c : Thread nD τ) ↦{q} QG m
def kgFree (c : Dev nD) : sProp 𝕄 := iprop(∃ f : Buf (Elt F) (kgM.view.loc (c : Thread nD τ)), kgM.view.loc (c : Thread nD τ) ↦{fullShare} f)
def vgFree (c : Dev nD) : sProp 𝕄 := iprop(∃ f : Buf (Elt F) (vgM.view.loc (c : Thread nD τ)), vgM.view.loc (c : Thread nD τ) ↦{fullShare} f)
def qgFree (c : Dev nD) : sProp 𝕄 := iprop(∃ f : Buf (Elt F) (qgM.view.loc (c : Thread nD τ)), qgM.view.loc (c : Thread nD τ) ↦{fullShare} f)
/-- The partial sums of device `c`, and slot `s` of the gathered ones on device 0. -/
def ppPts (c : Dev nD) (q : PosShare TreeShare) : sProp 𝕄 := ppM.view.loc (c : Thread nD τ) ↦{q} PP m c
def paSlot (s : ℕ) : sProp 𝕄 := paM.view.loc (dev0 : Thread nD τ) ↦[paSet s]{fullShare} PA m
def paFree (c : Dev nD) (s : ℕ) : sProp 𝕄 := iprop(∃ f : Buf (Elt F) (paM.view.loc (c : Thread nD τ)), paM.view.loc (c : Thread nD τ) ↦[paSet s]{fullShare} f)

/-- A resource held under a condition. -/
def when (P : Prop) [Decidable P] (A : sProp 𝕄) : sProp 𝕄 := if P then A else iprop(emp)
omit [FloatOps F] [Named F] in
/-- A conditional part whose condition holds. -/
theorem when_pos {P : Prop} [Decidable P] (h : P) (A : sProp 𝕄) : when P A = A := if_pos h
omit [FloatOps F] [Named F] in
/-- A conditional part whose condition fails. -/
theorem when_neg {P : Prop} [Decidable P] (h : ¬P) (A : sProp 𝕄) : when P A = iprop(emp) := if_neg h

section Storable
instance (c : Dev nD) (s : ℕ) (q : PosShare TreeShare) : BI.Storable (upEmb : UEmb _ 𝕄) (kSlot (F := F) m c s q) := by unfold kSlot; infer_instance
instance (c : Dev nD) (s : ℕ) (q : PosShare TreeShare) : BI.Storable (upEmb : UEmb _ 𝕄) (vSlot (F := F) m c s q) := by unfold vSlot; infer_instance
omit [FloatOps F] [Named F] in
instance (c : Dev nD) (s : ℕ) : BI.Storable (upEmb : UEmb _ 𝕄) (kFree (F := F) c s) := by unfold kFree; infer_instance
omit [FloatOps F] [Named F] in
instance (c : Dev nD) (s : ℕ) : BI.Storable (upEmb : UEmb _ 𝕄) (vFree (F := F) c s) := by unfold vFree; infer_instance
instance (c : Dev nD) (q : PosShare TreeShare) : BI.Storable (upEmb : UEmb _ 𝕄) (kgPts (F := F) m c q) := by unfold kgPts; infer_instance
instance (c : Dev nD) (q : PosShare TreeShare) : BI.Storable (upEmb : UEmb _ 𝕄) (vgPts (F := F) m c q) := by unfold vgPts; infer_instance
instance (c : Dev nD) (q : PosShare TreeShare) : BI.Storable (upEmb : UEmb _ 𝕄) (qgPts (F := F) m c q) := by unfold qgPts; infer_instance
omit [FloatOps F] [Named F] in
instance (c : Dev nD) : BI.Storable (upEmb : UEmb _ 𝕄) (kgFree (F := F) c) := by unfold kgFree; infer_instance
omit [FloatOps F] [Named F] in
instance (c : Dev nD) : BI.Storable (upEmb : UEmb _ 𝕄) (vgFree (F := F) c) := by unfold vgFree; infer_instance
omit [FloatOps F] [Named F] in
instance (c : Dev nD) : BI.Storable (upEmb : UEmb _ 𝕄) (qgFree (F := F) c) := by unfold qgFree; infer_instance
instance (c : Dev nD) (q : PosShare TreeShare) : BI.Storable (upEmb : UEmb _ 𝕄) (ppPts (F := F) m c q) := by unfold ppPts; infer_instance
instance (s : ℕ) : BI.Storable (upEmb : UEmb _ 𝕄) (paSlot (F := F) m s) := by unfold paSlot; infer_instance
omit [FloatOps F] [Named F] in
instance (c : Dev nD) (s : ℕ) : BI.Storable (upEmb : UEmb _ 𝕄) (paFree (F := F) c s) := by unfold paFree; infer_instance
omit [FloatOps F] [Named F] in
instance (P : Prop) [Decidable P] (A : sProp 𝕄) [BI.Storable (upEmb : UEmb _ 𝕄) A] : BI.Storable (upEmb : UEmb _ 𝕄) (when P A) := by
  unfold when; split <;> infer_instance
end Storable

/-! ## Payloads -/

/-- The neighbour-slot part of a barrier payload: the slots of `p` that `c` writes. -/
def nbPay (c p : Dev nD) : sProp 𝕄 :=
  iprop(when (p = nxt c) iprop(kFree (F := F) p 0 ∗ vFree (F := F) p 0) ∗ when (p = prv c) iprop(kFree (F := F) p 2 ∗ vFree (F := F) p 2))
/-- What the unit `p` pays into `c`'s barrier hands `c`. -/
def barPay (c p : Dev nD) : sProp 𝕄 :=
  iprop(nbPay (F := F) c p ∗ when (c = dev0) iprop(kgFree (F := F) p ∗ vgFree (F := F) p ∗ qgFree (F := F) p) ∗ when (p = dev0) (paFree (F := F) dev0 c.val))

/-- A global block by its number. -/
def gPts (c : Dev nD) (j : ℕ) (q : PosShare TreeShare) : sProp 𝕄 :=
  if j = 0 then kgPts m c q else if j = 1 then vgPts m c q else qgPts m c q

/-- What transfer semaphore `n` of device `c` hands over. -/
def dmaPay (c : Dev nD) (n : ℕ) : sProp 𝕄 :=
  if n < 10 then (if n = 6 then kSlot m c 1 (shareTokN fullShare 0) else if n = 7 then vSlot m c 1 (shareTokN fullShare 0)
    else if n = 8 then kSlot m c 1 (shareTokN fullShare 1) else vSlot m c 1 (shareTokN fullShare 1))
  else if n < 14 then (if n = 10 then kSlot m c 2 fullShare else if n = 11 then vSlot m c 2 fullShare
    else if n = 12 then kSlot m c 0 fullShare else vSlot m c 0 fullShare)
  else if n < 62 then gPts m c ((n - 14) % 3) (shareTokN fullShare ((n - 14) / 3))
  else if n < 65 then gPts m c (n - 62) fullShare
  else if n < 81 then ppPts m c fullShare
  else paSlot m (n - 81)

instance (c : Dev nD) (j : ℕ) (q : PosShare TreeShare) : BI.Storable (upEmb : UEmb _ 𝕄) (gPts (F := F) m c j q) := by
  unfold gPts; (repeat' split) <;> infer_instance
instance (c : Dev nD) (n : ℕ) : BI.Storable (upEmb : UEmb _ 𝕄) (dmaPay (F := F) m c n) := by
  unfold dmaPay; (repeat' split) <;> infer_instance
omit [FloatOps F] [Named F] in
instance (c p : Dev nD) : BI.Storable (upEmb : UEmb _ 𝕄) (barPay (F := F) c p) := by
  unfold barPay nbPay; infer_instance

/-! ## The schedule -/

/-- Which transfer semaphores of device `c` a transfer completes on. -/
def live (c : Dev nD) (n : ℕ) : Prop :=
  (6 ≤ n ∧ n < 14) ∨ (17 ≤ n ∧ n < 62 ∧ c.val = 0) ∨ (62 ≤ n ∧ n < 65 ∧ c.val ≠ 0) ∨ (n = 65 + c.val ∧ c.val ≠ 0) ∨ (82 ≤ n ∧ n < 97 ∧ c.val = 0)
instance (c : Dev nD) (n : ℕ) : Decidable (live c n) := by unfold live; infer_instance

/-- What one completion counts there. -/
def amt (n : ℕ) : ℕ := if n < 14 then NK else if n < 65 then NG else NP
/-- Every transfer counts for something. -/
theorem amt_pos (n : ℕ) : 0 < amt n := by
  unfold amt; split
  · exact NK_pos
  · split
    · exact NG_pos
    · exact NP_pos

def Rd : Rounds.Schedule (GSem nD τ sig) (Dev nD) 𝕄 where
  duties g r := if r = 0 ∧ g.1.2 = .tc then (match g.2 with
    | .reg _ => Finset.univ.erase g.1.1
    | .dma n => if live g.1.1 n.val then {dev0} else ∅) else ∅
  unitless _ := False
  amount g _ _ := match g.2 with
    | .reg _ => 1
    | .dma n => amt n.val
  payload g _ d := match g.2 with
    | .reg _ => barPay g.1.1 d
    | .dma n => dmaPay m g.1.1 n.val
  amount_pos g _ _ _ := by
    rcases g with ⟨t, sm⟩
    cases sm with
    | reg _ => exact Nat.one_pos
    | dma n => exact amt_pos _

instance Rd_payload_storable (g : GSem nD τ sig) (r : ℕ) (d : Dev nD) : BI.Storable (upEmb : UEmb _ 𝕄) ((Rd (F := F) m).payload g r d) := by
  rcases g with ⟨t, sm⟩
  cases sm with
  | reg _ => show BI.Storable upEmb (barPay (F := F) t.1 d); infer_instance
  | dma n => show BI.Storable upEmb (dmaPay (F := F) m t.1 n.val); infer_instance

section Tables
variable (c : Dev nD)

/-- A device's barrier is signalled by the fifteen others. -/
theorem duties_bar : (Rd (F := F) m).duties (barCell c) 0 = Finset.univ.erase c := by dsimp only [Rd]; exact if_pos ⟨rfl, rfl⟩
/-- A semaphore's number below 97 is itself. -/
theorem ofNat_val {n : ℕ} (h : n < 97) : (Fin.ofNat 97 n).val = n := Nat.mod_eq_of_lt h
/-- A transfer in use completes once. -/
theorem duties_dma {n : ℕ} (hn : n < 97) (h : live c n) : (Rd (F := F) m).duties (dcell c n) 0 = {dev0} := by
  dsimp only [Rd]; rw [if_pos ⟨rfl, rfl⟩]
  rw [ofNat_val hn, if_pos h]
/-- A transfer not in use never completes. -/
theorem duties_dead {n : ℕ} (hn : n < 97) (h : ¬live c n) : (Rd (F := F) m).duties (dcell c n) 0 = ∅ := by
  dsimp only [Rd]; rw [if_pos ⟨rfl, rfl⟩]
  rw [ofNat_val hn, if_neg h]
/-- There is one round only. -/
theorem duties_later (g : GSem nD τ sig) (r : ℕ) (hr : 1 ≤ r) : (Rd (F := F) m).duties g r = ∅ := if_neg fun h => by omega
/-- Each barrier signal counts one. -/
theorem amount_bar (d : Dev nD) : (Rd (F := F) m).amount (barCell c) 0 d = 1 := rfl
/-- A transfer's completion counts its amount. -/
theorem amount_dma {n : ℕ} (hn : n < 97) (d : Dev nD) : (Rd (F := F) m).amount (dcell c n) 0 d = amt n := by
  show amt (Fin.ofNat 97 n).val = _; rw [ofNat_val hn]
/-- A barrier waits for fifteen. -/
theorem expect_bar : (Rd (F := F) m).expect (barCell c) 0 = 15 := by
  unfold Schedule.expect Schedule.amountOf
  rw [duties_bar, Finset.sum_congr rfl (fun d _ => amount_bar m c d), Finset.sum_const, Finset.card_erase_of_mem (Finset.mem_univ _)]
  rfl
/-- A transfer's wait is for its amount. -/
theorem expect_dma {n : ℕ} (hn : n < 97) (h : live c n) : (Rd (F := F) m).expect (dcell c n) 0 = amt n := by
  unfold Schedule.expect Schedule.amountOf
  rw [duties_dma m c hn h, Finset.sum_singleton, amount_dma m c hn]
/-- What a barrier signal brings. -/
theorem payload_bar (p : Dev nD) : (Rd (F := F) m).payload (barCell c) 0 p = barPay c p := rfl
/-- What a transfer's completion brings. -/
theorem payload_dma {n : ℕ} (hn : n < 97) (d : Dev nD) : (Rd (F := F) m).payload (dcell c n) 0 d = dmaPay m c n := by
  show dmaPay m c (Fin.ofNat 97 n).val = _; rw [ofNat_val hn]
/-- A barrier's wait brings what all fifteen others gave. -/
theorem rest_bar : bigSep ((Rd (F := F) m).duties (barCell c) 0 \ ∅) (fun u => (Rd (F := F) m).payload (barCell c) 0 u)
    = bigSep (Finset.univ.erase c) fun p => barPay (F := F) c p := by
  rw [Finset.sdiff_empty, duties_bar]; rfl
/-- A transfer's wait brings what the transfer gives. -/
theorem rest_dma {n : ℕ} (hn : n < 97) (h : live c n) :
    bigSep ((Rd (F := F) m).duties (dcell c n) 0 \ ∅) (fun u => (Rd (F := F) m).payload (dcell c n) 0 u) = dmaPay m c n := by
  rw [Finset.sdiff_empty, duties_dma m c hn h, bigSep_singleton, payload_dma m c hn]
end Tables

/-! ## What a device owes at launch, and the levels -/

/-- A run of `k` debts from number `a` on top of `b`, the first to be paid outermost. -/
def oseg (f : ℕ → CellTallies nD τ sig Unit) (b : CellTallies nD τ sig Unit) : ℕ → ℕ → CellTallies nD τ sig Unit
  | _, 0 => b
  | a, k + 1 => oseg f b (a + 1) k + f a
/-- What is owed along a row is a sum. -/
theorem oseg_eq (f : ℕ → CellTallies nD τ sig Unit) (b : CellTallies nD τ sig Unit) (a k : ℕ) :
    oseg f b a k = b + ∑ i ∈ Finset.range k, f (a + i) := by
  induction k generalizing a with
  | zero => simp [oseg]
  | succ k ih =>
    rw [oseg, ih, Finset.sum_range_succ', add_assoc]
    simp only [Nat.add_zero, Nat.add_assoc, Nat.add_comm 1]

/-- The debt of one broadcast, numbered `3 t + j`: block `j` to device `t`. -/
def brO (n : ℕ) : CellTallies nD τ sig Unit := tallyAt (dcell (off dev0 (n / 3)) (62 + n % 3)) () NG
/-- The debt of the partial sums. -/
def prO (c : Dev nD) : CellTallies nD τ sig Unit := tallyAt (dcell dev0 (81 + c.val)) () NP
/-- What is owed after the halo transfers. -/
def O₂ (c : Dev nD) : CellTallies nD τ sig Unit := if c = dev0 then oseg brO 0 3 45 else prO c
/-- What is owed after the barrier signals. -/
def O₁ (c : Dev nD) : CellTallies nD τ sig Unit :=
  O₂ c + tallyAt (dcell (nxt c) 13) () NK + tallyAt (dcell (nxt c) 12) () NK + tallyAt (dcell (prv c) 11) () NK + tallyAt (dcell (prv c) 10) () NK
def O₀ (c : Dev nD) : CellTallies nD τ sig Unit := oseg (fun i => tallyAt (barCell (off c i)) () 1) (O₁ c) 1 15

def L (g : GSem nD τ sig) : Finset Unit := if g.1.2 = .tc then {()} else ∅
def lv (g : GSem nD τ sig) (_ : Unit) : ℕ := match g.2 with
  | .reg _ => 1
  | .dma n => if n.val < 10 then 0 else if n.val < 14 then 2 else if n.val < 62 then 0 else if n.val < 65 then 2 else if n.val < 81 then 0 else 3
/-- Other cores have no levels. -/
theorem L_of_ne (g : GSem nD τ sig) (h : g.1.2 ≠ .tc) : L g = ∅ := if_neg h
/-- A TensorCore cell has its one level. -/
theorem L_tc (c : Dev nD) (sm : SemLoc sig) : L ((c : Thread nD τ), sm) = {()} := if_pos rfl

/-- The cells a tally names are TensorCore cells above a level. -/
def Above (k : ℕ) (O : CellTallies nD τ sig Unit) : Prop := ∀ g u, 0 < O g u → g.1.2 = .tc ∧ k < lv g u
/-- Owing nothing is above every level. -/
theorem Above.zero (k : ℕ) : Above k 0 := fun g u h => absurd h (Nat.lt_irrefl 0)
/-- A sum of tallies above a level is above it. -/
theorem Above.add {k : ℕ} {O D : CellTallies nD τ sig Unit} (hO : Above k O) (hD : Above k D) : Above k (O + D) := fun g u h => by
  rw [Pi.add_apply, Finsupp.add_apply] at h
  rcases Nat.lt_or_ge 0 (O g u) with h1 | h1
  · exact hO g u h1
  · exact hD g u (by omega)
/-- A tally at one cell above a level. -/
theorem Above.tally {k : ℕ} (c : Dev nD) (sm : SemLoc sig) (n : ℕ) (h : k < lv ((c : Thread nD τ), sm) ()) : Above k (tallyAt ((c : Thread nD τ), sm) () n) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)
/-- A row of tallies above a level is above it. -/
theorem Above.oseg {k : ℕ} {f : ℕ → CellTallies nD τ sig Unit} {b : CellTallies nD τ sig Unit} (hb : Above k b) (a n : ℕ)
    (hf : ∀ i, a ≤ i → i < a + n → Above k (f i)) : Above k (oseg f b a n) := by
  induction n generalizing a with
  | zero => exact hb
  | succ n ih => exact (ih (a + 1) fun i h1 h2 => hf i (by omega) (by omega)).add (hf a (le_refl a) (by omega))

/-- The level of a transfer's semaphore. -/
theorem lv_dma (c : Dev nD) {n : ℕ} (hn : n < 97) : lv (dcell c n) () =
    if n < 10 then 0 else if n < 14 then 2 else if n < 62 then 0 else if n < 65 then 2 else if n < 81 then 0 else 3 := by
  show (if (Fin.ofNat 97 n).val < 10 then _ else _) = _
  rw [ofNat_val hn]

/-- The partial results' debts are above level 2. -/
theorem above_prO (c : Dev nD) : Above 2 (prO c) := by
  have hc : c.val < 16 := c.isLt
  refine Above.tally _ _ _ ?_
  rw [lv_dma _ (by omega)]
  rw [if_neg (by omega), if_neg (by omega), if_neg (by omega), if_neg (by omega), if_neg (by omega)]; decide
/-- What is above a level is above any lower one. -/
theorem Above.mono {j k : ℕ} (h : j ≤ k) {O : CellTallies nD τ sig Unit} (hO : Above k O) : Above j O := fun g u hg =>
  ⟨(hO g u hg).1, lt_of_le_of_lt h (hO g u hg).2⟩
/-- The broadcasts' debts are above level 1. -/
theorem above_brO (n : ℕ) : Above 1 (brO n) := by
  have : n % 3 < 3 := Nat.mod_lt _ (by decide)
  refine Above.tally _ _ _ ?_
  rw [lv_dma _ (by omega)]
  rw [if_neg (by omega), if_neg (by omega), if_neg (by omega), if_pos (by omega)]; decide
/-- The debts after the halo transfers are above level 1. -/
theorem above_O₂ (c : Dev nD) : Above 1 (O₂ c) := by
  unfold O₂; split
  · exact (Above.zero 1).oseg _ _ fun i _ _ => above_brO i
  · exact (above_prO c).mono (by decide)
/-- The debts after the barrier are above level 1. -/
theorem above_O₁ (c : Dev nD) : Above 1 (O₁ c) :=
  ((((above_O₂ c).add (.tally _ _ _ (by rw [lv_dma _ (by decide)]; decide))).add (.tally _ _ _ (by rw [lv_dma _ (by decide)]; decide))).add
    (.tally _ _ _ (by rw [lv_dma _ (by decide)]; decide))).add (.tally _ _ _ (by rw [lv_dma _ (by decide)]; decide))
/-- The debts at launch are above level 0. -/
theorem above_O₀ (c : Dev nD) : Above 0 (O₀ c) :=
  ((above_O₁ c).mono (by decide)).oseg _ _ fun i _ _ => .tally _ _ _ (by show 0 < 1; decide)

omit [FloatOps F] [Named F] in
/-- A wait at level `k` may be made while only cells above `k` are owed. -/
theorem mayWait_above (c : Dev nD) (sm : SemLoc sig) (k : ℕ) (hk : lv ((c : Thread nD τ), sm) () ≤ k) {O : CellTallies nD τ sig Unit} (hO : Above k O) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hk)
    (fun g u hg => (hO g u hg).2)

end Cert.Att
-- ==== Proof.Steps.lean ====
/-
# The kernel's steps

One lemma per kind of operation the body makes on another device or on a semaphore: the signal on another device's
barrier, the transfer, the wait. Each takes the launch's records and gives back what the next operation needs.
-/
module

public import proofs.«01_k».proof.Proof.Sched
public import Idealize.ShloMosaic.Lib.ValueLayout
public import Idealize.SL.BI.BigOpNat

@[expose] public section

set_option maxRecDepth 4000

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (m : (ℓ : Loc nD τ sig) → Buf (Elt F) ℓ) (ρ : Dev nD → PrngReg)

/-! ## Runs of resources -/

/-- `Φ a ∗ … ∗ Φ (a + k - 1)`, to be taken from the front. -/
def seg (Φ : ℕ → sProp 𝕄) : ℕ → ℕ → sProp 𝕄
  | _, 0 => iprop(emp)
  | a, k + 1 => iprop(Φ a ∗ seg Φ (a + 1) k)
/-- The same, added to at the back. -/
def acc (Φ : ℕ → sProp 𝕄) (a : ℕ) : ℕ → sProp 𝕄
  | 0 => iprop(emp)
  | k + 1 => iprop(Φ (a + k) ∗ acc Φ a k)

omit [FloatOps F] [Named F] in
/-- A row is its first entry and the rest. -/
theorem seg_succ (Φ : ℕ → sProp 𝕄) (a k : ℕ) : seg Φ a (k + 1) = iprop(Φ a ∗ seg Φ (a + 1) k) := rfl
omit [FloatOps F] [Named F] in
/-- A row is all its entries, in no order. -/
theorem seg_eq (Φ : ℕ → sProp 𝕄) (a k : ℕ) : seg Φ a k = bigSep (Finset.Ico a (a + k)) Φ := by
  induction k generalizing a with
  | zero => rw [Nat.add_zero, Finset.Ico_self]; rfl
  | succ k ih =>
    rw [bigSep_Ico_succ_bot (by omega : a < a + (k + 1))]
    unfold seg; rw [ih (a + 1), show a + 1 + k = a + (k + 1) by omega]
omit [FloatOps F] [Named F] in
/-- A row built up from the left is all its entries, in no order. -/
theorem acc_eq (Φ : ℕ → sProp 𝕄) (a k : ℕ) : acc Φ a k = bigSep (Finset.Ico a (a + k)) Φ := by
  induction k with
  | zero => rw [Nat.add_zero, Finset.Ico_self]; rfl
  | succ k ih => unfold acc; rw [ih, show a + (k + 1) = (a + k) + 1 by omega, bigSep_Ico_succ_top (by omega : a ≤ a + k)]
omit [FloatOps F] [Named F] in
/-- A row and the same row built up from the left agree. -/
theorem seg_acc (Φ : ℕ → sProp 𝕄) (a k : ℕ) : seg Φ a k = acc Φ a k := (seg_eq Φ a k).trans (acc_eq Φ a k).symm
omit [FloatOps F] [Named F] in
/-- A row entails another, entry by entry. -/
theorem seg_mono {Φ Ψ : ℕ → sProp 𝕄} {a k : ℕ} (h : ∀ i, a ≤ i → i < a + k → Φ i ⊢ Ψ i) : seg Φ a k ⊢ seg Ψ a k := by
  rw [seg_eq, seg_eq]; exact bigSep_mono fun i hi => h i (Finset.mem_Ico.mp hi).1 (Finset.mem_Ico.mp hi).2
omit [FloatOps F] [Named F] in
/-- A row of pairs is a pair of rows. -/
theorem seg_sep (Φ Ψ : ℕ → sProp 𝕄) (a k : ℕ) : seg (fun i => iprop(Φ i ∗ Ψ i)) a k = iprop(seg Φ a k ∗ seg Ψ a k) := by
  rw [seg_eq, seg_eq, seg_eq, bigSep_sep']

/-- The devices other than `c`, counted around the ring. -/
theorem others_eq (c : Dev nD) : Finset.univ.erase c = (Finset.Ico 1 16).image (off c) := by revert c; decide
/-- The fifteen steps round the ring lead to different devices. -/
theorem off_inj (c : Dev nD) : Set.InjOn (off c) (Finset.Ico 1 16 : Finset ℕ) := by
  intro a ha b hb h
  have ha' := Finset.mem_Ico.mp ha; have hb' := Finset.mem_Ico.mp hb
  have := congrArg Fin.val h; simp only [off] at this; have : c.val < 16 := c.isLt; omega
omit [FloatOps F] [Named F] in
/-- The fifteen other devices, in ring order. -/
theorem others_seg (c : Dev nD) (Φ : Dev nD → sProp 𝕄) : bigSep (Finset.univ.erase c) Φ = seg (fun i => Φ (off c i)) 1 15 := by
  rw [seg_eq, others_eq, bigSep_image_of_injOn (off_inj c)]

/-! ## What every step reads -/

/-- The transfer semaphores of the body, and the barrier. -/
abbrev CIx : Type := Option (Fin 91)
def kcell (ck : Dev nD × CIx) : GSem nD τ sig := match ck.2 with
  | none => barCell ck.1
  | some i => dcell ck.1 (i.val + 6)

def records (K : Dev nD × CIx → ℕ) : sProp 𝕄 :=
  iprop((bigSep Finset.univ fun ck : Dev nD × CIx => cellInv ER (Rd m) (K ck) (kcell ck))
    ∗ bigSep Finset.univ fun ck : Dev nD × CIx => reached ER (kcell ck) 0)
instance records_persistent (K : Dev nD × CIx → ℕ) : BI.Persistent (records (F := F) m K) := by unfold records; infer_instance

/-- The launch's records: the cells' invariants, round 0 reached everywhere, the levels. -/
def env (K : Dev nD × CIx → ℕ) : sProp 𝕄 := iprop(records m K ∗ (levAts L lv : sProp 𝕄))
instance env_persistent (K : Dev nD × CIx → ℕ) : BI.Persistent (env (F := F) m K) := by unfold env; infer_instance

/-- The shared knowledge gives each cell's record. -/
theorem env_at (K : Dev nD × CIx → ℕ) (ck : Dev nD × CIx) :
    env (F := F) m K ⊢ iprop(cellInv ER (Rd m) (K ck) (kcell ck) ∗ reached ER (kcell ck) 0) := by
  unfold env records
  iintro ⟨⟨HI, HR⟩, -⟩
  isplitl [HI]
  · iapply (show _ ⊢ _ from bigSep_elim (Φ := fun ck : Dev nD × CIx => (cellInv ER (Rd m) (K ck) (kcell ck) : sProp 𝕄)) (Finset.mem_univ ck)); iexact HI
  · iapply (show _ ⊢ _ from bigSep_elim (Φ := fun ck : Dev nD × CIx => (reached ER (kcell ck) 0 : sProp 𝕄)) (Finset.mem_univ ck)); iexact HR
/-- The shared knowledge allows a wait below everything owed. -/
theorem env_may (K : Dev nD × CIx → ℕ) (c : Dev nD) (sm : SemLoc sig) (k : ℕ) (hk : lv ((c : Thread nD τ), sm) () ≤ k) {O : CellTallies nD τ sig Unit} (hO : Above k O) :
    env (F := F) m K ⊢ MayWait (c : Thread nD τ) sm () O := by
  unfold env
  iintro ⟨-, H⟩
  iapply (mayWait_above c sm k hk hO); iexact H
/-- Every device can reach every other. -/
theorem routes_ok (c d : Dev nD) : τ.routes (c : Thread nD τ) (d : Thread nD τ) = true := by routes

/-- The name of a transfer cell's invariant. -/
def kd (K : Dev nD × CIx → ℕ) (c : Dev nD) (n : ℕ) : ℕ := K (c, some (Fin.ofNat 91 (n - 6)))
/-- The shared knowledge of a barrier. -/
theorem env_bar (K : Dev nD × CIx → ℕ) (c : Dev nD) :
    env (F := F) m K ⊢ iprop(cellInv ER (Rd m) (K (c, none)) (barCell c) ∗ reached ER (barCell c) 0) := env_at m K (c, none)
/-- The shared knowledge of a transfer's semaphore. -/
theorem env_dma (K : Dev nD × CIx → ℕ) (c : Dev nD) {n : ℕ} (h6 : 6 ≤ n) (hn : n < 97) :
    env (F := F) m K ⊢ iprop(cellInv ER (Rd m) (kd K c n) (dcell c n) ∗ reached ER (dcell c n) 0) := by
  have h := env_at m K (c, some (Fin.ofNat 91 (n - 6)))
  have e : kcell (c, some (Fin.ofNat 91 (n - 6))) = dcell c n := by
    show dcell c ((Fin.ofNat 91 (n - 6)).val + 6) = _
    rw [show (Fin.ofNat 91 (n - 6)).val = n - 6 from Nat.mod_eq_of_lt (by omega), Nat.sub_add_cancel h6]
  rw [e] at h; exact h

/-- What device `c` owes, whatever it has waited for. -/
def owesE (c : Dev nD) (O : CellTallies nD τ sig Unit) : sProp 𝕄 := iprop(∃ W, owes (c : Thread nD τ) O W)

/-- The body's weakest precondition on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps
variable (K : Dev nD × CIx → ℕ) (c : Dev nD)
variable {α : Type} {k : PUnit → Prog (TpuEff nD τ sig (Elt F) Λ₀ .tc) α}

/-- What the signal number `i` hands in. -/
def sgP (c : Dev nD) (i : ℕ) : sProp 𝕄 := iprop(dutyTok ER (barCell (off c i)) 0 c ∗ barPay (F := F) (off c i) c)

/-- The signal on the barrier of the device `i` further around the ring. -/
theorem sig_step {Q : α → sProp (MT nD τ sig Unit (Elt F) ℕ UU ℕ)} (i j : ℕ) (hi : 0 < i) (hi' : i < 16) (d : Dev nD) (hd : d.val = (c.val + i) % 16) (b : CellTallies nD τ sig Unit) :
    iprop(env m K ∗ owesE (F := F) c (oseg (fun i => tallyAt (barCell (off c i)) () 1) b i (j + 1)) ∗ seg (sgP c) i (j + 1))
      ⊢ iprop(((owesE (F := F) c (oseg (fun i => tallyAt (barCell (off c i)) () 1) b (i + 1) j) ∗ seg (sgP c) (i + 1) j) -∗ wpc c (k ⟨⟩) Q)
        -∗ wpc c (.op (.semSignal ((d : Dev nD), Proc.tc) barS ((1#32).toInt.toNat)) k) Q) := by
  obtain rfl : d = off c i := Fin.ext hd
  rw [seg_succ, show sgP (F := F) c i = iprop(dutyTok ER (barCell (off c i)) 0 c ∗ barPay (F := F) (off c i) c) from rfl]
  unfold owesE
  iintro ⟨#HE, ⟨%W, HO⟩, ⟨Ht, Hp⟩, Hs⟩ Hk
  ihave HI := (env_bar m K (off c i)) $$ HE
  icases HI with ⟨HI, HR⟩
  iapply (Rounds.wp_signal 𝒱₀ ER (Rd m) (c : Thread nD τ) none (dst := (off c i : Thread nD τ)) (κ := K (off c i, none))
      (by rw [duties_bar]; exact Finset.mem_erase.mpr ⟨(off_ne c i hi hi').symm, Finset.mem_univ _⟩) ((amount_bar m (off c i) c).trans (by decide)) ()
      (oseg (fun i => tallyAt (barCell (off c i)) () 1) b (i + 1) j) rfl (hr := routes_ok c (off c i))) $$ [HI HR HO Ht Hp]
  · isplitl [HI]; · iexact HI
    isplitl [HO]; · iexact HO
    isplitl [Ht]; · iexact Ht
    isplitl [Hp]; · rw [payload_bar]; iexact Hp
    iexact HR
  iintro HO
  iapply Hk
  isplitl [HO]; · iexists W; iexact HO
  iexact Hs

/-- The wait on the barrier. -/
theorem bar_step {Q : α → sProp (MT nD τ sig Unit (Elt F) ℕ UU ℕ)} (O : CellTallies nD τ sig Unit) (hO : Above 1 O) :
    iprop(env m K ∗ owesE (F := F) c O ∗ cred (tallyAt (barCell c) () 15) ∗ atPos ER (barCell c) 0 ∅ 0)
      ⊢ iprop(((owesE (F := F) c O ∗ (seg (fun i => barPay (F := F) c (off c i)) 1 15) ∗ semVal (barCell c) 0) -∗ wpc c (k ⟨⟩) Q)
        -∗ wpc c (.op (.semWait barS ((15#32).toInt.toNat)) k) Q) := by
  unfold owesE
  iintro ⟨#HE, ⟨%W, HO⟩, Hc, Hat⟩ Hk
  ihave HI := (env_bar m K c) $$ HE
  icases HI with ⟨#HI, HR⟩
  ihave HM := (env_may m K c (.reg barS) 1 (le_refl _) hO) $$ HE
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [HI Hc HO HM Hat]
  · isplitr; · iexact HI
    isplitl [Hc]; · iexact Hc
    isplitl [HO]; · iexact HO
    isplitl [HM]; · iexact HM
    iexact Hat
  iintro ⟨HO, Hat, -, Hp⟩
  imod (Rounds.cell_close ER (Rd m) (κ := K (c, none)) (Es := Set.univ) (Set.mem_univ _) (g := barCell c) (R := 1) (fun h => h) (fun r hr => duties_later m (barCell c) r hr)) $$ [Hat] with Hz
  · isplitr; · iexact HI
    iexact Hat
  iapply Hk
  isplitl [HO]; · iexists _; iexact HO
  isplitl [Hp]
  · iapply (Entails.of_eq ((rest_bar m c).trans (others_seg c (fun p => barPay (F := F) c p)))); iexact Hp
  iexact Hz

/-- A wait on a transfer semaphore. -/
theorem wait_step {Q : α → sProp (MT nD τ sig Unit (Elt F) ℕ UU ℕ)} (n : ℕ) (h6 : 6 ≤ n) (hn : n < 97) (hl : live c n) {w : TpuEff nD τ sig (Elt F) Λ₀ .tc PUnit} {N : ℕ}
    (hw : ∀ K : PUnit → sProp 𝕄, wpE (defs₀ (F := F)) 𝒱₀ (c : Thread nD τ) none Set.univ w K = waitSpec (c : Thread nD τ) Set.univ (.dma (Fin.ofNat 97 n)) N K)
    (hN : N = amt n) (l : ℕ) (O : CellTallies nD τ sig Unit) (hlv : lv (dcell c n) () ≤ l) (hO : Above l O) :
    iprop(env m K ∗ owesE (F := F) c O ∗ cred (tallyAt (dcell c n) () N) ∗ atPos ER (dcell c n) 0 ∅ 0)
      ⊢ iprop(((owesE (F := F) c O ∗ dmaPay m c n ∗ semVal (dcell c n) 0) -∗ wpc c (k ⟨⟩) Q)
        -∗ wpc c (.op w k) Q) := by
  subst hN
  unfold owesE
  iintro ⟨#HE, ⟨%W, HO⟩, Hc, Hat⟩ Hk
  ihave HI := (env_dma m K c h6 hn) $$ HE
  icases HI with ⟨#HI, HR⟩
  ihave HM := (env_may m K c (.dma (Fin.ofNat 97 n)) l hlv hO) $$ HE
  iapply (Rounds.wp_wait_rest_token 𝒱₀ ER (Rd m) (c : Thread nD τ) none (κ := kd K c n)
      hw (Set.mem_univ _) () (O := O) (W := W) (R := 0) (m := 0) (T := ∅)
      (by rw [expect_dma m c hn hl, Nat.zero_add])) $$ [HI Hc HO HM Hat]
  · isplitr; · iexact HI
    isplitl [Hc]; · iexact Hc
    isplitl [HO]; · iexact HO
    isplitl [HM]; · iexact HM
    iexact Hat
  iintro ⟨HO, Hat, -, Hp⟩
  imod (Rounds.cell_close ER (Rd m) (κ := kd K c n) (Es := Set.univ) (Set.mem_univ _) (g := dcell c n) (R := 1) (fun h => h) (fun r hr => duties_later m (dcell c n) r hr)) $$ [Hat] with Hz
  · isplitr; · iexact HI
    iexact Hat
  iapply Hk
  isplitl [HO]; · iexists _; iexact HO
  isplitl [Hp]
  · iapply (Entails.of_eq (rest_dma m c hn hl)); iexact Hp
  iexact Hz

/-- A semaphore no transfer completes on is handed back as it was. -/
theorem dead_close (n : ℕ) (h6 : 6 ≤ n) (hn : n < 97) (hl : ¬live c n) :
    iprop(env m K ∗ atPos ER (dcell c n) 0 ∅ 0) ⊢ |={Set.univ}=> semVal (dcell c n) 0 := by
  iintro ⟨HE, Hat⟩
  ihave HI := (env_dma m K c h6 hn) $$ HE
  icases HI with ⟨HI, HR⟩
  iapply (Rounds.cell_close ER (Rd m) (κ := kd K c n) (Es := Set.univ) (Set.mem_univ _) (g := dcell c n) (R := 0) (fun h => h)
    (fun r hr => if h : 1 ≤ r then duties_later m (dcell c n) r h else (by obtain rfl : r = 0 := (by omega); exact duties_dead m c hn hl)))
  isplitl [HI]; · iexact HI
  iexact Hat

/-- A transfer to device `p`, `ns` the source's semaphore and `nd` the destination's. -/
theorem send_step {Q : α → sProp (MT nD τ sig Unit (Elt F) ℕ UU ℕ)} {p : Dev nD} {s : Shape} {src dst : Memref sig .tc .vmem s .bf16} {hsc : (dst : Memref sig (Dev.tc p : Thread nD τ).2.kind .vmem s .bf16).view.ref.isScScratch = false}
    {sS sem : SemLoc sig}
    {hsrc : src.view.WordExact} {hdst : dst.view.WordExact}
    {hsem : DmaTarget.Typed .vmem sem (.remote (Dev.tc p : Thread nD τ) dst sS hsc)}
    (ns nd : ℕ) (hs6 : 6 ≤ ns) (hs : ns < 97) (hd6 : 6 ≤ nd) (hd : nd < 97) (hls : live c ns) (hld : live p nd)
    (hsS : sS = .dma (Fin.ofNat 97 ns)) (hsD : sem = .dma (Fin.ofNat 97 nd)) (N : ℕ) (hsd : amt ns = N) (hNd : amt nd = N)
    (hN : dst.view.amount sem = N) (q : PosShare TreeShare) (fs : Buf (Elt F) (src.view.loc (c : Thread nD τ)))
    (fd : Buf (Elt F) (dst.view.loc (p : Thread nD τ))) (O : CellTallies nD τ sig Unit)
    (hpay₁ : (src.view.loc (c : Thread nD τ) ↦[src.view.set]{q} fs) ⊢ dmaPay (F := F) m c ns)
    (hpay₂ : (dst.view.loc (p : Thread nD τ) ↦[dst.view.set]{fullShare} (dst.view.write (Elt F) fd (src.view.read (Elt F) fs) Finset.univ)) ⊢ dmaPay (F := F) m p nd) :
    iprop(env m K ∗ (src.view.loc (c : Thread nD τ) ↦[src.view.set]{q} fs) ∗ (dst.view.loc (p : Thread nD τ) ↦[dst.view.set]{fullShare} fd)
        ∗ owesE (F := F) c (O + tallyAt (dcell p nd) () N) ∗ dutyTok ER (dcell c ns) 0 dev0 ∗ dutyTok ER (dcell p nd) 0 dev0)
      ⊢ iprop(((cred (tallyAt (dcell c ns) () N) ∗ owesE (F := F) c O) -∗ wpc c (k ⟨⟩) Q)
        -∗ wpc c (.op (.enqueueDma src (.remote (Dev.tc p : Thread nD τ) dst sS hsc) sem hsrc hdst hsem) k) Q) := by
  subst hsS hsD hNd
  unfold owesE
  iintro ⟨#HE, Hs, Hd, ⟨%W, HO⟩, Ht1, Ht2⟩ Hk
  ihave HI := (env_dma m K c hs6 hs) $$ HE
  icases HI with ⟨HI, HR⟩
  ihave HI' := (env_dma m K p hd6 hd) $$ HE
  icases HI' with ⟨HI', HR'⟩
  iapply (Rounds.wp_send_pointsTo 𝒱₀ ER (Rd m) (c : Thread nD τ) none (κ₁ := kd K c ns) (κ₂ := kd K p nd)
    (r₁ := 0) (r₂ := 0) (d₁ := dev0) (d₂ := dev0) (fd := fd) (fs := fs) (q := q)
    (by rw [show ((c : Thread nD τ), SemLoc.dma (Fin.ofNat 97 ns)) = dcell c ns from rfl, duties_dma m c hs hls]; exact Finset.mem_singleton_self _)
    (by rw [show ((p : Thread nD τ), SemLoc.dma (Fin.ofNat 97 nd)) = dcell p nd from rfl, duties_dma m p hd hld]; exact Finset.mem_singleton_self _)
    () () (amt nd) hN ((amount_dma m c hs dev0).trans hsd) (amount_dma m p hd dev0) O rfl (W := W)
    (by rw [show ((c : Thread nD τ), SemLoc.dma (Fin.ofNat 97 ns)) = dcell c ns from rfl, payload_dma m c hs]; exact hpay₁)
    (by rw [show ((p : Thread nD τ), SemLoc.dma (Fin.ofNat 97 nd)) = dcell p nd from rfl, payload_dma m p hd]; exact hpay₂) (hr := routes_ok c p)) $$ [HI HR HI' HR' Hs Hd HO Ht1 Ht2]
  · isplitl [HI]; · iexact HI
    isplitl [HI']; · iexact HI'
    isplitl [Hs]; · iexact Hs
    isplitl [Hd]; · iexact Hd
    isplitl [HO]; · iexact HO
    isplitl [Ht1]; · iexact Ht1
    isplitl [HR]; · iexact HR
    isplitl [Ht2]; · iexact Ht2
    iexact HR'
  iintro ⟨Hc, HO⟩
  iapply Hk
  isplitl [Hc]; · iexact Hc
  iexists W; iexact HO

end Steps

end Cert.Att
-- ==== Proof.Moves.lean ====
/-
# The transfers and the stores

The band slots, the global blocks and the partial sums as they move between devices, and what the body's stores
leave: each in terms of the named contents of `Cont`.
-/
module

public import proofs.«01_k».proof.Proof.Steps

@[expose] public section

set_option maxRecDepth 4000

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The views that move -/

abbrev InbS (s : ℕ) : Prop := ∀ a, (![s, 0, 0, 0, 0] : Fin 5 → ℕ) a + S1x2x4x128x64.size a ≤ S3x2x4x128x64.size a
abbrev InbP (s : ℕ) : Prop := ∀ a, (![s, 0, 0, 0, 0] : Fin 5 → ℕ) a + S1x2x4x32x65.size a ≤ S16x2x4x32x65.size a
/-- The box of slot `s`. -/
abbrev rS (s : ℕ) (h : InbS s) : Rect S3x2x4x128x64 := Rect.unit (s := S3x2x4x128x64) ![s, 0, 0, 0, 0] S1x2x4x128x64.size h
abbrev rP (s : ℕ) (h : InbP s) : Rect S16x2x4x32x65 := Rect.unit (s := S16x2x4x32x65) ![s, 0, 0, 0, 0] S1x2x4x32x65.size h
/-- Slot `s` of the keys; of the values; of the gathered partial sums. -/
abbrev kSl (s : ℕ) (h : InbS s) : Memref sig .tc .vmem S2x4x128x64 .bf16 := (kM.slice (rS s h) (fun _ => rfl)).squeeze S2x4x128x64 squeezes_S1x2x4x128x64_S2x4x128x64
abbrev vSl (s : ℕ) (h : InbS s) : Memref sig .tc .vmem S2x4x128x64 .bf16 := (vM.slice (rS s h) (fun _ => rfl)).squeeze S2x4x128x64 squeezes_S1x2x4x128x64_S2x4x128x64
abbrev paSl (s : ℕ) (h : InbP s) : Memref sig .tc .vmem S2x4x32x65 .bf16 := (paM.slice (rP s h) (fun _ => rfl)).squeeze S2x4x32x65 squeezes_S1x2x4x32x65_S2x4x32x65

/-- A slot of the key buffer covers that slot's elements. -/
theorem kSl_set (s : ℕ) (h : InbS s) : (kSl s h).view.set = slotSet s :=
  (View.set_reshape _ _).trans ((View.set_slice_whole _ _).trans (slot_box s h))
/-- A slot of the value buffer covers that slot's elements. -/
theorem vSl_set (s : ℕ) (h : InbS s) : (vSl s h).view.set = slotSet s :=
  (View.set_reshape _ _).trans ((View.set_slice_whole _ _).trans (slot_box s h))
/-- A device's place among the partial results covers that place's elements. -/
theorem paSl_set (s : ℕ) (h : InbP s) : (paSl s h).view.set = paSet s :=
  (View.set_reshape _ _).trans ((View.set_slice_whole _ _).trans (pa_box s h))

/-- The completion count of a copy of keys. -/
theorem credit_k (s : ℕ) (h : InbS s) : (kSl s h).view.dmaCredit = NK := rfl
/-- The completion count of a copy of values. -/
theorem credit_v (s : ℕ) (h : InbS s) : (vSl s h).view.dmaCredit = NK := rfl
/-- The completion count of a broadcast of the global keys. -/
theorem credit_kg : kgM.view.dmaCredit = NG := rfl
/-- The completion count of a broadcast of the global values. -/
theorem credit_vg : vgM.view.dmaCredit = NG := rfl
/-- The completion count of a broadcast of the global queries. -/
theorem credit_qg : qgM.view.dmaCredit = NG := rfl
/-- The completion count of a partial result's copy, where it leaves. -/
theorem credit_pp : ppM.view.dmaCredit = NP := rfl
/-- The completion count of a partial result's copy, where it lands. -/
theorem credit_pa (s : ℕ) (h : InbP s) : (paSl s h).view.dmaCredit = NP := rfl

/-! ## What a landing leaves -/

/-- The block a device keeps in slot 1 is the one its neighbour keeps in the slot on its side. -/
theorem KB_shift (c p : Dev nD) (s : ℕ) (hp : off p (s + 15) = c) (h1 : InbS 1) (h2 : InbS s) (y : S1x2x4x128x64.Idx) :
    KB m c ((rS 1 h1).idx y) = KB m p ((rS s h2).idx y) := by
  have y0 : (y 0).val = 0 := Nat.lt_one_iff.mp (y 0).isLt
  have a1 : ((rS 1 h1).idx y (0 : Fin 5)).val = 1 := by show 1 + 1 * (y 0).val = 1; omega
  have a2 : ((rS s h2).idx y (0 : Fin 5)).val = s := by show s + 1 * (y 0).val = s; omega
  unfold KB
  rw [a1, a2, hp, show off c (1 + 15) = c from off_16 c]
  rfl
/-- A device's own values are what its neighbour's slot is to hold. -/
theorem VB_shift (c p : Dev nD) (s : ℕ) (hp : off p (s + 15) = c) (h1 : InbS 1) (h2 : InbS s) (y : S1x2x4x128x64.Idx) :
    VB m c ((rS 1 h1).idx y) = VB m p ((rS s h2).idx y) := by
  have y0 : (y 0).val = 0 := Nat.lt_one_iff.mp (y 0).isLt
  have a1 : ((rS 1 h1).idx y (0 : Fin 5)).val = 1 := by show 1 + 1 * (y 0).val = 1; omega
  have a2 : ((rS s h2).idx y (0 : Fin 5)).val = s := by show s + 1 * (y 0).val = s; omega
  unfold VB
  rw [a1, a2, hp, show off c (1 + 15) = c from off_16 c]
  rfl

/-- A landed copy of keys makes the neighbour's slot hold what it is to hold. -/
theorem kland (c p : Dev nD) (s : ℕ) (hp : off p (s + 15) = c) (h1 : InbS 1) (h2 : InbS s) (fd : (cc0_scratch0 : Ref sig .tc).ty.Contents (Elt F)) :
    ∀ i ∈ (kSl s h2).view.set, (kSl s h2).view.write (Elt F) fd ((kSl 1 h1).view.read (Elt F) (KB m c)) Finset.univ i = KB m p i := by
  intro i hi
  obtain ⟨x, -, rfl⟩ := Finset.mem_map.mp hi
  exact (View.write_emb_of_mem (v := (kSl s h2).view) fd _ (Finset.mem_univ x)).trans (KB_shift m c p s hp h1 h2 _)
/-- A landed copy of values makes the neighbour's slot hold what it is to hold. -/
theorem vland (c p : Dev nD) (s : ℕ) (hp : off p (s + 15) = c) (h1 : InbS 1) (h2 : InbS s) (fd : (cc0_scratch1 : Ref sig .tc).ty.Contents (Elt F)) :
    ∀ i ∈ (vSl s h2).view.set, (vSl s h2).view.write (Elt F) fd ((vSl 1 h1).view.read (Elt F) (VB m c)) Finset.univ i = VB m p i := by
  intro i hi
  obtain ⟨x, -, rfl⟩ := Finset.mem_map.mp hi
  exact (View.write_emb_of_mem (v := (vSl s h2).view) fd _ (Finset.mem_univ x)).trans (VB_shift m c p s hp h1 h2 _)
/-- A landed partial result makes its place hold what it is to hold. -/
theorem paland (c : Dev nD) (h : InbP c.val) (fd : (cc0_scratch6 : Ref sig .tc).ty.Contents (Elt F)) :
    ∀ i ∈ (paSl c.val h).view.set, (paSl c.val h).view.write (Elt F) fd (ppM.view.read (Elt F) (PP m c)) Finset.univ i = PA m i := by
  intro i hi
  obtain ⟨x, -, rfl⟩ := Finset.mem_map.mp hi
  refine (View.write_emb_of_mem (v := (paSl c.val h).view) fd _ (Finset.mem_univ x)).trans ?_
  have e : (paSl c.val h).view.emb x = (rP c.val h).idx (Fin.cons ⟨0, Nat.one_pos⟩ x) :=
    congrArg (fun y => (rP c.val h).idx y) (Shape.reshapeEquiv_cons_one _ x)
  rw [e]
  have a0 : ((rP c.val h).idx (Fin.cons ⟨0, Nat.one_pos⟩ x) (0 : Fin 5)).val = c.val := by show c.val + 1 * 0 = c.val; omega
  unfold PA
  rw [a0, show off dev0 c.val = c from Fin.ext (by have : c.val < 16 := c.isLt; show (0 + c.val) % 16 = c.val; omega)]
  show PP m c x = PP m c _
  congr 1
  funext a
  match a with
  | ⟨0, _⟩ => exact Fin.ext (by show (x 0).val = 0 + 1 * (x 0).val; omega)
  | ⟨1, _⟩ => exact Fin.ext (by show (x 1).val = 0 + 1 * (x 1).val; omega)
  | ⟨2, _⟩ => exact Fin.ext (by show (x 2).val = 0 + 1 * (x 2).val; omega)
  | ⟨3, _⟩ => exact Fin.ext (by show (x 3).val = 0 + 1 * (x 3).val; omega)

/-! ## The transfers -/

section Sends
variable (K : Dev nD × CIx → ℕ) (c : Dev nD)
variable {α : Type} {k : PUnit → Prog (TpuEff nD τ sig (Elt F) Λ₀ .tc) α}

/-- The own key block to the neighbour `p`, whose slot `s` takes it. -/
theorem khalo_step {Q : α → sProp (MT nD τ sig Unit (Elt F) ℕ UU ℕ)} (d p : Dev nD) (hd : d = p) (s : ℕ) (hp : off p (s + 15) = c) (h1 : InbS 1) (h2 : InbS s) (ns nd : ℕ) (q : PosShare TreeShare)
    (hs : 6 ≤ ns ∧ ns < 10) (hdn : 10 ≤ nd ∧ nd < 14) (es : dmaPay m c ns = kSlot m c 1 q) (ed : dmaPay m p nd = kSlot m p s fullShare)
    {hsc : (kSl s h2 : Memref sig (Dev.tc d : Thread nD τ).2.kind .vmem _ .bf16).view.ref.isScScratch = false} {sS sem : SemLoc sig}
    {hsrc : (kSl 1 h1).view.WordExact} {hdst : (kSl s h2).view.WordExact} {hsem : DmaTarget.Typed .vmem sem (.remote (Dev.tc d : Thread nD τ) (kSl s h2) sS hsc)}
    (hsS : sS = .dma (Fin.ofNat 97 ns)) (hsD : sem = .dma (Fin.ofNat 97 nd)) (O : CellTallies nD τ sig Unit) :
    iprop(env m K ∗ kSlot m c 1 q ∗ kFree p s ∗ owesE (F := F) c (O + tallyAt (dcell p nd) () NK) ∗ dutyTok ER (dcell c ns) 0 dev0 ∗ dutyTok ER (dcell p nd) 0 dev0)
      ⊢ iprop(((cred (tallyAt (dcell c ns) () NK) ∗ owesE (F := F) c O) -∗ wpc c (k ⟨⟩) Q)
        -∗ wpc c (.op (.enqueueDma (kSl 1 h1) (.remote (Dev.tc d : Thread nD τ) (kSl s h2) sS hsc) sem hsrc hdst hsem) k) Q) := by
  subst hd
  have ans : amt ns = NK := if_pos (by omega)
  have and' : amt nd = NK := if_pos (by omega)
  have e1 : kSlot (F := F) m c 1 q = (((kSl 1 h1).view.loc (c : Thread nD τ)) ↦[(kSl 1 h1).view.set]{q} KB m c) := by unfold kSlot; rw [kSl_set]
  have e2 : ∀ fd : Buf (Elt F) ((kSl s h2).view.loc (d : Thread nD τ)), (((kSl s h2).view.loc (d : Thread nD τ)) ↦[(kSl s h2).view.set]{fullShare} ((kSl s h2).view.write (Elt F) fd ((kSl 1 h1).view.read (Elt F) (KB m c)) Finset.univ)) = kSlot (F := F) m d s fullShare := fun fd => by
    unfold kSlot; rw [pointsTo_congr (kland m c d s hp h1 h2 fd), kSl_set]
  have e3 : ∀ fd : Buf (Elt F) (kM.view.loc (d : Thread nD τ)), (kM.view.loc (d : Thread nD τ) ↦[slotSet s]{fullShare} fd : sProp 𝕄) = (((kSl s h2).view.loc (d : Thread nD τ)) ↦[(kSl s h2).view.set]{fullShare} fd) := fun fd => by rw [kSl_set]
  unfold kFree
  rw [e1]
  iintro ⟨HE, Hs, ⟨%fd, Hd⟩, HO, Ht1, Ht2⟩
  ihave Hd' := (Entails.of_eq (e3 fd)) $$ Hd
  iapply (send_step m K c (Q := Q) (k := k) (p := d) (src := kSl 1 h1) (dst := kSl s h2) (hsc := hsc) (hsrc := hsrc) (hdst := hdst) (hsem := hsem) ns nd (by omega) (by omega) (by omega) (by omega)
    (Or.inl ⟨hs.1, by omega⟩) (Or.inl ⟨by omega, hdn.2⟩) hsS hsD NK ans and' (by rw [hsD]) q (KB m c) fd O (Entails.of_eq (by rw [es, e1]))
    (Entails.of_eq (by rw [ed]; exact e2 fd)))
  isplitl [HE]; · iexact HE
  isplitl [Hs]; · iexact Hs
  isplitl [Hd']; · iexact Hd'
  isplitl [HO]; · iexact HO
  isplitl [Ht1]; · iexact Ht1
  iexact Ht2

/-- The own value block to the neighbour `p`, whose slot `s` takes it. -/
theorem vhalo_step {Q : α → sProp (MT nD τ sig Unit (Elt F) ℕ UU ℕ)} (d p : Dev nD) (hd : d = p) (s : ℕ) (hp : off p (s + 15) = c) (h1 : InbS 1) (h2 : InbS s) (ns nd : ℕ) (q : PosShare TreeShare)
    (hs : 6 ≤ ns ∧ ns < 10) (hdn : 10 ≤ nd ∧ nd < 14) (es : dmaPay m c ns = vSlot m c 1 q) (ed : dmaPay m p nd = vSlot m p s fullShare)
    {hsc : (vSl s h2 : Memref sig (Dev.tc d : Thread nD τ).2.kind .vmem _ .bf16).view.ref.isScScratch = false} {sS sem : SemLoc sig}
    {hsrc : (vSl 1 h1).view.WordExact} {hdst : (vSl s h2).view.WordExact} {hsem : DmaTarget.Typed .vmem sem (.remote (Dev.tc d : Thread nD τ) (vSl s h2) sS hsc)}
    (hsS : sS = .dma (Fin.ofNat 97 ns)) (hsD : sem = .dma (Fin.ofNat 97 nd)) (O : CellTallies nD τ sig Unit) :
    iprop(env m K ∗ vSlot m c 1 q ∗ vFree p s ∗ owesE (F := F) c (O + tallyAt (dcell p nd) () NK) ∗ dutyTok ER (dcell c ns) 0 dev0 ∗ dutyTok ER (dcell p nd) 0 dev0)
      ⊢ iprop(((cred (tallyAt (dcell c ns) () NK) ∗ owesE (F := F) c O) -∗ wpc c (k ⟨⟩) Q)
        -∗ wpc c (.op (.enqueueDma (vSl 1 h1) (.remote (Dev.tc d : Thread nD τ) (vSl s h2) sS hsc) sem hsrc hdst hsem) k) Q) := by
  subst hd
  have ans : amt ns = NK := if_pos (by omega)
  have and' : amt nd = NK := if_pos (by omega)
  have e1 : vSlot (F := F) m c 1 q = (((vSl 1 h1).view.loc (c : Thread nD τ)) ↦[(vSl 1 h1).view.set]{q} VB m c) := by unfold vSlot; rw [vSl_set]
  have e2 : ∀ fd : Buf (Elt F) ((vSl s h2).view.loc (d : Thread nD τ)), (((vSl s h2).view.loc (d : Thread nD τ)) ↦[(vSl s h2).view.set]{fullShare} ((vSl s h2).view.write (Elt F) fd ((vSl 1 h1).view.read (Elt F) (VB m c)) Finset.univ)) = vSlot (F := F) m d s fullShare := fun fd => by
    unfold vSlot; rw [pointsTo_congr (vland m c d s hp h1 h2 fd), vSl_set]
  have e3 : ∀ fd : Buf (Elt F) (vM.view.loc (d : Thread nD τ)), (vM.view.loc (d : Thread nD τ) ↦[slotSet s]{fullShare} fd : sProp 𝕄) = (((vSl s h2).view.loc (d : Thread nD τ)) ↦[(vSl s h2).view.set]{fullShare} fd) := fun fd => by rw [vSl_set]
  unfold vFree
  rw [e1]
  iintro ⟨HE, Hs, ⟨%fd, Hd⟩, HO, Ht1, Ht2⟩
  ihave Hd' := (Entails.of_eq (e3 fd)) $$ Hd
  iapply (send_step m K c (Q := Q) (k := k) (p := d) (src := vSl 1 h1) (dst := vSl s h2) (hsc := hsc) (hsrc := hsrc) (hdst := hdst) (hsem := hsem) ns nd (by omega) (by omega) (by omega) (by omega)
    (Or.inl ⟨hs.1, by omega⟩) (Or.inl ⟨by omega, hdn.2⟩) hsS hsD NK ans and' (by rw [hsD]) q (VB m c) fd O (Entails.of_eq (by rw [es, e1]))
    (Entails.of_eq (by rw [ed]; exact e2 fd)))
  isplitl [HE]; · iexact HE
  isplitl [Hs]; · iexact Hs
  isplitl [Hd']; · iexact Hd'
  isplitl [HO]; · iexact HO
  isplitl [Ht1]; · iexact Ht1
  iexact Ht2

/-- The partial sums to device 0. -/
theorem pp_step {Q : α → sProp (MT nD τ sig Unit (Elt F) ℕ UU ℕ)} (hc : c.val ≠ 0) (d : Dev nD) (hd : d = dev0) (s : ℕ) (hs : c.val = s) (h : InbP s)
    {hsc : (paSl s h : Memref sig (Dev.tc d : Thread nD τ).2.kind .vmem _ .bf16).view.ref.isScScratch = false} {sS sem : SemLoc sig}
    {hsrc : ppM.view.WordExact} {hdst : (paSl s h).view.WordExact} {hsem : DmaTarget.Typed .vmem sem (.remote (Dev.tc d : Thread nD τ) (paSl s h) sS hsc)}
    (hsS : sS = .dma (Fin.ofNat 97 (65 + s))) (hsD : sem = .dma (Fin.ofNat 97 (81 + s))) :
    iprop(env m K ∗ ppPts m c fullShare ∗ paFree dev0 c.val ∗ owesE (F := F) c (prO c) ∗ dutyTok ER (dcell c (65 + c.val)) 0 dev0 ∗ dutyTok ER (dcell dev0 (81 + c.val)) 0 dev0)
      ⊢ iprop(((cred (tallyAt (dcell c (65 + c.val)) () NP) ∗ owesE (F := F) c 0) -∗ wpc c (k ⟨⟩) Q)
        -∗ wpc c (.op (.enqueueDma ppM (.remote (Dev.tc d : Thread nD τ) (paSl s h) sS hsc) sem hsrc hdst hsem) k) Q) := by
  subst hd hs
  have hlt : c.val < 16 := c.isLt
  have ans : amt (65 + c.val) = NP := by unfold amt; rw [if_neg (by omega), if_neg (by omega)]
  have and' : amt (81 + c.val) = NP := by unfold amt; rw [if_neg (by omega), if_neg (by omega)]
  have es : dmaPay (F := F) m c (65 + c.val) = ppPts m c fullShare := by
    unfold dmaPay; rw [if_neg (by omega), if_neg (by omega), if_neg (by omega), if_neg (by omega), if_pos (by omega)]
  have ed : dmaPay (F := F) m dev0 (81 + c.val) = paSlot m c.val := by
    unfold dmaPay; rw [if_neg (by omega), if_neg (by omega), if_neg (by omega), if_neg (by omega), if_neg (by omega), Nat.add_sub_cancel_left]
  have e1 : ppPts (F := F) m c fullShare = ((ppM.view.loc (c : Thread nD τ)) ↦[ppM.view.set]{fullShare} PP m c) := by unfold ppPts; rw [View.set_whole]
  have e2 : ∀ fd : Buf (Elt F) ((paSl c.val h).view.loc (dev0 : Thread nD τ)), (((paSl c.val h).view.loc (dev0 : Thread nD τ)) ↦[(paSl c.val h).view.set]{fullShare} ((paSl c.val h).view.write (Elt F) fd (ppM.view.read (Elt F) (PP m c)) Finset.univ)) = paSlot (F := F) m c.val := fun fd => by
    unfold paSlot; rw [pointsTo_congr (paland m c h fd), paSl_set]
  have e3 : ∀ fd : Buf (Elt F) (paM.view.loc (dev0 : Thread nD τ)), (paM.view.loc (dev0 : Thread nD τ) ↦[paSet c.val]{fullShare} fd : sProp 𝕄) = (((paSl c.val h).view.loc (dev0 : Thread nD τ)) ↦[(paSl c.val h).view.set]{fullShare} fd) := fun fd => by rw [paSl_set]
  unfold paFree
  rw [e1]
  iintro ⟨HE, Hs, ⟨%fd, Hd⟩, HO, Ht1, Ht2⟩
  ihave Hd' := (Entails.of_eq (e3 fd)) $$ Hd
  iapply (send_step m K c (Q := Q) (k := k) (p := dev0) (src := ppM) (dst := paSl c.val h) (hsc := hsc) (hsrc := hsrc) (hdst := hdst) (hsem := hsem) (65 + c.val) (81 + c.val) (by omega) (by omega) (by omega) (by omega)
    (Or.inr (Or.inr (Or.inr (Or.inl ⟨rfl, hc⟩)))) (Or.inr (Or.inr (Or.inr (Or.inr ⟨by omega, by omega, rfl⟩)))) hsS hsD NP ans and' (by rw [hsD]) fullShare (PP m c) fd 0 (Entails.of_eq (by rw [es, e1]))
    (Entails.of_eq (by rw [ed]; exact e2 fd)))
  isplitl [HE]; · iexact HE
  isplitl [Hs]; · iexact Hs
  isplitl [Hd']; · iexact Hd'
  isplitl [HO]; · rw [zero_add]; iexact HO
  isplitl [Ht1]; · iexact Ht1
  iexact Ht2

/-- What device 0 holds for the broadcast `n = 3 t + j`: its share of block `j`, device `t`'s copy of it, both duties' tokens. -/
def gFree (p : Dev nD) (j : ℕ) : sProp 𝕄 := if j = 0 then kgFree (F := F) p else if j = 1 then vgFree p else qgFree p
def bcP (n : ℕ) : sProp 𝕄 :=
  iprop(gPts m dev0 (n % 3) (shareTokN fullShare (n / 3)) ∗ gFree (F := F) (off dev0 (n / 3)) (n % 3)
    ∗ dutyTok ER (dcell dev0 (14 + n)) 0 dev0 ∗ dutyTok ER (dcell (off dev0 (n / 3)) (62 + n % 3)) 0 dev0)
/-- What is left of it until the source is free again. -/
def bcC (n : ℕ) : sProp 𝕄 := cred (tallyAt (dcell dev0 (14 + n)) () NG)

/-- A landed broadcast makes the whole buffer hold what was sent. -/
theorem gland (b : Ref sig .tc) (f fd : b.ty.Contents (Elt F)) :
    (Memref.whole b : Memref sig .tc b.space b.ty.shape b.ty.elt).view.write (Elt F) fd ((Memref.whole b).view.read (Elt F) f) Finset.univ = f := by
  rw [View.read_whole]; exact View.write_whole_univ _ _ _

/-- One broadcast, number `n = 3 t + i` to device `t`, of the buffer `M` of which the global block `i` is `G`. -/
theorem bc_step {Q : α → sProp (MT nD τ sig Unit (Elt F) ℕ UU ℕ)} (M : Memref sig .tc .vmem S2x4x32x64 .bf16) (G : (p : Dev nD) → Buf (Elt F) (M.view.loc (p : Thread nD τ))) (i : ℕ) (hi : i < 3)
    (eg : ∀ (p : Dev nD) q, gPts m p i q = (M.view.loc (p : Thread nD τ) ↦[M.view.set]{q} G p))
    (ef : ∀ p : Dev nD, gFree (F := F) p i = iprop(∃ f : Buf (Elt F) (M.view.loc (p : Thread nD τ)), M.view.loc (p : Thread nD τ) ↦[M.view.set]{fullShare} f))
    (ew : ∀ (p : Dev nD) (fd : Buf (Elt F) (M.view.loc (p : Thread nD τ))), M.view.write (Elt F) fd (M.view.read (Elt F) (G dev0)) Finset.univ = G p)
    (ec : M.view.dmaCredit = NG)
    (t n j : ℕ) (ht : 1 ≤ t) (ht' : t < 16) (hn : n = 3 * t + i) (d : Dev nD) (hd : d.val = t) (O : CellTallies nD τ sig Unit)
    {hsc : (M : Memref sig (Dev.tc d : Thread nD τ).2.kind .vmem _ .bf16).view.ref.isScScratch = false} {sS sem : SemLoc sig}
    {hsrc : M.view.WordExact} {hdst : M.view.WordExact} {hsem : DmaTarget.Typed .vmem sem (.remote (Dev.tc d : Thread nD τ) M sS hsc)}
    (hsS : sS = .dma (Fin.ofNat 97 (14 + n))) (hsD : sem = .dma (Fin.ofNat 97 (62 + i))) :
    iprop(env m K ∗ owesE (F := F) dev0 (oseg brO O n (j + 1)) ∗ seg (bcP m) n (j + 1) ∗ acc (bcC (F := F)) 3 (n - 3))
      ⊢ iprop(((owesE (F := F) dev0 (oseg brO O (n + 1) j) ∗ seg (bcP m) (n + 1) j ∗ acc (bcC (F := F)) 3 (n + 1 - 3)) -∗ wpc dev0 (k ⟨⟩) Q)
        -∗ wpc dev0 (.op (.enqueueDma M (.remote (Dev.tc d : Thread nD τ) M sS hsc) sem hsrc hdst hsem) k) Q) := by
  have hm : n % 3 = i := by omega
  have hq : n / 3 = t := by omega
  have hdd : d = off dev0 (n / 3) := Fin.ext (by rw [hd, hq]; show t = (0 + t) % 16; omega)
  subst hdd
  have ans : amt (14 + n) = NG := by unfold amt; rw [if_neg (by omega), if_pos (by omega)]
  have and' : amt (62 + i) = NG := by unfold amt; rw [if_neg (by omega), if_pos (by omega)]
  have es : dmaPay (F := F) m dev0 (14 + n) = gPts m dev0 i (shareTokN fullShare (n / 3)) := by
    unfold dmaPay; rw [if_neg (by omega), if_neg (by omega), if_pos (by omega), Nat.add_sub_cancel_left, hm]
  have ed : dmaPay (F := F) m (off dev0 (n / 3)) (62 + i) = gPts m (off dev0 (n / 3)) i fullShare := by
    unfold dmaPay; rw [if_neg (by omega), if_neg (by omega), if_neg (by omega), if_pos (by omega), Nat.add_sub_cancel_left]
  rw [seg_succ, show n + 1 - 3 = (n - 3) + 1 by omega, show acc (bcC (F := F)) 3 (n - 3 + 1) = iprop(bcC (F := F) n ∗ acc (bcC (F := F)) 3 (n - 3)) from by
    rw [show acc (bcC (F := F)) 3 (n - 3 + 1) = iprop(bcC (F := F) (3 + (n - 3)) ∗ acc (bcC (F := F)) 3 (n - 3)) from rfl, show 3 + (n - 3) = n by omega]]
  have eb : bcP (F := F) m n = iprop(gPts m dev0 i (shareTokN fullShare (n / 3)) ∗ gFree (F := F) (off dev0 (n / 3)) i ∗ dutyTok ER (dcell dev0 (14 + n)) 0 dev0 ∗ dutyTok ER (dcell (off dev0 (n / 3)) (62 + i)) 0 dev0) := by
    unfold bcP; rw [hm]
  have hld : live (off dev0 (n / 3)) (62 + i) := Or.inr (Or.inr (Or.inl ⟨by omega, by omega, by omega⟩))
  rw [eb, eg, ef]
  iintro ⟨HE, HO, ⟨⟨Hs, ⟨%fd, Hd⟩, Ht1, Ht2⟩, Hseg⟩, Hacc⟩ Hk
  iapply (send_step m K dev0 (Q := Q) (k := k) (p := off dev0 (n / 3)) (src := M) (dst := M) (hsc := hsc) (hsrc := hsrc) (hdst := hdst) (hsem := hsem) (14 + n) (62 + i) (by omega) (by omega) (by omega) (by omega)
    (Or.inr (Or.inl ⟨by omega, by omega, rfl⟩)) hld hsS hsD NG ans and' (by rw [hsD]) (shareTokN fullShare (n / 3)) (G dev0) fd (oseg brO O (n + 1) j)
    (Entails.of_eq (by rw [es, eg]))
    (Entails.of_eq (by rw [ed, ew, eg]))) $$ [HE HO Hs Hd Ht1 Ht2]
  · isplitl [HE]; · iexact HE
    isplitl [Hs]; · iexact Hs
    isplitl [Hd]; · iexact Hd
    isplitl [HO]
    · rw [show oseg brO O n (j + 1) = oseg brO O (n + 1) j + tallyAt (dcell (off dev0 (n / 3)) (62 + i)) () NG from by
        rw [show oseg brO O n (j + 1) = oseg brO O (n + 1) j + brO n from rfl]; unfold brO; rw [hm]]
      iexact HO
    isplitl [Ht1]; · iexact Ht1
    iexact Ht2
  iintro ⟨Hc, HO⟩
  iapply Hk
  isplitl [HO]; · iexact HO
  isplitl [Hseg]; · iexact Hseg
  isplitl [Hc]; · unfold bcC; iexact Hc
  iexact Hacc

/-- The three blocks are the three buffers. -/
theorem g0_pts (p : Dev nD) (q : PosShare TreeShare) : gPts (F := F) m p 0 q = (kgM.view.loc (p : Thread nD τ) ↦[kgM.view.set]{q} KG m) := by rw [View.set_whole]; rfl
/-- The second broadcast buffer holds the global values. -/
theorem g1_pts (p : Dev nD) (q : PosShare TreeShare) : gPts (F := F) m p 1 q = (vgM.view.loc (p : Thread nD τ) ↦[vgM.view.set]{q} VG m) := by rw [View.set_whole]; rfl
/-- The third broadcast buffer holds the global queries. -/
theorem g2_pts (p : Dev nD) (q : PosShare TreeShare) : gPts (F := F) m p 2 q = (qgM.view.loc (p : Thread nD τ) ↦[qgM.view.set]{q} QG m) := by rw [View.set_whole]; rfl
/-- The first broadcast buffer, with any contents. -/
theorem g0_free (p : Dev nD) : gFree (F := F) p 0 = iprop(∃ f : Buf (Elt F) (kgM.view.loc (p : Thread nD τ)), kgM.view.loc (p : Thread nD τ) ↦[kgM.view.set]{fullShare} f) := by rw [View.set_whole]; rfl
/-- The second broadcast buffer, with any contents. -/
theorem g1_free (p : Dev nD) : gFree (F := F) p 1 = iprop(∃ f : Buf (Elt F) (vgM.view.loc (p : Thread nD τ)), vgM.view.loc (p : Thread nD τ) ↦[vgM.view.set]{fullShare} f) := by rw [View.set_whole]; rfl
/-- The third broadcast buffer, with any contents. -/
theorem g2_free (p : Dev nD) : gFree (F := F) p 2 = iprop(∃ f : Buf (Elt F) (qgM.view.loc (p : Thread nD τ)), qgM.view.loc (p : Thread nD τ) ↦[qgM.view.set]{fullShare} f) := by rw [View.set_whole]; rfl

end Sends
end Cert.Att
-- ==== Proof.Loads.lean ====
/-
# Loads, stores and the words of the conditions

What a load of part of a buffer needs, what a store of part of one leaves, and which device each printed condition
picks out.
-/
module

public import proofs.«01_k».proof.Proof.Moves

@[expose] public section

set_option maxRecDepth 4000
set_option maxHeartbeats 4000000

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Conditions -/

/-- The device's place on the ring as the body computes it. -/
abbrev dw (c : Dev nD) : BitVec 32 := Scalar.remsi (Scalar.divsi (Dev.word c) 1#32) 16#32
/-- The place of its left neighbour, and of its right one. -/
abbrev dwl (c : Dev nD) : BitVec 32 := Scalar.remsi (Scalar.addi (Scalar.subi (dw c) 1#32) 16#32) 16#32
abbrev dwr (c : Dev nD) : BitVec 32 := Scalar.remsi (Scalar.addi (dw c) 1#32) 16#32

/-- The place is the device's number. -/
theorem dw_eq (c : Dev nD) : dw c = BitVec.ofNat 32 c.val := by revert c; decide
/-- The printed test for one place. -/
theorem cond_eq (c : Dev nD) (s : Fin 16) : (Scalar.cmpi .ne (Scalar.extui (Scalar.cmpi .eq (dw c) (BitVec.ofNat 32 s.val)) : BitVec 32) 0#32 = 1#1) ↔ c.val = s.val := by
  revert s c; decide +kernel
/-- The printed test for any place but the first. -/
theorem cond_ne (c : Dev nD) : (Scalar.cmpi .ne (Scalar.extui (Scalar.cmpi .ne (dw c) 0#32) : BitVec 32) 0#32 = 1#1) ↔ c.val ≠ 0 := by
  revert c; decide +kernel

/-! ## Loads and stores -/

section Mem
variable (c : Dev nD) {α : Type}

/-- A load from a buffer held whole. -/
theorem ld_all {Q : α → sProp (MT nD τ sig Unit (Elt F) ℕ UU ℕ)} {cs : CoreSpace} {s : Shape} {e : EltTy} {M : Memref sig .tc cs s e} {r : LoadRect s} {hl : M.view.LoadsAt r}
    {k : (r.shape.Idx → Elt F e) → Prog (TpuEff nD τ sig (Elt F) Λ₀ .tc) α} {q : PosShare TreeShare} {f : Buf (Elt F) (M.view.loc (c : Thread nD τ))} :
    (M.view.loc (c : Thread nD τ) ↦{q} f) ⊢ iprop(((M.view.loc (c : Thread nD τ) ↦{q} f) -∗ wpc c (k (M.view.readAt (Elt F) r f)) Q) -∗ wpc c (.op (.load M r hl) k) Q) :=
  wp_load 𝒱₀ (c : Thread nD τ) none Set.univ (m := M) (Finset.subset_univ _)

/-- A load from part of a buffer. -/
theorem ld_in {Q : α → sProp (MT nD τ sig Unit (Elt F) ℕ UU ℕ)} {cs : CoreSpace} {s : Shape} {e : EltTy} {M : Memref sig .tc cs s e} {r : LoadRect s} {hl : M.view.LoadsAt r}
    {k : (r.shape.Idx → Elt F e) → Prog (TpuEff nD τ sig (Elt F) Λ₀ .tc) α} {q : PosShare TreeShare} {f : Buf (Elt F) (M.view.loc (c : Thread nD τ))}
    {S : Finset (Idx (M.view.loc (c : Thread nD τ)))} (hS : ∀ x, M.view.emb (r.idx x) ∈ S) :
    (M.view.loc (c : Thread nD τ) ↦[S]{q} f) ⊢ iprop(((M.view.loc (c : Thread nD τ) ↦[S]{q} f) -∗ wpc c (k (M.view.readAt (Elt F) r f)) Q) -∗ wpc c (.op (.load M r hl) k) Q) :=
  wp_load 𝒱₀ (c : Thread nD τ) none Set.univ (m := M) (fun i hi => by
    obtain ⟨y, hy, rfl⟩ := Finset.mem_map.mp hi
    obtain ⟨x, rfl⟩ := r.exists_idx_of_mem hy
    exact hS x)

/-- A store into part of a buffer, of which the contents afterwards are `g`. -/
theorem st_in {Q : α → sProp (MT nD τ sig Unit (Elt F) ℕ UU ℕ)} {cs : CoreSpace} {s : Shape} {e : EltTy} {M : Memref sig .tc cs s e} {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {S : Finset (Idx ((M.access r).loc (c : Thread nD τ)))} {f : Buf (Elt F) ((M.access r).loc (c : Thread nD τ))}
    (g : Buf (Elt F) ((M.access r).loc (c : Thread nD τ))) (hS : ∀ x, (M.access r).emb x ∈ S) (hg : ∀ x, (M.access r).write (Elt F) f w Finset.univ ((M.access r).emb x) = g ((M.access r).emb x))
    (hf : ∀ i ∈ S, (∀ x, (M.access r).emb x ≠ i) → f i = g i) :
    ((M.access r).loc (c : Thread nD τ) ↦[S]{fullShare} f)
      ⊢ iprop((((M.access r).loc (c : Thread nD τ) ↦[S]{fullShare} g) -∗ wpc c (k ⟨⟩) Q) -∗ wpc c (.op (.store M r w Finset.univ hx hm) k) Q) := by
  have e : ((M.access r).loc (c : Thread nD τ) ↦[S]{fullShare} ((M.access r).write (Elt F) f w Finset.univ) : sProp 𝕄) = ((M.access r).loc (c : Thread nD τ) ↦[S]{fullShare} g) := by
    refine pointsTo_congr fun i hi => ?_
    by_cases h : ∃ x, (M.access r).emb x = i
    · obtain ⟨x, rfl⟩ := h; exact hg x
    · rw [View.write_of_not_mem _ _ _ (fun hmem => by
        obtain ⟨x, -, hx⟩ := Finset.mem_map.mp hmem; exact h ⟨x, hx⟩)]
      exact hf i hi fun x hx => h ⟨x, hx⟩
  rw [← e]
  exact wp_store 𝒱₀ (c : Thread nD τ) none Set.univ (m := M) (r := r) (Mk := Finset.univ) (fun i hi => by
    obtain ⟨x, -, rfl⟩ := Finset.mem_map.mp hi; exact hS x)
end Mem

/-- A slot's own box. -/
theorem mem_slot (s : ℕ) (i : S3x2x4x128x64.Idx) (h : (i 0).val = s) : i ∈ slotSet s := Finset.mem_filter.mpr ⟨Finset.mem_univ _, h⟩

/-- What stands in slot 1 once the device's own block is stored. -/
theorem KB_own (c : Dev nD) (i : S3x2x4x128x64.Idx) (x : S1x2x4x128x64.Idx) (h : i = (rS 1 inb_S3x2x4x128x64_S1x2x4x128x64_1_0_0_0_0).idx x) : KS m c x = KB m c i := by
  subst h
  have x0 : (x 0).val = 0 := Nat.lt_one_iff.mp (x 0).isLt
  have a : ((rS 1 inb_S3x2x4x128x64_S1x2x4x128x64_1_0_0_0_0).idx x (0 : Fin 5)).val = 1 := by show 1 + 1 * (x 0).val = 1; omega
  unfold KB
  rw [a, show off c (1 + 15) = c from off_16 c]
  congr 1
  funext b
  match b with
  | ⟨0, _⟩ => exact Fin.ext x0
  | ⟨1, _⟩ => exact Fin.ext (by show (x 1).val = 0 + 1 * (x 1).val; omega)
  | ⟨2, _⟩ => exact Fin.ext (by show (x 2).val = 0 + 1 * (x 2).val; omega)
  | ⟨3, _⟩ => exact Fin.ext (by show (x 3).val = 0 + 1 * (x 3).val; omega)
  | ⟨4, _⟩ => exact Fin.ext (by show (x 4).val = 0 + 1 * (x 4).val; omega)
/-- Slot 1 of the value buffer holds the device's own values. -/
theorem VB_own (c : Dev nD) (i : S3x2x4x128x64.Idx) (x : S1x2x4x128x64.Idx) (h : i = (rS 1 inb_S3x2x4x128x64_S1x2x4x128x64_1_0_0_0_0).idx x) : VS m c x = VB m c i := by
  subst h
  have x0 : (x 0).val = 0 := Nat.lt_one_iff.mp (x 0).isLt
  have a : ((rS 1 inb_S3x2x4x128x64_S1x2x4x128x64_1_0_0_0_0).idx x (0 : Fin 5)).val = 1 := by show 1 + 1 * (x 0).val = 1; omega
  unfold VB
  rw [a, show off c (1 + 15) = c from off_16 c]
  congr 1
  funext b
  match b with
  | ⟨0, _⟩ => exact Fin.ext x0
  | ⟨1, _⟩ => exact Fin.ext (by show (x 1).val = 0 + 1 * (x 1).val; omega)
  | ⟨2, _⟩ => exact Fin.ext (by show (x 2).val = 0 + 1 * (x 2).val; omega)
  | ⟨3, _⟩ => exact Fin.ext (by show (x 3).val = 0 + 1 * (x 3).val; omega)
  | ⟨4, _⟩ => exact Fin.ext (by show (x 4).val = 0 + 1 * (x 4).val; omega)

/-- A box of one slot lies in it. -/
theorem slot_idx (s : ℕ) (o sz : Fin 5 → ℕ) (h : ∀ a, o a + sz a ≤ S3x2x4x128x64.size a) (ho : o 0 = s) (hz : sz 0 = 1)
    (x : (Rect.unit (s := S3x2x4x128x64) o sz h).shape.Idx) : (Rect.unit (s := S3x2x4x128x64) o sz h).idx x ∈ slotSet s := by
  refine mem_slot s _ ?_
  show o 0 + 1 * (x 0).val = s
  have : (x 0).val < sz 0 := (x 0).isLt
  omega

section Mem2
variable (c : Dev nD) {α : Type}

/-- The store of the device's own block of keys; of values. -/
theorem st_k {Q : α → sProp (MT nD τ sig Unit (Elt F) ℕ UU ℕ)} {k : PUnit → Prog (TpuEff nD τ sig (Elt F) Λ₀ .tc) α} {hx : (kM.access (rS 1 inb_S3x2x4x128x64_S1x2x4x128x64_1_0_0_0_0)).Stores Finset.univ} {hm}
    (f : Buf (Elt F) (kM.view.loc (c : Thread nD τ))) :
    (kM.view.loc (c : Thread nD τ) ↦[slotSet 1]{fullShare} f) ⊢ iprop((kSlot m c 1 fullShare -∗ wpc c (k ⟨⟩) Q)
      -∗ wpc c (.op (.store kM (rS 1 inb_S3x2x4x128x64_S1x2x4x128x64_1_0_0_0_0) (KS m c) Finset.univ hx hm) k) Q) :=
  by
  have e1 : ∀ x, (kM.access (rS 1 inb_S3x2x4x128x64_S1x2x4x128x64_1_0_0_0_0)).write (Elt F) f (KS m c) Finset.univ ((kM.access (rS 1 inb_S3x2x4x128x64_S1x2x4x128x64_1_0_0_0_0)).emb x) = KB m c ((kM.access (rS 1 inb_S3x2x4x128x64_S1x2x4x128x64_1_0_0_0_0)).emb x) := fun x =>
    (View.write_emb_of_mem (v := kM.access (rS 1 inb_S3x2x4x128x64_S1x2x4x128x64_1_0_0_0_0)) f (KS m c) (Finset.mem_univ x)).trans (KB_own m c _ x rfl)
  have e2 : ∀ i ∈ slotSet 1, (∀ x, (kM.access (rS 1 inb_S3x2x4x128x64_S1x2x4x128x64_1_0_0_0_0)).emb x ≠ i) → f i = KB m c i := fun i hi hne => by
    rw [← slot_box 1 inb_S3x2x4x128x64_S1x2x4x128x64_1_0_0_0_0] at hi
    obtain ⟨x, hx⟩ := LoadRect.exists_idx_of_mem _ hi
    exact absurd hx (hne x)
  unfold kSlot
  exact st_in c (M := kM) (r := rS 1 inb_S3x2x4x128x64_S1x2x4x128x64_1_0_0_0_0) (S := slotSet 1) (f := f) (KB m c) (slot_idx 1 _ _ _ rfl rfl) e1 e2
/-- Storing the device's own values fills slot 1. -/
theorem st_v {Q : α → sProp (MT nD τ sig Unit (Elt F) ℕ UU ℕ)} {k : PUnit → Prog (TpuEff nD τ sig (Elt F) Λ₀ .tc) α} {hx : (vM.access (rS 1 inb_S3x2x4x128x64_S1x2x4x128x64_1_0_0_0_0)).Stores Finset.univ} {hm}
    (f : Buf (Elt F) (vM.view.loc (c : Thread nD τ))) :
    (vM.view.loc (c : Thread nD τ) ↦[slotSet 1]{fullShare} f) ⊢ iprop((vSlot m c 1 fullShare -∗ wpc c (k ⟨⟩) Q)
      -∗ wpc c (.op (.store vM (rS 1 inb_S3x2x4x128x64_S1x2x4x128x64_1_0_0_0_0) (VS m c) Finset.univ hx hm) k) Q) :=
  by
  have e1 : ∀ x, (vM.access (rS 1 inb_S3x2x4x128x64_S1x2x4x128x64_1_0_0_0_0)).write (Elt F) f (VS m c) Finset.univ ((vM.access (rS 1 inb_S3x2x4x128x64_S1x2x4x128x64_1_0_0_0_0)).emb x) = VB m c ((vM.access (rS 1 inb_S3x2x4x128x64_S1x2x4x128x64_1_0_0_0_0)).emb x) := fun x =>
    (View.write_emb_of_mem (v := vM.access (rS 1 inb_S3x2x4x128x64_S1x2x4x128x64_1_0_0_0_0)) f (VS m c) (Finset.mem_univ x)).trans (VB_own m c _ x rfl)
  have e2 : ∀ i ∈ slotSet 1, (∀ x, (vM.access (rS 1 inb_S3x2x4x128x64_S1x2x4x128x64_1_0_0_0_0)).emb x ≠ i) → f i = VB m c i := fun i hi hne => by
    rw [← slot_box 1 inb_S3x2x4x128x64_S1x2x4x128x64_1_0_0_0_0] at hi
    obtain ⟨x, hx⟩ := LoadRect.exists_idx_of_mem _ hi
    exact absurd hx (hne x)
  unfold vSlot
  exact st_in c (M := vM) (r := rS 1 inb_S3x2x4x128x64_S1x2x4x128x64_1_0_0_0_0) (S := slotSet 1) (f := f) (VB m c) (slot_idx 1 _ _ _ rfl rfl) e1 e2

/-- A load of part of slot 1. -/
theorem ld_k {Q : α → sProp (MT nD τ sig Unit (Elt F) ℕ UU ℕ)} {o sz : Fin 5 → ℕ} {h : ∀ a, o a + sz a ≤ S3x2x4x128x64.size a} {hl : kM.view.LoadsAt (Rect.unit (s := S3x2x4x128x64) o sz h).toLoadRect}
    {k : (_ → Elt F .bf16) → Prog (TpuEff nD τ sig (Elt F) Λ₀ .tc) α} (q : PosShare TreeShare) (ho : o 0 = 1) (hz : sz 0 = 1) :
    kSlot m c 1 q ⊢ iprop((kSlot m c 1 q -∗ wpc c (k (kM.view.readAt (Elt F) (Rect.unit (s := S3x2x4x128x64) o sz h).toLoadRect (KB m c))) Q)
      -∗ wpc c (.op (.load kM (Rect.unit (s := S3x2x4x128x64) o sz h).toLoadRect hl) k) Q) :=
  ld_in c (M := kM) (slot_idx 1 o sz h ho hz)
/-- Loading from slot 1 of the value buffer gives what it holds. -/
theorem ld_v {Q : α → sProp (MT nD τ sig Unit (Elt F) ℕ UU ℕ)} {o sz : Fin 5 → ℕ} {h : ∀ a, o a + sz a ≤ S3x2x4x128x64.size a} {hl : vM.view.LoadsAt (Rect.unit (s := S3x2x4x128x64) o sz h).toLoadRect}
    {k : (_ → Elt F .bf16) → Prog (TpuEff nD τ sig (Elt F) Λ₀ .tc) α} (q : PosShare TreeShare) (ho : o 0 = 1) (hz : sz 0 = 1) :
    vSlot m c 1 q ⊢ iprop((vSlot m c 1 q -∗ wpc c (k (vM.view.readAt (Elt F) (Rect.unit (s := S3x2x4x128x64) o sz h).toLoadRect (VB m c))) Q)
      -∗ wpc c (.op (.load vM (Rect.unit (s := S3x2x4x128x64) o sz h).toLoadRect hl) k) Q) :=
  ld_in c (M := vM) (slot_idx 1 o sz h ho hz)

end Mem2

/-- One box of a buffer of four axes, its first coordinates fixed. -/
theorem st_row {c : Dev nD} {α : Type} {Q : α → sProp (MT nD τ sig Unit (Elt F) ℕ UU ℕ)} {cs : CoreSpace} {s : Shape} {e : EltTy} {M : Memref sig .tc cs s e} {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {f : Buf (Elt F) ((M.access r).loc (c : Thread nD τ))}
    (g : Buf (Elt F) ((M.access r).loc (c : Thread nD τ))) (hg : ∀ x, (M.access r).write (Elt F) f w Finset.univ ((M.access r).emb x) = g ((M.access r).emb x))
    (hf : ∀ i, (∀ x, (M.access r).emb x ≠ i) → f i = g i) :
    ((M.access r).loc (c : Thread nD τ) ↦{fullShare} f)
      ⊢ iprop((((M.access r).loc (c : Thread nD τ) ↦{fullShare} g) -∗ wpc c (k ⟨⟩) Q) -∗ wpc c (.op (.store M r w Finset.univ hx hm) k) Q) :=
  st_in c g (fun _ => Finset.mem_univ _) hg (fun i _ h => hf i h)

/-- An index inside a box is one the box counts. -/
theorem unit_hit {s : Shape} (o sz : Fin s.rank → ℕ) (h : ∀ a, o a + sz a ≤ s.size a) (i : s.Idx) (hi : ∀ a, o a ≤ (i a).val ∧ (i a).val < o a + sz a) :
    ∃ x, (Rect.unit (s := s) o sz h).idx x = i :=
  LoadRect.exists_idx_of_mem _ (by rw [Rect.mem_set_unit]; exact hi)

/-- A branch, both ways taking `R` to `T`. -/
theorem wp_dite (c : Dev nD) {α : Type} {Q : α → sProp (MT nD τ sig Unit (Elt F) ℕ UU ℕ)} {P : Prop} [Decidable P] {A : P → Prog (TpuEff nD τ sig (Elt F) Λ₀ .tc) PUnit} {B : ¬P → Prog (TpuEff nD τ sig (Elt F) Λ₀ .tc) PUnit}
    {k : PUnit → Prog (TpuEff nD τ sig (Elt F) Λ₀ .tc) α} (R T : sProp (MT nD τ sig Unit (Elt F) ℕ UU ℕ))
    (hA : ∀ h, R ⊢ iprop((T -∗ wpc c (k ⟨⟩) Q) -∗ wpc c (A h >>= k) Q)) (hB : ∀ h, R ⊢ iprop((T -∗ wpc c (k ⟨⟩) Q) -∗ wpc c (B h >>= k) Q)) :
    R ⊢ iprop((T -∗ wpc c (k ⟨⟩) Q) -∗ wpc c (dite P A B >>= k) Q) := by
  by_cases h : P
  · rw [dif_pos h]; exact hA h
  · rw [dif_neg h]; exact hB h

/-- The queries of the global rows, batch by batch. -/
theorem QG_0 (h : ∀ a, (![0, 0, 0, 0] : Fin 4 → ℕ) a + S1x4x32x64.size a ≤ S2x4x32x64.size a) (x : S1x4x32x64.Idx) :
    k0_pay12 (wq m dev0) (x0 m dev0) x = QG m ((Rect.unit (s := S2x4x32x64) ![0, 0, 0, 0] S1x4x32x64.size h).idx x) := by
  have y0 : (x 0).val = 0 := Nat.lt_one_iff.mp (x 0).isLt
  unfold QG
  rw [if_pos (by show 0 + 1 * (x 0).val = 0; omega)]
  congr 1
  funext b
  match b with
  | ⟨0, _⟩ => exact Fin.ext y0
  | ⟨1, _⟩ => exact Fin.ext (by show (x 1).val = 0 + 1 * (x 1).val; omega)
  | ⟨2, _⟩ => exact Fin.ext (by show (x 2).val = 0 + 1 * (x 2).val; omega)
  | ⟨3, _⟩ => exact Fin.ext (by show (x 3).val = 0 + 1 * (x 3).val; omega)
/-- The global queries of the second batch are the second half of their buffer. -/
theorem QG_1 (h : ∀ a, (![1, 0, 0, 0] : Fin 4 → ℕ) a + S1x4x32x64.size a ≤ S2x4x32x64.size a) (x : S1x4x32x64.Idx) :
    k0_pay13 (wq m dev0) (x1 m dev0) x = QG m ((Rect.unit (s := S2x4x32x64) ![1, 0, 0, 0] S1x4x32x64.size h).idx x) := by
  have y0 : (x 0).val = 0 := Nat.lt_one_iff.mp (x 0).isLt
  unfold QG
  rw [if_neg (by show ¬(1 + 1 * (x 0).val = 0); omega)]
  congr 1
  funext b
  match b with
  | ⟨0, _⟩ => exact Fin.ext y0
  | ⟨1, _⟩ => exact Fin.ext (by show (x 1).val = 0 + 1 * (x 1).val; omega)
  | ⟨2, _⟩ => exact Fin.ext (by show (x 2).val = 0 + 1 * (x 2).val; omega)
  | ⟨3, _⟩ => exact Fin.ext (by show (x 3).val = 0 + 1 * (x 3).val; omega)
/-- A batch's rows of a global block. -/
theorem g_hit (b : ℕ) (h : ∀ a, (![b, 0, 0, 0] : Fin 4 → ℕ) a + S1x4x32x64.size a ≤ S2x4x32x64.size a) (i : S2x4x32x64.Idx) (hi : (i 0).val = b) :
    ∃ x, (Rect.unit (s := S2x4x32x64) ![b, 0, 0, 0] S1x4x32x64.size h).idx x = i := by
  refine unit_hit _ _ h i fun a => ?_
  match a with
  | ⟨0, _⟩ => exact ⟨Nat.le_of_eq hi.symm, by show (i 0).val < b + 1; omega⟩
  | ⟨1, _⟩ => exact ⟨Nat.zero_le _, by have : (i 1).val < 4 := (i 1).isLt; show (i 1).val < 0 + 4; omega⟩
  | ⟨2, _⟩ => exact ⟨Nat.zero_le _, by have : (i 2).val < 32 := (i 2).isLt; show (i 2).val < 0 + 32; omega⟩
  | ⟨3, _⟩ => exact ⟨Nat.zero_le _, by have : (i 3).val < 64 := (i 3).isLt; show (i 3).val < 0 + 64; omega⟩

/-- A store into a buffer held whole, of which the contents afterwards are `g`. -/
theorem st_all (c : Dev nD) {α : Type} {Q : α → sProp (MT nD τ sig Unit (Elt F) ℕ UU ℕ)} {cs : CoreSpace} {s : Shape} {e : EltTy} {M : Memref sig .tc cs s e} {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {f : Buf (Elt F) (M.view.loc (c : Thread nD τ))}
    (g : Buf (Elt F) (M.view.loc (c : Thread nD τ))) (hg : (M.access r).write (Elt F) f w Finset.univ = g) :
    (M.view.loc (c : Thread nD τ) ↦{fullShare} f)
      ⊢ iprop(((M.view.loc (c : Thread nD τ) ↦{fullShare} g) -∗ wpc c (k ⟨⟩) Q) -∗ wpc c (.op (.store M r w Finset.univ hx hm) k) Q) := by
  subst hg
  exact wp_store 𝒱₀ (c : Thread nD τ) none Set.univ (m := M) (r := r) (Mk := Finset.univ) (Finset.subset_univ _)

end Cert.Att
-- ==== Proof.Out.lean ====
/-
# The output block

What a device computes from the three band slots and the global blocks, value by value in the order of the body, and
the output block it leaves.
-/
module

public import proofs.«01_k».proof.Proof.Loads

@[expose] public section

set_option maxRecDepth 4000
set_option maxHeartbeats 4000000

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The values of the band stage -/

/-- Which keys of the left, the own and the right block the band lets through. -/
def o383 (c : Dev nD) : IVec S128x128 1 := k0_pay35 (dw c) (dwl c)
def o390 (c : Dev nD) : IVec S128x128 1 := k0_pay36 (dw c)
def o397 (c : Dev nD) : IVec S128x128 1 := k0_pay37 (dw c) (dwr c)
def o407 (c : Dev nD) : IVec S128x416 1 := k0_pay38 (dw c) (o383 c) (o390 c) (o397 c) 128#32
def o432 (c : Dev nD) : FVec F S128x416 .f32 := k0_pay39 (dw c) (q0 m c) (o383 c) (o390 c) (o397 c) 128#32 (kAt m c 0 0 0 (by decide) (by decide) (by decide)) (kAt m c 1 0 0 (by decide) (by decide) (by decide)) (kAt m c 2 0 0 (by decide) (by decide) (by decide)) (kgAt m 0 0 (by decide) (by decide))
def o443 (c : Dev nD) : FVec F S128x64 .f32 := k0_pay40 (o432 m c) (vAt m c 0 0 0 (by decide) (by decide) (by decide)) (vAt m c 1 0 0 (by decide) (by decide) (by decide)) (vAt m c 2 0 0 (by decide) (by decide) (by decide)) (vgAt m 0 0 (by decide) (by decide))
def o445 (c : Dev nD) : FVec F S128x64 .bf16 := k0_pay41 (q0 m c)
def o447 (c : Dev nD) : FVec F S128x64 .bf16 := k0_pay42 (kAt m c 0 0 1 (by decide) (by decide) (by decide))
def o449 (c : Dev nD) : FVec F S128x64 .bf16 := k0_pay43 (kAt m c 1 0 1 (by decide) (by decide) (by decide))
def o451 (c : Dev nD) : FVec F S128x64 .bf16 := k0_pay44 (kAt m c 2 0 1 (by decide) (by decide) (by decide))
def o453 (c : Dev nD) : FVec F S32x64 .bf16 := k0_pay45 (kgAt m 0 1 (by decide) (by decide))
def o479 (c : Dev nD) : FVec F S128x64 .f32 := k0_pay46 (o407 c) (o445 m c) (o447 m c) (o449 m c) (o451 m c) (o453 m c) (vAt m c 0 0 1 (by decide) (by decide) (by decide)) (vAt m c 1 0 1 (by decide) (by decide) (by decide)) (vAt m c 2 0 1 (by decide) (by decide) (by decide)) (vgAt m 0 1 (by decide) (by decide))
def o481 (c : Dev nD) : FVec F S128x64 .bf16 := k0_pay47 (q0 m c)
def o483 (c : Dev nD) : FVec F S128x64 .bf16 := k0_pay48 (kAt m c 0 0 2 (by decide) (by decide) (by decide))
def o505 (c : Dev nD) : FVec F S128x416 .bf16 := k0_pay49 (o407 c) (o481 m c) (o483 m c) (kAt m c 1 0 2 (by decide) (by decide) (by decide)) (kAt m c 2 0 2 (by decide) (by decide) (by decide)) (kgAt m 0 2 (by decide) (by decide))
def o507 (c : Dev nD) : FVec F S128x64 .bf16 := k0_pay50 (vAt m c 0 0 2 (by decide) (by decide) (by decide))
def o509 (c : Dev nD) : FVec F S128x64 .bf16 := k0_pay51 (vAt m c 1 0 2 (by decide) (by decide) (by decide))
def o515 (c : Dev nD) : FVec F S128x64 .f32 := k0_pay52 (o505 m c) (o507 m c) (o509 m c) (vAt m c 2 0 2 (by decide) (by decide) (by decide)) (vgAt m 0 2 (by decide) (by decide))
def o540 (c : Dev nD) : FVec F S128x416 .f32 := k0_pay53 (q0 m c) (o407 c) (kAt m c 0 0 3 (by decide) (by decide) (by decide)) (kAt m c 1 0 3 (by decide) (by decide) (by decide)) (kAt m c 2 0 3 (by decide) (by decide) (by decide)) (kgAt m 0 3 (by decide) (by decide))
def o559 (c : Dev nD) : FVec F S128x64 .bf16 := k0_pay55 (q1 m c)
def o561 (c : Dev nD) : FVec F S128x64 .bf16 := k0_pay56 (kAt m c 0 1 0 (by decide) (by decide) (by decide))
def o563 (c : Dev nD) : FVec F S128x64 .bf16 := k0_pay57 (kAt m c 1 1 0 (by decide) (by decide) (by decide))
def o583 (c : Dev nD) : FVec F S128x416 .bf16 := k0_pay58 (o407 c) (o559 m c) (o561 m c) (o563 m c) (kAt m c 2 1 0 (by decide) (by decide) (by decide)) (kgAt m 1 0 (by decide) (by decide))
def o592 (c : Dev nD) : FVec F S416x64 .bf16 := k0_pay59 (vAt m c 0 1 0 (by decide) (by decide) (by decide)) (vAt m c 1 1 0 (by decide) (by decide) (by decide)) (vAt m c 2 1 0 (by decide) (by decide) (by decide)) (vgAt m 1 0 (by decide) (by decide))
def o593 (c : Dev nD) : FVec F S128x64 .f32 := k0_pay60 (o583 m c) (o592 m c)
def o619 (c : Dev nD) : FVec F S128x416 .bf16 := k0_pay61 (q1 m c) (o407 c) (kAt m c 0 1 1 (by decide) (by decide) (by decide)) (kAt m c 1 1 1 (by decide) (by decide) (by decide)) (kAt m c 2 1 1 (by decide) (by decide) (by decide)) (kgAt m 1 1 (by decide) (by decide))
def o621 (c : Dev nD) : FVec F S128x64 .bf16 := k0_pay62 (vAt m c 0 1 1 (by decide) (by decide) (by decide))
def o629 (c : Dev nD) : FVec F S128x64 .f32 := k0_pay63 (o619 m c) (o621 m c) (vAt m c 1 1 1 (by decide) (by decide) (by decide)) (vAt m c 2 1 1 (by decide) (by decide) (by decide)) (vgAt m 1 1 (by decide) (by decide))
def o645 (c : Dev nD) : FVec F S128x416 .f32 := k0_pay64 (q1 m c) (o407 c) (kAt m c 0 1 2 (by decide) (by decide) (by decide)) (kAt m c 1 1 2 (by decide) (by decide) (by decide)) (kAt m c 2 1 2 (by decide) (by decide) (by decide)) (kgAt m 1 2 (by decide) (by decide))
def o665 (c : Dev nD) : FVec F S128x64 .f32 := k0_pay65 (o645 m c) (vAt m c 0 1 2 (by decide) (by decide) (by decide)) (vAt m c 1 1 2 (by decide) (by decide) (by decide)) (vAt m c 2 1 2 (by decide) (by decide) (by decide)) (vgAt m 1 2 (by decide) (by decide))
def o667 (c : Dev nD) : FVec F S128x64 .bf16 := k0_pay66 (q1 m c)
def o669 (c : Dev nD) : FVec F S128x64 .bf16 := k0_pay67 (kAt m c 0 1 3 (by decide) (by decide) (by decide))
def o671 (c : Dev nD) : FVec F S128x64 .bf16 := k0_pay68 (kAt m c 1 1 3 (by decide) (by decide) (by decide))
def o691 (c : Dev nD) : FVec F S128x416 .bf16 := k0_pay69 (o407 c) (o667 m c) (o669 m c) (o671 m c) (kAt m c 2 1 3 (by decide) (by decide) (by decide)) (kgAt m 1 3 (by decide) (by decide))
def o700 (c : Dev nD) : FVec F S416x64 .bf16 := k0_pay70 (vAt m c 0 1 3 (by decide) (by decide) (by decide)) (vAt m c 1 1 3 (by decide) (by decide) (by decide)) (vAt m c 2 1 3 (by decide) (by decide) (by decide)) (vgAt m 1 3 (by decide) (by decide))

/-- The two batches' rows of the band stage. -/
def OB0 (c : Dev nD) : FVec F S1x128x512 .f32 := k0_pay54 (wo m c) (o443 m c) (o479 m c) (o515 m c) (o540 m c) (vAt m c 0 0 3 (by decide) (by decide) (by decide)) (vAt m c 1 0 3 (by decide) (by decide) (by decide)) (vAt m c 2 0 3 (by decide) (by decide) (by decide)) (vgAt m 0 3 (by decide) (by decide))
def OB1 (c : Dev nD) : FVec F S1x128x512 .f32 := k0_pay71 (wo m c) (o593 m c) (o629 m c) (o665 m c) (o691 m c) (o700 m c)
/-- The two batches' global rows, from the gathered sums. -/
def OG0 (c : Dev nD) : FVec F S1x32x512 .f32 := k0_pay2 (wo m c) (PA m)
def OG1 (c : Dev nD) : FVec F S1x32x512 .f32 := k0_pay72 (k0_pay3 (wo m c) (PA m))

/-! ## The output block as it fills -/

/-- After the first batch's rows; after both; after the first batch's global rows; after both. -/
def out1 (c : Dev nD) (f : (cc0_stg5_0 : Ref sig .tc).ty.Contents (Elt F)) : (cc0_stg5_0 : Ref sig .tc).ty.Contents (Elt F) :=
  fun (i : S2x128x512.Idx) => if (i 0).val = 0 then OB0 m c (ix3 (0 : Fin 1) (i 1) (i 2)) else f i
def out2 (c : Dev nD) : (cc0_stg5_0 : Ref sig .tc).ty.Contents (Elt F) :=
  fun (i : S2x128x512.Idx) => if (i 0).val = 0 then OB0 m c (ix3 (0 : Fin 1) (i 1) (i 2)) else OB1 m c (ix3 (0 : Fin 1) (i 1) (i 2))
def out3 (c : Dev nD) : (cc0_stg5_0 : Ref sig .tc).ty.Contents (Elt F) :=
  fun (i : S2x128x512.Idx) => if h : (i 0).val = 0 ∧ (i 1).val < 32 then OG0 m c (ix3 (0 : Fin 1) (⟨(i 1).val, h.2⟩ : Fin 32) (i 2)) else out2 m c i
def out4 (c : Dev nD) : (cc0_stg5_0 : Ref sig .tc).ty.Contents (Elt F) :=
  fun (i : S2x128x512.Idx) => if h : (i 0).val = 1 ∧ (i 1).val < 32 then OG1 m c (ix3 (0 : Fin 1) (⟨(i 1).val, h.2⟩ : Fin 32) (i 2)) else out3 m c i
/-- A device's output block. -/
def outAt (c : Dev nD) : (cc0_stg5_0 : Ref sig .tc).ty.Contents (Elt F) := if c = dev0 then out4 m c else out2 m c

/-- A store of rows from the first one of a batch on. -/
theorem st_out (c : Dev nD) {α : Type} {Q : α → sProp (MT nD τ sig Unit (Elt F) ℕ UU ℕ)} (b : ℕ) (sz : Fin 3 → ℕ) (h : ∀ a, (![b, 0, 0] : Fin 3 → ℕ) a + sz a ≤ S2x128x512.size a) (h0 : sz 0 = 1) (h2 : sz 2 = 512)
    {w : (Rect.unit (s := S2x128x512) ![b, 0, 0] sz h).shape.Idx → Elt F .f32}
    {hx : (oM.access (Rect.unit (s := S2x128x512) ![b, 0, 0] sz h)).Stores Finset.univ} {hm : (Finset.univ : Finset (Rect.unit (s := S2x128x512) ![b, 0, 0] sz h).shape.Idx) = Finset.univ ∨ ∀ a, (Rect.unit (s := S2x128x512) ![b, 0, 0] sz h).stride a = 1}
    {k : PUnit → Prog (TpuEff nD τ sig (Elt F) Λ₀ .tc) α} {f : (cc0_stg5_0 : Ref sig .tc).ty.Contents (Elt F)} (g : (cc0_stg5_0 : Ref sig .tc).ty.Contents (Elt F))
    (hg : ∀ x, w x = g ((Rect.unit (s := S2x128x512) ![b, 0, 0] sz h).idx x))
    (hf : ∀ i : S2x128x512.Idx, ¬((i 0).val = b ∧ (i 1).val < sz 1) → f i = g i) :
    (oM.view.loc (c : Thread nD τ) ↦{fullShare} f)
      ⊢ iprop(((oM.view.loc (c : Thread nD τ) ↦{fullShare} g) -∗ wpc c (k ⟨⟩) Q) -∗ wpc c (.op (.store oM (Rect.unit (s := S2x128x512) ![b, 0, 0] sz h) w Finset.univ hx hm) k) Q) := by
  refine st_row (M := oM) (r := Rect.unit (s := S2x128x512) ![b, 0, 0] sz h) g (fun x => ?_) (fun i hne => ?_)
  · exact (View.write_emb_of_mem (v := oM.access (Rect.unit (s := S2x128x512) ![b, 0, 0] sz h)) f w (Finset.mem_univ x)).trans (hg x)
  · have key : ∀ j : S2x128x512.Idx, (∀ x, (Rect.unit (s := S2x128x512) ![b, 0, 0] sz h).idx x ≠ j) → f j = g j := by
      intro j hj
      refine hf j ?_
      rintro ⟨e0, e1⟩
      obtain ⟨x, hx⟩ := unit_hit _ _ h j (fun a => by
        match a with
        | ⟨0, _⟩ => exact ⟨Nat.le_of_eq e0.symm, by show (j 0).val < b + sz 0; omega⟩
        | ⟨1, _⟩ => exact ⟨Nat.zero_le _, by show (j 1).val < 0 + sz 1; omega⟩
        | ⟨2, _⟩ => exact ⟨Nat.zero_le _, by have : (j 2).val < 512 := (j 2).isLt; show (j 2).val < 0 + sz 2; omega⟩)
      exact hj x hx
    exact key i hne

/-- The first store puts the first batch's rows where they belong. -/
theorem out1_in (c : Dev nD) (f) (x : S1x128x512.Idx) (h : ∀ a, (![0, 0, 0] : Fin 3 → ℕ) a + S1x128x512.size a ≤ S2x128x512.size a) :
    OB0 m c x = out1 m c f ((Rect.unit (s := S2x128x512) ![0, 0, 0] S1x128x512.size h).idx x) := by
  have y0 : (x 0).val = 0 := Nat.lt_one_iff.mp (x 0).isLt
  refine Eq.trans ?_ (if_pos (by show 0 + 1 * (x 0).val = 0; omega)).symm
  congr 1
  funext a
  match a with
  | ⟨0, _⟩ => exact Fin.ext y0
  | ⟨1, _⟩ => exact Fin.ext (by show (x 1).val = 0 + 1 * (x 1).val; omega)
  | ⟨2, _⟩ => exact Fin.ext (by show (x 2).val = 0 + 1 * (x 2).val; omega)
/-- The first store leaves the rest. -/
theorem out1_off (c : Dev nD) (f) (i : S2x128x512.Idx) (h : ¬((i 0).val = 0 ∧ (i 1).val < 128)) : f i = out1 m c f i :=
  (if_neg fun e => h ⟨e, (i 1).isLt⟩).symm
/-- The second store puts the second batch's rows where they belong. -/
theorem out2_in (c : Dev nD) (x : S1x128x512.Idx) (h : ∀ a, (![1, 0, 0] : Fin 3 → ℕ) a + S1x128x512.size a ≤ S2x128x512.size a) :
    OB1 m c x = out2 m c ((Rect.unit (s := S2x128x512) ![1, 0, 0] S1x128x512.size h).idx x) := by
  have y0 : (x 0).val = 0 := Nat.lt_one_iff.mp (x 0).isLt
  refine Eq.trans ?_ (if_neg (by show ¬(1 + 1 * (x 0).val = 0); omega)).symm
  congr 1
  funext a
  match a with
  | ⟨0, _⟩ => exact Fin.ext y0
  | ⟨1, _⟩ => exact Fin.ext (by show (x 1).val = 0 + 1 * (x 1).val; omega)
  | ⟨2, _⟩ => exact Fin.ext (by show (x 2).val = 0 + 1 * (x 2).val; omega)
/-- The second store leaves the rest. -/
theorem out2_off (c : Dev nD) (f) (i : S2x128x512.Idx) (h : ¬((i 0).val = 1 ∧ (i 1).val < 128)) : out1 m c f i = out2 m c i := by
  have h0 : (i 0).val = 0 := by
    have h2 : (i 0).val < 2 := (i 0).isLt
    have h1 : (i 1).val < 128 := (i 1).isLt
    by_contra hne; exact h ⟨by omega, h1⟩
  exact (if_pos h0).trans (if_pos h0).symm
/-- The third store puts the first batch's global rows where they belong. -/
theorem out3_in (c : Dev nD) (x : S1x32x512.Idx) (h : ∀ a, (![0, 0, 0] : Fin 3 → ℕ) a + S1x32x512.size a ≤ S2x128x512.size a) :
    OG0 m c x = out3 m c ((Rect.unit (s := S2x128x512) ![0, 0, 0] S1x32x512.size h).idx x) := by
  have y0 : (x 0).val = 0 := Nat.lt_one_iff.mp (x 0).isLt
  have y1 : (x 1).val < 32 := (x 1).isLt
  refine Eq.trans ?_ (dif_pos (⟨by show 0 + 1 * (x 0).val = 0; omega, by show 0 + 1 * (x 1).val < 32; omega⟩)).symm
  congr 1
  funext a
  match a with
  | ⟨0, _⟩ => exact Fin.ext y0
  | ⟨1, _⟩ => exact Fin.ext (by show (x 1).val = 0 + 1 * (x 1).val; omega)
  | ⟨2, _⟩ => exact Fin.ext (by show (x 2).val = 0 + 1 * (x 2).val; omega)
/-- The third store leaves the rest. -/
theorem out3_off (c : Dev nD) (i : S2x128x512.Idx) (h : ¬((i 0).val = 0 ∧ (i 1).val < 32)) : out2 m c i = out3 m c i := by
  have e : out3 m c i = out2 m c i := dif_neg h
  exact e.symm
/-- The fourth store puts the second batch's global rows where they belong. -/
theorem out4_in (c : Dev nD) (x : S1x32x512.Idx) (h : ∀ a, (![1, 0, 0] : Fin 3 → ℕ) a + S1x32x512.size a ≤ S2x128x512.size a) :
    OG1 m c x = out4 m c ((Rect.unit (s := S2x128x512) ![1, 0, 0] S1x32x512.size h).idx x) := by
  have y0 : (x 0).val = 0 := Nat.lt_one_iff.mp (x 0).isLt
  have y1 : (x 1).val < 32 := (x 1).isLt
  refine Eq.trans ?_ (dif_pos (⟨by show 1 + 1 * (x 0).val = 1; omega, by show 0 + 1 * (x 1).val < 32; omega⟩)).symm
  congr 1
  funext a
  match a with
  | ⟨0, _⟩ => exact Fin.ext y0
  | ⟨1, _⟩ => exact Fin.ext (by show (x 1).val = 0 + 1 * (x 1).val; omega)
  | ⟨2, _⟩ => exact Fin.ext (by show (x 2).val = 0 + 1 * (x 2).val; omega)
/-- The fourth store leaves the rest. -/
theorem out4_off (c : Dev nD) (i : S2x128x512.Idx) (h : ¬((i 0).val = 1 ∧ (i 1).val < 32)) : out3 m c i = out4 m c i := by
  have e : out4 m c i = out3 m c i := dif_neg h
  exact e.symm

end Cert.Att
-- ==== Proof.StageA.lean ====
/-
# The first stage: the device's own blocks

Parts 20 and 21 up to the signals: the device's keys and values into slot 1, and on the first device the global
blocks.
-/
module

public import proofs.«01_k».proof.Proof.Loads

@[expose] public section

set_option maxRecDepth 4000
set_option maxHeartbeats 4000000

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-- The staged inputs. -/
def wins (c : Dev nD) : sProp 𝕄 :=
  iprop((xM.view.loc (c : Thread nD τ) ↦{fullShare} xstg m c) ∗ (wqM.view.loc (c : Thread nD τ) ↦{fullShare} wqstg m c) ∗ (kiM.view.loc (c : Thread nD τ) ↦{fullShare} kstg m c)
    ∗ (viM.view.loc (c : Thread nD τ) ↦{fullShare} vstg m c) ∗ (woM.view.loc (c : Thread nD τ) ↦{fullShare} wostg m c))

section Parts
variable (c : Dev nD) {α : Type}

/-- Part 20: keys and values into slot 1. -/
theorem part20 {Q : α → sProp (MT nD τ sig Unit (Elt F) ℕ UU ℕ)}
    {kk : (Σ' (d0 : Dev nD) (v2 : BitVec 32) (v5 : BitVec 32) (v7 : BitVec 32) (v21 : FVec F S512x256 .bf16) (v23 : FVec F S256x512 .bf16), Vec F S1x128x512 .bf16) → Prog (TpuEff nD τ sig (Elt F) Λ₀ .tc) α} :
    iprop(wins m c ∗ kFree c 1 ∗ vFree c 1)
      ⊢ iprop(((wins m c ∗ kSlot m c 1 fullShare ∗ vSlot m c 1 fullShare) -∗ wpc c (kk ⟨c, dw c, dwl c, dwr c, wq m c, wo m c, x0 m c⟩) Q)
        -∗ wpc c (k0_part20 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 >>= kk) Q) := by
  rw [k0_part20_eq_skeleton]
  unfold k0_part20_skel wins kFree vFree
  simp only [Prog.lift, Prog.bind_op, Prog.bind_ret, Prog.bind_assoc, Prog.pure_eq_ret, wp_deviceId]
  iintro ⟨⟨Hx, Hwq, Hk, Hv, Hwo⟩, ⟨%fk, Hks⟩, ⟨%fv, Hvs⟩⟩ Hc
  iapply (ld_all c (M := kiM)) $$ Hk
  iintro Hk
  iapply (ld_in c (M := kM) (slot_idx 1 _ _ _ rfl rfl)) $$ Hks
  iintro Hks
  rw [show k0_pay4 (kiM.view.readAt (Elt F) (Rect.unit (s := S2x128x4x64) ![0, 0, 0, 0] S2x128x4x64.size inb_S2x128x4x64_S2x128x4x64_0_0_0_0).toLoadRect (kstg m c)) = KS m c from
    congrArg k0_pay4 (Memref.readAt_unit_zero (Elt F) cc0_stg2_0 (by funext a; fin_cases a <;> rfl) _ _)]
  iapply (st_k m c _) $$ Hks
  iintro Hks
  iapply (ld_all c (M := viM)) $$ Hv
  iintro Hv
  iapply (ld_in c (M := vM) (slot_idx 1 _ _ _ rfl rfl)) $$ Hvs
  iintro Hvs
  rw [show k0_pay5 (viM.view.readAt (Elt F) (Rect.unit (s := S2x128x4x64) ![0, 0, 0, 0] S2x128x4x64.size inb_S2x128x4x64_S2x128x4x64_0_0_0_0).toLoadRect (vstg m c)) = VS m c from
    congrArg k0_pay5 (Memref.readAt_unit_zero (Elt F) cc0_stg3_0 (by funext a; fin_cases a <;> rfl) _ _)]
  iapply (st_v m c _) $$ Hvs
  iintro Hvs
  iapply (ld_all c (M := wqM)) $$ Hwq
  iintro Hwq
  iapply (ld_all c (M := woM)) $$ Hwo
  iintro Hwo
  iapply (ld_all c (M := xM)) $$ Hx
  iintro Hx
  rw [show k0_pay6 (wqM.view.readAt (Elt F) (Rect.unit (s := S512x256) ![0, 0] S512x256.size inb_S512x256_S512x256_0_0).toLoadRect (wqstg m c)) = wq m c from
    congrArg k0_pay6 (Memref.readAt_unit_zero (Elt F) cc0_stg1_0 (by funext a; fin_cases a <;> rfl) _ _),
   show k0_pay7 (woM.view.readAt (Elt F) (Rect.unit (s := S256x512) ![0, 0] S256x512.size inb_S256x512_S256x512_0_0).toLoadRect (wostg m c)) = wo m c from
    congrArg k0_pay7 (Memref.readAt_unit_zero (Elt F) cc0_stg4_0 (by funext a; fin_cases a <;> rfl) _ _)]
  iapply Hc
  isplitl [Hx Hwq Hk Hv Hwo]
  · isplitl [Hx]; · iexact Hx
    isplitl [Hwq]; · iexact Hwq
    isplitl [Hk]; · iexact Hk
    isplitl [Hv]; · iexact Hv
    iexact Hwo
  isplitl [Hks]; · iexact Hks
  iexact Hvs

/-- The global blocks before the barrier: in place on the first device, free elsewhere. -/
def gNow (c : Dev nD) : sProp 𝕄 :=
  iprop(when (c = dev0) iprop(kgPts m c fullShare ∗ vgPts m c fullShare ∗ qgPts m c fullShare) ∗ when (c ≠ dev0) iprop(kgFree (F := F) c ∗ vgFree (F := F) c ∗ qgFree (F := F) c))

/-- What the barrier signals hand in and what is still owed, `j` signals before the last. -/
def sgRun (c : Dev nD) (i j : ℕ) : sProp 𝕄 :=
  iprop(owesE (F := F) c (oseg (fun i => tallyAt (barCell (off c i)) () 1) (O₁ c) i j) ∗ seg (sgP (F := F) c) i j)

/-- One signal. -/
theorem sg (K : Dev nD × CIx → ℕ) {Q : α → sProp (MT nD τ sig Unit (Elt F) ℕ UU ℕ)} {k : PUnit → Prog (TpuEff nD τ sig (Elt F) Λ₀ .tc) α} (i j : ℕ) (hi : 0 < i) (hi' : i < 16) {d : Dev nD} (hd : d.val = (c.val + i) % 16) :
    iprop(env m K ∗ sgRun c i (j + 1)) ⊢ iprop((sgRun c (i + 1) j -∗ wpc c (k ⟨⟩) Q) -∗ wpc c (.op (.semSignal ((d : Dev nD), Proc.tc) barS ((1#32).toInt.toNat)) k) Q) :=
  sig_step m K c i j hi hi' d hd (O₁ c)

/-- Part 21: the global blocks on the first device, then the first four signals. -/
theorem part21 (K : Dev nD × CIx → ℕ) {Q : α → sProp (MT nD τ sig Unit (Elt F) ℕ UU ℕ)}
    {kk : (Σ' (v26 : FVec F S128x256 .f32) (v29 : FVec F S128x256 .f32) (v33 : Sems sig S_) (v50 : BitVec 32), BitVec 32) → Prog (TpuEff nD τ sig (Elt F) Λ₀ .tc) α} :
    iprop(env m K ∗ wins m c ∗ kSlot m c 1 fullShare ∗ vSlot m c 1 fullShare ∗ kgFree (F := F) c ∗ vgFree (F := F) c ∗ qgFree (F := F) c)
      ⊢ iprop(((wins m c ∗ kSlot m c 1 fullShare ∗ vSlot m c 1 fullShare ∗ gNow m c) -∗
          wpc c (do
            semSignalWord (⟨k0_dev1 c, k0_dev1_lt c⟩ : Dev nD) (SemArray.scalar (sig.barrier 0 rfl) : Sems sig S_).sem 1#32
            semSignalWord (⟨k0_dev2 c, k0_dev2_lt c⟩ : Dev nD) (SemArray.scalar (sig.barrier 0 rfl) : Sems sig S_).sem 1#32
            semSignalWord (⟨k0_dev3 c, k0_dev3_lt c⟩ : Dev nD) (SemArray.scalar (sig.barrier 0 rfl) : Sems sig S_).sem 1#32
            semSignalWord (⟨k0_dev4 c, k0_dev4_lt c⟩ : Dev nD) (SemArray.scalar (sig.barrier 0 rfl) : Sems sig S_).sem 1#32
            kk ⟨q0 m c, q1 m c, SemArray.scalar (sig.barrier 0 rfl), Scalar.addi (dw c) 5#32, 16#32⟩) Q)
        -∗ wpc c (k0_part21 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 c (dw c) (wq m c) (x0 m c) >>= kk) Q) := by
  rw [k0_part21_eq_skeleton]
  unfold k0_part21_skel wins
  simp only [Prog.lift, Prog.bind_op, Prog.bind_ret, Prog.bind_assoc, Prog.pure_eq_ret]
  iintro ⟨#HE, ⟨Hx, Hwq, Hk, Hv, Hwo⟩, Hks, Hvs, Hg0, Hg1, Hg2⟩ Hc
  iapply (ld_all c (M := xM)) $$ Hx
  iintro Hx
  by_cases hc : c = dev0
  · subst hc
    simp only [dif_pos ((cond_eq dev0 0).mpr rfl), Prog.bind_op, Prog.bind_ret, Prog.bind_assoc]
    unfold kgFree vgFree qgFree gNow
    rw [when_pos rfl, when_neg (fun h => h rfl)]
    icases Hg0 with ⟨%f0, Hg0⟩
    icases Hg1 with ⟨%f1, Hg1⟩
    icases Hg2 with ⟨%f2, Hg2⟩
    iapply (ld_k m dev0 fullShare rfl rfl) $$ Hks
    iintro Hks
    iapply (ld_all dev0 (M := kgM)) $$ Hg0
    iintro Hg0
    iapply (st_all dev0 (M := kgM) (KG m) (Memref.write_access_unit_zero_univ (Elt F) cc0_scratch2 (by funext a; fin_cases a <;> rfl) _ _ _)) $$ Hg0
    iintro Hg0
    iapply (ld_v m dev0 fullShare rfl rfl) $$ Hvs
    iintro Hvs
    iapply (ld_all dev0 (M := vgM)) $$ Hg1
    iintro Hg1
    iapply (st_all dev0 (M := vgM) (VG m) (Memref.write_access_unit_zero_univ (Elt F) cc0_scratch3 (by funext a; fin_cases a <;> rfl) _ _ _)) $$ Hg1
    iintro Hg1
    iapply (ld_all dev0 (M := qgM)) $$ Hg2
    iintro Hg2
    iapply (st_row (M := qgM) (fun i : S2x4x32x64.Idx => if (i 0).val = 0 then QG m i else f2 i)
      (fun x => (View.write_emb_of_mem (v := qgM.access (Rect.unit (s := S2x4x32x64) ![0, 0, 0, 0] S1x4x32x64.size inb_S2x4x32x64_S1x4x32x64_0_0_0_0)) f2 (k0_pay12 (wq m dev0) (x0 m dev0)) (Finset.mem_univ x)).trans
        ((QG_0 m inb_S2x4x32x64_S1x4x32x64_0_0_0_0 x).trans (if_pos (by show 0 + 1 * (x 0).val = 0; have : (x 0).val < 1 := (x 0).isLt; omega)).symm))
      (fun i hne => (if_neg fun hi => by obtain ⟨x, hx⟩ := g_hit 0 inb_S2x4x32x64_S1x4x32x64_0_0_0_0 i hi; exact hne x hx).symm)) $$ Hg2
    iintro Hg2
    iapply (ld_all dev0 (M := qgM)) $$ Hg2
    iintro Hg2
    iapply (st_row (c := dev0) (M := qgM) (r := Rect.unit (s := S2x4x32x64) ![1, 0, 0, 0] S1x4x32x64.size inb_S2x4x32x64_S1x4x32x64_1_0_0_0) (QG m)
      (fun x => (View.write_emb_of_mem (v := qgM.access (Rect.unit (s := S2x4x32x64) ![1, 0, 0, 0] S1x4x32x64.size inb_S2x4x32x64_S1x4x32x64_1_0_0_0)) (fun i : S2x4x32x64.Idx => if (i 0).val = 0 then QG m i else f2 i) (k0_pay13 (wq m dev0) (x1 m dev0)) (Finset.mem_univ x)).trans
        (QG_1 m inb_S2x4x32x64_S1x4x32x64_1_0_0_0 x))
      (fun (i : S2x4x32x64.Idx) hne => if_pos (by
        have h2 : (i 0).val < 2 := (i 0).isLt
        by_contra h0
        obtain ⟨x, hx⟩ := g_hit 1 inb_S2x4x32x64_S1x4x32x64_1_0_0_0 i (by omega)
        exact hne x hx))) $$ Hg2
    iintro Hg2
    iapply Hc
    isplitl [Hx Hwq Hk Hv Hwo]
    · isplitl [Hx]; · iexact Hx
      isplitl [Hwq]; · iexact Hwq
      isplitl [Hk]; · iexact Hk
      isplitl [Hv]; · iexact Hv
      iexact Hwo
    isplitl [Hks]; · iexact Hks
    isplitl [Hvs]; · iexact Hvs
    isplitl [Hg0 Hg1 Hg2]
    · isplitl [Hg0]; · unfold kgPts; iexact Hg0
      isplitl [Hg1]; · unfold vgPts; iexact Hg1
      unfold qgPts; iexact Hg2
    iempintro
  · simp only [dif_neg (fun h => hc (Fin.ext ((cond_eq c 0).mp h)) : ¬ (Scalar.cmpi .ne (Scalar.extui (Scalar.cmpi .eq (dw c) 0#32) : BitVec 32) 0#32 = 1#1)), Prog.bind_op, Prog.bind_ret, Prog.bind_assoc]
    unfold gNow
    rw [when_neg hc, when_pos hc]
    iapply Hc
    isplitl [Hx Hwq Hk Hv Hwo]
    · isplitl [Hx]; · iexact Hx
      isplitl [Hwq]; · iexact Hwq
      isplitl [Hk]; · iexact Hk
      isplitl [Hv]; · iexact Hv
      iexact Hwo
    isplitl [Hks]; · iexact Hks
    isplitl [Hvs]; · iexact Hvs
    isplitr [Hg0 Hg1 Hg2]
    · iempintro
    isplitl [Hg0]; · iexact Hg0
    isplitl [Hg1]; · iexact Hg1
    iexact Hg2

end Parts

end Cert.Att
-- ==== Proof.Bcast.lean ====
/-
# The broadcast of the global blocks

Device 0 sends its three global blocks to every other device, five transfers to a part of the body.
-/
module

public import proofs.«01_k».proof.Proof.Loads

@[expose] public section

set_option maxRecDepth 4000
set_option maxHeartbeats 4000000

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-- The broadcasts still to start, `j` of them from number `n`, and what is left of those that have. -/
def bcSt (n j : ℕ) : sProp 𝕄 :=
  iprop(owesE (F := F) dev0 (oseg brO 0 n j) ∗ seg (bcP m) n j ∗ acc (bcC (F := F)) 3 (n - 3))

section One
variable (K : Dev nD × CIx → ℕ) {α : Type} {k : PUnit → Prog (TpuEff nD τ sig (Elt F) Λ₀ .tc) α}

/-- The keys to device `t`. -/
theorem bc0 {Q : α → sProp (MT nD τ sig Unit (Elt F) ℕ UU ℕ)} (t n j : ℕ) (ht : 1 ≤ t ∧ t < 16) (hn : n = 3 * t + 0) {d : Dev nD} (hd : d.val = t)
    {hsc : (kgM : Memref sig (Dev.tc d : Thread nD τ).2.kind .vmem _ .bf16).view.ref.isScScratch = false} {sS sem : SemLoc sig}
    {hsrc : kgM.view.WordExact} {hdst : kgM.view.WordExact} {hsem : DmaTarget.Typed .vmem sem (.remote (Dev.tc d : Thread nD τ) kgM sS hsc)}
    (hsS : sS = .dma (Fin.ofNat 97 (14 + n))) (hsD : sem = .dma (Fin.ofNat 97 62)) :
    iprop(env m K ∗ bcSt m n (j + 1)) ⊢ iprop((bcSt m (n + 1) j -∗ wpc dev0 (k ⟨⟩) Q)
        -∗ wpc dev0 (.op (.enqueueDma kgM (.remote (Dev.tc d : Thread nD τ) kgM sS hsc) sem hsrc hdst hsem) k) Q) :=
  bc_step m K kgM (fun _ => KG m) 0 (by decide) (g0_pts m) g0_free (fun _ fd => gland cc0_scratch2 _ fd) credit_kg t n j ht.1 ht.2 hn d hd 0 hsS hsD

/-- The values to device `t`. -/
theorem bc1 {Q : α → sProp (MT nD τ sig Unit (Elt F) ℕ UU ℕ)} (t n j : ℕ) (ht : 1 ≤ t ∧ t < 16) (hn : n = 3 * t + 1) {d : Dev nD} (hd : d.val = t)
    {hsc : (vgM : Memref sig (Dev.tc d : Thread nD τ).2.kind .vmem _ .bf16).view.ref.isScScratch = false} {sS sem : SemLoc sig}
    {hsrc : vgM.view.WordExact} {hdst : vgM.view.WordExact} {hsem : DmaTarget.Typed .vmem sem (.remote (Dev.tc d : Thread nD τ) vgM sS hsc)}
    (hsS : sS = .dma (Fin.ofNat 97 (14 + n))) (hsD : sem = .dma (Fin.ofNat 97 63)) :
    iprop(env m K ∗ bcSt m n (j + 1)) ⊢ iprop((bcSt m (n + 1) j -∗ wpc dev0 (k ⟨⟩) Q)
        -∗ wpc dev0 (.op (.enqueueDma vgM (.remote (Dev.tc d : Thread nD τ) vgM sS hsc) sem hsrc hdst hsem) k) Q) :=
  bc_step m K vgM (fun _ => VG m) 1 (by decide) (g1_pts m) g1_free (fun _ fd => gland cc0_scratch3 _ fd) credit_vg t n j ht.1 ht.2 hn d hd 0 hsS hsD

/-- The queries to device `t`. -/
theorem bc2 {Q : α → sProp (MT nD τ sig Unit (Elt F) ℕ UU ℕ)} (t n j : ℕ) (ht : 1 ≤ t ∧ t < 16) (hn : n = 3 * t + 2) {d : Dev nD} (hd : d.val = t)
    {hsc : (qgM : Memref sig (Dev.tc d : Thread nD τ).2.kind .vmem _ .bf16).view.ref.isScScratch = false} {sS sem : SemLoc sig}
    {hsrc : qgM.view.WordExact} {hdst : qgM.view.WordExact} {hsem : DmaTarget.Typed .vmem sem (.remote (Dev.tc d : Thread nD τ) qgM sS hsc)}
    (hsS : sS = .dma (Fin.ofNat 97 (14 + n))) (hsD : sem = .dma (Fin.ofNat 97 64)) :
    iprop(env m K ∗ bcSt m n (j + 1)) ⊢ iprop((bcSt m (n + 1) j -∗ wpc dev0 (k ⟨⟩) Q)
        -∗ wpc dev0 (.op (.enqueueDma qgM (.remote (Dev.tc d : Thread nD τ) qgM sS hsc) sem hsrc hdst hsem) k) Q) :=
  bc_step m K qgM (fun _ => QG m) 2 (by decide) (g2_pts m) g2_free (fun _ fd => gland cc0_scratch4 _ fd) credit_qg t n j ht.1 ht.2 hn d hd 0 hsS hsD
end One

/-- Broadcasts 3 to 7. -/
theorem part1 (K : Dev nD × CIx → ℕ) {α : Type} {Q : α → sProp (MT nD τ sig Unit (Elt F) ℕ UU ℕ)} {kk : PUnit → Prog (TpuEff nD τ sig (Elt F) Λ₀ .tc) α} (h : k0_cond2 dev0 = 1#1) :
    iprop(env m K ∗ bcSt m 3 45) ⊢ iprop((bcSt m 8 40 -∗ wpc dev0 (kk ⟨⟩) Q) -∗ wpc dev0 (k0_part1 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 dev0 h >>= kk) Q) := by
  rw [k0_part1_eq_skeleton]
  unfold k0_part1_skel
  simp only [Prog.lift, Prog.bind_op, Prog.bind_ret, Prog.bind_assoc, Prog.pure_eq_ret]
  iintro ⟨#HE, HB⟩ Hc
  iapply (bc0 m K 1 3 44 (by decide) rfl (k0_dev20_eq) rfl rfl) $$ [HB]
  · isplitr; · iexact HE
    iexact HB
  iintro HB
  iapply (bc1 m K 1 4 43 (by decide) rfl (k0_dev21_eq) rfl rfl) $$ [HB]
  · isplitr; · iexact HE
    iexact HB
  iintro HB
  iapply (bc2 m K 1 5 42 (by decide) rfl (k0_dev22_eq) rfl rfl) $$ [HB]
  · isplitr; · iexact HE
    iexact HB
  iintro HB
  iapply (bc0 m K 2 6 41 (by decide) rfl (k0_dev23_eq) rfl rfl) $$ [HB]
  · isplitr; · iexact HE
    iexact HB
  iintro HB
  iapply (bc1 m K 2 7 40 (by decide) rfl (k0_dev24_eq) rfl rfl) $$ [HB]
  · isplitr; · iexact HE
    iexact HB
  iintro HB
  iapply Hc
  iexact HB

/-- Broadcasts 8 to 12. -/
theorem part2 (K : Dev nD × CIx → ℕ) {α : Type} {Q : α → sProp (MT nD τ sig Unit (Elt F) ℕ UU ℕ)} {kk : PUnit → Prog (TpuEff nD τ sig (Elt F) Λ₀ .tc) α} (h : k0_cond2 dev0 = 1#1) :
    iprop(env m K ∗ bcSt m 8 40) ⊢ iprop((bcSt m 13 35 -∗ wpc dev0 (kk ⟨⟩) Q) -∗ wpc dev0 (k0_part2 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 dev0 h >>= kk) Q) := by
  rw [k0_part2_eq_skeleton]
  unfold k0_part2_skel
  simp only [Prog.lift, Prog.bind_op, Prog.bind_ret, Prog.bind_assoc, Prog.pure_eq_ret]
  iintro ⟨#HE, HB⟩ Hc
  iapply (bc2 m K 2 8 39 (by decide) rfl (k0_dev25_eq) rfl rfl) $$ [HB]
  · isplitr; · iexact HE
    iexact HB
  iintro HB
  iapply (bc0 m K 3 9 38 (by decide) rfl (k0_dev26_eq) rfl rfl) $$ [HB]
  · isplitr; · iexact HE
    iexact HB
  iintro HB
  iapply (bc1 m K 3 10 37 (by decide) rfl (k0_dev27_eq) rfl rfl) $$ [HB]
  · isplitr; · iexact HE
    iexact HB
  iintro HB
  iapply (bc2 m K 3 11 36 (by decide) rfl (k0_dev28_eq) rfl rfl) $$ [HB]
  · isplitr; · iexact HE
    iexact HB
  iintro HB
  iapply (bc0 m K 4 12 35 (by decide) rfl (k0_dev29_eq) rfl rfl) $$ [HB]
  · isplitr; · iexact HE
    iexact HB
  iintro HB
  iapply Hc
  iexact HB

/-- Broadcasts 13 to 17. -/
theorem part3 (K : Dev nD × CIx → ℕ) {α : Type} {Q : α → sProp (MT nD τ sig Unit (Elt F) ℕ UU ℕ)} {kk : PUnit → Prog (TpuEff nD τ sig (Elt F) Λ₀ .tc) α} (h : k0_cond2 dev0 = 1#1) :
    iprop(env m K ∗ bcSt m 13 35) ⊢ iprop((bcSt m 18 30 -∗ wpc dev0 (kk ⟨⟩) Q) -∗ wpc dev0 (k0_part3 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 dev0 h >>= kk) Q) := by
  rw [k0_part3_eq_skeleton]
  unfold k0_part3_skel
  simp only [Prog.lift, Prog.bind_op, Prog.bind_ret, Prog.bind_assoc, Prog.pure_eq_ret]
  iintro ⟨#HE, HB⟩ Hc
  iapply (bc1 m K 4 13 34 (by decide) rfl (k0_dev30_eq) rfl rfl) $$ [HB]
  · isplitr; · iexact HE
    iexact HB
  iintro HB
  iapply (bc2 m K 4 14 33 (by decide) rfl (k0_dev31_eq) rfl rfl) $$ [HB]
  · isplitr; · iexact HE
    iexact HB
  iintro HB
  iapply (bc0 m K 5 15 32 (by decide) rfl (k0_dev32_eq) rfl rfl) $$ [HB]
  · isplitr; · iexact HE
    iexact HB
  iintro HB
  iapply (bc1 m K 5 16 31 (by decide) rfl (k0_dev33_eq) rfl rfl) $$ [HB]
  · isplitr; · iexact HE
    iexact HB
  iintro HB
  iapply (bc2 m K 5 17 30 (by decide) rfl (k0_dev34_eq) rfl rfl) $$ [HB]
  · isplitr; · iexact HE
    iexact HB
  iintro HB
  iapply Hc
  iexact HB

/-- Broadcasts 18 to 22. -/
theorem part4 (K : Dev nD × CIx → ℕ) {α : Type} {Q : α → sProp (MT nD τ sig Unit (Elt F) ℕ UU ℕ)} {kk : PUnit → Prog (TpuEff nD τ sig (Elt F) Λ₀ .tc) α} (h : k0_cond2 dev0 = 1#1) :
    iprop(env m K ∗ bcSt m 18 30) ⊢ iprop((bcSt m 23 25 -∗ wpc dev0 (kk ⟨⟩) Q) -∗ wpc dev0 (k0_part4 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 dev0 h >>= kk) Q) := by
  rw [k0_part4_eq_skeleton]
  unfold k0_part4_skel
  simp only [Prog.lift, Prog.bind_op, Prog.bind_ret, Prog.bind_assoc, Prog.pure_eq_ret]
  iintro ⟨#HE, HB⟩ Hc
  iapply (bc0 m K 6 18 29 (by decide) rfl (k0_dev35_eq) rfl rfl) $$ [HB]
  · isplitr; · iexact HE
    iexact HB
  iintro HB
  iapply (bc1 m K 6 19 28 (by decide) rfl (k0_dev36_eq) rfl rfl) $$ [HB]
  · isplitr; · iexact HE
    iexact HB
  iintro HB
  iapply (bc2 m K 6 20 27 (by decide) rfl (k0_dev37_eq) rfl rfl) $$ [HB]
  · isplitr; · iexact HE
    iexact HB
  iintro HB
  iapply (bc0 m K 7 21 26 (by decide) rfl (k0_dev38_eq) rfl rfl) $$ [HB]
  · isplitr; · iexact HE
    iexact HB
  iintro HB
  iapply (bc1 m K 7 22 25 (by decide) rfl (k0_dev39_eq) rfl rfl) $$ [HB]
  · isplitr; · iexact HE
    iexact HB
  iintro HB
  iapply Hc
  iexact HB

/-- Broadcasts 23 to 27. -/
theorem part5 (K : Dev nD × CIx → ℕ) {α : Type} {Q : α → sProp (MT nD τ sig Unit (Elt F) ℕ UU ℕ)} {kk : PUnit → Prog (TpuEff nD τ sig (Elt F) Λ₀ .tc) α} (h : k0_cond2 dev0 = 1#1) :
    iprop(env m K ∗ bcSt m 23 25) ⊢ iprop((bcSt m 28 20 -∗ wpc dev0 (kk ⟨⟩) Q) -∗ wpc dev0 (k0_part5 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 dev0 h >>= kk) Q) := by
  rw [k0_part5_eq_skeleton]
  unfold k0_part5_skel
  simp only [Prog.lift, Prog.bind_op, Prog.bind_ret, Prog.bind_assoc, Prog.pure_eq_ret]
  iintro ⟨#HE, HB⟩ Hc
  iapply (bc2 m K 7 23 24 (by decide) rfl (k0_dev40_eq) rfl rfl) $$ [HB]
  · isplitr; · iexact HE
    iexact HB
  iintro HB
  iapply (bc0 m K 8 24 23 (by decide) rfl (k0_dev41_eq) rfl rfl) $$ [HB]
  · isplitr; · iexact HE
    iexact HB
  iintro HB
  iapply (bc1 m K 8 25 22 (by decide) rfl (k0_dev42_eq) rfl rfl) $$ [HB]
  · isplitr; · iexact HE
    iexact HB
  iintro HB
  iapply (bc2 m K 8 26 21 (by decide) rfl (k0_dev43_eq) rfl rfl) $$ [HB]
  · isplitr; · iexact HE
    iexact HB
  iintro HB
  iapply (bc0 m K 9 27 20 (by decide) rfl (k0_dev44_eq) rfl rfl) $$ [HB]
  · isplitr; · iexact HE
    iexact HB
  iintro HB
  iapply Hc
  iexact HB

/-- Broadcasts 28 to 32. -/
theorem part6 (K : Dev nD × CIx → ℕ) {α : Type} {Q : α → sProp (MT nD τ sig Unit (Elt F) ℕ UU ℕ)} {kk : PUnit → Prog (TpuEff nD τ sig (Elt F) Λ₀ .tc) α} (h : k0_cond2 dev0 = 1#1) :
    iprop(env m K ∗ bcSt m 28 20) ⊢ iprop((bcSt m 33 15 -∗ wpc dev0 (kk ⟨⟩) Q) -∗ wpc dev0 (k0_part6 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 dev0 h >>= kk) Q) := by
  rw [k0_part6_eq_skeleton]
  unfold k0_part6_skel
  simp only [Prog.lift, Prog.bind_op, Prog.bind_ret, Prog.bind_assoc, Prog.pure_eq_ret]
  iintro ⟨#HE, HB⟩ Hc
  iapply (bc1 m K 9 28 19 (by decide) rfl (k0_dev45_eq) rfl rfl) $$ [HB]
  · isplitr; · iexact HE
    iexact HB
  iintro HB
  iapply (bc2 m K 9 29 18 (by decide) rfl (k0_dev46_eq) rfl rfl) $$ [HB]
  · isplitr; · iexact HE
    iexact HB
  iintro HB
  iapply (bc0 m K 10 30 17 (by decide) rfl (k0_dev47_eq) rfl rfl) $$ [HB]
  · isplitr; · iexact HE
    iexact HB
  iintro HB
  iapply (bc1 m K 10 31 16 (by decide) rfl (k0_dev48_eq) rfl rfl) $$ [HB]
  · isplitr; · iexact HE
    iexact HB
  iintro HB
  iapply (bc2 m K 10 32 15 (by decide) rfl (k0_dev49_eq) rfl rfl) $$ [HB]
  · isplitr; · iexact HE
    iexact HB
  iintro HB
  iapply Hc
  iexact HB

/-- Broadcasts 33 to 37. -/
theorem part7 (K : Dev nD × CIx → ℕ) {α : Type} {Q : α → sProp (MT nD τ sig Unit (Elt F) ℕ UU ℕ)} {kk : PUnit → Prog (TpuEff nD τ sig (Elt F) Λ₀ .tc) α} (h : k0_cond2 dev0 = 1#1) :
    iprop(env m K ∗ bcSt m 33 15) ⊢ iprop((bcSt m 38 10 -∗ wpc dev0 (kk ⟨⟩) Q) -∗ wpc dev0 (k0_part7 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 dev0 h >>= kk) Q) := by
  rw [k0_part7_eq_skeleton]
  unfold k0_part7_skel
  simp only [Prog.lift, Prog.bind_op, Prog.bind_ret, Prog.bind_assoc, Prog.pure_eq_ret]
  iintro ⟨#HE, HB⟩ Hc
  iapply (bc0 m K 11 33 14 (by decide) rfl (k0_dev50_eq) rfl rfl) $$ [HB]
  · isplitr; · iexact HE
    iexact HB
  iintro HB
  iapply (bc1 m K 11 34 13 (by decide) rfl (k0_dev51_eq) rfl rfl) $$ [HB]
  · isplitr; · iexact HE
    iexact HB
  iintro HB
  iapply (bc2 m K 11 35 12 (by decide) rfl (k0_dev52_eq) rfl rfl) $$ [HB]
  · isplitr; · iexact HE
    iexact HB
  iintro HB
  iapply (bc0 m K 12 36 11 (by decide) rfl (k0_dev53_eq) rfl rfl) $$ [HB]
  · isplitr; · iexact HE
    iexact HB
  iintro HB
  iapply (bc1 m K 12 37 10 (by decide) rfl (k0_dev54_eq) rfl rfl) $$ [HB]
  · isplitr; · iexact HE
    iexact HB
  iintro HB
  iapply Hc
  iexact HB

/-- Broadcasts 38 to 42. -/
theorem part8 (K : Dev nD × CIx → ℕ) {α : Type} {Q : α → sProp (MT nD τ sig Unit (Elt F) ℕ UU ℕ)} {kk : PUnit → Prog (TpuEff nD τ sig (Elt F) Λ₀ .tc) α} (h : k0_cond2 dev0 = 1#1) :
    iprop(env m K ∗ bcSt m 38 10) ⊢ iprop((bcSt m 43 5 -∗ wpc dev0 (kk ⟨⟩) Q) -∗ wpc dev0 (k0_part8 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 dev0 h >>= kk) Q) := by
  rw [k0_part8_eq_skeleton]
  unfold k0_part8_skel
  simp only [Prog.lift, Prog.bind_op, Prog.bind_ret, Prog.bind_assoc, Prog.pure_eq_ret]
  iintro ⟨#HE, HB⟩ Hc
  iapply (bc2 m K 12 38 9 (by decide) rfl (k0_dev55_eq) rfl rfl) $$ [HB]
  · isplitr; · iexact HE
    iexact HB
  iintro HB
  iapply (bc0 m K 13 39 8 (by decide) rfl (k0_dev56_eq) rfl rfl) $$ [HB]
  · isplitr; · iexact HE
    iexact HB
  iintro HB
  iapply (bc1 m K 13 40 7 (by decide) rfl (k0_dev57_eq) rfl rfl) $$ [HB]
  · isplitr; · iexact HE
    iexact HB
  iintro HB
  iapply (bc2 m K 13 41 6 (by decide) rfl (k0_dev58_eq) rfl rfl) $$ [HB]
  · isplitr; · iexact HE
    iexact HB
  iintro HB
  iapply (bc0 m K 14 42 5 (by decide) rfl (k0_dev59_eq) rfl rfl) $$ [HB]
  · isplitr; · iexact HE
    iexact HB
  iintro HB
  iapply Hc
  iexact HB

/-- Broadcasts 43 to 47. -/
theorem part9 (K : Dev nD × CIx → ℕ) {α : Type} {Q : α → sProp (MT nD τ sig Unit (Elt F) ℕ UU ℕ)} {kk : PUnit → Prog (TpuEff nD τ sig (Elt F) Λ₀ .tc) α} (h : k0_cond2 dev0 = 1#1) :
    iprop(env m K ∗ bcSt m 43 5) ⊢ iprop((bcSt m 48 0 -∗ wpc dev0 (kk ⟨⟩) Q) -∗ wpc dev0 (k0_part9 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 dev0 h >>= kk) Q) := by
  rw [k0_part9_eq_skeleton]
  unfold k0_part9_skel
  simp only [Prog.lift, Prog.bind_op, Prog.bind_ret, Prog.bind_assoc, Prog.pure_eq_ret]
  iintro ⟨#HE, HB⟩ Hc
  iapply (bc1 m K 14 43 4 (by decide) rfl (k0_dev60_eq) rfl rfl) $$ [HB]
  · isplitr; · iexact HE
    iexact HB
  iintro HB
  iapply (bc2 m K 14 44 3 (by decide) rfl (k0_dev61_eq) rfl rfl) $$ [HB]
  · isplitr; · iexact HE
    iexact HB
  iintro HB
  iapply (bc0 m K 15 45 2 (by decide) rfl (k0_dev62_eq) rfl rfl) $$ [HB]
  · isplitr; · iexact HE
    iexact HB
  iintro HB
  iapply (bc1 m K 15 46 1 (by decide) rfl (k0_dev63_eq) rfl rfl) $$ [HB]
  · isplitr; · iexact HE
    iexact HB
  iintro HB
  iapply (bc2 m K 15 47 0 (by decide) rfl (k0_dev64_eq) rfl rfl) $$ [HB]
  · isplitr; · iexact HE
    iexact HB
  iintro HB
  iapply Hc
  iexact HB

end Cert.Att
-- ==== Proof.StageB.lean ====
/-
# Signals, the barrier, the halo and the global blocks

From the barrier to the first loads of the partial sums: a device signals the others, waits for them, sends its block to
both neighbours, and then either sends the global blocks (device 0) or waits for them.
-/
module

public import proofs.«01_k».proof.Proof.StageA
public import proofs.«01_k».proof.Proof.Bcast

@[expose] public section

set_option maxRecDepth 4000
set_option maxHeartbeats 4000000

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Ring arithmetic -/

/-- The next device of the previous neighbour is the device itself. -/
theorem off_prv (c : Dev nD) : off (prv c) (2 + 15) = c := by revert c; decide
/-- The previous neighbour of the next device is the device itself. -/
theorem off_nxt (c : Dev nD) : off (nxt c) (0 + 15) = c := by revert c; decide
/-- The printed test for the first device, where it guards the broadcast. -/
theorem cond2 (c : Dev nD) : k0_cond2 c = 1#1 ↔ c.val = 0 := by revert c; decide +kernel

section Stage
variable (c : Dev nD) {α : Type}

/-- A wait for a transfer, its semaphore and its destination as printed. -/
theorem wait2 (K : Dev nD × CIx → ℕ) {Q : α → sProp (MT nD τ sig Unit (Elt F) ℕ UU ℕ)} {k : PUnit → Prog (TpuEff nD τ sig (Elt F) Λ₀ .tc) α} (n : ℕ) (h : 6 ≤ n ∧ n < 97) (hl : live c n) {N : ℕ}
    {sp sp' : Space} {s s' : Shape} {e e' : EltTy} {sem : DmaSem sig} {src : Memref sig .tc sp' s' e'} {dst : Memref sig .tc sp s e} {hsrc : src.view.WordExact} {hdst : dst.view.WordExact}
    (hsem : sem = Fin.ofNat 97 n) (hN : dst.view.dmaCredit = N) (hNa : N = amt n) (l : ℕ) (O : CellTallies nD τ sig Unit)
    (hlv : (if n < 10 then 0 else if n < 14 then 2 else if n < 62 then 0 else if n < 65 then 2 else if n < 81 then 0 else 3) ≤ l) (hO : Above l O) :
    iprop(env m K ∗ owesE (F := F) c O ∗ cred (tallyAt (dcell c n) () N) ∗ atPos ER (dcell c n) 0 ∅ 0)
      ⊢ iprop(((owesE (F := F) c O ∗ dmaPay m c n ∗ semVal (dcell c n) 0) -∗ wpc c (k ⟨⟩) Q)
        -∗ wpc c (.op (.waitDma2 sem src dst hsrc hdst) k) Q) := by
  subst hsem hN
  exact wait_step m K c n h.1 h.2 hl (wpE_waitDma2_eq 𝒱₀ (c : Thread nD τ) none Set.univ) hNa l O (by rw [lv_dma c h.2]; exact hlv) hO

/-- One signal, the numbers given. -/
theorem sg1 (K : Dev nD × CIx → ℕ) {Q : α → sProp (MT nD τ sig Unit (Elt F) ℕ UU ℕ)} {k : PUnit → Prog (TpuEff nD τ sig (Elt F) Λ₀ .tc) α} (i i' j j' : ℕ) (hi : 0 < i ∧ i < 16 ∧ i' = i + 1 ∧ j = j' + 1) {d : Dev nD} (hd : d.val = (c.val + i) % 16)
    {s : Sem sig} (hs : s = barS) {w : ℕ} (hw : w = 1) :
    iprop(env m K ∗ sgRun (F := F) c i j) ⊢ iprop((sgRun (F := F) c i' j' -∗ wpc c (k ⟨⟩) Q) -∗ wpc c (.op (.semSignal ((d : Dev nD), Proc.tc) s w) k) Q) := by
  obtain ⟨h1, h2, rfl, rfl⟩ := hi
  subst hs hw
  exact sg m c K i j' h1 h2 hd

/-- Signals 5 to 10. -/
theorem part22 (K : Dev nD × CIx → ℕ) {Q : α → sProp (MT nD τ sig Unit (Elt F) ℕ UU ℕ)} (v50 c16 : BitVec 32)
    {kk : (Σ' (v74 : BitVec 32), BitVec 32) → Prog (TpuEff nD τ sig (Elt F) Λ₀ .tc) α} :
    iprop(env m K ∗ sgRun (F := F) c 5 11) ⊢ iprop((sgRun (F := F) c 11 5 -∗ wpc c (kk ⟨Scalar.addi (dw c) 11#32, 16#32⟩) Q)
      -∗ wpc c (k0_part22 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 c (dw c) (SemArray.scalar (sig.barrier 0 rfl)) v50 c16 >>= kk) Q) := by
  rw [k0_part22_eq_skeleton]
  unfold k0_part22_skel semSignalWord
  simp only [Prog.lift, Prog.bind_op, Prog.bind_ret, Prog.bind_assoc, Prog.pure_eq_ret]
  iintro ⟨#HE, HS⟩ Hc
  iapply (sg1 m c K 5 6 11 10 (by decide) (d := ⟨k0_dev5 c, k0_dev5_lt c⟩) (k0_dev5_eq c) rfl rfl) $$ [HS]
  · isplitr; · iexact HE
    iexact HS
  iintro HS
  iapply (sg1 m c K 6 7 10 9 (by decide) (d := ⟨k0_dev6 c, k0_dev6_lt c⟩) (k0_dev6_eq c) rfl rfl) $$ [HS]
  · isplitr; · iexact HE
    iexact HS
  iintro HS
  iapply (sg1 m c K 7 8 9 8 (by decide) (d := ⟨k0_dev7 c, k0_dev7_lt c⟩) (k0_dev7_eq c) rfl rfl) $$ [HS]
  · isplitr; · iexact HE
    iexact HS
  iintro HS
  iapply (sg1 m c K 8 9 8 7 (by decide) (d := ⟨k0_dev8 c, k0_dev8_lt c⟩) (k0_dev8_eq c) rfl rfl) $$ [HS]
  · isplitr; · iexact HE
    iexact HS
  iintro HS
  iapply (sg1 m c K 9 10 7 6 (by decide) (d := ⟨k0_dev9 c, k0_dev9_lt c⟩) (k0_dev9_eq c) rfl rfl) $$ [HS]
  · isplitr; · iexact HE
    iexact HS
  iintro HS
  iapply (sg1 m c K 10 11 6 5 (by decide) (d := ⟨k0_dev10 c, k0_dev10_lt c⟩) (k0_dev10_eq c) rfl rfl) $$ [HS]
  · isplitr; · iexact HE
    iexact HS
  iintro HS
  iapply Hc
  iexact HS

/-- Signals 11 to 15 and the wait for the other devices' ones. -/
theorem part23 (K : Dev nD × CIx → ℕ) {Q : α → sProp (MT nD τ sig Unit (Elt F) ℕ UU ℕ)} (v5 v74 c16 : BitVec 32)
    {kk : PUnit → Prog (TpuEff nD τ sig (Elt F) Λ₀ .tc) α} :
    iprop(env m K ∗ sgRun (F := F) c 11 5 ∗ cred (tallyAt (barCell c) () 15) ∗ atPos ER (barCell c) 0 ∅ 0)
      ⊢ iprop(((owesE (F := F) c (O₁ c) ∗ seg (fun i => barPay (F := F) c (off c i)) 1 15 ∗ semVal (barCell c) 0) -∗ wpc c (kk ⟨⟩) Q)
        -∗ wpc c (k0_part23 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 c (dw c) v5 (SemArray.scalar (sig.barrier 0 rfl)) v74 c16 >>= kk) Q) := by
  rw [k0_part23_eq_skeleton]
  unfold k0_part23_skel semSignalWord semWaitWord
  simp only [Prog.lift, Prog.bind_op, Prog.bind_ret, Prog.bind_assoc, Prog.pure_eq_ret]
  iintro ⟨#HE, HS, HC, HA⟩ Hc
  iapply (sg1 m c K 11 12 5 4 (by decide) (d := ⟨k0_dev11 c, k0_dev11_lt c⟩) (k0_dev11_eq c) rfl rfl) $$ [HS]
  · isplitr; · iexact HE
    iexact HS
  iintro HS
  iapply (sg1 m c K 12 13 4 3 (by decide) (d := ⟨k0_dev12 c, k0_dev12_lt c⟩) (k0_dev12_eq c) rfl rfl) $$ [HS]
  · isplitr; · iexact HE
    iexact HS
  iintro HS
  iapply (sg1 m c K 13 14 3 2 (by decide) (d := ⟨k0_dev13 c, k0_dev13_lt c⟩) (k0_dev13_eq c) rfl rfl) $$ [HS]
  · isplitr; · iexact HE
    iexact HS
  iintro HS
  iapply (sg1 m c K 14 15 2 1 (by decide) (d := ⟨k0_dev14 c, k0_dev14_lt c⟩) (k0_dev14_eq c) rfl rfl) $$ [HS]
  · isplitr; · iexact HE
    iexact HS
  iintro HS
  iapply (sg1 m c K 15 16 1 0 (by decide) (d := ⟨k0_dev15 c, k0_dev15_lt c⟩) (k0_dev15_eq c) rfl rfl) $$ [HS]
  · isplitr; · iexact HE
    iexact HS
  iintro HS
  unfold sgRun
  icases HS with ⟨HO, -⟩
  iapply (bar_step m K c (O₁ c) (above_O₁ c)) $$ [HO HC HA]
  · isplitr; · iexact HE
    isplitl [HO]; · iexact HO
    isplitl [HC]; · iexact HC
    iexact HA
  iintro H
  iapply Hc
  iexact H

/-- What is owed between the two halves of the halo. -/
def O₁b (c : Dev nD) : CellTallies nD τ sig Unit := O₂ c + tallyAt (dcell (nxt c) 13) () NK + tallyAt (dcell (nxt c) 12) () NK

/-- The block to the left neighbour. -/
theorem part24 (K : Dev nD × CIx → ℕ) {Q : α → sProp (MT nD τ sig Unit (Elt F) ℕ UU ℕ)} (v5 v7 : BitVec 32)
    {kk : PUnit → Prog (TpuEff nD τ sig (Elt F) Λ₀ .tc) α} :
    iprop(env m K ∗ owesE (F := F) c (O₁ c) ∗ (kSlot m c 1 (shareTokN fullShare 0) ∗ kFree (F := F) (prv c) 2 ∗ dutyTok ER (dcell c 6) 0 dev0 ∗ dutyTok ER (dcell (prv c) 10) 0 dev0)
        ∗ (vSlot m c 1 (shareTokN fullShare 0) ∗ vFree (F := F) (prv c) 2 ∗ dutyTok ER (dcell c 7) 0 dev0 ∗ dutyTok ER (dcell (prv c) 11) 0 dev0))
      ⊢ iprop(((owesE (F := F) c (O₁b c) ∗ cred (tallyAt (dcell c 6) () NK) ∗ cred (tallyAt (dcell c 7) () NK)) -∗ wpc c (kk ⟨⟩) Q)
        -∗ wpc c (k0_part24 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 c v5 v7 >>= kk) Q) := by
  rw [k0_part24_eq_skeleton]
  unfold k0_part24_skel
  simp only [Prog.lift, Prog.bind_op, Prog.bind_ret, Prog.bind_assoc, Prog.pure_eq_ret]
  iintro ⟨#HE, HO, ⟨Hk, Hkf, Ht1, Ht2⟩, ⟨Hv, Hvf, Ht3, Ht4⟩⟩ Hc
  iapply (khalo_step m K c (⟨k0_dev16 c, k0_dev16_lt c⟩ : Dev nD) (prv c) (Fin.ext (k0_dev16_eq c)) 2 (off_prv c) inb_S3x2x4x128x64_S1x2x4x128x64_1_0_0_0_0 inb_S3x2x4x128x64_S1x2x4x128x64_2_0_0_0_0 6 10 (shareTokN fullShare 0) (by decide) (by decide) rfl rfl rfl rfl
    (O₁b c + tallyAt (dcell (prv c) 11) () NK)) $$ [HO Hk Hkf Ht1 Ht2]
  · isplitr; · iexact HE
    isplitl [Hk]; · iexact Hk
    isplitl [Hkf]; · iexact Hkf
    isplitl [HO]; · iexact HO
    isplitl [Ht1]; · iexact Ht1
    iexact Ht2
  iintro ⟨HC1, HO⟩
  iapply (vhalo_step m K c (⟨k0_dev17 c, k0_dev17_lt c⟩ : Dev nD) (prv c) (Fin.ext (k0_dev17_eq c)) 2 (off_prv c) inb_S3x2x4x128x64_S1x2x4x128x64_1_0_0_0_0 inb_S3x2x4x128x64_S1x2x4x128x64_2_0_0_0_0 7 11 (shareTokN fullShare 0) (by decide) (by decide) rfl rfl rfl rfl
    (O₁b c)) $$ [HO Hv Hvf Ht3 Ht4]
  · isplitr; · iexact HE
    isplitl [Hv]; · iexact Hv
    isplitl [Hvf]; · iexact Hvf
    isplitl [HO]; · iexact HO
    isplitl [Ht3]; · iexact Ht3
    iexact Ht4
  iintro ⟨HC2, HO⟩
  iapply Hc
  isplitl [HO]; · iexact HO
  isplitl [HC1]; · iexact HC1
  iexact HC2

/-! ## The global blocks -/

/-- The share of the global blocks a device computes with. -/
def gq (c : Dev nD) : PosShare TreeShare := if c = dev0 then shareDrop fullShare 16 else fullShare
/-- The global blocks in place. -/
def gAll (c : Dev nD) : sProp 𝕄 := iprop(kgPts m c (gq c) ∗ vgPts m c (gq c) ∗ qgPts m c (gq c))
/-- What a device brings to the broadcast. -/
def brIn (c : Dev nD) : sProp 𝕄 :=
  iprop(when (c = dev0) iprop(seg (bcP m) 3 45 ∗ gAll m c)
    ∗ when (c ≠ dev0) iprop((cred (tallyAt (dcell c 62) () NG) ∗ atPos ER (dcell c 62) 0 ∅ 0) ∗ (cred (tallyAt (dcell c 63) () NG) ∗ atPos ER (dcell c 63) 0 ∅ 0) ∗ (cred (tallyAt (dcell c 64) () NG) ∗ atPos ER (dcell c 64) 0 ∅ 0)))
/-- What it has afterwards. -/
def brOut (c : Dev nD) : sProp 𝕄 :=
  iprop(when (c = dev0) (acc (bcC (F := F)) 3 45)
    ∗ when (c ≠ dev0) iprop(semVal (dcell c 62) 0 ∗ semVal (dcell c 63) 0 ∗ semVal (dcell c 64) 0))
/-- What is owed afterwards: the partial sums. -/
def O₃ (c : Dev nD) : CellTallies nD τ sig Unit := if c = dev0 then 0 else prO c
/-- The debts after the broadcasts are above level 2. -/
theorem above_O₃ (c : Dev nD) : Above 2 (O₃ c) := by
  unfold O₃; split
  · exact Above.zero 2
  · exact above_prO c

/-- The block to the right neighbour, the global blocks, the first loads. -/
theorem part25 (K : Dev nD × CIx → ℕ) {Q : α → sProp (MT nD τ sig Unit (Elt F) ℕ UU ℕ)} (v7 : BitVec 32)
    {kk : FVec F S32x128 .f32 → Prog (TpuEff nD τ sig (Elt F) Λ₀ .tc) α} (qs : PosShare TreeShare) :
    iprop(env m K ∗ owesE (F := F) c (O₁b c) ∗ (kSlot m c 1 (shareTokN fullShare 1) ∗ kFree (F := F) (nxt c) 0 ∗ dutyTok ER (dcell c 8) 0 dev0 ∗ dutyTok ER (dcell (nxt c) 12) 0 dev0)
        ∗ (vSlot m c 1 (shareTokN fullShare 1) ∗ vFree (F := F) (nxt c) 0 ∗ dutyTok ER (dcell c 9) 0 dev0 ∗ dutyTok ER (dcell (nxt c) 13) 0 dev0) ∗ brIn m c ∗ kSlot m c 1 qs)
      ⊢ iprop(((owesE (F := F) c (O₃ c) ∗ cred (tallyAt (dcell c 8) () NK) ∗ cred (tallyAt (dcell c 9) () NK) ∗ gAll m c ∗ brOut (F := F) c ∗ kSlot m c 1 qs)
            -∗ wpc c (kk (k0_pay14 (qgAt m 0 0 (by decide) (by decide)) (kAt m c 1 0 0 (by decide) (by decide) (by decide)))) Q)
        -∗ wpc c (k0_part25 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 c (dw c) v7 >>= kk) Q) := by
  rw [k0_part25_eq_skeleton]
  unfold k0_part25_skel
  iintro ⟨#HE, HO, ⟨Hk, Hkf, Ht1, Ht2⟩, ⟨Hv, Hvf, Ht3, Ht4⟩, HB, Hks⟩ Hc
  by_cases hc : c = dev0
  · subst hc
    simp only [dif_pos ((cond2 dev0).mpr rfl), dif_neg (fun h => (cond_ne dev0).mp h rfl : ¬ (Scalar.cmpi .ne (Scalar.extui (Scalar.cmpi .ne (dw dev0) 0#32) : BitVec 32) 0#32 = 1#1)),
      Prog.lift, Prog.bind_op, Prog.bind_ret, Prog.bind_assoc, Prog.pure_eq_ret]
    iapply (khalo_step m K dev0 (⟨k0_dev18 dev0, k0_dev18_lt dev0⟩ : Dev nD) (nxt dev0) (Fin.ext (k0_dev18_eq dev0)) 0 (off_nxt dev0) inb_S3x2x4x128x64_S1x2x4x128x64_1_0_0_0_0 inb_S3x2x4x128x64_S1x2x4x128x64_0_0_0_0_0 8 12 (shareTokN fullShare 1) (by decide) (by decide) rfl rfl rfl rfl
      (O₂ dev0 + tallyAt (dcell (nxt dev0) 13) () NK)) $$ [HO Hk Hkf Ht1 Ht2]
    · isplitr; · iexact HE
      isplitl [Hk]; · iexact Hk
      isplitl [Hkf]; · iexact Hkf
      isplitl [HO]; · iexact HO
      isplitl [Ht1]; · iexact Ht1
      iexact Ht2
    iintro ⟨HC1, HO⟩
    iapply (vhalo_step m K dev0 (⟨k0_dev19 dev0, k0_dev19_lt dev0⟩ : Dev nD) (nxt dev0) (Fin.ext (k0_dev19_eq dev0)) 0 (off_nxt dev0) inb_S3x2x4x128x64_S1x2x4x128x64_1_0_0_0_0 inb_S3x2x4x128x64_S1x2x4x128x64_0_0_0_0_0 9 13 (shareTokN fullShare 1) (by decide) (by decide) rfl rfl rfl rfl
      (O₂ dev0)) $$ [HO Hv Hvf Ht3 Ht4]
    · isplitr; · iexact HE
      isplitl [Hv]; · iexact Hv
      isplitl [Hvf]; · iexact Hvf
      isplitl [HO]; · iexact HO
      isplitl [Ht3]; · iexact Ht3
      iexact Ht4
    iintro ⟨HC2, HO⟩
    unfold brIn brOut
    rw [when_pos rfl, when_neg (fun h => h rfl), when_pos rfl, when_neg (fun h => h rfl)]
    icases HB with ⟨⟨HB, HG⟩, -⟩
    ihave HB' : iprop(bcSt m 3 45) $$ [HO HB]
    · unfold bcSt
      isplitl [HO]; · rw [show O₂ dev0 = oseg brO 0 3 45 from if_pos rfl]; iexact HO
      isplitl [HB]; · iexact HB
      iempintro
    iapply (part1 m K ((cond2 dev0).mpr rfl)) $$ [HB']
    · isplitr; · iexact HE
      iexact HB'
    iintro HB'
    iapply (part2 m K ((cond2 dev0).mpr rfl)) $$ [HB']
    · isplitr; · iexact HE
      iexact HB'
    iintro HB'
    iapply (part3 m K ((cond2 dev0).mpr rfl)) $$ [HB']
    · isplitr; · iexact HE
      iexact HB'
    iintro HB'
    iapply (part4 m K ((cond2 dev0).mpr rfl)) $$ [HB']
    · isplitr; · iexact HE
      iexact HB'
    iintro HB'
    iapply (part5 m K ((cond2 dev0).mpr rfl)) $$ [HB']
    · isplitr; · iexact HE
      iexact HB'
    iintro HB'
    iapply (part6 m K ((cond2 dev0).mpr rfl)) $$ [HB']
    · isplitr; · iexact HE
      iexact HB'
    iintro HB'
    iapply (part7 m K ((cond2 dev0).mpr rfl)) $$ [HB']
    · isplitr; · iexact HE
      iexact HB'
    iintro HB'
    iapply (part8 m K ((cond2 dev0).mpr rfl)) $$ [HB']
    · isplitr; · iexact HE
      iexact HB'
    iintro HB'
    iapply (part9 m K ((cond2 dev0).mpr rfl)) $$ [HB']
    · isplitr; · iexact HE
      iexact HB'
    iintro HB'
    unfold bcSt
    icases HB' with ⟨HO, -, HC⟩
    rw [show O₃ dev0 = 0 from if_pos rfl]
    unfold gAll
    icases HG with ⟨Hg0, Hg1, Hg2⟩
    unfold qgPts
    iapply (ld_all dev0 (M := qgM)) $$ Hg2
    iintro Hg2
    iapply (ld_k m dev0 qs rfl rfl) $$ Hks
    iintro Hks
    iapply Hc
    isplitl [HO]; · iexact HO
    isplitl [HC1]; · iexact HC1
    isplitl [HC2]; · iexact HC2
    isplitl [Hg0 Hg1 Hg2]
    · isplitl [Hg0]; · iexact Hg0
      isplitl [Hg1]; · iexact Hg1
      iexact Hg2
    isplitr [Hks]
    · isplitl [HC]; · iexact HC
      iempintro
    iexact Hks
  · have hv : c.val ≠ 0 := fun h => hc (Fin.ext h)
    simp only [dif_neg (fun h => hv ((cond2 c).mp h) : ¬ (k0_cond2 c = 1#1)), dif_pos ((cond_ne c).mpr hv),
      Prog.lift, Prog.bind_op, Prog.bind_ret, Prog.bind_assoc, Prog.pure_eq_ret]
    iapply (khalo_step m K c (⟨k0_dev18 c, k0_dev18_lt c⟩ : Dev nD) (nxt c) (Fin.ext (k0_dev18_eq c)) 0 (off_nxt c) inb_S3x2x4x128x64_S1x2x4x128x64_1_0_0_0_0 inb_S3x2x4x128x64_S1x2x4x128x64_0_0_0_0_0 8 12 (shareTokN fullShare 1) (by decide) (by decide) rfl rfl rfl rfl
      (O₂ c + tallyAt (dcell (nxt c) 13) () NK)) $$ [HO Hk Hkf Ht1 Ht2]
    · isplitr; · iexact HE
      isplitl [Hk]; · iexact Hk
      isplitl [Hkf]; · iexact Hkf
      isplitl [HO]; · iexact HO
      isplitl [Ht1]; · iexact Ht1
      iexact Ht2
    iintro ⟨HC1, HO⟩
    iapply (vhalo_step m K c (⟨k0_dev19 c, k0_dev19_lt c⟩ : Dev nD) (nxt c) (Fin.ext (k0_dev19_eq c)) 0 (off_nxt c) inb_S3x2x4x128x64_S1x2x4x128x64_1_0_0_0_0 inb_S3x2x4x128x64_S1x2x4x128x64_0_0_0_0_0 9 13 (shareTokN fullShare 1) (by decide) (by decide) rfl rfl rfl rfl
      (O₂ c)) $$ [HO Hv Hvf Ht3 Ht4]
    · isplitr; · iexact HE
      isplitl [Hv]; · iexact Hv
      isplitl [Hvf]; · iexact Hvf
      isplitl [HO]; · iexact HO
      isplitl [Ht3]; · iexact Ht3
      iexact Ht4
    iintro ⟨HC2, HO⟩
    unfold brIn brOut
    rw [when_neg hc, when_pos hc, when_neg hc, when_pos hc]
    rw [show O₂ c = prO c from if_neg hc, show O₃ c = prO c from if_neg hc]
    icases HB with ⟨-, ⟨HA0, HA1, HA2⟩⟩
    icases HA0 with ⟨HCr, HAt⟩
    iapply (wait2 m c K 62 (by decide) (Or.inr (Or.inr (Or.inl ⟨by decide, by decide, hv⟩))) (N := NG) (dst := kgM) rfl rfl rfl 2 (prO c) (by decide) (above_prO c)) $$ [HO HCr HAt]
    · isplitr; · iexact HE
      isplitl [HO]; · iexact HO
      isplitl [HCr]; · iexact HCr
      iexact HAt
    iintro ⟨HO, HP0, HZ0⟩
    icases HA1 with ⟨HCr, HAt⟩
    iapply (wait2 m c K 63 (by decide) (Or.inr (Or.inr (Or.inl ⟨by decide, by decide, hv⟩))) (N := NG) (dst := vgM) rfl rfl rfl 2 (prO c) (by decide) (above_prO c)) $$ [HO HCr HAt]
    · isplitr; · iexact HE
      isplitl [HO]; · iexact HO
      isplitl [HCr]; · iexact HCr
      iexact HAt
    iintro ⟨HO, HP1, HZ1⟩
    icases HA2 with ⟨HCr, HAt⟩
    iapply (wait2 m c K 64 (by decide) (Or.inr (Or.inr (Or.inl ⟨by decide, by decide, hv⟩))) (N := NG) (dst := qgM) rfl rfl rfl 2 (prO c) (by decide) (above_prO c)) $$ [HO HCr HAt]
    · isplitr; · iexact HE
      isplitl [HO]; · iexact HO
      isplitl [HCr]; · iexact HCr
      iexact HAt
    iintro ⟨HO, HP2, HZ2⟩
    have e0 : dmaPay (F := F) m c 62 = kgPts m c (gq c) := by rw [show gq c = fullShare from if_neg hc]; rfl
    have e1 : dmaPay (F := F) m c 63 = vgPts m c (gq c) := by rw [show gq c = fullShare from if_neg hc]; rfl
    have e2 : dmaPay (F := F) m c 64 = (qgM.view.loc (c : Thread nD τ) ↦{gq c} QG m) := by rw [show gq c = fullShare from if_neg hc]; rfl
    ihave HP2 := (Entails.of_eq e2) $$ HP2
    unfold gAll qgPts
    iapply (ld_all c (M := qgM)) $$ HP2
    iintro HP2
    iapply (ld_k m c qs rfl rfl) $$ Hks
    iintro Hks
    iapply Hc
    isplitl [HO]; · iexact HO
    isplitl [HC1]; · iexact HC1
    isplitl [HC2]; · iexact HC2
    isplitl [HP0 HP1 HP2]
    · isplitl [HP0]; · iapply (Entails.of_eq e0) $$ HP0
      isplitl [HP1]; · iapply (Entails.of_eq e1) $$ HP1
      iexact HP2
    isplitr [Hks]
    · isplitr [HZ0 HZ1 HZ2]; · iempintro
      isplitl [HZ0]; · iexact HZ0
      isplitl [HZ1]; · iexact HZ1
      iexact HZ2
    iexact Hks

end Stage

end Cert.Att
-- ==== Proof.StageC.lean ====
/-
# The partial sums

A device computes, batch by batch and head by head, its share of the sums over the global queries, and hands them to
device 0; after that it waits for its neighbours' blocks.
-/
module

public import proofs.«01_k».proof.Proof.StageB

@[expose] public section

set_option maxRecDepth 4000
set_option maxHeartbeats 4000000

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The rows of the partial sums -/

/-- The partial sums' buffer with the first `n` batch-head blocks in. -/
def PPn (c : Dev nD) (f : (cc0_scratch5 : Ref sig .tc).ty.Contents (Elt F)) (n : ℕ) : (cc0_scratch5 : Ref sig .tc).ty.Contents (Elt F) :=
  fun (i : S2x4x32x65.Idx) => if (i 0).val * 4 + (i 1).val < n then PP m c i else f i

abbrev InbR (b h : ℕ) : Prop := ∀ a, (![b, h, 0, 0] : Fin 4 → ℕ) a + S1x1x32x65.size a ≤ S2x4x32x65.size a
/-- A block's values where they are read. -/
theorem PP_blk (c : Dev nD) (b h : ℕ) (hb : b < 2) (hh : h < 4) (hi : InbR b h) (x : S1x1x32x65.Idx) :
    PP m c ((Rect.unit (s := S2x4x32x65) ![b, h, 0, 0] S1x1x32x65.size hi).idx x) = part m c b h hb hh x := by
  have y0 : (x 0).val = 0 := Nat.lt_one_iff.mp (x 0).isLt
  have y1 : (x 1).val = 0 := Nat.lt_one_iff.mp (x 1).isLt
  have e0 : (((Rect.unit (s := S2x4x32x65) ![b, h, 0, 0] S1x1x32x65.size hi).idx x) (0 : Fin 4)).val = b := by show b + 1 * (x 0).val = b; omega
  have e1 : (((Rect.unit (s := S2x4x32x65) ![b, h, 0, 0] S1x1x32x65.size hi).idx x) (1 : Fin 4)).val = h := by show h + 1 * (x 1).val = h; omega
  have ep : ∀ (b' h' : ℕ) (hb' : b' < 2) (hh' : h' < 4), b' = b → h' = h → part m c b' h' hb' hh' = part m c b h hb hh := by
    intro b' h' _ _ r1 r2; subst r1 r2; rfl
  unfold PP
  refine (congrFun (ep _ _ _ _ e0 e1) _).trans ?_
  congr 1
  funext a
  match a with
  | ⟨0, _⟩ => exact Fin.ext y0.symm
  | ⟨1, _⟩ => exact Fin.ext y1.symm
  | ⟨2, _⟩ => exact Fin.ext (by show 0 + 1 * (x 2).val = (x 2).val; omega)
  | ⟨3, _⟩ => exact Fin.ext (by show 0 + 1 * (x 3).val = (x 3).val; omega)

section Stage
variable (c : Dev nD) {α : Type}

/-- The store of one block. -/
theorem st_pp {Q : α → sProp (MT nD τ sig Unit (Elt F) ℕ UU ℕ)} (b h n : ℕ) (hb : b < 2) (hh : h < 4) (hn : n = b * 4 + h) (hi : InbR b h) {w : S1x1x32x65.Idx → Elt F .bf16} (hw : w = part m c b h hb hh)
    {hx : (ppM.access (Rect.unit (s := S2x4x32x65) ![b, h, 0, 0] S1x1x32x65.size hi)).Stores Finset.univ} {hm : (Finset.univ : Finset S1x1x32x65.Idx) = Finset.univ ∨ ∀ a, (Rect.unit (s := S2x4x32x65) ![b, h, 0, 0] S1x1x32x65.size hi).stride a = 1}
    {k : PUnit → Prog (TpuEff nD τ sig (Elt F) Λ₀ .tc) α} (f : (cc0_scratch5 : Ref sig .tc).ty.Contents (Elt F)) :
    (ppM.view.loc (c : Thread nD τ) ↦{fullShare} PPn m c f n)
      ⊢ iprop(((ppM.view.loc (c : Thread nD τ) ↦{fullShare} PPn m c f (n + 1)) -∗ wpc c (k ⟨⟩) Q) -∗ wpc c (.op (.store ppM (Rect.unit (s := S2x4x32x65) ![b, h, 0, 0] S1x1x32x65.size hi) w Finset.univ hx hm) k) Q) := by
  subst hw hn
  refine st_row (M := ppM) (r := Rect.unit (s := S2x4x32x65) ![b, h, 0, 0] S1x1x32x65.size hi) (PPn m c f (b * 4 + h + 1)) (fun x => ?_) (fun i hne => ?_)
  · have y0 : (x 0).val = 0 := Nat.lt_one_iff.mp (x 0).isLt
    have y1 : (x 1).val = 0 := Nat.lt_one_iff.mp (x 1).isLt
    refine (View.write_emb_of_mem (v := ppM.access (Rect.unit (s := S2x4x32x65) ![b, h, 0, 0] S1x1x32x65.size hi)) (PPn m c f (b * 4 + h)) (part m c b h hb hh) (Finset.mem_univ x)).trans ?_
    refine (PP_blk m c b h hb hh hi x).symm.trans ?_
    exact (if_pos (by show (b + 1 * (x 0).val) * 4 + (h + 1 * (x 1).val) < b * 4 + h + 1; omega)).symm
  · have key : ∀ j : S2x4x32x65.Idx, (∀ x, (Rect.unit (s := S2x4x32x65) ![b, h, 0, 0] S1x1x32x65.size hi).idx x ≠ j) → PPn m c f (b * 4 + h) j = PPn m c f (b * 4 + h + 1) j := by
      intro j hj
      have hne' : ¬ ((j 0).val = b ∧ (j 1).val = h) := by
        rintro ⟨h0, h1⟩
        obtain ⟨x, hx⟩ := unit_hit _ _ hi j (fun a => by
          match a with
          | ⟨0, _⟩ => exact ⟨Nat.le_of_eq h0.symm, by show (j 0).val < b + 1; omega⟩
          | ⟨1, _⟩ => exact ⟨Nat.le_of_eq h1.symm, by show (j 1).val < h + 1; omega⟩
          | ⟨2, _⟩ => exact ⟨Nat.zero_le _, by have : (j 2).val < 32 := (j 2).isLt; show (j 2).val < 0 + 32; omega⟩
          | ⟨3, _⟩ => exact ⟨Nat.zero_le _, by have : (j 3).val < 65 := (j 3).isLt; show (j 3).val < 0 + 65; omega⟩)
        exact hj x hx
      have b1 : (j 1).val < 4 := (j 1).isLt
      unfold PPn
      by_cases hlt : (j 0).val * 4 + (j 1).val < b * 4 + h
      · rw [if_pos hlt, if_pos (by omega)]
      · rw [if_neg hlt, if_neg (by omega)]
    exact key i hne

/-- What the blocks are computed from. -/
def ldR (c : Dev nD) : sProp 𝕄 :=
  iprop(kSlot m c 1 (shareDrop fullShare 2) ∗ vSlot m c 1 (shareDrop fullShare 2) ∗ (qgM.view.loc (c : Thread nD τ) ↦{gq c} QG m))
/-- The buffer with `n` blocks in. -/
def ppN (c : Dev nD) (n : ℕ) : sProp 𝕄 := iprop(∃ f, ppM.view.loc (c : Thread nD τ) ↦{fullShare} PPn m c f n)

/-- Part 26: blocks from 0 to 1. -/
theorem part26 {Q : α → sProp (MT nD τ sig Unit (Elt F) ℕ UU ℕ)} {kk : (FVec F S32x65 .bf16) → Prog (TpuEff nD τ sig (Elt F) Λ₀ .tc) α} :
    iprop(ldR m c ∗ ppN m c 0) ⊢ iprop(((ldR m c ∗ ppN m c 1) -∗ wpc c (kk (k0_pay16 (qgAt m 0 1 (by decide) (by decide)) (kAt m c 1 0 1 (by decide) (by decide) (by decide)) (vAt m c 1 0 1 (by decide) (by decide) (by decide)))) Q)
      -∗ wpc c (k0_part26 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (k0_pay14 (qgAt m 0 0 (by decide) (by decide)) (kAt m c 1 0 0 (by decide) (by decide) (by decide))) >>= kk) Q) := by
  rw [k0_part26_eq_skeleton]
  unfold k0_part26_skel ldR ppN
  simp only [Prog.lift, Prog.bind_op, Prog.bind_ret, Prog.bind_assoc, Prog.pure_eq_ret]
  iintro ⟨⟨Hk, Hv, Hq⟩, ⟨%f, Hp⟩⟩ Hc
  iapply (ld_v m c (shareDrop fullShare 2) rfl rfl) $$ Hv
  iintro Hv
  iapply (ld_all c (M := ppM)) $$ Hp
  iintro Hp
  iapply (st_pp m c 0 0 0 (by decide) (by decide) rfl inb_S2x4x32x65_S1x1x32x65_0_0_0_0 rfl f) $$ Hp
  iintro Hp
  iapply (ld_all c (M := qgM)) $$ Hq
  iintro Hq
  iapply (ld_k m c (shareDrop fullShare 2) rfl rfl) $$ Hk
  iintro Hk
  iapply (ld_v m c (shareDrop fullShare 2) rfl rfl) $$ Hv
  iintro Hv
  iapply Hc
  isplitr [Hp]
  · isplitl [Hk]; · iexact Hk
    isplitl [Hv]; · iexact Hv
    iexact Hq
  iexists f; iexact Hp

/-- Part 27: blocks from 1 to 3. -/
theorem part27 {Q : α → sProp (MT nD τ sig Unit (Elt F) ℕ UU ℕ)} {kk : (Σ' (v198 : FVec F S32x64 .bf16), Vec F S1x1x1x128x64 .bf16) → Prog (TpuEff nD τ sig (Elt F) Λ₀ .tc) α} :
    iprop(ldR m c ∗ ppN m c 1) ⊢ iprop(((ldR m c ∗ ppN m c 3) -∗ wpc c (kk (⟨k0_pay19 (qgAt m 0 3 (by decide) (by decide)), (kAt m c 1 0 3 (by decide) (by decide) (by decide))⟩)) Q)
      -∗ wpc c (k0_part27 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (k0_pay16 (qgAt m 0 1 (by decide) (by decide)) (kAt m c 1 0 1 (by decide) (by decide) (by decide)) (vAt m c 1 0 1 (by decide) (by decide) (by decide))) >>= kk) Q) := by
  rw [k0_part27_eq_skeleton]
  unfold k0_part27_skel ldR ppN
  simp only [Prog.lift, Prog.bind_op, Prog.bind_ret, Prog.bind_assoc, Prog.pure_eq_ret]
  iintro ⟨⟨Hk, Hv, Hq⟩, ⟨%f, Hp⟩⟩ Hc
  iapply (ld_all c (M := ppM)) $$ Hp
  iintro Hp
  iapply (st_pp m c 0 1 1 (by decide) (by decide) rfl inb_S2x4x32x65_S1x1x32x65_0_1_0_0 rfl f) $$ Hp
  iintro Hp
  iapply (ld_all c (M := qgM)) $$ Hq
  iintro Hq
  iapply (ld_k m c (shareDrop fullShare 2) rfl rfl) $$ Hk
  iintro Hk
  iapply (ld_v m c (shareDrop fullShare 2) rfl rfl) $$ Hv
  iintro Hv
  iapply (ld_all c (M := ppM)) $$ Hp
  iintro Hp
  iapply (st_pp m c 0 2 2 (by decide) (by decide) rfl inb_S2x4x32x65_S1x1x32x65_0_2_0_0 rfl f) $$ Hp
  iintro Hp
  iapply (ld_all c (M := qgM)) $$ Hq
  iintro Hq
  iapply (ld_k m c (shareDrop fullShare 2) rfl rfl) $$ Hk
  iintro Hk
  iapply Hc
  isplitr [Hp]
  · isplitl [Hk]; · iexact Hk
    isplitl [Hv]; · iexact Hv
    iexact Hq
  iexists f; iexact Hp

/-- Part 28: blocks from 3 to 4. -/
theorem part28 {Q : α → sProp (MT nD τ sig Unit (Elt F) ℕ UU ℕ)} {kk : (Σ' (v225 : FVec F S32x1 .f32) (v226 : FVec F S32x128 .bf16), FVec F S128x64 .bf16) → Prog (TpuEff nD τ sig (Elt F) Λ₀ .tc) α} :
    iprop(ldR m c ∗ ppN m c 3) ⊢ iprop(((ldR m c ∗ ppN m c 4) -∗ wpc c (kk (⟨k0_pay22 (qgAt m 1 0 (by decide) (by decide)) (kAt m c 1 1 0 (by decide) (by decide) (by decide)), k0_pay23 (qgAt m 1 0 (by decide) (by decide)) (kAt m c 1 1 0 (by decide) (by decide) (by decide)), k0_pay24 (vAt m c 1 1 0 (by decide) (by decide) (by decide))⟩)) Q)
      -∗ wpc c (k0_part28 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (k0_pay19 (qgAt m 0 3 (by decide) (by decide))) (kAt m c 1 0 3 (by decide) (by decide) (by decide)) >>= kk) Q) := by
  rw [k0_part28_eq_skeleton]
  unfold k0_part28_skel ldR ppN
  simp only [Prog.lift, Prog.bind_op, Prog.bind_ret, Prog.bind_assoc, Prog.pure_eq_ret]
  iintro ⟨⟨Hk, Hv, Hq⟩, ⟨%f, Hp⟩⟩ Hc
  iapply (ld_v m c (shareDrop fullShare 2) rfl rfl) $$ Hv
  iintro Hv
  iapply (ld_all c (M := ppM)) $$ Hp
  iintro Hp
  iapply (st_pp m c 0 3 3 (by decide) (by decide) rfl inb_S2x4x32x65_S1x1x32x65_0_3_0_0 rfl f) $$ Hp
  iintro Hp
  iapply (ld_all c (M := qgM)) $$ Hq
  iintro Hq
  iapply (ld_k m c (shareDrop fullShare 2) rfl rfl) $$ Hk
  iintro Hk
  iapply (ld_v m c (shareDrop fullShare 2) rfl rfl) $$ Hv
  iintro Hv
  iapply Hc
  isplitr [Hp]
  · isplitl [Hk]; · iexact Hk
    isplitl [Hv]; · iexact Hv
    iexact Hq
  iexists f; iexact Hp

/-- Part 29: blocks from 4 to 6. -/
theorem part29 {Q : α → sProp (MT nD τ sig Unit (Elt F) ℕ UU ℕ)} {kk : (FVec F S32x64 .bf16) → Prog (TpuEff nD τ sig (Elt F) Λ₀ .tc) α} :
    iprop(ldR m c ∗ ppN m c 4) ⊢ iprop(((ldR m c ∗ ppN m c 6) -∗ wpc c (kk (k0_pay27 (qgAt m 1 2 (by decide) (by decide)))) Q)
      -∗ wpc c (k0_part29 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (k0_pay22 (qgAt m 1 0 (by decide) (by decide)) (kAt m c 1 1 0 (by decide) (by decide) (by decide))) (k0_pay23 (qgAt m 1 0 (by decide) (by decide)) (kAt m c 1 1 0 (by decide) (by decide) (by decide))) (k0_pay24 (vAt m c 1 1 0 (by decide) (by decide) (by decide))) >>= kk) Q) := by
  rw [k0_part29_eq_skeleton]
  unfold k0_part29_skel ldR ppN
  simp only [Prog.lift, Prog.bind_op, Prog.bind_ret, Prog.bind_assoc, Prog.pure_eq_ret]
  iintro ⟨⟨Hk, Hv, Hq⟩, ⟨%f, Hp⟩⟩ Hc
  iapply (ld_all c (M := ppM)) $$ Hp
  iintro Hp
  iapply (st_pp m c 1 0 4 (by decide) (by decide) rfl inb_S2x4x32x65_S1x1x32x65_1_0_0_0 rfl f) $$ Hp
  iintro Hp
  iapply (ld_all c (M := qgM)) $$ Hq
  iintro Hq
  iapply (ld_k m c (shareDrop fullShare 2) rfl rfl) $$ Hk
  iintro Hk
  iapply (ld_v m c (shareDrop fullShare 2) rfl rfl) $$ Hv
  iintro Hv
  iapply (ld_all c (M := ppM)) $$ Hp
  iintro Hp
  iapply (st_pp m c 1 1 5 (by decide) (by decide) rfl inb_S2x4x32x65_S1x1x32x65_1_1_0_0 rfl f) $$ Hp
  iintro Hp
  iapply (ld_all c (M := qgM)) $$ Hq
  iintro Hq
  iapply Hc
  isplitr [Hp]
  · isplitl [Hk]; · iexact Hk
    isplitl [Hv]; · iexact Hv
    iexact Hq
  iexists f; iexact Hp

/-- Part 30: blocks from 6 to 7. -/
theorem part30 {Q : α → sProp (MT nD τ sig Unit (Elt F) ℕ UU ℕ)} {kk : (Σ' (v282 : FVec F S32x1 .f32), FVec F S32x128 .bf16) → Prog (TpuEff nD τ sig (Elt F) Λ₀ .tc) α} :
    iprop(ldR m c ∗ ppN m c 6) ⊢ iprop(((ldR m c ∗ ppN m c 7) -∗ wpc c (kk (⟨k0_pay30 (qgAt m 1 3 (by decide) (by decide)) (kAt m c 1 1 3 (by decide) (by decide) (by decide)), k0_pay31 (qgAt m 1 3 (by decide) (by decide)) (kAt m c 1 1 3 (by decide) (by decide) (by decide))⟩)) Q)
      -∗ wpc c (k0_part30 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (k0_pay27 (qgAt m 1 2 (by decide) (by decide))) >>= kk) Q) := by
  rw [k0_part30_eq_skeleton]
  unfold k0_part30_skel ldR ppN
  simp only [Prog.lift, Prog.bind_op, Prog.bind_ret, Prog.bind_assoc, Prog.pure_eq_ret]
  iintro ⟨⟨Hk, Hv, Hq⟩, ⟨%f, Hp⟩⟩ Hc
  iapply (ld_k m c (shareDrop fullShare 2) rfl rfl) $$ Hk
  iintro Hk
  iapply (ld_v m c (shareDrop fullShare 2) rfl rfl) $$ Hv
  iintro Hv
  iapply (ld_all c (M := ppM)) $$ Hp
  iintro Hp
  iapply (st_pp m c 1 2 6 (by decide) (by decide) rfl inb_S2x4x32x65_S1x1x32x65_1_2_0_0 rfl f) $$ Hp
  iintro Hp
  iapply (ld_all c (M := qgM)) $$ Hq
  iintro Hq
  iapply (ld_k m c (shareDrop fullShare 2) rfl rfl) $$ Hk
  iintro Hk
  iapply Hc
  isplitr [Hp]
  · isplitl [Hk]; · iexact Hk
    isplitl [Hv]; · iexact Hv
    iexact Hq
  iexists f; iexact Hp

/-! ## Handing them over -/

/-- The partial sums before they are sent. -/
def ppHeld (c : Dev nD) : sProp 𝕄 :=
  iprop(ppPts m c fullShare ∗ paFree (F := F) dev0 c.val ∗ owesE (F := F) c (O₃ c) ∗ when (c ≠ dev0) iprop(dutyTok ER (dcell c (65 + c.val)) 0 dev0 ∗ dutyTok ER (dcell dev0 (81 + c.val)) 0 dev0))
/-- What is left until they have arrived. -/
def ppSent (c : Dev nD) : sProp 𝕄 := iprop(cred (tallyAt (dcell c (65 + c.val)) () NP) ∗ owesE (F := F) c 0)

/-- The test for device 1. -/
theorem cond4 (c : Dev nD) : k0_cond4 c = 1#1 ↔ c.val = 1 := by revert c; decide +kernel
/-- The test for device 2. -/
theorem cond5 (c : Dev nD) : k0_cond5 c = 1#1 ↔ c.val = 2 := by revert c; decide +kernel
/-- The test for device 3. -/
theorem cond6 (c : Dev nD) : k0_cond6 c = 1#1 ↔ c.val = 3 := by revert c; decide +kernel
/-- The test for device 4. -/
theorem cond7 (c : Dev nD) : k0_cond7 c = 1#1 ↔ c.val = 4 := by revert c; decide +kernel
/-- The test for device 5. -/
theorem cond8 (c : Dev nD) : k0_cond8 c = 1#1 ↔ c.val = 5 := by revert c; decide +kernel
/-- The test for device 6. -/
theorem cond9 (c : Dev nD) : k0_cond9 c = 1#1 ↔ c.val = 6 := by revert c; decide +kernel
/-- The test for device 7. -/
theorem cond10 (c : Dev nD) : k0_cond10 c = 1#1 ↔ c.val = 7 := by revert c; decide +kernel
/-- The test for device 8. -/
theorem cond11 (c : Dev nD) : k0_cond11 c = 1#1 ↔ c.val = 8 := by revert c; decide +kernel
/-- The test for device 9. -/
theorem cond12 (c : Dev nD) : k0_cond12 c = 1#1 ↔ c.val = 9 := by revert c; decide +kernel
/-- The test for device 10. -/
theorem cond13 (c : Dev nD) : k0_cond13 c = 1#1 ↔ c.val = 10 := by revert c; decide +kernel
/-- The test for device 11. -/
theorem cond14 (c : Dev nD) : k0_cond14 c = 1#1 ↔ c.val = 11 := by revert c; decide +kernel
/-- The test for device 12. -/
theorem cond15 (c : Dev nD) : k0_cond15 c = 1#1 ↔ c.val = 12 := by revert c; decide +kernel
/-- The test for device 13. -/
theorem cond16 (c : Dev nD) : k0_cond16 c = 1#1 ↔ c.val = 13 := by revert c; decide +kernel
/-- The test for device 14. -/
theorem cond17 (c : Dev nD) : k0_cond17 c = 1#1 ↔ c.val = 14 := by revert c; decide +kernel
/-- The test for device 15. -/
theorem cond18 (c : Dev nD) : k0_cond18 c = 1#1 ↔ c.val = 15 := by revert c; decide +kernel

/-- The sending to device 0, from device `s`. -/
theorem pp_send (K : Dev nD × CIx → ℕ) {Q : α → sProp (MT nD τ sig Unit (Elt F) ℕ UU ℕ)} {k : PUnit → Prog (TpuEff nD τ sig (Elt F) Λ₀ .tc) α} (s : ℕ) (hs : c.val = s) (h0 : s ≠ 0) (h : InbP s) {d : Dev nD} (hd : d.val = 0)
    {hsc : (paSl s h : Memref sig (Dev.tc d : Thread nD τ).2.kind .vmem _ .bf16).view.ref.isScScratch = false} {sS sem : SemLoc sig}
    {hsrc : ppM.view.WordExact} {hdst : (paSl s h).view.WordExact} {hsem : DmaTarget.Typed .vmem sem (.remote (Dev.tc d : Thread nD τ) (paSl s h) sS hsc)}
    (hsS : sS = .dma (Fin.ofNat 97 (65 + s))) (hsD : sem = .dma (Fin.ofNat 97 (81 + s))) :
    iprop(env m K ∗ ppHeld m c) ⊢ iprop((ppSent (F := F) c -∗ wpc c (k ⟨⟩) Q)
        -∗ wpc c (.op (.enqueueDma ppM (.remote (Dev.tc d : Thread nD τ) (paSl s h) sS hsc) sem hsrc hdst hsem) k) Q) := by
  have hc : c.val ≠ 0 := fun e => h0 (hs.symm.trans e)
  have hc' : c ≠ dev0 := fun e => hc (congrArg Fin.val e)
  unfold ppHeld ppSent
  rw [when_pos hc', show O₃ c = prO c from if_neg hc']
  iintro ⟨HE, Hp, Hf, HO, Ht1, Ht2⟩
  iapply (pp_step m K c hc d (Fin.ext hd) s hs h hsS hsD)
  isplitl [HE]; · iexact HE
  isplitl [Hp]; · iexact Hp
  isplitl [Hf]; · iexact Hf
  isplitl [HO]; · iexact HO
  isplitl [Ht1]; · iexact Ht1
  iexact Ht2

/-- The whole buffer once all eight blocks are in. -/
theorem pp_full (f : (cc0_scratch5 : Ref sig .tc).ty.Contents (Elt F)) : PPn m c f 8 = PP m c := by
  funext i
  have key : ∀ j : S2x4x32x65.Idx, PPn m c f 8 j = PP m c j := fun j => if_pos (by
    have h0 : (j 0).val < 2 := (j 0).isLt
    have h1 : (j 1).val < 4 := (j 1).isLt
    omega)
  exact key i

/-- Part 31: the last block, and the sending from devices 1 to 7. -/
theorem part31 (K : Dev nD × CIx → ℕ) {Q : α → sProp (MT nD τ sig Unit (Elt F) ℕ UU ℕ)} {kk : PUnit → Prog (TpuEff nD τ sig (Elt F) Λ₀ .tc) α} :
    iprop(env m K ∗ ldR m c ∗ ppN m c 7 ∗ (ppPts m c fullShare -∗ ppHeld m c)) ⊢ iprop(((ldR m c ∗ when (1 ≤ c.val ∧ c.val < 8) (ppSent (F := F) c) ∗ when (¬(1 ≤ c.val ∧ c.val < 8)) (ppHeld m c)) -∗ wpc c (kk ⟨⟩) Q)
      -∗ wpc c (k0_part31 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 c (dw c) (k0_pay30 (qgAt m 1 3 (by decide) (by decide)) (kAt m c 1 1 3 (by decide) (by decide) (by decide))) (k0_pay31 (qgAt m 1 3 (by decide) (by decide)) (kAt m c 1 1 3 (by decide) (by decide) (by decide))) >>= kk) Q) := by
  rw [k0_part31_eq_skeleton]
  unfold k0_part31_skel ldR ppN
  iintro ⟨#HE, ⟨Hk, Hv, Hq⟩, ⟨%f, Hp⟩, Hw⟩ Hc
  by_cases h : 1 ≤ c.val ∧ c.val < 8
  · rw [when_pos h, when_neg (fun hn => hn h)]
    have hs : c.val = 1 ∨ c.val = 2 ∨ c.val = 3 ∨ c.val = 4 ∨ c.val = 5 ∨ c.val = 6 ∨ c.val = 7 := by omega
    rcases hs with hs | hs | hs | hs | hs | hs | hs
    all_goals
      simp (config := { decide := true }) only [cond4, cond5, cond6, cond7, cond8, cond9, cond10, hs, dite_false, dite_true,
        Prog.lift, Prog.bind_op, Prog.bind_ret, Prog.bind_assoc, Prog.pure_eq_ret]
      iapply (ld_v m c (shareDrop fullShare 2) rfl rfl) $$ Hv
      iintro Hv
      iapply (ld_all c (M := ppM)) $$ Hp
      iintro Hp
      iapply (st_pp m c 1 3 7 (by decide) (by decide) rfl inb_S2x4x32x65_S1x1x32x65_1_3_0_0 rfl f) $$ Hp
      iintro Hp
      ihave Hh := Hw $$ [Hp]
      · unfold ppPts; rw [← pp_full m c f]; iexact Hp
    · iapply (pp_send m c K 1 hs (by decide) inb_S16x2x4x32x65_S1x2x4x32x65_1_0_0_0_0 (d := ⟨k0_dev65, k0_dev65_lt c ((cond4 c).mpr hs)⟩) k0_dev65_eq rfl rfl) $$ [Hh]
      · isplitr; · iexact HE
        iexact Hh
      iintro Hh
      iapply Hc
      isplitr [Hh]
      · isplitl [Hk]; · iexact Hk
        isplitl [Hv]; · iexact Hv
        iexact Hq
      isplitl [Hh]; · iexact Hh
      iempintro
    · iapply (pp_send m c K 2 hs (by decide) inb_S16x2x4x32x65_S1x2x4x32x65_2_0_0_0_0 (d := ⟨k0_dev66, k0_dev66_lt c ((cond5 c).mpr hs)⟩) k0_dev66_eq rfl rfl) $$ [Hh]
      · isplitr; · iexact HE
        iexact Hh
      iintro Hh
      iapply Hc
      isplitr [Hh]
      · isplitl [Hk]; · iexact Hk
        isplitl [Hv]; · iexact Hv
        iexact Hq
      isplitl [Hh]; · iexact Hh
      iempintro
    · iapply (pp_send m c K 3 hs (by decide) inb_S16x2x4x32x65_S1x2x4x32x65_3_0_0_0_0 (d := ⟨k0_dev67, k0_dev67_lt c ((cond6 c).mpr hs)⟩) k0_dev67_eq rfl rfl) $$ [Hh]
      · isplitr; · iexact HE
        iexact Hh
      iintro Hh
      iapply Hc
      isplitr [Hh]
      · isplitl [Hk]; · iexact Hk
        isplitl [Hv]; · iexact Hv
        iexact Hq
      isplitl [Hh]; · iexact Hh
      iempintro
    · iapply (pp_send m c K 4 hs (by decide) inb_S16x2x4x32x65_S1x2x4x32x65_4_0_0_0_0 (d := ⟨k0_dev68, k0_dev68_lt c ((cond7 c).mpr hs)⟩) k0_dev68_eq rfl rfl) $$ [Hh]
      · isplitr; · iexact HE
        iexact Hh
      iintro Hh
      iapply Hc
      isplitr [Hh]
      · isplitl [Hk]; · iexact Hk
        isplitl [Hv]; · iexact Hv
        iexact Hq
      isplitl [Hh]; · iexact Hh
      iempintro
    · iapply (pp_send m c K 5 hs (by decide) inb_S16x2x4x32x65_S1x2x4x32x65_5_0_0_0_0 (d := ⟨k0_dev69, k0_dev69_lt c ((cond8 c).mpr hs)⟩) k0_dev69_eq rfl rfl) $$ [Hh]
      · isplitr; · iexact HE
        iexact Hh
      iintro Hh
      iapply Hc
      isplitr [Hh]
      · isplitl [Hk]; · iexact Hk
        isplitl [Hv]; · iexact Hv
        iexact Hq
      isplitl [Hh]; · iexact Hh
      iempintro
    · iapply (pp_send m c K 6 hs (by decide) inb_S16x2x4x32x65_S1x2x4x32x65_6_0_0_0_0 (d := ⟨k0_dev70, k0_dev70_lt c ((cond9 c).mpr hs)⟩) k0_dev70_eq rfl rfl) $$ [Hh]
      · isplitr; · iexact HE
        iexact Hh
      iintro Hh
      iapply Hc
      isplitr [Hh]
      · isplitl [Hk]; · iexact Hk
        isplitl [Hv]; · iexact Hv
        iexact Hq
      isplitl [Hh]; · iexact Hh
      iempintro
    · iapply (pp_send m c K 7 hs (by decide) inb_S16x2x4x32x65_S1x2x4x32x65_7_0_0_0_0 (d := ⟨k0_dev71, k0_dev71_lt c ((cond10 c).mpr hs)⟩) k0_dev71_eq rfl rfl) $$ [Hh]
      · isplitr; · iexact HE
        iexact Hh
      iintro Hh
      iapply Hc
      isplitr [Hh]
      · isplitl [Hk]; · iexact Hk
        isplitl [Hv]; · iexact Hv
        iexact Hq
      isplitl [Hh]; · iexact Hh
      iempintro
  · rw [when_neg h, when_pos h]
    have h1 : c.val ≠ 1 := by omega
    have h2 : c.val ≠ 2 := by omega
    have h3 : c.val ≠ 3 := by omega
    have h4 : c.val ≠ 4 := by omega
    have h5 : c.val ≠ 5 := by omega
    have h6 : c.val ≠ 6 := by omega
    have h7 : c.val ≠ 7 := by omega
    simp only [cond4, cond5, cond6, cond7, cond8, cond9, cond10, h1, h2, h3, h4, h5, h6, h7, dite_false,
      Prog.lift, Prog.bind_op, Prog.bind_ret, Prog.bind_assoc, Prog.pure_eq_ret]
    iapply (ld_v m c (shareDrop fullShare 2) rfl rfl) $$ Hv
    iintro Hv
    iapply (ld_all c (M := ppM)) $$ Hp
    iintro Hp
    iapply (st_pp m c 1 3 7 (by decide) (by decide) rfl inb_S2x4x32x65_S1x1x32x65_1_3_0_0 rfl f) $$ Hp
    iintro Hp
    ihave Hh := Hw $$ [Hp]
    · unfold ppPts; rw [← pp_full m c f]; iexact Hp
    iapply Hc
    isplitr [Hh]
    · isplitl [Hk]; · iexact Hk
      isplitl [Hv]; · iexact Hv
      iexact Hq
    isplitr [Hh]; · iempintro
    iexact Hh

end Stage

end Cert.Att
-- ==== Proof.StageD.lean ====
/-
# The partial sums handed over, the halo arrived
-/
module

public import proofs.«01_k».proof.Proof.StageC

@[expose] public section

set_option maxRecDepth 4000
set_option maxHeartbeats 4000000

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

section Stage
variable (c : Dev nD) {α : Type}

/-- The block a device stores into its own slot of the gathered sums. -/
theorem pay33_at (v : Vec F S2x4x32x65 .bf16) (y : S1x2x4x32x65.Idx) : k0_pay33 v y = v (ix4 (y 1) (y 2) (y 3) (y 4)) := by
  have y0 : (y 0).val = 0 := Nat.lt_one_iff.mp (y 0).isLt
  have hn : S2x4x32x65.numel = S1x2x4x32x65.numel := by decide
  have e : y = Shape.reshapeEquiv hn (ix4 (y 1) (y 2) (y 3) (y 4) : S2x4x32x65.Idx) := by
    rw [show Shape.reshapeEquiv hn (ix4 (y 1) (y 2) (y 3) (y 4) : S2x4x32x65.Idx) = _ from Shape.reshapeEquiv_cons_one (d := ![2, 4, 32, 65]) _ _]
    funext a
    match a with
    | ⟨0, _⟩ => exact Fin.ext y0
    | ⟨1, _⟩ => rfl
    | ⟨2, _⟩ => rfl
    | ⟨3, _⟩ => rfl
    | ⟨4, _⟩ => rfl
  show v (Shape.reshapeEquiv _ y) = _
  conv => lhs; rw [e]
  rw [← Shape.reshapeEquiv_symm hn, Equiv.symm_apply_apply]

/-- What a device has to show for its partial sums. -/
def ppOut (c : Dev nD) : sProp 𝕄 :=
  iprop(when (c ≠ dev0) (cred (tallyAt (dcell c (65 + c.val)) () NP)) ∗ owesE (F := F) c 0 ∗ when (c = dev0) iprop(ppPts m c fullShare ∗ paSlot m 0))

/-- Part 32: the sending from devices 8 to 15; device 0 keeps its own. -/
theorem part32 (K : Dev nD × CIx → ℕ) {Q : α → sProp (MT nD τ sig Unit (Elt F) ℕ UU ℕ)} (v5 : BitVec 32) {kk : BitVec 32 → Prog (TpuEff nD τ sig (Elt F) Λ₀ .tc) α} :
    iprop(env m K ∗ when (1 ≤ c.val ∧ c.val < 8) (ppSent (F := F) c) ∗ when (¬(1 ≤ c.val ∧ c.val < 8)) (ppHeld m c)) ⊢ iprop((ppOut m c -∗ wpc c (kk (Scalar.muli v5 1#32)) Q)
      -∗ wpc c (k0_part32 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 c (dw c) v5 >>= kk) Q) := by
  rw [k0_part32_eq_skeleton]
  unfold k0_part32_skel ppOut
  by_cases hc : c = dev0
  · subst hc
    rw [when_neg (by decide), when_pos (by decide), when_neg (fun h => h rfl), when_pos rfl]
    have hv : (dev0 : Dev nD).val = 0 := rfl
    iintro ⟨#HE, -, Hp⟩ Hc
    unfold ppHeld paFree
    rw [when_neg (fun h => h rfl), show O₃ dev0 = 0 from if_pos rfl]
    icases Hp with ⟨Hp, ⟨%f, Hf⟩, HO, -⟩
    simp (config := { decide := true }) only [cond11, cond12, cond13, cond14, cond15, cond16, cond17, cond18, hv, dif_pos ((cond_eq dev0 0).mpr rfl), dite_false,
      Prog.lift, Prog.bind_op, Prog.bind_ret, Prog.bind_assoc, Prog.pure_eq_ret]
    unfold ppPts
    iapply (ld_all dev0 (M := ppM)) $$ Hp
    iintro Hp
    rw [show ppM.view.readAt (Elt F) (Rect.unit (s := S2x4x32x65) ![0, 0, 0, 0] S2x4x32x65.size inb_S2x4x32x65_S2x4x32x65_0_0_0_0).toLoadRect (PP m dev0) = PP m dev0 from
      Memref.readAt_unit_zero (Elt F) cc0_scratch5 (by funext a; fin_cases a <;> rfl) _ _]
    have hmem : ∀ x, (rP 0 inb_S16x2x4x32x65_S1x2x4x32x65_0_0_0_0_0).idx x ∈ paSet 0 := fun x => by
      rw [← pa_box 0 inb_S16x2x4x32x65_S1x2x4x32x65_0_0_0_0_0]
      exact LoadRect.idx_mem _ x
    iapply (ld_in dev0 (M := paM) (r := (rP 0 inb_S16x2x4x32x65_S1x2x4x32x65_0_0_0_0_0).toLoadRect) (S := paSet 0) hmem) $$ Hf
    iintro Hf
    have hg : ∀ x, (paM.access (rP 0 inb_S16x2x4x32x65_S1x2x4x32x65_0_0_0_0_0)).write (Elt F) f (k0_pay33 (PP m dev0)) Finset.univ ((paM.access (rP 0 inb_S16x2x4x32x65_S1x2x4x32x65_0_0_0_0_0)).emb x)
        = PA m ((paM.access (rP 0 inb_S16x2x4x32x65_S1x2x4x32x65_0_0_0_0_0)).emb x) := fun x => by
      refine (View.write_emb_of_mem (v := paM.access (rP 0 inb_S16x2x4x32x65_S1x2x4x32x65_0_0_0_0_0)) f (k0_pay33 (PP m dev0)) (Finset.mem_univ x)).trans ?_
      refine (pay33_at (PP m dev0) x).trans ?_
      have y0 : (x 0).val = 0 := Nat.lt_one_iff.mp (x 0).isLt
      have a0 : ((rP 0 inb_S16x2x4x32x65_S1x2x4x32x65_0_0_0_0_0).idx x (0 : Fin 5)).val = 0 := by show 0 + 1 * (x 0).val = 0; omega
      show _ = PP m (off dev0 ((rP 0 inb_S16x2x4x32x65_S1x2x4x32x65_0_0_0_0_0).idx x (0 : Fin 5)).val) _
      rw [a0]
      show PP m dev0 _ = PP m dev0 _
      congr 1
      funext a
      match a with
      | ⟨0, _⟩ => exact Fin.ext (by show (x 1).val = 0 + 1 * (x 1).val; omega)
      | ⟨1, _⟩ => exact Fin.ext (by show (x 2).val = 0 + 1 * (x 2).val; omega)
      | ⟨2, _⟩ => exact Fin.ext (by show (x 3).val = 0 + 1 * (x 3).val; omega)
      | ⟨3, _⟩ => exact Fin.ext (by show (x 4).val = 0 + 1 * (x 4).val; omega)
    have hf : ∀ i ∈ paSet 0, (∀ x, (paM.access (rP 0 inb_S16x2x4x32x65_S1x2x4x32x65_0_0_0_0_0)).emb x ≠ i) → f i = PA m i := fun i hi hne => by
      rw [← pa_box 0 inb_S16x2x4x32x65_S1x2x4x32x65_0_0_0_0_0] at hi
      obtain ⟨x, rfl⟩ := LoadRect.exists_idx_of_mem _ hi
      exact absurd rfl (hne x)
    iapply (st_in dev0 (M := paM) (r := rP 0 inb_S16x2x4x32x65_S1x2x4x32x65_0_0_0_0_0) (S := paSet 0) (f := f) (PA m) hmem hg hf) $$ Hf
    iintro Hf
    iapply Hc
    isplitr [HO Hp Hf]; · iempintro
    isplitl [HO]; · iexact HO
    isplitl [Hp]; · iexact Hp
    unfold paSlot; iexact Hf
  have hv : c.val ≠ 0 := fun h => hc (Fin.ext h)
  have hn : ¬ (Scalar.cmpi .ne (Scalar.extui (Scalar.cmpi .eq (dw c) 0#32) : BitVec 32) 0#32 = 1#1) := fun h => hv ((cond_eq c 0).mp h)
  rw [when_pos hc, when_neg hc]
  by_cases h : 1 ≤ c.val ∧ c.val < 8
  · rw [when_pos h, when_neg (fun hn => hn h)]
    iintro ⟨#HE, Hh, -⟩ Hc
    have h8 : c.val ≠ 8 := by omega
    have h9 : c.val ≠ 9 := by omega
    have h10 : c.val ≠ 10 := by omega
    have h11 : c.val ≠ 11 := by omega
    have h12 : c.val ≠ 12 := by omega
    have h13 : c.val ≠ 13 := by omega
    have h14 : c.val ≠ 14 := by omega
    have h15 : c.val ≠ 15 := by omega
    simp only [cond11, cond12, cond13, cond14, cond15, cond16, cond17, cond18, h8, h9, h10, h11, h12, h13, h14, h15, hn, dite_false, Prog.lift, Prog.bind_op, Prog.bind_ret, Prog.bind_assoc, Prog.pure_eq_ret]
    unfold ppSent
    icases Hh with ⟨Hh, HO⟩
    iapply Hc
    isplitl [Hh]; · iexact Hh
    isplitl [HO]; · iexact HO
    iempintro
  · rw [when_neg h, when_pos h]
    iintro ⟨#HE, -, Hh⟩ Hc
    have hlt : c.val < 16 := c.isLt
    have hs : c.val = 8 ∨ c.val = 9 ∨ c.val = 10 ∨ c.val = 11 ∨ c.val = 12 ∨ c.val = 13 ∨ c.val = 14 ∨ c.val = 15 := by omega
    rcases hs with hs | hs | hs | hs | hs | hs | hs | hs
    all_goals
      simp (config := { decide := true }) only [cond11, cond12, cond13, cond14, cond15, cond16, cond17, cond18, hn, hs, dite_false, dite_true,
        Prog.lift, Prog.bind_op, Prog.bind_ret, Prog.bind_assoc, Prog.pure_eq_ret]
    · iapply (pp_send m c K 8 hs (by decide) inb_S16x2x4x32x65_S1x2x4x32x65_8_0_0_0_0 (d := ⟨k0_dev72, k0_dev72_lt c ((cond11 c).mpr hs)⟩) k0_dev72_eq rfl rfl) $$ [Hh]
      · isplitr; · iexact HE
        iexact Hh
      unfold ppSent
      iintro ⟨Hh, HO⟩
      iapply Hc
      isplitl [Hh]; · rw [← hs]; iexact Hh
      isplitl [HO]; · iexact HO
      iempintro
    · iapply (pp_send m c K 9 hs (by decide) inb_S16x2x4x32x65_S1x2x4x32x65_9_0_0_0_0 (d := ⟨k0_dev73, k0_dev73_lt c ((cond12 c).mpr hs)⟩) k0_dev73_eq rfl rfl) $$ [Hh]
      · isplitr; · iexact HE
        iexact Hh
      unfold ppSent
      iintro ⟨Hh, HO⟩
      iapply Hc
      isplitl [Hh]; · rw [← hs]; iexact Hh
      isplitl [HO]; · iexact HO
      iempintro
    · iapply (pp_send m c K 10 hs (by decide) inb_S16x2x4x32x65_S1x2x4x32x65_10_0_0_0_0 (d := ⟨k0_dev74, k0_dev74_lt c ((cond13 c).mpr hs)⟩) k0_dev74_eq rfl rfl) $$ [Hh]
      · isplitr; · iexact HE
        iexact Hh
      unfold ppSent
      iintro ⟨Hh, HO⟩
      iapply Hc
      isplitl [Hh]; · rw [← hs]; iexact Hh
      isplitl [HO]; · iexact HO
      iempintro
    · iapply (pp_send m c K 11 hs (by decide) inb_S16x2x4x32x65_S1x2x4x32x65_11_0_0_0_0 (d := ⟨k0_dev75, k0_dev75_lt c ((cond14 c).mpr hs)⟩) k0_dev75_eq rfl rfl) $$ [Hh]
      · isplitr; · iexact HE
        iexact Hh
      unfold ppSent
      iintro ⟨Hh, HO⟩
      iapply Hc
      isplitl [Hh]; · rw [← hs]; iexact Hh
      isplitl [HO]; · iexact HO
      iempintro
    · iapply (pp_send m c K 12 hs (by decide) inb_S16x2x4x32x65_S1x2x4x32x65_12_0_0_0_0 (d := ⟨k0_dev76, k0_dev76_lt c ((cond15 c).mpr hs)⟩) k0_dev76_eq rfl rfl) $$ [Hh]
      · isplitr; · iexact HE
        iexact Hh
      unfold ppSent
      iintro ⟨Hh, HO⟩
      iapply Hc
      isplitl [Hh]; · rw [← hs]; iexact Hh
      isplitl [HO]; · iexact HO
      iempintro
    · iapply (pp_send m c K 13 hs (by decide) inb_S16x2x4x32x65_S1x2x4x32x65_13_0_0_0_0 (d := ⟨k0_dev77, k0_dev77_lt c ((cond16 c).mpr hs)⟩) k0_dev77_eq rfl rfl) $$ [Hh]
      · isplitr; · iexact HE
        iexact Hh
      unfold ppSent
      iintro ⟨Hh, HO⟩
      iapply Hc
      isplitl [Hh]; · rw [← hs]; iexact Hh
      isplitl [HO]; · iexact HO
      iempintro
    · iapply (pp_send m c K 14 hs (by decide) inb_S16x2x4x32x65_S1x2x4x32x65_14_0_0_0_0 (d := ⟨k0_dev78, k0_dev78_lt c ((cond17 c).mpr hs)⟩) k0_dev78_eq rfl rfl) $$ [Hh]
      · isplitr; · iexact HE
        iexact Hh
      unfold ppSent
      iintro ⟨Hh, HO⟩
      iapply Hc
      isplitl [Hh]; · rw [← hs]; iexact Hh
      isplitl [HO]; · iexact HO
      iempintro
    · iapply (pp_send m c K 15 hs (by decide) inb_S16x2x4x32x65_S1x2x4x32x65_15_0_0_0_0 (d := ⟨k0_dev79, k0_dev79_lt c ((cond18 c).mpr hs)⟩) k0_dev79_eq rfl rfl) $$ [Hh]
      · isplitr; · iexact HE
        iexact Hh
      unfold ppSent
      iintro ⟨Hh, HO⟩
      iapply Hc
      isplitl [Hh]; · rw [← hs]; iexact Hh
      isplitl [HO]; · iexact HO
      iempintro

/-- Part 33: a neighbour's block is waited for. -/
theorem part33 (K : Dev nD × CIx → ℕ) {Q : α → sProp (MT nD τ sig Unit (Elt F) ℕ UU ℕ)} (v5 v7 v340 : BitVec 32) {kk : (PUnit) → Prog (TpuEff nD τ sig (Elt F) Λ₀ .tc) α} :
    iprop(env m K ∗ owesE (F := F) c 0 ∗ (cred (tallyAt (dcell c 10) () NK) ∗ atPos ER (dcell c 10) 0 ∅ 0) ∗ (cred (tallyAt (dcell c 11) () NK) ∗ atPos ER (dcell c 11) 0 ∅ 0))
      ⊢ iprop(((owesE (F := F) c 0 ∗ (kSlot m c 2 fullShare ∗ vSlot m c 2 fullShare) ∗ semVal (dcell c 10) 0 ∗ semVal (dcell c 11) 0) -∗ wpc c (kk ⟨⟩) Q)
      -∗ wpc c (k0_part33 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 v5 v7 v340 >>= kk) Q) := by
  rw [k0_part33_eq_skeleton]
  unfold k0_part33_skel
  simp only [Prog.lift, Prog.bind_op, Prog.bind_ret, Prog.bind_assoc, Prog.pure_eq_ret]
  iintro ⟨#HE, HO, ⟨HC1, HA1⟩, ⟨HC2, HA2⟩⟩ Hc
  iapply (wait2 m c K 10 (by decide) (Or.inl (by decide)) (N := NK) (dst := kSl 2 inb_S3x2x4x128x64_S1x2x4x128x64_2_0_0_0_0) rfl rfl rfl 2 (0) (by decide) (Above.zero 2)) $$ [HO HC1 HA1]
  · isplitr; · iexact HE
    isplitl [HO]; · iexact HO
    isplitl [HC1]; · iexact HC1
    iexact HA1
  iintro ⟨HO, HP1, HZ1⟩
  iapply (wait2 m c K 11 (by decide) (Or.inl (by decide)) (N := NK) (dst := vSl 2 inb_S3x2x4x128x64_S1x2x4x128x64_2_0_0_0_0) rfl rfl rfl 2 (0) (by decide) (Above.zero 2)) $$ [HO HC2 HA2]
  · isplitr; · iexact HE
    isplitl [HO]; · iexact HO
    isplitl [HC2]; · iexact HC2
    iexact HA2
  iintro ⟨HO, HP2, HZ2⟩
  iapply Hc
  isplitl [HO]; · iexact HO
  isplitl [HP1 HP2]
  · isplitl [HP1]; · iapply (Entails.of_eq (show dmaPay (F := F) m c 10 = kSlot m c 2 fullShare from rfl)) $$ HP1
    iapply (Entails.of_eq (show dmaPay (F := F) m c 11 = vSlot m c 2 fullShare from rfl)) $$ HP2
  isplitl [HZ1]; · iexact HZ1
  iexact HZ2

/-- Part 34: a neighbour's block is waited for. -/
theorem part34 (K : Dev nD × CIx → ℕ) {Q : α → sProp (MT nD τ sig Unit (Elt F) ℕ UU ℕ)} (v5 v7 : BitVec 32) {kk : (Σ' (v383 : IVec S128x128 1) (v390 : IVec S128x128 1) (v397 : IVec S128x128 1), BitVec 32) → Prog (TpuEff nD τ sig (Elt F) Λ₀ .tc) α} :
    iprop(env m K ∗ owesE (F := F) c 0 ∗ (cred (tallyAt (dcell c 12) () NK) ∗ atPos ER (dcell c 12) 0 ∅ 0) ∗ (cred (tallyAt (dcell c 13) () NK) ∗ atPos ER (dcell c 13) 0 ∅ 0))
      ⊢ iprop(((owesE (F := F) c 0 ∗ (kSlot m c 0 fullShare ∗ vSlot m c 0 fullShare) ∗ semVal (dcell c 12) 0 ∗ semVal (dcell c 13) 0) -∗ wpc c (kk ⟨k0_pay35 (dw c) v5, k0_pay36 (dw c), k0_pay37 (dw c) v7, 128#32⟩) Q)
      -∗ wpc c (k0_part34 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (dw c) v5 v7 >>= kk) Q) := by
  rw [k0_part34_eq_skeleton]
  unfold k0_part34_skel
  simp only [Prog.lift, Prog.bind_op, Prog.bind_ret, Prog.bind_assoc, Prog.pure_eq_ret]
  iintro ⟨#HE, HO, ⟨HC1, HA1⟩, ⟨HC2, HA2⟩⟩ Hc
  iapply (wait2 m c K 12 (by decide) (Or.inl (by decide)) (N := NK) (dst := kSl 0 inb_S3x2x4x128x64_S1x2x4x128x64_0_0_0_0_0) rfl rfl rfl 2 (0) (by decide) (Above.zero 2)) $$ [HO HC1 HA1]
  · isplitr; · iexact HE
    isplitl [HO]; · iexact HO
    isplitl [HC1]; · iexact HC1
    iexact HA1
  iintro ⟨HO, HP1, HZ1⟩
  iapply (wait2 m c K 13 (by decide) (Or.inl (by decide)) (N := NK) (dst := vSl 0 inb_S3x2x4x128x64_S1x2x4x128x64_0_0_0_0_0) rfl rfl rfl 2 (0) (by decide) (Above.zero 2)) $$ [HO HC2 HA2]
  · isplitr; · iexact HE
    isplitl [HO]; · iexact HO
    isplitl [HC2]; · iexact HC2
    iexact HA2
  iintro ⟨HO, HP2, HZ2⟩
  iapply Hc
  isplitl [HO]; · iexact HO
  isplitl [HP1 HP2]
  · isplitl [HP1]; · iapply (Entails.of_eq (show dmaPay (F := F) m c 12 = kSlot m c 0 fullShare from rfl)) $$ HP1
    iapply (Entails.of_eq (show dmaPay (F := F) m c 13 = vSlot m c 0 fullShare from rfl)) $$ HP2
  isplitl [HZ1]; · iexact HZ1
  iexact HZ2

end Stage

end Cert.Att
-- ==== Proof.StageE.lean ====
/-
# The band stage

The loads and stores between the halo's arrival and the gathering of the partial sums.
-/
module

public import proofs.«01_k».proof.Proof.Out
public import proofs.«01_k».proof.Proof.StageD

@[expose] public section

set_option maxRecDepth 4000
set_option maxHeartbeats 4000000

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

section Stage
variable (c : Dev nD) {α : Type}

/-- What the band stage reads. -/
def bandR (c : Dev nD) : sProp 𝕄 :=
  iprop((kM.view.loc (c : Thread nD τ) ↦{shareDrop fullShare 2} KB m c) ∗ (vM.view.loc (c : Thread nD τ) ↦{shareDrop fullShare 2} VB m c)
    ∗ (kgM.view.loc (c : Thread nD τ) ↦{gq c} KG m) ∗ (vgM.view.loc (c : Thread nD τ) ↦{gq c} VG m))

/-- Part 35. -/
theorem part35 {Q : α → sProp (MT nD τ sig Unit (Elt F) ℕ UU ℕ)} {kk : (Σ' (v407 : IVec S128x416 1), FVec F S128x416 .f32) → Prog (TpuEff nD τ sig (Elt F) Λ₀ .tc) α} :
    bandR m c ⊢ iprop((bandR m c -∗ wpc c (kk ⟨o407 c, o432 m c⟩) Q)
      -∗ wpc c (k0_part35 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (dw c) (q0 m c) (o383 c) (o390 c) (o397 c) 128#32 >>= kk) Q) := by
  rw [k0_part35_eq_skeleton]
  unfold k0_part35_skel bandR
  simp only [Prog.lift, Prog.bind_op, Prog.bind_ret, Prog.bind_assoc, Prog.pure_eq_ret]
  iintro ⟨Hk, Hv, Hg, Hh⟩ Hc
  iapply (ld_all c (M := kM)) $$ Hk
  iintro Hk
  iapply (ld_all c (M := kM)) $$ Hk
  iintro Hk
  iapply (ld_all c (M := kM)) $$ Hk
  iintro Hk
  iapply (ld_all c (M := kgM)) $$ Hg
  iintro Hg
  iapply Hc
  isplitl [Hk]; · iexact Hk
  isplitl [Hv]; · iexact Hv
  isplitl [Hg]; · iexact Hg
  iexact Hh

/-- Part 36. -/
theorem part36 {Q : α → sProp (MT nD τ sig Unit (Elt F) ℕ UU ℕ)} {kk : (Σ' (v443 : FVec F S128x64 .f32) (v445 : FVec F S128x64 .bf16) (v447 : FVec F S128x64 .bf16) (v449 : FVec F S128x64 .bf16) (v451 : FVec F S128x64 .bf16), FVec F S32x64 .bf16) → Prog (TpuEff nD τ sig (Elt F) Λ₀ .tc) α} :
    bandR m c ⊢ iprop((bandR m c -∗ wpc c (kk ⟨o443 m c, o445 m c, o447 m c, o449 m c, o451 m c, o453 m c⟩) Q)
      -∗ wpc c (k0_part36 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (q0 m c) (o432 m c) >>= kk) Q) := by
  rw [k0_part36_eq_skeleton]
  unfold k0_part36_skel bandR
  simp only [Prog.lift, Prog.bind_op, Prog.bind_ret, Prog.bind_assoc, Prog.pure_eq_ret]
  iintro ⟨Hk, Hv, Hg, Hh⟩ Hc
  iapply (ld_all c (M := vM)) $$ Hv
  iintro Hv
  iapply (ld_all c (M := vM)) $$ Hv
  iintro Hv
  iapply (ld_all c (M := vM)) $$ Hv
  iintro Hv
  iapply (ld_all c (M := vgM)) $$ Hh
  iintro Hh
  iapply (ld_all c (M := kM)) $$ Hk
  iintro Hk
  iapply (ld_all c (M := kM)) $$ Hk
  iintro Hk
  iapply (ld_all c (M := kM)) $$ Hk
  iintro Hk
  iapply (ld_all c (M := kgM)) $$ Hg
  iintro Hg
  iapply Hc
  isplitl [Hk]; · iexact Hk
  isplitl [Hv]; · iexact Hv
  isplitl [Hg]; · iexact Hg
  iexact Hh

/-- Part 37. -/
theorem part37 {Q : α → sProp (MT nD τ sig Unit (Elt F) ℕ UU ℕ)} {kk : (Σ' (v479 : FVec F S128x64 .f32) (v481 : FVec F S128x64 .bf16), FVec F S128x64 .bf16) → Prog (TpuEff nD τ sig (Elt F) Λ₀ .tc) α} :
    bandR m c ⊢ iprop((bandR m c -∗ wpc c (kk ⟨o479 m c, o481 m c, o483 m c⟩) Q)
      -∗ wpc c (k0_part37 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (q0 m c) (o407 c) (o445 m c) (o447 m c) (o449 m c) (o451 m c) (o453 m c) >>= kk) Q) := by
  rw [k0_part37_eq_skeleton]
  unfold k0_part37_skel bandR
  simp only [Prog.lift, Prog.bind_op, Prog.bind_ret, Prog.bind_assoc, Prog.pure_eq_ret]
  iintro ⟨Hk, Hv, Hg, Hh⟩ Hc
  iapply (ld_all c (M := vM)) $$ Hv
  iintro Hv
  iapply (ld_all c (M := vM)) $$ Hv
  iintro Hv
  iapply (ld_all c (M := vM)) $$ Hv
  iintro Hv
  iapply (ld_all c (M := vgM)) $$ Hh
  iintro Hh
  iapply (ld_all c (M := kM)) $$ Hk
  iintro Hk
  iapply Hc
  isplitl [Hk]; · iexact Hk
  isplitl [Hv]; · iexact Hv
  isplitl [Hg]; · iexact Hg
  iexact Hh

/-- Part 38. -/
theorem part38 {Q : α → sProp (MT nD τ sig Unit (Elt F) ℕ UU ℕ)} {kk : (Σ' (v505 : FVec F S128x416 .bf16) (v507 : FVec F S128x64 .bf16), FVec F S128x64 .bf16) → Prog (TpuEff nD τ sig (Elt F) Λ₀ .tc) α} :
    bandR m c ⊢ iprop((bandR m c -∗ wpc c (kk ⟨o505 m c, o507 m c, o509 m c⟩) Q)
      -∗ wpc c (k0_part38 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (o407 c) (o481 m c) (o483 m c) >>= kk) Q) := by
  rw [k0_part38_eq_skeleton]
  unfold k0_part38_skel bandR
  simp only [Prog.lift, Prog.bind_op, Prog.bind_ret, Prog.bind_assoc, Prog.pure_eq_ret]
  iintro ⟨Hk, Hv, Hg, Hh⟩ Hc
  iapply (ld_all c (M := kM)) $$ Hk
  iintro Hk
  iapply (ld_all c (M := kM)) $$ Hk
  iintro Hk
  iapply (ld_all c (M := kgM)) $$ Hg
  iintro Hg
  iapply (ld_all c (M := vM)) $$ Hv
  iintro Hv
  iapply (ld_all c (M := vM)) $$ Hv
  iintro Hv
  iapply Hc
  isplitl [Hk]; · iexact Hk
  isplitl [Hv]; · iexact Hv
  isplitl [Hg]; · iexact Hg
  iexact Hh

/-- Part 39. -/
theorem part39 {Q : α → sProp (MT nD τ sig Unit (Elt F) ℕ UU ℕ)} {kk : (Σ' (v515 : FVec F S128x64 .f32), FVec F S128x416 .f32) → Prog (TpuEff nD τ sig (Elt F) Λ₀ .tc) α} :
    bandR m c ⊢ iprop((bandR m c -∗ wpc c (kk ⟨o515 m c, o540 m c⟩) Q)
      -∗ wpc c (k0_part39 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (q0 m c) (o407 c) (o505 m c) (o507 m c) (o509 m c) >>= kk) Q) := by
  rw [k0_part39_eq_skeleton]
  unfold k0_part39_skel bandR
  simp only [Prog.lift, Prog.bind_op, Prog.bind_ret, Prog.bind_assoc, Prog.pure_eq_ret]
  iintro ⟨Hk, Hv, Hg, Hh⟩ Hc
  iapply (ld_all c (M := vM)) $$ Hv
  iintro Hv
  iapply (ld_all c (M := vgM)) $$ Hh
  iintro Hh
  iapply (ld_all c (M := kM)) $$ Hk
  iintro Hk
  iapply (ld_all c (M := kM)) $$ Hk
  iintro Hk
  iapply (ld_all c (M := kM)) $$ Hk
  iintro Hk
  iapply (ld_all c (M := kgM)) $$ Hg
  iintro Hg
  iapply Hc
  isplitl [Hk]; · iexact Hk
  isplitl [Hv]; · iexact Hv
  isplitl [Hg]; · iexact Hg
  iexact Hh

/-- Part 40. -/
theorem part40 {Q : α → sProp (MT nD τ sig Unit (Elt F) ℕ UU ℕ)} {kk : (Σ' (v559 : FVec F S128x64 .bf16) (v561 : FVec F S128x64 .bf16), FVec F S128x64 .bf16) → Prog (TpuEff nD τ sig (Elt F) Λ₀ .tc) α} (f : (cc0_stg5_0 : Ref sig .tc).ty.Contents (Elt F)) :
    iprop(bandR m c ∗ (oM.view.loc (c : Thread nD τ) ↦{fullShare} f)) ⊢ iprop(((bandR m c ∗ (oM.view.loc (c : Thread nD τ) ↦{fullShare} out1 m c f)) -∗ wpc c (kk ⟨o559 m c, o561 m c, o563 m c⟩) Q)
      -∗ wpc c (k0_part40 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (wo m c) (q1 m c) (o443 m c) (o479 m c) (o515 m c) (o540 m c) >>= kk) Q) := by
  rw [k0_part40_eq_skeleton]
  unfold k0_part40_skel bandR
  simp only [Prog.lift, Prog.bind_op, Prog.bind_ret, Prog.bind_assoc, Prog.pure_eq_ret]
  iintro ⟨⟨Hk, Hv, Hg, Hh⟩, Ho⟩ Hc
  iapply (ld_all c (M := vM)) $$ Hv
  iintro Hv
  iapply (ld_all c (M := vM)) $$ Hv
  iintro Hv
  iapply (ld_all c (M := vM)) $$ Hv
  iintro Hv
  iapply (ld_all c (M := vgM)) $$ Hh
  iintro Hh
  iapply (ld_all c (M := oM)) $$ Ho
  iintro Ho
  iapply (st_out c 0 S1x128x512.size inb_S2x128x512_S1x128x512_0_0_0 rfl rfl (w := OB0 m c) (f := f) (out1 m c f) (fun x => out1_in m c f x _) (out1_off m c f)) $$ Ho
  iintro Ho
  iapply (ld_all c (M := kM)) $$ Hk
  iintro Hk
  iapply (ld_all c (M := kM)) $$ Hk
  iintro Hk
  iapply Hc
  isplitr [Ho]
  · isplitl [Hk]; · iexact Hk
    isplitl [Hv]; · iexact Hv
    isplitl [Hg]; · iexact Hg
    iexact Hh
  iexact Ho

/-- Part 41. -/
theorem part41 {Q : α → sProp (MT nD τ sig Unit (Elt F) ℕ UU ℕ)} {kk : (Σ' (v583 : FVec F S128x416 .bf16), FVec F S416x64 .bf16) → Prog (TpuEff nD τ sig (Elt F) Λ₀ .tc) α} :
    bandR m c ⊢ iprop((bandR m c -∗ wpc c (kk ⟨o583 m c, o592 m c⟩) Q)
      -∗ wpc c (k0_part41 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (o407 c) (o559 m c) (o561 m c) (o563 m c) >>= kk) Q) := by
  rw [k0_part41_eq_skeleton]
  unfold k0_part41_skel bandR
  simp only [Prog.lift, Prog.bind_op, Prog.bind_ret, Prog.bind_assoc, Prog.pure_eq_ret]
  iintro ⟨Hk, Hv, Hg, Hh⟩ Hc
  iapply (ld_all c (M := kM)) $$ Hk
  iintro Hk
  iapply (ld_all c (M := kgM)) $$ Hg
  iintro Hg
  iapply (ld_all c (M := vM)) $$ Hv
  iintro Hv
  iapply (ld_all c (M := vM)) $$ Hv
  iintro Hv
  iapply (ld_all c (M := vM)) $$ Hv
  iintro Hv
  iapply (ld_all c (M := vgM)) $$ Hh
  iintro Hh
  iapply Hc
  isplitl [Hk]; · iexact Hk
  isplitl [Hv]; · iexact Hv
  isplitl [Hg]; · iexact Hg
  iexact Hh

/-- Part 42. -/
theorem part42 {Q : α → sProp (MT nD τ sig Unit (Elt F) ℕ UU ℕ)} {kk : (Σ' (v593 : FVec F S128x64 .f32) (v619 : FVec F S128x416 .bf16), FVec F S128x64 .bf16) → Prog (TpuEff nD τ sig (Elt F) Λ₀ .tc) α} :
    bandR m c ⊢ iprop((bandR m c -∗ wpc c (kk ⟨o593 m c, o619 m c, o621 m c⟩) Q)
      -∗ wpc c (k0_part42 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (q1 m c) (o407 c) (o583 m c) (o592 m c) >>= kk) Q) := by
  rw [k0_part42_eq_skeleton]
  unfold k0_part42_skel bandR
  simp only [Prog.lift, Prog.bind_op, Prog.bind_ret, Prog.bind_assoc, Prog.pure_eq_ret]
  iintro ⟨Hk, Hv, Hg, Hh⟩ Hc
  iapply (ld_all c (M := kM)) $$ Hk
  iintro Hk
  iapply (ld_all c (M := kM)) $$ Hk
  iintro Hk
  iapply (ld_all c (M := kM)) $$ Hk
  iintro Hk
  iapply (ld_all c (M := kgM)) $$ Hg
  iintro Hg
  iapply (ld_all c (M := vM)) $$ Hv
  iintro Hv
  iapply Hc
  isplitl [Hk]; · iexact Hk
  isplitl [Hv]; · iexact Hv
  isplitl [Hg]; · iexact Hg
  iexact Hh

/-- Part 43. -/
theorem part43 {Q : α → sProp (MT nD τ sig Unit (Elt F) ℕ UU ℕ)} {kk : (Σ' (v629 : FVec F S128x64 .f32), FVec F S128x416 .f32) → Prog (TpuEff nD τ sig (Elt F) Λ₀ .tc) α} :
    bandR m c ⊢ iprop((bandR m c -∗ wpc c (kk ⟨o629 m c, o645 m c⟩) Q)
      -∗ wpc c (k0_part43 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (q1 m c) (o407 c) (o619 m c) (o621 m c) >>= kk) Q) := by
  rw [k0_part43_eq_skeleton]
  unfold k0_part43_skel bandR
  simp only [Prog.lift, Prog.bind_op, Prog.bind_ret, Prog.bind_assoc, Prog.pure_eq_ret]
  iintro ⟨Hk, Hv, Hg, Hh⟩ Hc
  iapply (ld_all c (M := vM)) $$ Hv
  iintro Hv
  iapply (ld_all c (M := vM)) $$ Hv
  iintro Hv
  iapply (ld_all c (M := vgM)) $$ Hh
  iintro Hh
  iapply (ld_all c (M := kM)) $$ Hk
  iintro Hk
  iapply (ld_all c (M := kM)) $$ Hk
  iintro Hk
  iapply (ld_all c (M := kM)) $$ Hk
  iintro Hk
  iapply (ld_all c (M := kgM)) $$ Hg
  iintro Hg
  iapply Hc
  isplitl [Hk]; · iexact Hk
  isplitl [Hv]; · iexact Hv
  isplitl [Hg]; · iexact Hg
  iexact Hh

/-- Part 44. -/
theorem part44 {Q : α → sProp (MT nD τ sig Unit (Elt F) ℕ UU ℕ)} {kk : (Σ' (v665 : FVec F S128x64 .f32) (v667 : FVec F S128x64 .bf16) (v669 : FVec F S128x64 .bf16), FVec F S128x64 .bf16) → Prog (TpuEff nD τ sig (Elt F) Λ₀ .tc) α} :
    bandR m c ⊢ iprop((bandR m c -∗ wpc c (kk ⟨o665 m c, o667 m c, o669 m c, o671 m c⟩) Q)
      -∗ wpc c (k0_part44 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (q1 m c) (o645 m c) >>= kk) Q) := by
  rw [k0_part44_eq_skeleton]
  unfold k0_part44_skel bandR
  simp only [Prog.lift, Prog.bind_op, Prog.bind_ret, Prog.bind_assoc, Prog.pure_eq_ret]
  iintro ⟨Hk, Hv, Hg, Hh⟩ Hc
  iapply (ld_all c (M := vM)) $$ Hv
  iintro Hv
  iapply (ld_all c (M := vM)) $$ Hv
  iintro Hv
  iapply (ld_all c (M := vM)) $$ Hv
  iintro Hv
  iapply (ld_all c (M := vgM)) $$ Hh
  iintro Hh
  iapply (ld_all c (M := kM)) $$ Hk
  iintro Hk
  iapply (ld_all c (M := kM)) $$ Hk
  iintro Hk
  iapply Hc
  isplitl [Hk]; · iexact Hk
  isplitl [Hv]; · iexact Hv
  isplitl [Hg]; · iexact Hg
  iexact Hh

/-- Part 45. -/
theorem part45 {Q : α → sProp (MT nD τ sig Unit (Elt F) ℕ UU ℕ)} {kk : (Σ' (v691 : FVec F S128x416 .bf16), FVec F S416x64 .bf16) → Prog (TpuEff nD τ sig (Elt F) Λ₀ .tc) α} :
    bandR m c ⊢ iprop((bandR m c -∗ wpc c (kk ⟨o691 m c, o700 m c⟩) Q)
      -∗ wpc c (k0_part45 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (o407 c) (o667 m c) (o669 m c) (o671 m c) >>= kk) Q) := by
  rw [k0_part45_eq_skeleton]
  unfold k0_part45_skel bandR
  simp only [Prog.lift, Prog.bind_op, Prog.bind_ret, Prog.bind_assoc, Prog.pure_eq_ret]
  iintro ⟨Hk, Hv, Hg, Hh⟩ Hc
  iapply (ld_all c (M := kM)) $$ Hk
  iintro Hk
  iapply (ld_all c (M := kgM)) $$ Hg
  iintro Hg
  iapply (ld_all c (M := vM)) $$ Hv
  iintro Hv
  iapply (ld_all c (M := vM)) $$ Hv
  iintro Hv
  iapply (ld_all c (M := vM)) $$ Hv
  iintro Hv
  iapply (ld_all c (M := vgM)) $$ Hh
  iintro Hh
  iapply Hc
  isplitl [Hk]; · iexact Hk
  isplitl [Hv]; · iexact Hv
  isplitl [Hg]; · iexact Hg
  iexact Hh

end Stage

end Cert.Att
-- ==== Proof.StageF.lean ====
/-
# The waits at the end

The gathered sums reach device 0, and every transfer a device started is waited for.
-/
module

public import proofs.«01_k».proof.Proof.StageE

@[expose] public section

set_option maxRecDepth 4000
set_option maxHeartbeats 4000000

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

section Stage
variable (c : Dev nD) {α : Type}

/-- A conditional before the rest `p` of a part. -/
theorem wp_if {Q : α → sProp (MT nD τ sig Unit (Elt F) ℕ UU ℕ)} {β : Type} {kk : β → Prog (TpuEff nD τ sig (Elt F) Λ₀ .tc) α} {P : Prop} [Decidable P] {A : P → Prog (TpuEff nD τ sig (Elt F) Λ₀ .tc) β} {p : Prog (TpuEff nD τ sig (Elt F) Λ₀ .tc) β}
    (R T : sProp (MT nD τ sig Unit (Elt F) ℕ UU ℕ)) (hA : ∀ h, R ⊢ iprop((T -∗ wpc c (p >>= kk) Q) -∗ wpc c (A h >>= kk) Q)) (hB : ¬P → R ⊢ T) :
    R ⊢ iprop((T -∗ wpc c (p >>= kk) Q) -∗ wpc c (dite P A (fun _ => p) >>= kk) Q) := by
  by_cases h : P
  · rw [dif_pos h]; exact hA h
  · rw [dif_neg h]
    iintro HR Hk
    iapply Hk
    iapply (hB h) $$ HR

/-- A completion still to be waited for; one waited for. -/
def wpend (c : Dev nD) (N n : ℕ) : sProp 𝕄 := iprop(cred (tallyAt (dcell c n) () N) ∗ atPos ER (dcell c n) 0 ∅ 0)
def wdone (c : Dev nD) (n : ℕ) : sProp 𝕄 := iprop(dmaPay m c n ∗ semVal (dcell c n) 0)
/-- A row of waits from `b` on: `j` still to come, from `n`. -/
def wst (c : Dev nD) (N b n j : ℕ) : sProp 𝕄 := iprop(owesE (F := F) c 0 ∗ seg (wpend (F := F) c N) n j ∗ acc (wdone m c) b (n - b))

/-- One wait when nothing is owed. -/
theorem wait0 (K : Dev nD × CIx → ℕ) {Q : α → sProp (MT nD τ sig Unit (Elt F) ℕ UU ℕ)} {k : PUnit → Prog (TpuEff nD τ sig (Elt F) Λ₀ .tc) α} (n : ℕ) (h : 6 ≤ n ∧ n < 97) (hl : live c n) {N : ℕ}
    {sp sp' : Space} {s s' : Shape} {e e' : EltTy} {sem : DmaSem sig} {src : Memref sig .tc sp' s' e'} {dst : Memref sig .tc sp s e} {hsrc : src.view.WordExact} {hdst : dst.view.WordExact}
    (hsem : sem = Fin.ofNat 97 n) (hN : dst.view.dmaCredit = N) (hNa : N = amt n) :
    iprop(env m K ∗ owesE (F := F) c 0 ∗ wpend (F := F) c N n)
      ⊢ iprop(((owesE (F := F) c 0 ∗ wdone m c n) -∗ wpc c (k ⟨⟩) Q) -∗ wpc c (.op (.waitDma2 sem src dst hsrc hdst) k) Q) :=
  wait2 m c K n h hl (src := src) (dst := dst) hsem hN hNa 3 0 (by split_ifs <;> omega) (Above.zero 3)

/-- One wait of a row. -/
theorem w_step (K : Dev nD × CIx → ℕ) {Q : α → sProp (MT nD τ sig Unit (Elt F) ℕ UU ℕ)} {k : PUnit → Prog (TpuEff nD τ sig (Elt F) Λ₀ .tc) α} (b n n' j j' : ℕ) (h : 6 ≤ n ∧ n < 97 ∧ b ≤ n ∧ n' = n + 1 ∧ j = j' + 1) (hl : live c n) {N : ℕ}
    {sp sp' : Space} {s s' : Shape} {e e' : EltTy} {sem : DmaSem sig} {src : Memref sig .tc sp' s' e'} {dst : Memref sig .tc sp s e} {hsrc : src.view.WordExact} {hdst : dst.view.WordExact}
    (hsem : sem = Fin.ofNat 97 n) (hN : dst.view.dmaCredit = N) (hNa : N = amt n) :
    iprop(env m K ∗ wst m c N b n j)
      ⊢ iprop((wst m c N b n' j' -∗ wpc c (k ⟨⟩) Q) -∗ wpc c (.op (.waitDma2 sem src dst hsrc hdst) k) Q) := by
  obtain ⟨h1, h2, hb, rfl, rfl⟩ := h
  obtain ⟨a, rfl⟩ := Nat.exists_eq_add_of_le hb
  unfold wst
  rw [seg_succ, show b + a - b = a by omega, show b + a + 1 - b = a + 1 by omega, show acc (wdone m c) b (a + 1) = iprop(wdone m c (b + a) ∗ acc (wdone m c) b a) from rfl]
  iintro ⟨#HE, HO, ⟨HP, HS⟩, HA⟩ Hk
  iapply (wait0 m c K (b + a) ⟨h1, h2⟩ hl (src := src) (dst := dst) (hsrc := hsrc) (hdst := hdst) (k := k) hsem hN hNa) $$ [HO HP]
  · isplitr; · iexact HE
    isplitl [HO]; · iexact HO
    iexact HP
  iintro ⟨HO, HD⟩
  iapply Hk
  isplitl [HO]; · iexact HO
  isplitl [HS]; · iexact HS
  isplitl [HD]; · iexact HD
  iexact HA

/-- Part 10. -/
theorem part10 (K : Dev nD × CIx → ℕ) {Q : α → sProp (MT nD τ sig Unit (Elt F) ℕ UU ℕ)} {kk : PUnit → Prog (TpuEff nD τ sig (Elt F) Λ₀ .tc) α} :
    iprop(env m K ∗ wst m dev0 NP 82 82 15) ⊢ iprop((wst m dev0 NP 82 85 12 -∗ wpc dev0 (kk ⟨⟩) Q)
      -∗ wpc dev0 (k0_part10 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 >>= kk) Q) := by
  rw [k0_part10_eq_skeleton]
  unfold k0_part10_skel
  simp only [Prog.lift, Prog.bind_op, Prog.bind_ret, Prog.bind_assoc, Prog.pure_eq_ret]
  iintro ⟨#HE, HW⟩ Hc
  iapply (w_step m dev0 K 82 82 83 15 14 (by decide) (Or.inr (Or.inr (Or.inr (Or.inr ⟨by decide, by decide, rfl⟩)))) (N := NP) (dst := paSl 1 inb_S16x2x4x32x65_S1x2x4x32x65_1_0_0_0_0) rfl rfl rfl) $$ [HW]
  · isplitr; · iexact HE
    iexact HW
  iintro HW
  iapply (w_step m dev0 K 82 83 84 14 13 (by decide) (Or.inr (Or.inr (Or.inr (Or.inr ⟨by decide, by decide, rfl⟩)))) (N := NP) (dst := paSl 2 inb_S16x2x4x32x65_S1x2x4x32x65_2_0_0_0_0) rfl rfl rfl) $$ [HW]
  · isplitr; · iexact HE
    iexact HW
  iintro HW
  iapply (w_step m dev0 K 82 84 85 13 12 (by decide) (Or.inr (Or.inr (Or.inr (Or.inr ⟨by decide, by decide, rfl⟩)))) (N := NP) (dst := paSl 3 inb_S16x2x4x32x65_S1x2x4x32x65_3_0_0_0_0) rfl rfl rfl) $$ [HW]
  · isplitr; · iexact HE
    iexact HW
  iintro HW
  iapply Hc $$ HW

/-- Part 11. -/
theorem part11 (K : Dev nD × CIx → ℕ) {Q : α → sProp (MT nD τ sig Unit (Elt F) ℕ UU ℕ)} {kk : PUnit → Prog (TpuEff nD τ sig (Elt F) Λ₀ .tc) α} :
    iprop(env m K ∗ wst m dev0 NP 82 85 12) ⊢ iprop((wst m dev0 NP 82 89 8 -∗ wpc dev0 (kk ⟨⟩) Q)
      -∗ wpc dev0 (k0_part11 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 >>= kk) Q) := by
  rw [k0_part11_eq_skeleton]
  unfold k0_part11_skel
  simp only [Prog.lift, Prog.bind_op, Prog.bind_ret, Prog.bind_assoc, Prog.pure_eq_ret]
  iintro ⟨#HE, HW⟩ Hc
  iapply (w_step m dev0 K 82 85 86 12 11 (by decide) (Or.inr (Or.inr (Or.inr (Or.inr ⟨by decide, by decide, rfl⟩)))) (N := NP) (dst := paSl 4 inb_S16x2x4x32x65_S1x2x4x32x65_4_0_0_0_0) rfl rfl rfl) $$ [HW]
  · isplitr; · iexact HE
    iexact HW
  iintro HW
  iapply (w_step m dev0 K 82 86 87 11 10 (by decide) (Or.inr (Or.inr (Or.inr (Or.inr ⟨by decide, by decide, rfl⟩)))) (N := NP) (dst := paSl 5 inb_S16x2x4x32x65_S1x2x4x32x65_5_0_0_0_0) rfl rfl rfl) $$ [HW]
  · isplitr; · iexact HE
    iexact HW
  iintro HW
  iapply (w_step m dev0 K 82 87 88 10 9 (by decide) (Or.inr (Or.inr (Or.inr (Or.inr ⟨by decide, by decide, rfl⟩)))) (N := NP) (dst := paSl 6 inb_S16x2x4x32x65_S1x2x4x32x65_6_0_0_0_0) rfl rfl rfl) $$ [HW]
  · isplitr; · iexact HE
    iexact HW
  iintro HW
  iapply (w_step m dev0 K 82 88 89 9 8 (by decide) (Or.inr (Or.inr (Or.inr (Or.inr ⟨by decide, by decide, rfl⟩)))) (N := NP) (dst := paSl 7 inb_S16x2x4x32x65_S1x2x4x32x65_7_0_0_0_0) rfl rfl rfl) $$ [HW]
  · isplitr; · iexact HE
    iexact HW
  iintro HW
  iapply Hc $$ HW

/-- Part 12. -/
theorem part12 (K : Dev nD × CIx → ℕ) {Q : α → sProp (MT nD τ sig Unit (Elt F) ℕ UU ℕ)} {kk : PUnit → Prog (TpuEff nD τ sig (Elt F) Λ₀ .tc) α} :
    iprop(env m K ∗ wst m dev0 NP 82 89 8) ⊢ iprop((wst m dev0 NP 82 92 5 -∗ wpc dev0 (kk ⟨⟩) Q)
      -∗ wpc dev0 (k0_part12 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 >>= kk) Q) := by
  rw [k0_part12_eq_skeleton]
  unfold k0_part12_skel
  simp only [Prog.lift, Prog.bind_op, Prog.bind_ret, Prog.bind_assoc, Prog.pure_eq_ret]
  iintro ⟨#HE, HW⟩ Hc
  iapply (w_step m dev0 K 82 89 90 8 7 (by decide) (Or.inr (Or.inr (Or.inr (Or.inr ⟨by decide, by decide, rfl⟩)))) (N := NP) (dst := paSl 8 inb_S16x2x4x32x65_S1x2x4x32x65_8_0_0_0_0) rfl rfl rfl) $$ [HW]
  · isplitr; · iexact HE
    iexact HW
  iintro HW
  iapply (w_step m dev0 K 82 90 91 7 6 (by decide) (Or.inr (Or.inr (Or.inr (Or.inr ⟨by decide, by decide, rfl⟩)))) (N := NP) (dst := paSl 9 inb_S16x2x4x32x65_S1x2x4x32x65_9_0_0_0_0) rfl rfl rfl) $$ [HW]
  · isplitr; · iexact HE
    iexact HW
  iintro HW
  iapply (w_step m dev0 K 82 91 92 6 5 (by decide) (Or.inr (Or.inr (Or.inr (Or.inr ⟨by decide, by decide, rfl⟩)))) (N := NP) (dst := paSl 10 inb_S16x2x4x32x65_S1x2x4x32x65_10_0_0_0_0) rfl rfl rfl) $$ [HW]
  · isplitr; · iexact HE
    iexact HW
  iintro HW
  iapply Hc $$ HW

/-- Part 13. -/
theorem part13 (K : Dev nD × CIx → ℕ) {Q : α → sProp (MT nD τ sig Unit (Elt F) ℕ UU ℕ)} {kk : PUnit → Prog (TpuEff nD τ sig (Elt F) Λ₀ .tc) α} :
    iprop(env m K ∗ wst m dev0 NP 82 92 5) ⊢ iprop((wst m dev0 NP 82 96 1 -∗ wpc dev0 (kk ⟨⟩) Q)
      -∗ wpc dev0 (k0_part13 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 >>= kk) Q) := by
  rw [k0_part13_eq_skeleton]
  unfold k0_part13_skel
  simp only [Prog.lift, Prog.bind_op, Prog.bind_ret, Prog.bind_assoc, Prog.pure_eq_ret]
  iintro ⟨#HE, HW⟩ Hc
  iapply (w_step m dev0 K 82 92 93 5 4 (by decide) (Or.inr (Or.inr (Or.inr (Or.inr ⟨by decide, by decide, rfl⟩)))) (N := NP) (dst := paSl 11 inb_S16x2x4x32x65_S1x2x4x32x65_11_0_0_0_0) rfl rfl rfl) $$ [HW]
  · isplitr; · iexact HE
    iexact HW
  iintro HW
  iapply (w_step m dev0 K 82 93 94 4 3 (by decide) (Or.inr (Or.inr (Or.inr (Or.inr ⟨by decide, by decide, rfl⟩)))) (N := NP) (dst := paSl 12 inb_S16x2x4x32x65_S1x2x4x32x65_12_0_0_0_0) rfl rfl rfl) $$ [HW]
  · isplitr; · iexact HE
    iexact HW
  iintro HW
  iapply (w_step m dev0 K 82 94 95 3 2 (by decide) (Or.inr (Or.inr (Or.inr (Or.inr ⟨by decide, by decide, rfl⟩)))) (N := NP) (dst := paSl 13 inb_S16x2x4x32x65_S1x2x4x32x65_13_0_0_0_0) rfl rfl rfl) $$ [HW]
  · isplitr; · iexact HE
    iexact HW
  iintro HW
  iapply (w_step m dev0 K 82 95 96 2 1 (by decide) (Or.inr (Or.inr (Or.inr (Or.inr ⟨by decide, by decide, rfl⟩)))) (N := NP) (dst := paSl 14 inb_S16x2x4x32x65_S1x2x4x32x65_14_0_0_0_0) rfl rfl rfl) $$ [HW]
  · isplitr; · iexact HE
    iexact HW
  iintro HW
  iapply Hc $$ HW

/-- Part 15. -/
theorem part15 (K : Dev nD × CIx → ℕ) {Q : α → sProp (MT nD τ sig Unit (Elt F) ℕ UU ℕ)} {kk : PUnit → Prog (TpuEff nD τ sig (Elt F) Λ₀ .tc) α} :
    iprop(env m K ∗ wst m dev0 NG 17 17 45) ⊢ iprop((wst m dev0 NG 17 25 37 -∗ wpc dev0 (kk ⟨⟩) Q)
      -∗ wpc dev0 (k0_part15 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 >>= kk) Q) := by
  rw [k0_part15_eq_skeleton]
  unfold k0_part15_skel
  simp only [Prog.lift, Prog.bind_op, Prog.bind_ret, Prog.bind_assoc, Prog.pure_eq_ret]
  iintro ⟨#HE, HW⟩ Hc
  iapply (w_step m dev0 K 17 17 18 45 44 (by decide) (Or.inr (Or.inl ⟨by decide, by decide, rfl⟩)) (N := NG) (dst := kgM) rfl rfl rfl) $$ [HW]
  · isplitr; · iexact HE
    iexact HW
  iintro HW
  iapply (w_step m dev0 K 17 18 19 44 43 (by decide) (Or.inr (Or.inl ⟨by decide, by decide, rfl⟩)) (N := NG) (dst := vgM) rfl rfl rfl) $$ [HW]
  · isplitr; · iexact HE
    iexact HW
  iintro HW
  iapply (w_step m dev0 K 17 19 20 43 42 (by decide) (Or.inr (Or.inl ⟨by decide, by decide, rfl⟩)) (N := NG) (dst := qgM) rfl rfl rfl) $$ [HW]
  · isplitr; · iexact HE
    iexact HW
  iintro HW
  iapply (w_step m dev0 K 17 20 21 42 41 (by decide) (Or.inr (Or.inl ⟨by decide, by decide, rfl⟩)) (N := NG) (dst := kgM) rfl rfl rfl) $$ [HW]
  · isplitr; · iexact HE
    iexact HW
  iintro HW
  iapply (w_step m dev0 K 17 21 22 41 40 (by decide) (Or.inr (Or.inl ⟨by decide, by decide, rfl⟩)) (N := NG) (dst := vgM) rfl rfl rfl) $$ [HW]
  · isplitr; · iexact HE
    iexact HW
  iintro HW
  iapply (w_step m dev0 K 17 22 23 40 39 (by decide) (Or.inr (Or.inl ⟨by decide, by decide, rfl⟩)) (N := NG) (dst := qgM) rfl rfl rfl) $$ [HW]
  · isplitr; · iexact HE
    iexact HW
  iintro HW
  iapply (w_step m dev0 K 17 23 24 39 38 (by decide) (Or.inr (Or.inl ⟨by decide, by decide, rfl⟩)) (N := NG) (dst := kgM) rfl rfl rfl) $$ [HW]
  · isplitr; · iexact HE
    iexact HW
  iintro HW
  iapply (w_step m dev0 K 17 24 25 38 37 (by decide) (Or.inr (Or.inl ⟨by decide, by decide, rfl⟩)) (N := NG) (dst := vgM) rfl rfl rfl) $$ [HW]
  · isplitr; · iexact HE
    iexact HW
  iintro HW
  iapply Hc $$ HW

/-- Part 16. -/
theorem part16 (K : Dev nD × CIx → ℕ) {Q : α → sProp (MT nD τ sig Unit (Elt F) ℕ UU ℕ)} {kk : PUnit → Prog (TpuEff nD τ sig (Elt F) Λ₀ .tc) α} :
    iprop(env m K ∗ wst m dev0 NG 17 25 37) ⊢ iprop((wst m dev0 NG 17 34 28 -∗ wpc dev0 (kk ⟨⟩) Q)
      -∗ wpc dev0 (k0_part16 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 >>= kk) Q) := by
  rw [k0_part16_eq_skeleton]
  unfold k0_part16_skel
  simp only [Prog.lift, Prog.bind_op, Prog.bind_ret, Prog.bind_assoc, Prog.pure_eq_ret]
  iintro ⟨#HE, HW⟩ Hc
  iapply (w_step m dev0 K 17 25 26 37 36 (by decide) (Or.inr (Or.inl ⟨by decide, by decide, rfl⟩)) (N := NG) (dst := qgM) rfl rfl rfl) $$ [HW]
  · isplitr; · iexact HE
    iexact HW
  iintro HW
  iapply (w_step m dev0 K 17 26 27 36 35 (by decide) (Or.inr (Or.inl ⟨by decide, by decide, rfl⟩)) (N := NG) (dst := kgM) rfl rfl rfl) $$ [HW]
  · isplitr; · iexact HE
    iexact HW
  iintro HW
  iapply (w_step m dev0 K 17 27 28 35 34 (by decide) (Or.inr (Or.inl ⟨by decide, by decide, rfl⟩)) (N := NG) (dst := vgM) rfl rfl rfl) $$ [HW]
  · isplitr; · iexact HE
    iexact HW
  iintro HW
  iapply (w_step m dev0 K 17 28 29 34 33 (by decide) (Or.inr (Or.inl ⟨by decide, by decide, rfl⟩)) (N := NG) (dst := qgM) rfl rfl rfl) $$ [HW]
  · isplitr; · iexact HE
    iexact HW
  iintro HW
  iapply (w_step m dev0 K 17 29 30 33 32 (by decide) (Or.inr (Or.inl ⟨by decide, by decide, rfl⟩)) (N := NG) (dst := kgM) rfl rfl rfl) $$ [HW]
  · isplitr; · iexact HE
    iexact HW
  iintro HW
  iapply (w_step m dev0 K 17 30 31 32 31 (by decide) (Or.inr (Or.inl ⟨by decide, by decide, rfl⟩)) (N := NG) (dst := vgM) rfl rfl rfl) $$ [HW]
  · isplitr; · iexact HE
    iexact HW
  iintro HW
  iapply (w_step m dev0 K 17 31 32 31 30 (by decide) (Or.inr (Or.inl ⟨by decide, by decide, rfl⟩)) (N := NG) (dst := qgM) rfl rfl rfl) $$ [HW]
  · isplitr; · iexact HE
    iexact HW
  iintro HW
  iapply (w_step m dev0 K 17 32 33 30 29 (by decide) (Or.inr (Or.inl ⟨by decide, by decide, rfl⟩)) (N := NG) (dst := kgM) rfl rfl rfl) $$ [HW]
  · isplitr; · iexact HE
    iexact HW
  iintro HW
  iapply (w_step m dev0 K 17 33 34 29 28 (by decide) (Or.inr (Or.inl ⟨by decide, by decide, rfl⟩)) (N := NG) (dst := vgM) rfl rfl rfl) $$ [HW]
  · isplitr; · iexact HE
    iexact HW
  iintro HW
  iapply Hc $$ HW

/-- Part 17. -/
theorem part17 (K : Dev nD × CIx → ℕ) {Q : α → sProp (MT nD τ sig Unit (Elt F) ℕ UU ℕ)} {kk : PUnit → Prog (TpuEff nD τ sig (Elt F) Λ₀ .tc) α} :
    iprop(env m K ∗ wst m dev0 NG 17 34 28) ⊢ iprop((wst m dev0 NG 17 42 20 -∗ wpc dev0 (kk ⟨⟩) Q)
      -∗ wpc dev0 (k0_part17 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 >>= kk) Q) := by
  rw [k0_part17_eq_skeleton]
  unfold k0_part17_skel
  simp only [Prog.lift, Prog.bind_op, Prog.bind_ret, Prog.bind_assoc, Prog.pure_eq_ret]
  iintro ⟨#HE, HW⟩ Hc
  iapply (w_step m dev0 K 17 34 35 28 27 (by decide) (Or.inr (Or.inl ⟨by decide, by decide, rfl⟩)) (N := NG) (dst := qgM) rfl rfl rfl) $$ [HW]
  · isplitr; · iexact HE
    iexact HW
  iintro HW
  iapply (w_step m dev0 K 17 35 36 27 26 (by decide) (Or.inr (Or.inl ⟨by decide, by decide, rfl⟩)) (N := NG) (dst := kgM) rfl rfl rfl) $$ [HW]
  · isplitr; · iexact HE
    iexact HW
  iintro HW
  iapply (w_step m dev0 K 17 36 37 26 25 (by decide) (Or.inr (Or.inl ⟨by decide, by decide, rfl⟩)) (N := NG) (dst := vgM) rfl rfl rfl) $$ [HW]
  · isplitr; · iexact HE
    iexact HW
  iintro HW
  iapply (w_step m dev0 K 17 37 38 25 24 (by decide) (Or.inr (Or.inl ⟨by decide, by decide, rfl⟩)) (N := NG) (dst := qgM) rfl rfl rfl) $$ [HW]
  · isplitr; · iexact HE
    iexact HW
  iintro HW
  iapply (w_step m dev0 K 17 38 39 24 23 (by decide) (Or.inr (Or.inl ⟨by decide, by decide, rfl⟩)) (N := NG) (dst := kgM) rfl rfl rfl) $$ [HW]
  · isplitr; · iexact HE
    iexact HW
  iintro HW
  iapply (w_step m dev0 K 17 39 40 23 22 (by decide) (Or.inr (Or.inl ⟨by decide, by decide, rfl⟩)) (N := NG) (dst := vgM) rfl rfl rfl) $$ [HW]
  · isplitr; · iexact HE
    iexact HW
  iintro HW
  iapply (w_step m dev0 K 17 40 41 22 21 (by decide) (Or.inr (Or.inl ⟨by decide, by decide, rfl⟩)) (N := NG) (dst := qgM) rfl rfl rfl) $$ [HW]
  · isplitr; · iexact HE
    iexact HW
  iintro HW
  iapply (w_step m dev0 K 17 41 42 21 20 (by decide) (Or.inr (Or.inl ⟨by decide, by decide, rfl⟩)) (N := NG) (dst := kgM) rfl rfl rfl) $$ [HW]
  · isplitr; · iexact HE
    iexact HW
  iintro HW
  iapply Hc $$ HW

/-- Part 18. -/
theorem part18 (K : Dev nD × CIx → ℕ) {Q : α → sProp (MT nD τ sig Unit (Elt F) ℕ UU ℕ)} {kk : PUnit → Prog (TpuEff nD τ sig (Elt F) Λ₀ .tc) α} :
    iprop(env m K ∗ wst m dev0 NG 17 42 20) ⊢ iprop((wst m dev0 NG 17 51 11 -∗ wpc dev0 (kk ⟨⟩) Q)
      -∗ wpc dev0 (k0_part18 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 >>= kk) Q) := by
  rw [k0_part18_eq_skeleton]
  unfold k0_part18_skel
  simp only [Prog.lift, Prog.bind_op, Prog.bind_ret, Prog.bind_assoc, Prog.pure_eq_ret]
  iintro ⟨#HE, HW⟩ Hc
  iapply (w_step m dev0 K 17 42 43 20 19 (by decide) (Or.inr (Or.inl ⟨by decide, by decide, rfl⟩)) (N := NG) (dst := vgM) rfl rfl rfl) $$ [HW]
  · isplitr; · iexact HE
    iexact HW
  iintro HW
  iapply (w_step m dev0 K 17 43 44 19 18 (by decide) (Or.inr (Or.inl ⟨by decide, by decide, rfl⟩)) (N := NG) (dst := qgM) rfl rfl rfl) $$ [HW]
  · isplitr; · iexact HE
    iexact HW
  iintro HW
  iapply (w_step m dev0 K 17 44 45 18 17 (by decide) (Or.inr (Or.inl ⟨by decide, by decide, rfl⟩)) (N := NG) (dst := kgM) rfl rfl rfl) $$ [HW]
  · isplitr; · iexact HE
    iexact HW
  iintro HW
  iapply (w_step m dev0 K 17 45 46 17 16 (by decide) (Or.inr (Or.inl ⟨by decide, by decide, rfl⟩)) (N := NG) (dst := vgM) rfl rfl rfl) $$ [HW]
  · isplitr; · iexact HE
    iexact HW
  iintro HW
  iapply (w_step m dev0 K 17 46 47 16 15 (by decide) (Or.inr (Or.inl ⟨by decide, by decide, rfl⟩)) (N := NG) (dst := qgM) rfl rfl rfl) $$ [HW]
  · isplitr; · iexact HE
    iexact HW
  iintro HW
  iapply (w_step m dev0 K 17 47 48 15 14 (by decide) (Or.inr (Or.inl ⟨by decide, by decide, rfl⟩)) (N := NG) (dst := kgM) rfl rfl rfl) $$ [HW]
  · isplitr; · iexact HE
    iexact HW
  iintro HW
  iapply (w_step m dev0 K 17 48 49 14 13 (by decide) (Or.inr (Or.inl ⟨by decide, by decide, rfl⟩)) (N := NG) (dst := vgM) rfl rfl rfl) $$ [HW]
  · isplitr; · iexact HE
    iexact HW
  iintro HW
  iapply (w_step m dev0 K 17 49 50 13 12 (by decide) (Or.inr (Or.inl ⟨by decide, by decide, rfl⟩)) (N := NG) (dst := qgM) rfl rfl rfl) $$ [HW]
  · isplitr; · iexact HE
    iexact HW
  iintro HW
  iapply (w_step m dev0 K 17 50 51 12 11 (by decide) (Or.inr (Or.inl ⟨by decide, by decide, rfl⟩)) (N := NG) (dst := kgM) rfl rfl rfl) $$ [HW]
  · isplitr; · iexact HE
    iexact HW
  iintro HW
  iapply Hc $$ HW

/-- Part 19. -/
theorem part19 (K : Dev nD × CIx → ℕ) {Q : α → sProp (MT nD τ sig Unit (Elt F) ℕ UU ℕ)} {kk : PUnit → Prog (TpuEff nD τ sig (Elt F) Λ₀ .tc) α} :
    iprop(env m K ∗ wst m dev0 NG 17 51 11) ⊢ iprop((wst m dev0 NG 17 59 3 -∗ wpc dev0 (kk ⟨⟩) Q)
      -∗ wpc dev0 (k0_part19 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 >>= kk) Q) := by
  rw [k0_part19_eq_skeleton]
  unfold k0_part19_skel
  simp only [Prog.lift, Prog.bind_op, Prog.bind_ret, Prog.bind_assoc, Prog.pure_eq_ret]
  iintro ⟨#HE, HW⟩ Hc
  iapply (w_step m dev0 K 17 51 52 11 10 (by decide) (Or.inr (Or.inl ⟨by decide, by decide, rfl⟩)) (N := NG) (dst := vgM) rfl rfl rfl) $$ [HW]
  · isplitr; · iexact HE
    iexact HW
  iintro HW
  iapply (w_step m dev0 K 17 52 53 10 9 (by decide) (Or.inr (Or.inl ⟨by decide, by decide, rfl⟩)) (N := NG) (dst := qgM) rfl rfl rfl) $$ [HW]
  · isplitr; · iexact HE
    iexact HW
  iintro HW
  iapply (w_step m dev0 K 17 53 54 9 8 (by decide) (Or.inr (Or.inl ⟨by decide, by decide, rfl⟩)) (N := NG) (dst := kgM) rfl rfl rfl) $$ [HW]
  · isplitr; · iexact HE
    iexact HW
  iintro HW
  iapply (w_step m dev0 K 17 54 55 8 7 (by decide) (Or.inr (Or.inl ⟨by decide, by decide, rfl⟩)) (N := NG) (dst := vgM) rfl rfl rfl) $$ [HW]
  · isplitr; · iexact HE
    iexact HW
  iintro HW
  iapply (w_step m dev0 K 17 55 56 7 6 (by decide) (Or.inr (Or.inl ⟨by decide, by decide, rfl⟩)) (N := NG) (dst := qgM) rfl rfl rfl) $$ [HW]
  · isplitr; · iexact HE
    iexact HW
  iintro HW
  iapply (w_step m dev0 K 17 56 57 6 5 (by decide) (Or.inr (Or.inl ⟨by decide, by decide, rfl⟩)) (N := NG) (dst := kgM) rfl rfl rfl) $$ [HW]
  · isplitr; · iexact HE
    iexact HW
  iintro HW
  iapply (w_step m dev0 K 17 57 58 5 4 (by decide) (Or.inr (Or.inl ⟨by decide, by decide, rfl⟩)) (N := NG) (dst := vgM) rfl rfl rfl) $$ [HW]
  · isplitr; · iexact HE
    iexact HW
  iintro HW
  iapply (w_step m dev0 K 17 58 59 4 3 (by decide) (Or.inr (Or.inl ⟨by decide, by decide, rfl⟩)) (N := NG) (dst := qgM) rfl rfl rfl) $$ [HW]
  · isplitr; · iexact HE
    iexact HW
  iintro HW
  iapply Hc $$ HW

/-- A buffer is its slots. -/
theorem pts_slots {n : ℕ} (ℓ : Loc nD τ sig) {q : PosShare TreeShare} {f : Buf (Elt F) ℓ} (S : ℕ → Finset (Idx ℓ)) (hu : ∀ i, ∃ s ∈ Finset.range n, i ∈ S s) (hd : ∀ s s', s ≠ s' → Disjoint (S s) (S s')) :
    (ℓ ↦{q} f : sProp 𝕄) = bigSep (Finset.range n) fun s => ℓ ↦[S s]{q} f := by
  classical
  have e : (Finset.univ : Finset (Idx ℓ)) = (Finset.range n).biUnion S := by
    ext i
    simp only [Finset.mem_univ, Finset.mem_biUnion, true_iff]
    exact hu i
  rw [e]
  exact pointsTo_biUnion (Finset.range n) S (fun t _ t' _ h => hd t t' h)
/-- Every partial result is in some device's place. -/
theorem pa_cover (i : S16x2x4x32x65.Idx) : ∃ s ∈ Finset.range 16, i ∈ paSet s :=
  ⟨(i 0).val, Finset.mem_range.mpr (i 0).isLt, Finset.mem_filter.mpr ⟨Finset.mem_univ _, rfl⟩⟩
/-- Every element of a ring buffer is in some slot. -/
theorem slot_cover (i : S3x2x4x128x64.Idx) : ∃ s ∈ Finset.range 3, i ∈ slotSet s :=
  ⟨(i 0).val, Finset.mem_range.mpr (i 0).isLt, Finset.mem_filter.mpr ⟨Finset.mem_univ _, rfl⟩⟩

/-- Device 0's gathered sums, all sixteen slots in one. -/
theorem pa_join : iprop(paSlot m 0 ∗ seg (dmaPay m dev0) 82 15) ⊢ (paM.view.loc (dev0 : Thread nD τ) ↦{fullShare} PA m : sProp 𝕄) := by
  have e1 : seg (dmaPay m dev0) 82 15 = bigSep (Finset.Ico 1 16) (paSlot m) := by
    rw [← seg_eq (paSlot m) 1 15]; rfl
  have e2 : iprop(paSlot m 0 ∗ bigSep (Finset.Ico 1 16) (paSlot m)) = bigSep (Finset.range 16) (paSlot m) := by
    rw [Finset.range_eq_Ico, bigSep_Ico_succ_bot (by decide : 0 < 16)]
  have e3 : (paM.view.loc (dev0 : Thread nD τ) ↦{fullShare} PA m : sProp 𝕄) = bigSep (Finset.range 16) (paSlot m) := by
    exact pts_slots (paM.view.loc (dev0 : Thread nD τ)) paSet pa_cover (fun t t' h => pa_disj h)
  rw [e1, e2, e3]

/-- What device 0 holds of the gathered sums once they are in. -/
def paIn : sProp 𝕄 := iprop((paM.view.loc (dev0 : Thread nD τ) ↦{fullShare} PA m) ∗ seg (fun n => semVal (dcell dev0 n) 0) 82 15)

/-- Part 14: the sums gathered, the global rows of the first batch stored. -/
theorem part14 (K : Dev nD × CIx → ℕ) {Q : α → sProp (MT nD τ sig Unit (Elt F) ℕ UU ℕ)} {kk : FVec F S32x512 .f32 → Prog (TpuEff nD τ sig (Elt F) Λ₀ .tc) α} :
    iprop(env m K ∗ wst m dev0 NP 82 82 15 ∗ paSlot m 0 ∗ (oM.view.loc (dev0 : Thread nD τ) ↦{fullShare} out2 m dev0))
      ⊢ iprop(((owesE (F := F) dev0 0 ∗ paIn m ∗ (oM.view.loc (dev0 : Thread nD τ) ↦{fullShare} out3 m dev0)) -∗ wpc dev0 (kk (k0_pay3 (wo m dev0) (PA m))) Q)
      -∗ wpc dev0 (k0_part14 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (wo m dev0) >>= kk) Q) := by
  rw [k0_part14_eq_skeleton]
  unfold k0_part14_skel
  simp only [Prog.lift, Prog.bind_op, Prog.bind_ret, Prog.bind_assoc, Prog.pure_eq_ret]
  iintro ⟨#HE, HW, H0, Ho⟩ Hc
  iapply (part10 m K) $$ [HW]
  · isplitr; · iexact HE
    iexact HW
  iintro HW
  iapply (part11 m K) $$ [HW]
  · isplitr; · iexact HE
    iexact HW
  iintro HW
  iapply (part12 m K) $$ [HW]
  · isplitr; · iexact HE
    iexact HW
  iintro HW
  iapply (part13 m K) $$ [HW]
  · isplitr; · iexact HE
    iexact HW
  iintro HW
  iapply (w_step m dev0 K 82 96 97 1 0 (by decide) (Or.inr (Or.inr (Or.inr (Or.inr ⟨by decide, by decide, rfl⟩)))) (N := NP) (dst := paSl 15 inb_S16x2x4x32x65_S1x2x4x32x65_15_0_0_0_0) rfl rfl rfl) $$ [HW]
  · isplitr; · iexact HE
    iexact HW
  iintro HW
  ihave HW' := (Entails.of_eq (show wst m dev0 NP 82 97 0 = iprop(owesE (F := F) dev0 0 ∗ emp ∗ (seg (dmaPay m dev0) 82 15 ∗ seg (fun n => semVal (dcell dev0 n) 0) 82 15)) from by
    rw [← seg_sep, seg_acc]; rfl)) $$ HW
  icases HW' with ⟨HO, -, HD, HS⟩
  ihave HP := (pa_join m) $$ [H0 HD]
  · isplitl [H0]; · iexact H0
    iexact HD
  iapply (ld_all dev0 (M := paM)) $$ HP
  iintro HP
  rw [show paM.view.readAt (Elt F) (Rect.unit (s := S16x2x4x32x65) ![0, 0, 0, 0, 0] S16x2x4x32x65.size inb_S16x2x4x32x65_S16x2x4x32x65_0_0_0_0_0).toLoadRect (PA m) = PA m from
    Memref.readAt_unit_zero (Elt F) cc0_scratch6 (by funext a; fin_cases a <;> rfl) _ _]
  iapply (ld_all dev0 (M := oM)) $$ Ho
  iintro Ho
  iapply (st_out dev0 0 S1x32x512.size inb_S2x128x512_S1x32x512_0_0_0 rfl rfl (w := OG0 m dev0) (f := out2 m dev0) (out3 m dev0) (fun x => out3_in m dev0 x _) (out3_off m dev0)) $$ Ho
  iintro Ho
  iapply (ld_all dev0 (M := oM)) $$ Ho
  iintro Ho
  iapply Hc
  isplitl [HO]; · iexact HO
  isplitl [HP HS]
  · unfold paIn
    isplitl [HP]; · iexact HP
    iexact HS
  iexact Ho

/-- What device 0 holds of the gathered sums before they are all in. -/
def paOut : sProp 𝕄 := iprop(paSlot m 0 ∗ seg (wpend (F := F) dev0 NP) 82 15)

/-- Part 46: the second batch's rows, the global rows on device 0, the first two halo sends back. -/
theorem part46 (K : Dev nD × CIx → ℕ) {Q : α → sProp (MT nD τ sig Unit (Elt F) ℕ UU ℕ)} {kk : PUnit → Prog (TpuEff nD τ sig (Elt F) Λ₀ .tc) α} (f : (cc0_stg5_0 : Ref sig .tc).ty.Contents (Elt F)) :
    iprop(env m K ∗ (oM.view.loc (c : Thread nD τ) ↦{fullShare} out1 m c f) ∗ owesE (F := F) c 0 ∗ when (c = dev0) (paOut m) ∗ wpend (F := F) c NK 6 ∗ wpend (F := F) c NK 7)
      ⊢ iprop((((oM.view.loc (c : Thread nD τ) ↦{fullShare} outAt m c) ∗ owesE (F := F) c 0 ∗ when (c = dev0) (paIn m) ∗ wdone m c 6 ∗ wdone m c 7) -∗ wpc c (kk ⟨⟩) Q)
      -∗ wpc c (k0_part46 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (dw c) (wo m c) (o593 m c) (o629 m c) (o665 m c) (o691 m c) (o700 m c) >>= kk) Q) := by
  rw [k0_part46_eq_skeleton]
  unfold k0_part46_skel
  simp only [Prog.lift, Prog.bind_op, Prog.bind_ret, Prog.bind_assoc, Prog.pure_eq_ret]
  iintro ⟨#HE, Ho, HO, HP, H6, H7⟩ Hc
  iapply (ld_all c (M := oM)) $$ Ho
  iintro Ho
  iapply (st_out c 1 S1x128x512.size inb_S2x128x512_S1x128x512_1_0_0 rfl rfl (w := OB1 m c) (f := out1 m c f) (out2 m c) (fun x => out2_in m c x _) (out2_off m c f)) $$ Ho
  iintro Ho
  iapply (wp_if c iprop(env m K ∗ owesE (F := F) c 0 ∗ when (c = dev0) (paOut m) ∗ (oM.view.loc (c : Thread nD τ) ↦{fullShare} out2 m c))
    iprop((oM.view.loc (c : Thread nD τ) ↦{fullShare} outAt m c) ∗ owesE (F := F) c 0 ∗ when (c = dev0) (paIn m)) ?hA ?hB) $$ [HO HP Ho]
  case hA =>
    intro h
    have hc : c = dev0 := Fin.ext ((cond_eq c 0).mp h)
    subst hc
    rw [when_pos rfl, when_pos rfl]
    simp only [Prog.lift, Prog.bind_op, Prog.bind_ret, Prog.bind_assoc, Prog.pure_eq_ret]
    unfold paOut
    iintro ⟨#HE, HO, ⟨H0, HS⟩, Ho⟩ Hc
    iapply (part14 m K) $$ [HO H0 HS Ho]
    · isplitr; · iexact HE
      isplitl [HO HS]
      · unfold wst
        isplitl [HO]; · iexact HO
        isplitl [HS]; · iexact HS
        rw [show acc (wdone m dev0) 82 (82 - 82) = iprop(emp) from rfl]
        iempintro
      isplitl [H0]; · iexact H0
      iexact Ho
    iintro ⟨HO, HP, Ho⟩
    iapply (st_out dev0 1 S1x32x512.size inb_S2x128x512_S1x32x512_1_0_0 rfl rfl (w := OG1 m dev0) (f := out3 m dev0) (out4 m dev0) (fun x => out4_in m dev0 x _) (out4_off m dev0)) $$ Ho
    iintro Ho
    iapply Hc
    isplitl [Ho]
    · rw [show outAt m dev0 = out4 m dev0 from if_pos rfl]; iexact Ho
    isplitl [HO]; · iexact HO
    iexact HP
  case hB =>
    intro h
    have hc : c ≠ dev0 := fun e => h ((cond_eq c 0).mpr (by rw [e]; rfl))
    rw [when_neg hc, when_neg hc]
    iintro ⟨#HE, HO, -, Ho⟩
    isplitl [Ho]
    · rw [show outAt m c = out2 m c from if_neg hc]; iexact Ho
    isplitl [HO]; · iexact HO
    iempintro
  · isplitr; · iexact HE
    isplitl [HO]; · iexact HO
    isplitl [HP]; · iexact HP
    iexact Ho
  iintro ⟨Ho, HO, HP⟩
  simp only [Prog.lift, Prog.bind_op, Prog.bind_ret, Prog.bind_assoc, Prog.pure_eq_ret]
  iapply (wait0 m c K 6 (by decide) (Or.inl (by decide)) (N := NK) (dst := kSl 1 inb_S3x2x4x128x64_S1x2x4x128x64_1_0_0_0_0) rfl rfl rfl) $$ [HO H6]
  · isplitr; · iexact HE
    isplitl [HO]; · iexact HO
    iexact H6
  iintro ⟨HO, D6⟩
  iapply (wait0 m c K 7 (by decide) (Or.inl (by decide)) (N := NK) (dst := vSl 1 inb_S3x2x4x128x64_S1x2x4x128x64_1_0_0_0_0) rfl rfl rfl) $$ [HO H7]
  · isplitr; · iexact HE
    isplitl [HO]; · iexact HO
    iexact H7
  iintro ⟨HO, D7⟩
  iapply Hc
  isplitl [Ho]; · iexact Ho
  isplitl [HO]; · iexact HO
  isplitl [HP]; · iexact HP
  isplitl [D6]; · iexact D6
  iexact D7

/-- The wait for a device's own partial sums: done if the device's place is below `k`. -/
def psSt (c : Dev nD) (k : ℕ) : sProp 𝕄 := when (c ≠ dev0) iprop(if c.val < k then wdone m c (65 + c.val) else wpend (F := F) c NP (65 + c.val))

/-- The wait of the device in place `s`. -/
theorem ps_step (K : Dev nD × CIx → ℕ) {Q : α → sProp (MT nD τ sig Unit (Elt F) ℕ UU ℕ)} {β : Type} {kk : β → Prog (TpuEff nD τ sig (Elt F) Λ₀ .tc) α} {p : Prog (TpuEff nD τ sig (Elt F) Λ₀ .tc) β} (s s' : ℕ) (hs : 1 ≤ s ∧ s < 16 ∧ s' = s + 1) {P : Prop} [Decidable P] (hP : P ↔ c.val = s)
    {sp' : Space} {sh : Shape} {e' : EltTy} {sem : DmaSem sig} {src : Memref sig .tc sp' sh e'} {hsrc : src.view.WordExact} {hdst : ppM.view.WordExact} (hsem : sem = Fin.ofNat 97 (65 + s)) :
    iprop(env m K ∗ owesE (F := F) c 0 ∗ psSt m c s)
      ⊢ iprop(((env m K ∗ owesE (F := F) c 0 ∗ psSt m c s') -∗ wpc c (p >>= kk) Q)
        -∗ wpc c (dite P (fun _ => .op (.waitDma2 sem src ppM hsrc hdst) (fun _ => p)) (fun _ => p) >>= kk) Q) := by
  obtain ⟨h1, h2, rfl⟩ := hs
  refine wp_if c _ _ (fun h => ?_) (fun h => ?_)
  · have hc := hP.mp h
    have hc0 : c ≠ dev0 := fun e => by rw [e] at hc; exact absurd hc (by show ¬(0 = s); omega)
    have e1 : psSt m c s = wpend (F := F) c NP (65 + s) := by unfold psSt; rw [when_pos hc0, if_neg (by omega), hc]
    have e2 : psSt m c (s + 1) = wdone m c (65 + s) := by unfold psSt; rw [when_pos hc0, if_pos (by omega), hc]
    rw [e1, e2]
    simp only [Prog.lift, Prog.bind_op, Prog.bind_ret, Prog.bind_assoc, Prog.pure_eq_ret]
    iintro ⟨#HE, HO, HP⟩ Hc
    iapply (wait0 m c K (65 + s) (by omega) (Or.inr (Or.inr (Or.inr (Or.inl ⟨by omega, by omega⟩)))) (N := NP) (src := src) (dst := ppM) (hsrc := hsrc) (hdst := hdst) (k := fun _ => p >>= kk) hsem rfl (by unfold amt; rw [if_neg (by omega), if_neg (by omega)])) $$ [HO HP]
    · isplitr; · iexact HE
      isplitl [HO]; · iexact HO
      iexact HP
    iintro ⟨HO, HD⟩
    iapply Hc
    isplitr; · iexact HE
    isplitl [HO]; · iexact HO
    iexact HD
  · have hc : c.val ≠ s := fun e => h (hP.mpr e)
    have e : psSt m c (s + 1) = psSt m c s := by
      unfold psSt
      congr 1
      by_cases hlt : c.val < s
      · rw [if_pos hlt, if_pos (by omega)]
      · rw [if_neg hlt, if_neg (by omega)]
    rw [e]

/-- Part 47: the last two halo sends back, and the partial sums of devices 1 to 3. -/
theorem part47 (K : Dev nD × CIx → ℕ) {Q : α → sProp (MT nD τ sig Unit (Elt F) ℕ UU ℕ)} {kk : BitVec 32 → Prog (TpuEff nD τ sig (Elt F) Λ₀ .tc) α} :
    iprop(env m K ∗ owesE (F := F) c 0 ∗ psSt m c 1 ∗ wpend (F := F) c NK 8 ∗ wpend (F := F) c NK 9)
      ⊢ iprop(((owesE (F := F) c 0 ∗ psSt m c 4 ∗ wdone m c 8 ∗ wdone m c 9) -∗ wpc c (kk (Scalar.extui (Scalar.cmpi .eq (dw c) 4#32))) Q)
      -∗ wpc c (k0_part47 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (dw c) >>= kk) Q) := by
  rw [k0_part47_eq_skeleton]
  unfold k0_part47_skel
  simp only [Prog.lift, Prog.bind_op, Prog.bind_ret, Prog.bind_assoc, Prog.pure_eq_ret]
  iintro ⟨#HE, HO, HP, H8, H9⟩ Hc
  iapply (wait0 m c K 8 (by decide) (Or.inl (by decide)) (N := NK) (dst := kSl 1 inb_S3x2x4x128x64_S1x2x4x128x64_1_0_0_0_0) rfl rfl rfl) $$ [HO H8]
  · isplitr; · iexact HE
    isplitl [HO]; · iexact HO
    iexact H8
  iintro ⟨HO, D8⟩
  iapply (wait0 m c K 9 (by decide) (Or.inl (by decide)) (N := NK) (dst := vSl 1 inb_S3x2x4x128x64_S1x2x4x128x64_1_0_0_0_0) rfl rfl rfl) $$ [HO H9]
  · isplitr; · iexact HE
    isplitl [HO]; · iexact HO
    iexact H9
  iintro ⟨HO, D9⟩
  ihave HB := (Entails.of_eq (rfl : iprop(env m K ∗ owesE (F := F) c 0 ∗ psSt m c 1) = _)) $$ [HO HP]
  · isplitr; · iexact HE
    isplitl [HO]; · iexact HO
    iexact HP
  iapply (ps_step m c K 1 2 (by decide) (cond_eq c 1) rfl) $$ HB
  iintro HB
  iapply (ps_step m c K 2 3 (by decide) (cond_eq c 2) rfl) $$ HB
  iintro HB
  iapply (ps_step m c K 3 4 (by decide) (cond_eq c 3) rfl) $$ HB
  iintro HB
  simp only [Prog.lift, Prog.bind_op, Prog.bind_ret, Prog.bind_assoc, Prog.pure_eq_ret]
  icases HB with ⟨-, HO, HP⟩
  iapply Hc
  isplitl [HO]; · iexact HO
  isplitl [HP]; · iexact HP
  isplitl [D8]; · iexact D8
  iexact D9

/-- Part 48: the partial sums of devices 4 to 13. -/
theorem part48 (K : Dev nD × CIx → ℕ) {Q : α → sProp (MT nD τ sig Unit (Elt F) ℕ UU ℕ)} {kk : BitVec 32 → Prog (TpuEff nD τ sig (Elt F) Λ₀ .tc) α} :
    iprop(env m K ∗ owesE (F := F) c 0 ∗ psSt m c 4)
      ⊢ iprop(((env m K ∗ owesE (F := F) c 0 ∗ psSt m c 14) -∗ wpc c (kk (Scalar.extui (Scalar.cmpi .eq (dw c) 14#32))) Q)
      -∗ wpc c (k0_part48 (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12 (dw c) (Scalar.extui (Scalar.cmpi .eq (dw c) 4#32)) >>= kk) Q) := by
  rw [k0_part48_eq_skeleton]
  unfold k0_part48_skel
  simp only [Prog.lift, Prog.bind_op, Prog.bind_ret, Prog.bind_assoc, Prog.pure_eq_ret]
  iintro HB Hc
  iapply (ps_step m c K 4 5 (by decide) (cond_eq c 4) rfl) $$ HB
  iintro HB
  iapply (ps_step m c K 5 6 (by decide) (cond_eq c 5) rfl) $$ HB
  iintro HB
  iapply (ps_step m c K 6 7 (by decide) (cond_eq c 6) rfl) $$ HB
  iintro HB
  iapply (ps_step m c K 7 8 (by decide) (cond_eq c 7) rfl) $$ HB
  iintro HB
  iapply (ps_step m c K 8 9 (by decide) (cond_eq c 8) rfl) $$ HB
  iintro HB
  iapply (ps_step m c K 9 10 (by decide) (cond_eq c 9) rfl) $$ HB
  iintro HB
  iapply (ps_step m c K 10 11 (by decide) (cond_eq c 10) rfl) $$ HB
  iintro HB
  iapply (ps_step m c K 11 12 (by decide) (cond_eq c 11) rfl) $$ HB
  iintro HB
  iapply (ps_step m c K 12 13 (by decide) (cond_eq c 12) rfl) $$ HB
  iintro HB
  iapply (ps_step m c K 13 14 (by decide) (cond_eq c 13) rfl) $$ HB
  iintro HB
  simp only [Prog.lift, Prog.bind_op, Prog.bind_ret, Prog.bind_assoc, Prog.pure_eq_ret]
  iapply Hc $$ HB

end Stage

end Cert.Att
-- ==== Proof.Regroup.lean ====
/-
# Regrouping

How the pieces a device holds go together at the joints of its body.
-/
module

public import proofs.«01_k».proof.Proof.StageF

@[expose] public section

set_option maxRecDepth 4000
set_option maxHeartbeats 4000000

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Rows -/

/-- Nothing and `P` is `P`. -/
theorem emp_sep_e (P : sProp 𝕄) : iprop(emp ∗ P) = P := equiv_iff.mp BI.emp_sep
/-- `P` and nothing is `P`. -/
theorem sep_emp_e (P : sProp 𝕄) : iprop(P ∗ emp) = P := equiv_iff.mp BI.sep_emp

/-- What is equivalent is equal. -/
theorem toks_e (P R : sProp 𝕄) (h : P ⊣⊢ R) : P = R := equiv_iff.mp ⟨h.1, h.2⟩

/-- Two rows, term by term equal. -/
theorem seg_congr {Φ Ψ : ℕ → sProp 𝕄} {a k : ℕ} (h : ∀ i, a ≤ i → i < a + k → Φ i = Ψ i) : seg Φ a k = seg Ψ a k := by
  rw [seg_eq, seg_eq]; exact bigSep_congr fun i hi => h i (Finset.mem_Ico.mp hi).1 (Finset.mem_Ico.mp hi).2
/-- A row in two parts. -/
theorem seg_split (Φ : ℕ → sProp 𝕄) (a k l : ℕ) : seg Φ a (k + l) = iprop(seg Φ a k ∗ seg Φ (a + k) l) := by
  induction k generalizing a with
  | zero =>
    rw [Nat.zero_add, Nat.add_zero]
    exact (emp_sep_e _).symm
  | succ k ih =>
    rw [show k + 1 + l = (k + l) + 1 by omega, seg_succ, seg_succ, ih (a + 1), show a + 1 + k = a + (k + 1) by omega]
    exact (equiv_iff.mp ⟨BI.sep_assoc, BI.sep_assoc'⟩).symm
/-- A row of nothing. -/
theorem seg_emp {Φ : ℕ → sProp 𝕄} {a k : ℕ} (h : ∀ i, a ≤ i → i < a + k → Φ i = iprop(emp)) : seg Φ a k = iprop(emp) := by
  induction k generalizing a with
  | zero => rfl
  | succ k ih =>
    rw [seg_succ, h a (le_refl a) (by omega), ih (a := a + 1) fun i h1 h2 => h i (by omega) (by omega)]
    exact emp_sep_e _
/-- A row with one thing in it. -/
theorem seg_one {Φ : ℕ → sProp 𝕄} {A : sProp 𝕄} {a k j : ℕ} (hj : a ≤ j ∧ j < a + k) (h : ∀ i, a ≤ i → i < a + k → Φ i = if i = j then A else iprop(emp)) : seg Φ a k = A := by
  induction k generalizing a with
  | zero => omega
  | succ k ih =>
    rw [seg_succ, h a (le_refl a) (by omega)]
    by_cases e : a = j
    · rw [if_pos e, seg_emp (a := a + 1) fun i h1 h2 => (h i (by omega) (by omega)).trans (if_neg (by omega))]
      exact sep_emp_e _
    · rw [if_neg e, ih (a := a + 1) (by omega) fun i h1 h2 => h i (by omega) (by omega)]
      exact emp_sep_e _
/-- A row read in threes. -/
theorem seg_three (Φ : ℕ → sProp 𝕄) (a k : ℕ) : seg Φ (3 * a) (3 * k) = seg (fun t => iprop(Φ (3 * t) ∗ Φ (3 * t + 1) ∗ Φ (3 * t + 2))) a k := by
  induction k generalizing a with
  | zero => rfl
  | succ k ih =>
    rw [show 3 * (k + 1) = 3 + 3 * k by omega, seg_split, show 3 * a + 3 = 3 * (a + 1) by omega, ih (a + 1), seg_succ]
    congr 1
    show iprop(Φ (3 * a) ∗ Φ (3 * a + 1) ∗ Φ (3 * a + 1 + 1) ∗ emp) = _
    rw [sep_emp_e]
/-- Two things held under one condition. -/
theorem when_sep (P : Prop) [Decidable P] (A B : sProp 𝕄) : when P iprop(A ∗ B) = iprop(when P A ∗ when P B) := by
  by_cases h : P
  · rw [when_pos h, when_pos h, when_pos h]
  · rw [when_neg h, when_neg h, when_neg h, emp_sep_e]

/-! ## The barrier -/

/-- Which steps round the ring lead to the neighbours and to device 0. -/
theorem nxt_off (c : Dev nD) : ∀ i : Fin 16, 1 ≤ i.val → ((c = nxt (off c i.val) ↔ i.val = 15) ∧ (c = prv (off c i.val) ↔ i.val = 1)
    ∧ (off c i.val = nxt c ↔ i.val = 1) ∧ (off c i.val = prv c ↔ i.val = 15) ∧ (off c i.val = dev0 ↔ (c ≠ dev0 ∧ i.val = 16 - c.val)) ∧ (c = dev0 → (off c i.val).val = i.val)) := by
  revert c; decide +kernel
/-- The same, for a step given as a number. -/
theorem ring_at (c : Dev nD) {i : ℕ} (h1 : 1 ≤ i) (h2 : i < 1 + 15) : ((c = nxt (off c i) ↔ i = 15) ∧ (c = prv (off c i) ↔ i = 1)
    ∧ (off c i = nxt c ↔ i = 1) ∧ (off c i = prv c ↔ i = 15) ∧ (off c i = dev0 ↔ (c ≠ dev0 ∧ i = 16 - c.val)) ∧ (c = dev0 → (off c i).val = i)) :=
  nxt_off c ⟨i, by omega⟩ h1
/-- A conditional part as an if-then-else. -/
theorem when_if {P R : Prop} [Decidable P] [Decidable R] (h : P ↔ R) (A B : sProp 𝕄) (hAB : P → A = B) : when P A = if R then B else iprop(emp) := by
  by_cases hp : P
  · rw [when_pos hp, if_pos (h.mp hp), hAB hp]
  · rw [when_neg hp, if_neg (fun r => hp (h.mpr r))]

/-- What a device pays into the fifteen other barriers. -/
theorem sg_join (c : Dev nD) :
    iprop((kFree (F := F) c 0 ∗ vFree (F := F) c 0) ∗ (kFree (F := F) c 2 ∗ vFree (F := F) c 2) ∗ when (c ≠ dev0) iprop(kgFree (F := F) c ∗ vgFree (F := F) c ∗ qgFree (F := F) c)
      ∗ when (c = dev0) (seg (paFree (F := F) dev0) 1 15) ∗ seg (fun i => dutyTok ER (barCell (off c i)) 0 c) 1 15) ⊢ (seg (sgP (F := F) c) 1 15 : sProp 𝕄) := by
  have e : seg (sgP (F := F) c) 1 15 = iprop(seg (fun i => dutyTok ER (barCell (off c i)) 0 c) 1 15
      ∗ (seg (fun i => when (c = nxt (off c i)) iprop(kFree (F := F) c 0 ∗ vFree (F := F) c 0)) 1 15 ∗ seg (fun i => when (c = prv (off c i)) iprop(kFree (F := F) c 2 ∗ vFree (F := F) c 2)) 1 15)
      ∗ seg (fun i => when (off c i = dev0) iprop(kgFree (F := F) c ∗ vgFree (F := F) c ∗ qgFree (F := F) c)) 1 15 ∗ seg (fun i => when (c = dev0) (paFree (F := F) dev0 (off c i).val)) 1 15) := by
    rw [← seg_sep, ← seg_sep, ← seg_sep, ← seg_sep]; rfl
  have e1 : seg (fun i => when (c = nxt (off c i)) iprop(kFree (F := F) c 0 ∗ vFree (F := F) c 0)) 1 15 = iprop(kFree (F := F) c 0 ∗ vFree (F := F) c 0) :=
    seg_one (j := 15) (by decide) fun i h1 h2 => when_if (ring_at c h1 h2).1 _ _ fun _ => rfl
  have e2 : seg (fun i => when (c = prv (off c i)) iprop(kFree (F := F) c 2 ∗ vFree (F := F) c 2)) 1 15 = iprop(kFree (F := F) c 2 ∗ vFree (F := F) c 2) :=
    seg_one (j := 1) (by decide) fun i h1 h2 => when_if (ring_at c h1 h2).2.1 _ _ fun _ => rfl
  have e3 : seg (fun i => when (off c i = dev0) iprop(kgFree (F := F) c ∗ vgFree (F := F) c ∗ qgFree (F := F) c)) 1 15 = when (c ≠ dev0) iprop(kgFree (F := F) c ∗ vgFree (F := F) c ∗ qgFree (F := F) c) := by
    by_cases hc : c = dev0
    · rw [when_neg (fun h => h hc)]
      exact seg_emp fun i h1 h2 => when_neg (fun h => ((ring_at c h1 h2).2.2.2.2.1.mp h).1 hc) _
    · rw [when_pos hc]
      have hv : c.val ≠ 0 := fun h => hc (Fin.ext h)
      have hl : c.val < 16 := c.isLt
      exact seg_one (j := 16 - c.val) (by omega) fun i h1 h2 => when_if ((ring_at c h1 h2).2.2.2.2.1.trans ⟨fun h => h.2, fun h => ⟨hc, h⟩⟩) _ _ fun _ => rfl
  have e4 : seg (fun i => when (c = dev0) (paFree (F := F) dev0 (off c i).val)) 1 15 = when (c = dev0) (seg (paFree (F := F) dev0) 1 15) := by
    by_cases hc : c = dev0
    · rw [when_pos hc]
      exact seg_congr fun i h1 h2 => by rw [when_pos hc, (ring_at c h1 h2).2.2.2.2.2 hc]
    · rw [when_neg hc]
      exact seg_emp fun i h1 h2 => when_neg hc _
  rw [e, e1, e2, e3, e4]
  iintro ⟨H0, H2, Hg, Hp, Ht⟩
  isplitl [Ht]; · iexact Ht
  isplitl [H0 H2]
  · isplitl [H0]; · iexact H0
    iexact H2
  isplitl [Hg]; · iexact Hg
  iexact Hp

/-- What its own barrier pays out to a device. -/
theorem bar_split (c : Dev nD) :
    (seg (fun i => barPay (F := F) c (off c i)) 1 15 : sProp 𝕄) ⊢ iprop((kFree (F := F) (nxt c) 0 ∗ vFree (F := F) (nxt c) 0) ∗ (kFree (F := F) (prv c) 2 ∗ vFree (F := F) (prv c) 2)
      ∗ when (c = dev0) (seg (fun t => iprop(kgFree (F := F) (off dev0 t) ∗ vgFree (F := F) (off dev0 t) ∗ qgFree (F := F) (off dev0 t))) 1 15)
      ∗ when (c ≠ dev0) (paFree (F := F) dev0 c.val)) := by
  have e : seg (fun i => barPay (F := F) c (off c i)) 1 15 = iprop((seg (fun i => when (off c i = nxt c) iprop(kFree (F := F) (off c i) 0 ∗ vFree (F := F) (off c i) 0)) 1 15
        ∗ seg (fun i => when (off c i = prv c) iprop(kFree (F := F) (off c i) 2 ∗ vFree (F := F) (off c i) 2)) 1 15)
      ∗ seg (fun i => when (c = dev0) iprop(kgFree (F := F) (off c i) ∗ vgFree (F := F) (off c i) ∗ qgFree (F := F) (off c i))) 1 15 ∗ seg (fun i => when (off c i = dev0) (paFree (F := F) dev0 c.val)) 1 15) := by
    rw [← seg_sep, ← seg_sep, ← seg_sep]; rfl
  have e1 : seg (fun i => when (off c i = nxt c) iprop(kFree (F := F) (off c i) 0 ∗ vFree (F := F) (off c i) 0)) 1 15 = iprop(kFree (F := F) (nxt c) 0 ∗ vFree (F := F) (nxt c) 0) :=
    seg_one (j := 1) (by decide) fun i h1 h2 => when_if (ring_at c h1 h2).2.2.1 _ _ fun h => by rw [h]
  have e2 : seg (fun i => when (off c i = prv c) iprop(kFree (F := F) (off c i) 2 ∗ vFree (F := F) (off c i) 2)) 1 15 = iprop(kFree (F := F) (prv c) 2 ∗ vFree (F := F) (prv c) 2) :=
    seg_one (j := 15) (by decide) fun i h1 h2 => when_if (ring_at c h1 h2).2.2.2.1 _ _ fun h => by rw [h]
  have e3 : seg (fun i => when (c = dev0) iprop(kgFree (F := F) (off c i) ∗ vgFree (F := F) (off c i) ∗ qgFree (F := F) (off c i))) 1 15
      = when (c = dev0) (seg (fun t => iprop(kgFree (F := F) (off dev0 t) ∗ vgFree (F := F) (off dev0 t) ∗ qgFree (F := F) (off dev0 t))) 1 15) := by
    by_cases hc : c = dev0
    · rw [when_pos hc, hc]
      exact seg_congr fun i h1 h2 => when_pos rfl _
    · rw [when_neg hc]
      exact seg_emp fun i h1 h2 => when_neg hc _
  have e4 : seg (fun i => when (off c i = dev0) (paFree (F := F) dev0 c.val)) 1 15 = when (c ≠ dev0) (paFree (F := F) dev0 c.val) := by
    by_cases hc : c = dev0
    · rw [when_neg (fun h => h hc)]
      exact seg_emp fun i h1 h2 => when_neg (fun h => ((ring_at c h1 h2).2.2.2.2.1.mp h).1 hc) _
    · rw [when_pos hc]
      have hv : c.val ≠ 0 := fun h => hc (Fin.ext h)
      have hl : c.val < 16 := c.isLt
      exact seg_one (j := 16 - c.val) (by omega) fun i h1 h2 => when_if ((ring_at c h1 h2).2.2.2.2.1.trans ⟨fun h => h.2, fun h => ⟨hc, h⟩⟩) _ _ fun _ => rfl
  rw [e, e1, e2, e3, e4]
  iintro ⟨⟨H0, H2⟩, Hg, Hp⟩
  isplitl [H0]; · iexact H0
  isplitl [H2]; · iexact H2
  isplitl [Hg]; · iexact Hg
  iexact Hp

/-! ## The broadcast -/

/-- A global block of device 0 in seventeen shares: one to read, one aside, one for each transfer. -/
theorem g_shares (j : ℕ) : gPts m dev0 j fullShare = iprop(gPts m dev0 j (shareDrop fullShare 16) ∗ gPts m dev0 j (shareTokN fullShare 0) ∗ seg (fun t => gPts m dev0 j (shareTokN fullShare t)) 1 15) := by
  have key : ∀ (ℓ : Loc nD τ sig) (f : Buf (Elt F) ℓ), (ℓ ↦{fullShare} f : sProp 𝕄) = iprop((ℓ ↦{shareDrop fullShare 16} f) ∗ (ℓ ↦{shareTokN fullShare 0} f) ∗ seg (fun t => ℓ ↦{shareTokN fullShare t} f) 1 15) := by
    intro ℓ f
    rw [toks_e _ _ (Transfers.pointsTo_toks_range (ℓ := ℓ) (f := f) (S := Finset.univ) fullShare 16), Finset.range_eq_Ico, bigSep_Ico_succ_bot (by decide : 0 < 16), seg_eq]
  unfold gPts kgPts vgPts qgPts
  by_cases h0 : j = 0
  · simp only [if_pos h0]; exact key _ _
  · by_cases h1 : j = 1
    · simp only [if_neg h0, if_pos h1]; exact key _ _
    · simp only [if_neg h0, if_neg h1]; exact key _ _

/-- The global keys cut into a share for each broadcast. -/
theorem kg_shares : kgPts m dev0 fullShare = iprop(kgPts m dev0 (shareDrop fullShare 16) ∗ kgPts m dev0 (shareTokN fullShare 0) ∗ seg (fun t => kgPts m dev0 (shareTokN fullShare t)) 1 15) := g_shares m 0
/-- The global values cut into a share for each broadcast. -/
theorem vg_shares : vgPts m dev0 fullShare = iprop(vgPts m dev0 (shareDrop fullShare 16) ∗ vgPts m dev0 (shareTokN fullShare 0) ∗ seg (fun t => vgPts m dev0 (shareTokN fullShare t)) 1 15) := g_shares m 1
/-- The global queries cut into a share for each broadcast. -/
theorem qg_shares : qgPts m dev0 fullShare = iprop(qgPts m dev0 (shareDrop fullShare 16) ∗ qgPts m dev0 (shareTokN fullShare 0) ∗ seg (fun t => qgPts m dev0 (shareTokN fullShare t)) 1 15) := g_shares m 2

/-- The tokens of the broadcasts. -/
def bcTok : sProp 𝕄 := iprop(seg (fun n => dutyTok ER (dcell dev0 (14 + n)) 0 dev0) 3 45 ∗ seg (fun n => dutyTok ER (dcell (off dev0 (n / 3)) (62 + n % 3)) 0 dev0) 3 45)
/-- The shares of the global blocks set aside. -/
def gAside : sProp 𝕄 := iprop(kgPts m dev0 (shareTokN fullShare 0) ∗ vgPts m dev0 (shareTokN fullShare 0) ∗ qgPts m dev0 (shareTokN fullShare 0))

/-- Which buffer and which device a broadcast's number names. -/
theorem mod3 (t : ℕ) : ((3 * t) % 3 = 0 ∧ (3 * t + 1) % 3 = 1 ∧ (3 * t + 2) % 3 = 2) ∧ ((3 * t) / 3 = t ∧ (3 * t + 1) / 3 = t ∧ (3 * t + 2) / 3 = t) := by omega

/-- The shares the transfers take, by transfer. -/
theorem g_row : seg (fun n => gPts m dev0 (n % 3) (shareTokN fullShare (n / 3))) 3 45
    = iprop(seg (fun t => kgPts m dev0 (shareTokN fullShare t)) 1 15 ∗ seg (fun t => vgPts m dev0 (shareTokN fullShare t)) 1 15 ∗ seg (fun t => qgPts m dev0 (shareTokN fullShare t)) 1 15) := by
  refine (seg_three _ 1 15).trans ?_
  rw [← seg_sep, ← seg_sep]
  refine seg_congr fun t _ _ => ?_
  obtain ⟨⟨a, b, c⟩, d, e, f⟩ := mod3 t
  simp only [a, b, c, d, e, f]
  rfl
/-- The places the broadcasts land in, by device. -/
theorem gf_row : seg (fun n => gFree (F := F) (off dev0 (n / 3)) (n % 3)) 3 45
    = seg (fun t => iprop(kgFree (F := F) (off dev0 t) ∗ vgFree (F := F) (off dev0 t) ∗ qgFree (F := F) (off dev0 t))) 1 15 := by
  refine (seg_three _ 1 15).trans ?_
  refine seg_congr fun t _ _ => ?_
  obtain ⟨⟨a, b, c⟩, d, e, f⟩ := mod3 t
  simp only [a, b, c, d, e, f]
  rfl

/-- What device 0 brings to the broadcasts. -/
theorem bc_join : iprop((kgPts m dev0 fullShare ∗ vgPts m dev0 fullShare ∗ qgPts m dev0 fullShare) ∗ seg (fun t => iprop(kgFree (F := F) (off dev0 t) ∗ vgFree (F := F) (off dev0 t) ∗ qgFree (F := F) (off dev0 t))) 1 15 ∗ bcTok (F := F))
    ⊢ iprop(seg (bcP m) 3 45 ∗ gAll m dev0 ∗ gAside m) := by
  have e : seg (bcP m) 3 45 = iprop(seg (fun n => gPts m dev0 (n % 3) (shareTokN fullShare (n / 3))) 3 45 ∗ seg (fun n => gFree (F := F) (off dev0 (n / 3)) (n % 3)) 3 45
      ∗ seg (fun n => dutyTok ER (dcell dev0 (14 + n)) 0 dev0) 3 45 ∗ seg (fun n => dutyTok ER (dcell (off dev0 (n / 3)) (62 + n % 3)) 0 dev0) 3 45) := by
    rw [← seg_sep, ← seg_sep, ← seg_sep]; rfl
  rw [e, g_row, gf_row, kg_shares m, vg_shares m, qg_shares m]
  unfold bcTok gAll gAside
  rw [show gq dev0 = shareDrop fullShare 16 from if_pos rfl]
  iintro ⟨⟨⟨K1, K2, K3⟩, ⟨V1, V2, V3⟩, ⟨Q1, Q2, Q3⟩⟩, Hf, T1, T2⟩
  isplitl [K3 V3 Q3 Hf T1 T2]
  · isplitl [K3 V3 Q3]
    · isplitl [K3]; · iexact K3
      isplitl [V3]; · iexact V3
      iexact Q3
    isplitl [Hf]; · iexact Hf
    isplitl [T1]; · iexact T1
    iexact T2
  isplitl [K1 V1 Q1]
  · isplitl [K1]; · iexact K1
    isplitl [V1]; · iexact V1
    iexact Q1
  isplitl [K2]; · iexact K2
  isplitl [V2]; · iexact V2
  iexact Q2

/-- The shares back after the broadcasts. -/
theorem bc_back : iprop(gAll m dev0 ∗ gAside m ∗ seg (dmaPay m dev0) 17 45) ⊢ iprop(kgPts m dev0 fullShare ∗ vgPts m dev0 fullShare ∗ qgPts m dev0 fullShare) := by
  have e : seg (dmaPay m dev0) 17 45 = seg (fun n => gPts m dev0 (n % 3) (shareTokN fullShare (n / 3))) 3 45 := by
    have sh : ∀ (Φ : ℕ → sProp 𝕄) (k a : ℕ), seg Φ (14 + a) k = seg (fun n => Φ (14 + n)) a k := by
      intro Φ k
      induction k with
      | zero => intro a; rfl
      | succ k ih => intro a; rw [seg_succ, seg_succ, ← ih (a + 1)]; rfl
    refine (sh (dmaPay m dev0) 45 3).trans (seg_congr fun n h1 h2 => ?_)
    show dmaPay m dev0 (14 + n) = _
    unfold dmaPay
    rw [if_neg (by omega), if_neg (by omega), if_pos (by omega), show 14 + n - 14 = n by omega]
  rw [e, g_row, kg_shares m, vg_shares m, qg_shares m]
  unfold gAll gAside
  rw [show gq dev0 = shareDrop fullShare 16 from if_pos rfl]
  iintro ⟨⟨K1, V1, Q1⟩, ⟨K2, V2, Q2⟩, K3, V3, Q3⟩
  isplitl [K1 K2 K3]
  · isplitl [K1]; · iexact K1
    isplitl [K2]; · iexact K2
    iexact K3
  isplitl [V1 V2 V3]
  · isplitl [V1]; · iexact V1
    isplitl [V2]; · iexact V2
    iexact V3
  isplitl [Q1]; · iexact Q1
  isplitl [Q2]; · iexact Q2
  iexact Q3

/-! ## The band buffers -/

/-- A slot in three shares. -/
theorem k_shares (c : Dev nD) (s : ℕ) : kSlot m c s fullShare = iprop(kSlot m c s (shareDrop fullShare 2) ∗ kSlot m c s (shareTokN fullShare 0) ∗ kSlot m c s (shareTokN fullShare 1)) := by
  unfold kSlot
  rw [toks_e _ _ (Transfers.pointsTo_toks_range (ℓ := kM.view.loc (c : Thread nD τ)) (f := KB m c) (S := slotSet s) fullShare 2), Finset.range_eq_Ico, bigSep_Ico_succ_bot (by decide : 0 < 2), bigSep_Ico_one]
/-- A slot of values cut into a share for each neighbour. -/
theorem v_shares (c : Dev nD) (s : ℕ) : vSlot m c s fullShare = iprop(vSlot m c s (shareDrop fullShare 2) ∗ vSlot m c s (shareTokN fullShare 0) ∗ vSlot m c s (shareTokN fullShare 1)) := by
  unfold vSlot
  rw [toks_e _ _ (Transfers.pointsTo_toks_range (ℓ := vM.view.loc (c : Thread nD τ)) (f := VB m c) (S := slotSet s) fullShare 2), Finset.range_eq_Ico, bigSep_Ico_succ_bot (by decide : 0 < 2), bigSep_Ico_one]
/-- A band buffer as its three slots. -/
theorem three (Φ : ℕ → sProp 𝕄) : bigSep (Finset.range 3) Φ = iprop(Φ 0 ∗ Φ 1 ∗ Φ 2) := by
  rw [Finset.range_eq_Ico, bigSep_Ico_succ_bot (by decide : 0 < 3), bigSep_Ico_succ_bot (by decide : 0 + 1 < 3), bigSep_Ico_one]
/-- The key buffer is its three slots. -/
theorem k_slots (c : Dev nD) (q : PosShare TreeShare) : (kM.view.loc (c : Thread nD τ) ↦{q} KB m c : sProp 𝕄) = iprop(kSlot m c 0 q ∗ kSlot m c 1 q ∗ kSlot m c 2 q) :=
  (pts_slots (kM.view.loc (c : Thread nD τ)) slotSet slot_cover (fun _ _ h => slot_disj h)).trans (three fun s => kSlot m c s q)
/-- The value buffer is its three slots. -/
theorem v_slots (c : Dev nD) (q : PosShare TreeShare) : (vM.view.loc (c : Thread nD τ) ↦{q} VB m c : sProp 𝕄) = iprop(vSlot m c 0 q ∗ vSlot m c 1 q ∗ vSlot m c 2 q) :=
  (pts_slots (vM.view.loc (c : Thread nD τ)) slotSet slot_cover (fun _ _ h => slot_disj h)).trans (three fun s => vSlot m c s q)

/-- The key buffer, with any contents, is three free slots. -/
theorem k_free (c : Dev nD) (f : Buf (Elt F) (kM.view.loc (c : Thread nD τ))) : (kM.view.loc (c : Thread nD τ) ↦{fullShare} f : sProp 𝕄) ⊢ iprop(kFree (F := F) c 0 ∗ kFree (F := F) c 1 ∗ kFree (F := F) c 2) := by
  rw [(pts_slots (kM.view.loc (c : Thread nD τ)) slotSet slot_cover (fun _ _ h => slot_disj h)).trans (three fun s => kM.view.loc (c : Thread nD τ) ↦[slotSet s]{fullShare} f)]
  unfold kFree
  iintro ⟨H0, H1, H2⟩
  isplitl [H0]; · iexists f; iexact H0
  isplitl [H1]; · iexists f; iexact H1
  iexists f; iexact H2
/-- The value buffer, with any contents, is three free slots. -/
theorem v_free (c : Dev nD) (f : Buf (Elt F) (vM.view.loc (c : Thread nD τ))) : (vM.view.loc (c : Thread nD τ) ↦{fullShare} f : sProp 𝕄) ⊢ iprop(vFree (F := F) c 0 ∗ vFree (F := F) c 1 ∗ vFree (F := F) c 2) := by
  rw [(pts_slots (vM.view.loc (c : Thread nD τ)) slotSet slot_cover (fun _ _ h => slot_disj h)).trans (three fun s => vM.view.loc (c : Thread nD τ) ↦[slotSet s]{fullShare} f)]
  unfold vFree
  iintro ⟨H0, H1, H2⟩
  isplitl [H0]; · iexists f; iexact H0
  isplitl [H1]; · iexists f; iexact H1
  iexists f; iexact H2
/-- Device 0's buffer for the gathered sums, slot by slot. -/
theorem pa_free (f : Buf (Elt F) (paM.view.loc (dev0 : Thread nD τ))) : (paM.view.loc (dev0 : Thread nD τ) ↦{fullShare} f : sProp 𝕄) ⊢ iprop(paFree (F := F) dev0 0 ∗ seg (paFree (F := F) dev0) 1 15) := by
  have e : iprop(paFree (F := F) dev0 0 ∗ seg (paFree (F := F) dev0) 1 15) = (bigSep (Finset.range 16) (paFree (F := F) dev0) : sProp 𝕄) := by
    rw [Finset.range_eq_Ico, bigSep_Ico_succ_bot (by decide : 0 < 16), seg_eq]
  rw [e, pts_slots (paM.view.loc (dev0 : Thread nD τ)) paSet pa_cover (fun _ _ h => pa_disj h)]
  have key : ∀ s, (paM.view.loc (dev0 : Thread nD τ) ↦[paSet s]{fullShare} f : sProp 𝕄) ⊢ paFree (F := F) dev0 s := fun s => by
    unfold paFree
    iintro H
    iexists f; iexact H
  exact bigSep_mono fun s _ => key s

/-! ## Semaphores not used -/

/-- The semaphores of a device that no transfer uses. -/
theorem dead_seg (K : Dev nD × CIx → ℕ) (c : Dev nD) (a k : ℕ) (h6 : 6 ≤ a) (hk : a + k ≤ 97) (hl : ∀ n, a ≤ n → n < a + k → ¬live c n) :
    iprop(env m K ∗ seg (fun n => atPos ER (dcell c n) 0 ∅ 0) a k) ⊢ |={Set.univ}=> seg (fun n => semVal (dcell c n) 0) a k := by
  induction k generalizing a with
  | zero =>
    show _ ⊢ |={Set.univ}=> iprop(emp)
    iintro -
    imodintro
    iempintro
  | succ k ih =>
    rw [seg_succ, seg_succ]
    iintro ⟨#HE, HA, HS⟩
    imod (dead_close m K c a h6 (by omega) (hl a (le_refl a) (by omega))) $$ [HA] with HZ
    · isplitr; · iexact HE
      iexact HA
    imod (ih (a + 1) (by omega) (by omega) (fun n h1 h2 => hl n (by omega) (by omega))) $$ [HS] with HZS
    · isplitr; · iexact HE
      iexact HS
    imodintro
    isplitl [HZ]; · iexact HZ
    iexact HZS

end Cert.Att
-- ==== Proof.Joint.lean ====
/-
# A device's run

The parts of the body one after the other.
-/
module

public import proofs.«01_k».proof.Proof.Regroup

@[expose] public section

set_option maxRecDepth 4000
set_option maxHeartbeats 4000000

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-- A device's place at one of its transfer semaphores, and the semaphore afterwards. -/
def atP (c : Dev nD) (n : ℕ) : sProp 𝕄 := atPos ER (dcell c n) 0 ∅ 0
def smV (c : Dev nD) (n : ℕ) : sProp 𝕄 := semVal (dcell c n) 0

/-- The semaphores by use: on device 0, and on another device. -/
theorem row_0 (Φ : ℕ → sProp 𝕄) : seg Φ 6 91 = iprop(seg Φ 6 8 ∗ seg Φ 14 3 ∗ seg Φ 17 45 ∗ seg Φ 62 20 ∗ seg Φ 82 15) := by
  rw [← seg_split, ← seg_split, ← seg_split, ← seg_split]
/-- The transfers' semaphores of a device other than 0, in runs, with its own partial result's apart. -/
theorem row_c (Φ : ℕ → sProp 𝕄) (v : ℕ) (hv : v < 16) : seg Φ 6 91 = iprop(seg Φ 6 8 ∗ seg Φ 14 48 ∗ seg Φ 62 3 ∗ seg Φ 65 v ∗ Φ (65 + v) ∗ seg Φ (65 + v + 1) (31 - v)) := by
  rw [← seg_succ, ← seg_split, show v + (31 - v + 1) = 32 by omega, ← seg_split, ← seg_split, ← seg_split]

/-- The semaphores no transfer uses, closed. -/
def deadV (c : Dev nD) : sProp 𝕄 :=
  iprop(when (c = dev0) iprop(seg (smV (F := F) c) 14 3 ∗ seg (smV (F := F) c) 62 20)
    ∗ when (c ≠ dev0) iprop(seg (smV (F := F) c) 14 48 ∗ seg (smV (F := F) c) 65 c.val ∗ seg (smV (F := F) c) (65 + c.val + 1) (31 - c.val)))
/-- The semaphores the transfers use. -/
def liveR (c : Dev nD) (Φ : ℕ → sProp 𝕄) : sProp 𝕄 :=
  iprop(seg Φ 6 8 ∗ when (c = dev0) iprop(seg Φ 17 45 ∗ seg Φ 82 15) ∗ when (c ≠ dev0) iprop(seg Φ 62 3 ∗ Φ (65 + c.val)))

/-- A device's semaphore records, the ones it uses and the ones it does not. -/
theorem pos_split (K : Dev nD × CIx → ℕ) (c : Dev nD) : iprop(env m K ∗ seg (atP (F := F) c) 6 91) ⊢ |={Set.univ}=> iprop(liveR c (atP (F := F) c) ∗ deadV (F := F) c) := by
  have ds := dead_seg m K c
  unfold liveR deadV
  by_cases hc : c = dev0
  · rw [row_0, when_pos hc, when_neg (fun h => h hc), when_pos hc, when_neg (fun h => h hc), sep_emp_e, sep_emp_e]
    have hv : c.val = 0 := congrArg Fin.val hc
    iintro ⟨#HE, H1, H2, H3, H4, H5⟩
    imod (ds 14 3 (by omega) (by omega) (fun n _ _ => by unfold live; omega)) $$ [H2] with H2
    · isplitr; · iexact HE
      iexact H2
    imod (ds 62 20 (by omega) (by omega) (fun n _ _ => by unfold live; omega)) $$ [H4] with H4
    · isplitr; · iexact HE
      iexact H4
    imodintro
    isplitl [H1 H3 H5]
    · isplitl [H1]; · iexact H1
      isplitl [H3]; · iexact H3
      iexact H5
    isplitl [H2]; · iexact H2
    iexact H4
  · have hv : c.val ≠ 0 := fun h => hc (Fin.ext h)
    have hl : c.val < 16 := c.isLt
    rw [row_c _ c.val hl, when_neg hc, when_pos hc, when_neg hc, when_pos hc, emp_sep_e, emp_sep_e]
    iintro ⟨#HE, H1, H2, H3, H4, H5, H6⟩
    imod (ds 14 48 (by omega) (by omega) (fun n _ _ => by unfold live; omega)) $$ [H2] with H2
    · isplitr; · iexact HE
      iexact H2
    imod (ds 65 c.val (by omega) (by omega) (fun n _ _ => by unfold live; omega)) $$ [H4] with H4
    · isplitr; · iexact HE
      iexact H4
    imod (ds (65 + c.val + 1) (31 - c.val) (by omega) (by omega) (fun n _ _ => by unfold live; omega)) $$ [H6] with H6
    · isplitr; · iexact HE
      iexact H6
    imodintro
    isplitl [H1 H3 H5]
    · isplitl [H1]; · iexact H1
      isplitl [H3]; · iexact H3
      iexact H5
    isplitl [H2]; · iexact H2
    isplitl [H4]; · iexact H4
    iexact H6

/-- The semaphores used and unused, closed, are all of them. -/
theorem pos_join (c : Dev nD) : iprop(liveR c (smV (F := F) c) ∗ deadV (F := F) c) ⊢ (seg (smV (F := F) c) 6 91 : sProp 𝕄) := by
  unfold liveR deadV
  by_cases hc : c = dev0
  · rw [row_0, when_pos hc, when_neg (fun h => h hc), when_pos hc, when_neg (fun h => h hc), sep_emp_e, sep_emp_e]
    iintro ⟨⟨H1, H3, H5⟩, H2, H4⟩
    isplitl [H1]; · iexact H1
    isplitl [H2]; · iexact H2
    isplitl [H3]; · iexact H3
    isplitl [H4]; · iexact H4
    iexact H5
  · rw [row_c _ c.val c.isLt, when_neg hc, when_pos hc, when_neg hc, when_pos hc, emp_sep_e, emp_sep_e]
    iintro ⟨⟨H1, H3, H5⟩, H2, H4, H6⟩
    isplitl [H1]; · iexact H1
    isplitl [H2]; · iexact H2
    isplitl [H3]; · iexact H3
    isplitl [H4]; · iexact H4
    isplitl [H5]; · iexact H5
    iexact H6

/-- The tokens a device spends. -/
def toks (c : Dev nD) : sProp 𝕄 :=
  iprop(seg (fun i => dutyTok ER (barCell (off c i)) 0 c) 1 15 ∗ (dutyTok ER (dcell c 6) 0 dev0 ∗ dutyTok ER (dcell (prv c) 10) 0 dev0) ∗ (dutyTok ER (dcell c 7) 0 dev0 ∗ dutyTok ER (dcell (prv c) 11) 0 dev0)
    ∗ (dutyTok ER (dcell c 8) 0 dev0 ∗ dutyTok ER (dcell (nxt c) 12) 0 dev0) ∗ (dutyTok ER (dcell c 9) 0 dev0 ∗ dutyTok ER (dcell (nxt c) 13) 0 dev0) ∗ when (c = dev0) (bcTok (F := F))
    ∗ when (c ≠ dev0) iprop(dutyTok ER (dcell c (65 + c.val)) 0 dev0 ∗ dutyTok ER (dcell dev0 (81 + c.val)) 0 dev0))
/-- The completions it waits for that others bring about. -/
def crs (c : Dev nD) : sProp 𝕄 :=
  iprop(cred (tallyAt (barCell c) () 15) ∗ (cred (tallyAt (dcell c 10) () NK) ∗ cred (tallyAt (dcell c 11) () NK) ∗ cred (tallyAt (dcell c 12) () NK) ∗ cred (tallyAt (dcell c 13) () NK))
    ∗ when (c ≠ dev0) iprop(cred (tallyAt (dcell c 62) () NG) ∗ cred (tallyAt (dcell c 63) () NG) ∗ cred (tallyAt (dcell c 64) () NG))
    ∗ when (c = dev0) (seg (fun n => cred (tallyAt (dcell dev0 n) () NP)) 82 15))
/-- A device's scratch buffers, whatever they hold. -/
def scr (c : Dev nD) : sProp 𝕄 := iprop((∃ f : Buf (Elt F) (kM.view.loc (c : Thread nD τ)), kM.view.loc (c : Thread nD τ) ↦{fullShare} f) ∗ (∃ f : Buf (Elt F) (vM.view.loc (c : Thread nD τ)), vM.view.loc (c : Thread nD τ) ↦{fullShare} f) ∗ kgFree (F := F) c ∗ vgFree (F := F) c ∗ qgFree (F := F) c ∗ (∃ f : Buf (Elt F) (ppM.view.loc (c : Thread nD τ)), ppM.view.loc (c : Thread nD τ) ↦{fullShare} f) ∗ (∃ f : Buf (Elt F) (paM.view.loc (c : Thread nD τ)), paM.view.loc (c : Thread nD τ) ↦{fullShare} f))

/-- Everything a device starts with, and everything it ends with. -/
def bodyIn (K : Dev nD × CIx → ℕ) (c : Dev nD) : sProp 𝕄 :=
  iprop(env m K ∗ wins m c ∗ (∃ f : Buf (Elt F) (oM.view.loc (c : Thread nD τ)), oM.view.loc (c : Thread nD τ) ↦{fullShare} f) ∗ scr (F := F) c ∗ owesE (F := F) c (O₀ c) ∗ toks (F := F) c ∗ atPos ER (barCell c) 0 ∅ 0 ∗ seg (atP (F := F) c) 6 91 ∗ crs (F := F) c)
def bodyOut (c : Dev nD) : sProp 𝕄 :=
  iprop(wins m c ∗ (oM.view.loc (c : Thread nD τ) ↦{fullShare} outAt m c) ∗ scr (F := F) c ∗ owesE (F := F) c 0 ∗ semVal (barCell c) 0 ∗ seg (smV (F := F) c) 6 91)

/-! ## The joints -/

/-- The slots of the gathered sums: device 0 hands out all but its own, another device keeps its buffer. -/
theorem pa_in (c : Dev nD) : iprop(∃ f : Buf (Elt F) (paM.view.loc (c : Thread nD τ)), paM.view.loc (c : Thread nD τ) ↦{fullShare} f) ⊢ iprop(when (c = dev0) iprop(paFree (F := F) dev0 0 ∗ seg (paFree (F := F) dev0) 1 15) ∗ when (c ≠ dev0) iprop(∃ f : Buf (Elt F) (paM.view.loc (c : Thread nD τ)), paM.view.loc (c : Thread nD τ) ↦{fullShare} f)) := by
  by_cases hc : c = dev0
  · subst hc
    rw [when_pos rfl, when_neg (fun h => h rfl), sep_emp_e]
    iintro ⟨%f, H⟩
    iapply (pa_free f) $$ H
  · rw [when_neg hc, when_pos hc, emp_sep_e]

/-- The global blocks before the signals: to hand out on a device other than 0. -/
theorem g_out (c : Dev nD) : gNow m c = iprop(when (c = dev0) iprop(kgPts m c fullShare ∗ vgPts m c fullShare ∗ qgPts m c fullShare) ∗ when (c ≠ dev0) iprop(kgFree (F := F) c ∗ vgFree (F := F) c ∗ qgFree (F := F) c)) := rfl

/-- What goes into the broadcasts, and device 0's shares aside. -/
theorem br_in (c : Dev nD) : iprop(when (c = dev0) iprop(kgPts m c fullShare ∗ vgPts m c fullShare ∗ qgPts m c fullShare)
      ∗ when (c = dev0) (seg (fun t => iprop(kgFree (F := F) (off dev0 t) ∗ vgFree (F := F) (off dev0 t) ∗ qgFree (F := F) (off dev0 t))) 1 15) ∗ when (c = dev0) (bcTok (F := F))
      ∗ when (c ≠ dev0) iprop(cred (tallyAt (dcell c 62) () NG) ∗ cred (tallyAt (dcell c 63) () NG) ∗ cred (tallyAt (dcell c 64) () NG)) ∗ when (c ≠ dev0) (seg (atP (F := F) c) 62 3))
    ⊢ iprop(brIn m c ∗ when (c = dev0) (gAside m)) := by
  unfold brIn
  by_cases hc : c = dev0
  · subst hc
    rw [when_pos rfl, when_pos rfl, when_pos rfl, when_pos rfl, when_pos rfl, when_neg (fun h => h rfl), when_neg (fun h => h rfl), when_neg (fun h => h rfl), sep_emp_e, sep_emp_e, sep_emp_e]
    iintro ⟨Hg, Hf, Ht⟩
    ihave H := (bc_join m) $$ [Hg Hf Ht]
    · isplitl [Hg]; · iexact Hg
      isplitl [Hf]; · iexact Hf
      iexact Ht
    icases H with ⟨H1, H2, H3⟩
    isplitl [H1 H2]
    · isplitl [H1]; · iexact H1
      iexact H2
    iexact H3
  · rw [when_neg hc, when_neg hc, when_neg hc, when_neg hc, when_neg hc, when_pos hc, when_pos hc, when_pos hc, emp_sep_e, emp_sep_e, emp_sep_e, emp_sep_e, sep_emp_e]
    rw [show seg (atP (F := F) c) 62 3 = iprop(atP (F := F) c 62 ∗ atP (F := F) c 63 ∗ atP (F := F) c 64 ∗ emp) from rfl, sep_emp_e]
    iintro ⟨⟨C1, C2, C3⟩, A1, A2, A3⟩
    unfold atP
    isplitl [C1 A1]
    · isplitl [C1]; · iexact C1
      iexact A1
    isplitl [C2 A2]
    · isplitl [C2]; · iexact C2
      iexact A2
    isplitl [C3]; · iexact C3
    iexact A3

/-- What the partial sums are sent with. -/
theorem pp_in (c : Dev nD) : iprop(when (c = dev0) (paFree (F := F) dev0 0) ∗ when (c ≠ dev0) (paFree (F := F) dev0 c.val)) = (paFree (F := F) dev0 c.val : sProp 𝕄) := by
  by_cases hc : c = dev0
  · subst hc
    rw [when_pos rfl, when_neg (fun h => h rfl), sep_emp_e]
  · rw [when_neg hc, when_pos hc, emp_sep_e]

/-- The band buffers as the band stage reads them, and the shares of the other slots aside. -/
def bandAside (c : Dev nD) : sProp 𝕄 :=
  iprop(((kSlot m c 0 (shareTokN fullShare 0) ∗ kSlot m c 0 (shareTokN fullShare 1)) ∗ (kSlot m c 2 (shareTokN fullShare 0) ∗ kSlot m c 2 (shareTokN fullShare 1)))
    ∗ ((vSlot m c 0 (shareTokN fullShare 0) ∗ vSlot m c 0 (shareTokN fullShare 1)) ∗ (vSlot m c 2 (shareTokN fullShare 0) ∗ vSlot m c 2 (shareTokN fullShare 1))))
/-- What the band stage takes from the loads, the broadcast rows and the neighbours' slots. -/
theorem band_in (c : Dev nD) : iprop(ldR m c ∗ (kgPts m c (gq c) ∗ vgPts m c (gq c)) ∗ (kSlot m c 2 fullShare ∗ vSlot m c 2 fullShare) ∗ (kSlot m c 0 fullShare ∗ vSlot m c 0 fullShare))
    ⊢ iprop(bandR m c ∗ qgPts m c (gq c) ∗ bandAside m c) := by
  unfold ldR bandR bandAside kgPts vgPts qgPts
  rw [k_shares m c 0, k_shares m c 2, v_shares m c 0, v_shares m c 2, k_slots, v_slots]
  iintro ⟨⟨K1, V1, Hq⟩, ⟨Hg, Hh⟩, ⟨⟨K2, K2a, K2b⟩, ⟨V2, V2a, V2b⟩⟩, ⟨⟨K0, K0a, K0b⟩, ⟨V0, V0a, V0b⟩⟩⟩
  isplitl [K0 K1 K2 V0 V1 V2 Hg Hh]
  · isplitl [K0 K1 K2]
    · isplitl [K0]; · iexact K0
      isplitl [K1]; · iexact K1
      iexact K2
    isplitl [V0 V1 V2]
    · isplitl [V0]; · iexact V0
      isplitl [V1]; · iexact V1
      iexact V2
    isplitl [Hg]; · iexact Hg
    iexact Hh
  isplitl [Hq]; · iexact Hq
  isplitl [K0a K0b K2a K2b]
  · isplitl [K0a K0b]
    · isplitl [K0a]; · iexact K0a
      iexact K0b
    isplitl [K2a]; · iexact K2a
    iexact K2b
  isplitl [V0a V0b]
  · isplitl [V0a]; · iexact V0a
    iexact V0b
  isplitl [V2a]; · iexact V2a
  iexact V2b

/-- The band buffers whole again. -/
theorem band_out (c : Dev nD) : iprop(bandR m c ∗ bandAside m c ∗ dmaPay m c 6 ∗ dmaPay m c 7 ∗ dmaPay m c 8 ∗ dmaPay m c 9)
    ⊢ iprop((∃ f : Buf (Elt F) (kM.view.loc (c : Thread nD τ)), kM.view.loc (c : Thread nD τ) ↦{fullShare} f) ∗ (∃ f : Buf (Elt F) (vM.view.loc (c : Thread nD τ)), vM.view.loc (c : Thread nD τ) ↦{fullShare} f) ∗ kgPts m c (gq c) ∗ vgPts m c (gq c)) := by
  rw [show dmaPay m c 6 = kSlot m c 1 (shareTokN fullShare 0) from rfl, show dmaPay m c 7 = vSlot m c 1 (shareTokN fullShare 0) from rfl,
    show dmaPay m c 8 = kSlot m c 1 (shareTokN fullShare 1) from rfl, show dmaPay m c 9 = vSlot m c 1 (shareTokN fullShare 1) from rfl]
  have ek := k_slots m c fullShare
  have ev := v_slots m c fullShare
  rw [k_shares m c 0, k_shares m c 1, k_shares m c 2] at ek
  rw [v_shares m c 0, v_shares m c 1, v_shares m c 2] at ev
  unfold bandR bandAside kgPts vgPts
  rw [k_slots, v_slots]
  iintro ⟨⟨⟨K0, K1, K2⟩, ⟨V0, V1, V2⟩, Hg, Hh⟩, ⟨⟨⟨K0a, K0b⟩, ⟨K2a, K2b⟩⟩, ⟨⟨V0a, V0b⟩, ⟨V2a, V2b⟩⟩⟩, K1a, V1a, K1b, V1b⟩
  isplitl [K0 K1 K2 K0a K0b K1a K1b K2a K2b]
  · iexists (KB m c)
    iapply (Entails.of_eq ek.symm)
    isplitl [K0 K0a K0b]
    · isplitl [K0]; · iexact K0
      isplitl [K0a]; · iexact K0a
      iexact K0b
    isplitl [K1 K1a K1b]
    · isplitl [K1]; · iexact K1
      isplitl [K1a]; · iexact K1a
      iexact K1b
    isplitl [K2]; · iexact K2
    isplitl [K2a]; · iexact K2a
    iexact K2b
  isplitl [V0 V1 V2 V0a V0b V1a V1b V2a V2b]
  · iexists (VB m c)
    iapply (Entails.of_eq ev.symm)
    isplitl [V0 V0a V0b]
    · isplitl [V0]; · iexact V0
      isplitl [V0a]; · iexact V0a
      iexact V0b
    isplitl [V1 V1a V1b]
    · isplitl [V1]; · iexact V1
      isplitl [V1a]; · iexact V1a
      iexact V1b
    isplitl [V2]; · iexact V2
    isplitl [V2a]; · iexact V2a
    iexact V2b
  isplitl [Hg]; · iexact Hg
  iexact Hh

/-- The global blocks given back to the scratch. -/
theorem g_back (c : Dev nD) : iprop((kgPts m c (gq c) ∗ vgPts m c (gq c) ∗ qgPts m c (gq c)) ∗ when (c = dev0) (gAside m) ∗ when (c = dev0) (seg (dmaPay m dev0) 17 45))
    ⊢ iprop(kgFree (F := F) c ∗ vgFree (F := F) c ∗ qgFree (F := F) c) := by
  have fin : ∀ c : Dev nD, iprop(kgPts m c fullShare ∗ vgPts m c fullShare ∗ qgPts m c fullShare) ⊢ iprop(kgFree (F := F) c ∗ vgFree (F := F) c ∗ qgFree (F := F) c) := by
    intro c
    unfold kgFree vgFree qgFree kgPts vgPts qgPts
    iintro ⟨H1, H2, H3⟩
    isplitl [H1]; · iexists _; iexact H1
    isplitl [H2]; · iexists _; iexact H2
    iexists _; iexact H3
  by_cases hc : c = dev0
  · subst hc
    rw [when_pos rfl, when_pos rfl]
    iintro ⟨H1, H2, H3⟩
    iapply (fin dev0)
    ihave H1' := (Entails.of_eq (show iprop(kgPts m dev0 (gq dev0) ∗ vgPts m dev0 (gq dev0) ∗ qgPts m dev0 (gq dev0)) = gAll m dev0 from rfl)) $$ H1
    iapply (bc_back m) $$ [H1' H2 H3]
    isplitl [H1']; · iexact H1'
    isplitl [H2]; · iexact H2
    iexact H3
  · rw [when_neg hc, when_neg hc, emp_sep_e, sep_emp_e, show gq c = fullShare from if_neg hc]
    exact fin c

/-- The gathering on device 0, its own sums aside. -/
theorem pa_mid (c : Dev nD) : iprop(when (c = dev0) iprop(ppPts m c fullShare ∗ paSlot m 0) ∗ when (c = dev0) (seg (fun n => cred (tallyAt (dcell dev0 n) () NP)) 82 15) ∗ when (c = dev0) iprop(seg (atP (F := F) c) 17 45 ∗ seg (atP (F := F) c) 82 15))
    ⊢ iprop(when (c = dev0) (paOut m) ∗ when (c = dev0) (ppPts m c fullShare) ∗ when (c = dev0) (seg (atP (F := F) c) 17 45)) := by
  by_cases hc : c = dev0
  · subst hc
    have e := seg_sep (fun n => (cred (tallyAt (dcell dev0 n) () NP) : sProp 𝕄)) (atP (F := F) dev0) 82 15
    rw [when_pos rfl, when_pos rfl, when_pos rfl, when_pos rfl, when_pos rfl, when_pos rfl]
    unfold paOut
    rw [show seg (wpend (F := F) dev0 NP) 82 15 = _ from e]
    iintro ⟨⟨H1, H2⟩, H3, H4, H5⟩
    isplitl [H2 H3 H5]
    · isplitl [H2]; · iexact H2
      isplitl [H3]; · iexact H3
      iexact H5
    isplitl [H1]; · iexact H1
    iexact H4
  · rw [when_neg hc, when_neg hc, when_neg hc, when_neg hc, when_neg hc, when_neg hc]

/-- A row may be numbered from another start. -/
theorem seg_shift (Φ : ℕ → sProp 𝕄) (b a k : ℕ) : seg Φ (b + a) k = seg (fun n => Φ (b + n)) a k := by
  induction k generalizing a with
  | zero => rfl
  | succ k ih => rw [seg_succ, seg_succ, Nat.add_assoc, ih (a + 1)]

/-- The broadcasts' completions to wait for on device 0; their semaphores on another device. -/
theorem bs_mid (c : Dev nD) : iprop(brOut (F := F) c ∗ when (c = dev0) (seg (atP (F := F) c) 17 45))
    ⊢ iprop(when (c = dev0) (seg (wpend (F := F) dev0 NG) 17 45) ∗ when (c ≠ dev0) (seg (smV (F := F) c) 62 3)) := by
  unfold brOut
  by_cases hc : c = dev0
  · subst hc
    have e := seg_sep (fun n => (cred (tallyAt (dcell dev0 n) () NG) : sProp 𝕄)) (atP (F := F) dev0) 17 45
    rw [when_pos rfl, when_pos rfl, when_pos rfl, when_neg (fun h => h rfl), when_neg (fun h => h rfl), sep_emp_e, sep_emp_e, show seg (wpend (F := F) dev0 NG) 17 45 = _ from e,
      show (17 : ℕ) = 14 + 3 from rfl, seg_shift _ 14 3 45, ← seg_acc]
    exact .rfl
  · rw [when_neg hc, when_neg hc, when_neg hc, when_pos hc, when_pos hc, emp_sep_e, emp_sep_e, sep_emp_e,
      show seg (smV (F := F) c) 62 3 = iprop(smV (F := F) c 62 ∗ smV (F := F) c 63 ∗ smV (F := F) c 64 ∗ emp) from rfl, sep_emp_e]
    unfold smV
    exact .rfl

/-- The completion of a device's own sending, before and after the wait for it. -/
theorem ps_in (c : Dev nD) : iprop(when (c ≠ dev0) (cred (tallyAt (dcell c (65 + c.val)) () NP)) ∗ when (c ≠ dev0) (atP (F := F) c (65 + c.val))) ⊢ psSt m c 1 := by
  unfold psSt
  by_cases hc : c = dev0
  · rw [when_neg (fun h => h hc), when_neg (fun h => h hc), when_neg (fun h => h hc), emp_sep_e]
  · have hv : ¬ c.val < 1 := fun h => hc (Fin.ext (by show c.val = 0; omega))
    rw [when_pos hc, when_pos hc, when_pos hc, if_neg hv]
    exact .rfl
/-- The partial result's buffer comes back, with its semaphore on the devices that sent it. -/
theorem pp_out (c : Dev nD) : iprop(when (c = dev0) (ppPts m c fullShare) ∗ psSt m c 16) ⊢ iprop((∃ f : Buf (Elt F) (ppM.view.loc (c : Thread nD τ)), ppM.view.loc (c : Thread nD τ) ↦{fullShare} f) ∗ when (c ≠ dev0) (smV (F := F) c (65 + c.val))) := by
  unfold psSt
  by_cases hc : c = dev0
  · rw [when_pos hc, when_neg (fun h => h hc), when_neg (fun h => h hc), sep_emp_e, sep_emp_e]
    unfold ppPts
    iintro H
    iexists _
    iexact H
  · have hl : c.val < 16 := c.isLt
    rw [when_neg hc, when_pos hc, when_pos hc, emp_sep_e, if_pos hl]
    have e : dmaPay m c (65 + c.val) = ppPts m c fullShare := by
      unfold dmaPay
      rw [if_neg (by omega), if_neg (by omega), if_neg (by omega), if_neg (by omega), if_pos (by omega)]
    unfold wdone
    rw [e]
    unfold ppPts smV
    iintro ⟨H, Hs⟩
    isplitl [H]
    · iexists _
      iexact H
    iexact Hs

/-- The gathered sums given back. -/
theorem pa_out (c : Dev nD) : iprop(when (c = dev0) (paIn m) ∗ when (c ≠ dev0) iprop(∃ f : Buf (Elt F) (paM.view.loc (c : Thread nD τ)), paM.view.loc (c : Thread nD τ) ↦{fullShare} f)) ⊢ iprop((∃ f : Buf (Elt F) (paM.view.loc (c : Thread nD τ)), paM.view.loc (c : Thread nD τ) ↦{fullShare} f) ∗ when (c = dev0) (seg (smV (F := F) dev0) 82 15)) := by
  by_cases hc : c = dev0
  · subst hc
    rw [when_pos rfl, when_neg (fun h => h rfl), sep_emp_e, when_pos rfl]
    unfold paIn
    iintro ⟨H, Hs⟩
    isplitl [H]
    · iexists _
      iexact H
    iexact Hs
  · rw [when_neg hc, when_pos hc, when_neg hc, emp_sep_e, sep_emp_e]
end Cert.Att
-- ==== Proof.Deal.lean ====
/-
# What the launch deals

The duty tokens and the completions each device starts with, out of the launch's
ghost element and of what the devices owe one another.
-/
module

public import proofs.«01_k».proof.Proof.Joint
public import Idealize.ShloMosaic.Lib.Pipeline.Launch

@[expose] public section

set_option maxRecDepth 4000
set_option maxHeartbeats 4000000

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The duty tokens -/

/-- The `n`-th token device `c` holds at the start: its signals of the other devices' barriers, its halo transfers, its
    partial sums, and on device 0 the broadcasts. The rest stand for later rounds, which no cell has. -/
def tokN (c : Dev nD) (n : ℕ) : GSem nD τ sig × ℕ × Dev nD :=
  if n < 15 then (barCell (off c (1 + n)), 0, c)
  else if n = 15 then (dcell c 6, 0, dev0) else if n = 16 then (dcell (prv c) 10, 0, dev0)
  else if n = 17 then (dcell c 7, 0, dev0) else if n = 18 then (dcell (prv c) 11, 0, dev0)
  else if n = 19 then (dcell c 8, 0, dev0) else if n = 20 then (dcell (nxt c) 12, 0, dev0)
  else if n = 21 then (dcell c 9, 0, dev0) else if n = 22 then (dcell (nxt c) 13, 0, dev0)
  else if n = 23 then (dcell c (65 + c.val), 0, dev0) else if n = 24 then (dcell dev0 (81 + c.val), 0, dev0)
  else if c = dev0 then (if n < 70 then (dcell dev0 (n - 8), 0, dev0) else (dcell (off dev0 ((n - 67) / 3)) (62 + (n - 67) % 3), 0, dev0))
  else (barCell c, n, c)

/-- Who holds a token, and under which number. -/
def holder (x : GSem nD τ sig × ℕ × Dev nD) : ℕ × ℕ :=
  if x.2.1 ≠ 0 then (x.2.2.val, x.2.1) else
  match x.1.2 with
  | .reg _ => (x.2.2.val, (x.1.1.1.val + 15 - x.2.2.val) % 16)
  | .dma k =>
    if k.val = 6 then (x.1.1.1.val, 15) else if k.val = 10 then ((x.1.1.1.val + 1) % 16, 16)
    else if k.val = 7 then (x.1.1.1.val, 17) else if k.val = 11 then ((x.1.1.1.val + 1) % 16, 18)
    else if k.val = 8 then (x.1.1.1.val, 19) else if k.val = 12 then ((x.1.1.1.val + 15) % 16, 20)
    else if k.val = 9 then (x.1.1.1.val, 21) else if k.val = 13 then ((x.1.1.1.val + 15) % 16, 22)
    else if k.val < 62 then (0, k.val + 8) else if k.val < 65 then (0, 3 * x.1.1.1.val + k.val + 5)
    else if k.val < 81 then (x.1.1.1.val, 23) else (k.val - 81, 24)

/-- A token's cell says which device holds it and which of its 115 it is. -/
theorem holder_tokN : ∀ (c : Dev nD) (n : Fin 115), holder (tokN c n.val) = (c.val, n.val) := by decide +kernel

/-- The launch's tokens: 115 for each device. -/
abbrev tokOf (cn : Dev nD × Fin 115) : GSem nD τ sig × ℕ × Dev nD := tokN cn.1 cn.2.val
/-- Different tokens are different. -/
theorem tokOf_injective : Function.Injective tokOf := by
  rintro ⟨c, n⟩ ⟨c', n'⟩ h
  have e := congrArg holder h
  rw [show tokOf (c, n) = tokN c n.val from rfl, show tokOf (c', n') = tokN c' n'.val from rfl, holder_tokN, holder_tokN] at e
  exact Prod.ext (Fin.ext (congrArg Prod.fst e)) (Fin.ext (congrArg Prod.snd e))
def theToks : Finset (GSem nD τ sig × ℕ × Dev nD) := Finset.univ.map ⟨tokOf, tokOf_injective⟩

omit [FloatOps F] [Named F] in
/-- Over the numbers below `k`, one by one. -/
theorem fin_seg (Φ : ℕ → sProp 𝕄) (k : ℕ) : bigSep Finset.univ (fun n : Fin k => Φ n.val) = seg Φ 0 k := by
  have e : Finset.Ico 0 (0 + k) = (Finset.univ : Finset (Fin k)).map Fin.valEmbedding := by
    ext i
    rw [Finset.mem_Ico, Finset.mem_map]
    exact ⟨fun h => ⟨⟨i, by omega⟩, Finset.mem_univ _, rfl⟩, fun ⟨a, _, h⟩ => by have := a.isLt; have h' : a.val = i := h; omega⟩
  rw [seg_eq, e, bigSep_map]; rfl

omit [FloatOps F] [Named F] in
/-- Equal names give the same token. -/
theorem dutyTok_eq (x y : GSem nD τ sig × ℕ × Dev nD) (h : x = y) : (dutyTok ER x.1 x.2.1 x.2.2 : sProp 𝕄) = dutyTok ER y.1 y.2.1 y.2.2 := by rw [h]

/-- The first fifteen tokens of a device are its signals to the other devices' barriers. -/
theorem tokN_bar (c : Dev nD) (n : ℕ) (h : n < 15) : tokN c n = (barCell (off c (1 + n)), 0, c) := if_pos h
/-- Device 0's tokens 25 to 69 are the sending sides of its broadcasts. -/
theorem tokN_bs (n : ℕ) (h : 25 ≤ n) (h2 : n < 70) : tokN dev0 n = (dcell dev0 (n - 8), 0, dev0) := by
  unfold tokN
  rw [if_neg (by omega), if_neg (by omega), if_neg (by omega), if_neg (by omega), if_neg (by omega), if_neg (by omega), if_neg (by omega), if_neg (by omega), if_neg (by omega), if_neg (by omega), if_neg (by omega), if_pos rfl, if_pos h2]
/-- Device 0's tokens from 70 on are the receiving sides of its broadcasts. -/
theorem tokN_br (n : ℕ) (h2 : 70 ≤ n) : tokN dev0 n = (dcell (off dev0 ((n - 67) / 3)) (62 + (n - 67) % 3), 0, dev0) := by
  unfold tokN
  rw [if_neg (by omega), if_neg (by omega), if_neg (by omega), if_neg (by omega), if_neg (by omega), if_neg (by omega), if_neg (by omega), if_neg (by omega), if_neg (by omega), if_neg (by omega), if_neg (by omega), if_pos rfl, if_neg (by omega)]

/-- A device's 115 tokens hold the ones its run spends. -/
theorem toks_of (c : Dev nD) : bigSep Finset.univ (fun n : Fin 115 => (dutyTok ER (tokN c n.val).1 (tokN c n.val).2.1 (tokN c n.val).2.2 : sProp 𝕄)) ⊢ toks (F := F) c := by
  rw [fin_seg (fun n => (dutyTok ER (tokN c n).1 (tokN c n).2.1 (tokN c n).2.2 : sProp 𝕄)) 115, show 115 = 15 + (10 + (45 + 45)) from rfl, seg_split, seg_split, seg_split]
  have e1 : seg (fun n => (dutyTok ER (tokN c n).1 (tokN c n).2.1 (tokN c n).2.2 : sProp 𝕄)) 0 15 = seg (fun i => dutyTok ER (barCell (off c i)) 0 c) 1 15 := by
    rw [show (1 : ℕ) = 1 + 0 from rfl, seg_shift]
    exact seg_congr fun i _ hi => dutyTok_eq _ _ (tokN_bar c i (by omega))
  have e2 : seg (fun n => (dutyTok ER (tokN c n).1 (tokN c n).2.1 (tokN c n).2.2 : sProp 𝕄)) (0 + 15) 10
      = iprop(dutyTok ER (dcell c 6) 0 dev0 ∗ dutyTok ER (dcell (prv c) 10) 0 dev0 ∗ dutyTok ER (dcell c 7) 0 dev0 ∗ dutyTok ER (dcell (prv c) 11) 0 dev0
        ∗ dutyTok ER (dcell c 8) 0 dev0 ∗ dutyTok ER (dcell (nxt c) 12) 0 dev0 ∗ dutyTok ER (dcell c 9) 0 dev0 ∗ dutyTok ER (dcell (nxt c) 13) 0 dev0
        ∗ dutyTok ER (dcell c (65 + c.val)) 0 dev0 ∗ dutyTok ER (dcell dev0 (81 + c.val)) 0 dev0 ∗ emp) := rfl
  have e3 : iprop(seg (fun n => (dutyTok ER (tokN c n).1 (tokN c n).2.1 (tokN c n).2.2 : sProp 𝕄)) (0 + 15 + 10) 45
      ∗ seg (fun n => (dutyTok ER (tokN c n).1 (tokN c n).2.1 (tokN c n).2.2 : sProp 𝕄)) (0 + 15 + 10 + 45) 45) ⊢ when (c = dev0) (bcTok (F := F)) := by
    by_cases hc : c = dev0
    · subst hc
      rw [when_pos rfl]
      unfold bcTok
      exact .rfl
    · rw [when_neg hc]; iintro -; iempintro
  rw [e1, e2]
  unfold toks
  iintro ⟨H1, ⟨H6, H10, H7, H11, H8, H12, H9, H13, H65, H81, -⟩, HB⟩
  ihave HB := e3 $$ HB
  isplitl [H1]; · iexact H1
  isplitl [H6 H10]
  · isplitl [H6]; · iexact H6
    iexact H10
  isplitl [H7 H11]
  · isplitl [H7]; · iexact H7
    iexact H11
  isplitl [H8 H12]
  · isplitl [H8]; · iexact H8
    iexact H12
  isplitl [H9 H13]
  · isplitl [H9]; · iexact H9
    iexact H13
  isplitl [HB]; · iexact HB
  by_cases hc : c = dev0
  · rw [when_neg (fun h => h hc)]; iempintro
  · rw [when_pos hc]
    isplitl [H65]; · iexact H65
    iexact H81

/-! ## The completions -/

/-- All that the other devices owe device `c`. -/
def due (c : Dev nD) : CellTallies nD τ sig Unit :=
  (if c = dev0 then ∑ i ∈ Finset.range 15, tallyAt (dcell c (82 + i)) () NP else tallyAt (dcell c 62) () NG + tallyAt (dcell c 63) () NG + tallyAt (dcell c 64) () NG)
    + tallyAt (dcell c 13) () NK + tallyAt (dcell c 12) () NK + tallyAt (dcell c 11) () NK + tallyAt (dcell c 10) () NK + tallyAt (barCell c) () 15

/-- Going `i` places round the ring. -/
def ringE (i : ℕ) : Dev nD ≃ Dev nD where
  toFun c := off c i
  invFun c := off c (15 * i)
  left_inv c := Fin.ext (by simp only [off]; have : c.val < 16 := c.isLt; omega)
  right_inv c := Fin.ext (by simp only [off]; have : c.val < 16 := c.isLt; omega)

/-- A sum over the devices is unchanged by a turn of the ring. -/
theorem sum_ring (i : ℕ) (f : Dev nD → CellTallies nD τ sig Unit) : ∑ d, f (off d i) = ∑ d, f d := Equiv.sum_comp (ringE i) f
/-- A sum over a row of broadcasts, three to a device. -/
theorem sum_three (f : ℕ → CellTallies nD τ sig Unit) (k : ℕ) :
    ∑ i ∈ Finset.range (3 * k), f (3 + i) = ∑ t ∈ Finset.range k, (f (3 * (1 + t)) + f (3 * (1 + t) + 1) + f (3 * (1 + t) + 2)) := by
  induction k with
  | zero => rfl
  | succ k ih =>
    rw [show 3 * (k + 1) = 3 * k + 1 + 1 + 1 by omega, Finset.sum_range_succ, Finset.sum_range_succ, Finset.sum_range_succ, ih, Finset.sum_range_succ,
      show 3 + 3 * k = 3 * (1 + k) by omega, show 3 + (3 * k + 1) = 3 * (1 + k) + 1 by omega, show 3 + (3 * k + 1 + 1) = 3 * (1 + k) + 2 by omega, add_assoc, add_assoc, add_assoc]
/-- A sum with its own term on device 0, the other devices taken in ring order from it. -/
theorem sum_at (f : Dev nD → CellTallies nD τ sig Unit) (A : CellTallies nD τ sig Unit) :
    ∑ d, (if d = dev0 then A else f d) = A + ∑ i ∈ Finset.range 15, f (off dev0 (1 + i)) := by
  rw [← Finset.add_sum_erase _ _ (Finset.mem_univ dev0), if_pos rfl, Finset.sum_congr rfl (fun d hd => if_neg (Finset.ne_of_mem_erase hd)), others_eq,
    Finset.sum_image (off_inj dev0), Finset.sum_Ico_eq_sum_range]
/-- The devices in ring order from device 0. -/
theorem off_dev0 (i : ℕ) (h : i < 15) : (off dev0 (1 + i)).val = 1 + i := by
  show (0 + (1 + i)) % 16 = _; omega

/-- What all devices owe after the halo transfers, by the device that is paid. -/
theorem sum_O₂ : ∑ d, O₂ d = ∑ d, (if d = dev0 then ∑ i ∈ Finset.range 15, tallyAt (dcell d (82 + i)) () NP
    else tallyAt (dcell d 62) () NG + tallyAt (dcell d 63) () NG + tallyAt (dcell d 64) () NG) := by
  have e1 : ∑ d, O₂ d = ∑ d, (if d = dev0 then oseg brO 0 3 45 else prO d) := rfl
  have e2 : ∀ d : Dev nD, (if d = dev0 then ∑ i ∈ Finset.range 15, (tallyAt (dcell d (82 + i)) () NP : CellTallies nD τ sig Unit)
      else tallyAt (dcell d 62) () NG + tallyAt (dcell d 63) () NG + tallyAt (dcell d 64) () NG)
      = if d = dev0 then ∑ i ∈ Finset.range 15, tallyAt (dcell dev0 (82 + i)) () NP else tallyAt (dcell d 62) () NG + tallyAt (dcell d 63) () NG + tallyAt (dcell d 64) () NG := fun d => by
    by_cases h : d = dev0
    · rw [if_pos h, if_pos h, h]
    · rw [if_neg h, if_neg h]
  rw [e1, sum_at, Finset.sum_congr rfl (fun d _ => e2 d), sum_at, oseg_eq, zero_add, show 45 = 3 * 15 from rfl, sum_three, add_comm]
  congr 1

/-- What all devices owe at launch is what all devices are due. -/
theorem sum_O₀ : ∑ d, O₀ d = ∑ d, due d := by
  have e : ∀ d, O₀ d = O₁ d + ∑ i ∈ Finset.range 15, tallyAt (barCell (off d (1 + i))) () 1 := fun d => oseg_eq _ _ _ _
  have b : ∑ d, ∑ i ∈ Finset.range 15, (tallyAt (barCell (off d (1 + i))) () 1 : CellTallies nD τ sig Unit) = ∑ d, tallyAt (barCell d) () 15 := by
    rw [Finset.sum_comm, Finset.sum_congr rfl (fun i _ => sum_ring (1 + i) fun d => tallyAt (barCell d) () 1), ← Finset.sum_comm]
    refine Finset.sum_congr rfl fun d _ => ?_
    have h : ∀ k : ℕ, ∑ _i ∈ Finset.range k, (tallyAt (barCell d) () 1 : CellTallies nD τ sig Unit) = tallyAt (barCell d) () k := fun k => by
      induction k with
      | zero => rw [tallyAt_zero]; rfl
      | succ k ih => rw [Finset.sum_range_succ, ih, tallyAt_add]
    exact h 15
  rw [Finset.sum_congr rfl fun d _ => e d, Finset.sum_add_distrib, b]
  unfold O₁ due nxt prv
  simp only [Finset.sum_add_distrib]
  rw [sum_ring 1 (fun d => tallyAt (dcell d 13) () NK), sum_ring 1 (fun d => tallyAt (dcell d 12) () NK), sum_ring 15 (fun d => tallyAt (dcell d 11) () NK), sum_ring 15 (fun d => tallyAt (dcell d 10) () NK), sum_O₂]

/-- Tallies at cells of one device only. -/
def Only (c : Dev nD) (O : CellTallies nD τ sig Unit) : Prop := ∀ g, O g ≠ 0 → g.1 = (c : Thread nD τ)
/-- A sum of tallies of one device's cells is one. -/
theorem Only.add {c : Dev nD} {O D : CellTallies nD τ sig Unit} (hO : Only c O) (hD : Only c D) : Only c (O + D) := fun g h => by
  by_cases h1 : O g = 0
  · exact hD g fun h2 => h (by rw [Pi.add_apply, h1, h2, add_zero])
  · exact hO g h1
/-- A tally at one cell of a device. -/
theorem Only.tally (c : Dev nD) (sm : SemLoc sig) (n : ℕ) : Only c (tallyAt ((c : Thread nD τ), sm) () n) := fun g h => by
  by_contra hg
  exact h (tallyAt_ne_cell (fun e => hg (by rw [e])) () n)
/-- A finite sum of tallies of one device's cells is one. -/
theorem Only.sum {c : Dev nD} {f : ℕ → CellTallies nD τ sig Unit} (k : ℕ) (h : ∀ i, Only c (f i)) : Only c (∑ i ∈ Finset.range k, f i) := by
  induction k with
  | zero => exact fun g hg => absurd rfl hg
  | succ k ih => rw [Finset.sum_range_succ]; exact ih.add (h k)
/-- What a device is due is at its own cells. -/
theorem only_due (c : Dev nD) : Only c (due c) := by
  unfold due
  refine (((((Only.add ?_ (.tally _ _ _)).add (.tally _ _ _)).add (.tally _ _ _)).add (.tally _ _ _)).add (.tally _ _ _))
  split
  · exact Only.sum 15 fun i => .tally _ _ _
  · exact ((Only.tally _ _ _).add (.tally _ _ _)).add (.tally _ _ _)

omit [FloatOps F] [Named F] in
/-- Credit for a sum is the two credits. -/
theorem cred_two (A B : CellTallies nD τ sig Unit) : (cred (A + B) : sProp 𝕄) = iprop(cred A ∗ cred B) := BI.Entails.antisymm (cred_add A B).1 (cred_add A B).2
omit [FloatOps F] [Named F] in
/-- Credit for a finite sum is a row of credits. -/
theorem cred_range (f : ℕ → CellTallies nD τ sig Unit) (k : ℕ) : (cred (∑ i ∈ Finset.range k, f i) : sProp 𝕄) = seg (fun i => cred (f i)) 0 k := by
  rw [seg_eq, Nat.zero_add, Nat.Ico_zero_eq_range]; exact Pipeline.cred_finsetSum _ _

/-- The launch's completions of device `c` are those its run waits for. -/
theorem crs_of (c : Dev nD) : (Pipeline.launchCred O₀ c : sProp 𝕄) ⊢ crs (F := F) c := by
  rw [Pipeline.launchCred_of_sum O₀ due sum_O₀ (fun d g h => only_due d g h) c]
  unfold due crs
  rw [cred_two, cred_two, cred_two, cred_two, cred_two]
  have e3 : (cred (if c = dev0 then ∑ i ∈ Finset.range 15, tallyAt (dcell c (82 + i)) () NP else tallyAt (dcell c 62) () NG + tallyAt (dcell c 63) () NG + tallyAt (dcell c 64) () NG) : sProp 𝕄)
      ⊢ iprop(when (c ≠ dev0) iprop(cred (tallyAt (dcell c 62) () NG) ∗ cred (tallyAt (dcell c 63) () NG) ∗ cred (tallyAt (dcell c 64) () NG))
        ∗ when (c = dev0) (seg (fun n => cred (tallyAt (dcell dev0 n) () NP)) 82 15)) := by
    by_cases hc : c = dev0
    · rw [if_pos hc, when_neg (fun h => h hc), when_pos hc, cred_range, hc, emp_sep_e, show 82 = 82 + 0 from rfl, seg_shift]
    · rw [if_neg hc, when_pos hc, when_neg hc, cred_two, cred_two, sep_emp_e]
      iintro ⟨⟨H1, H2⟩, H3⟩
      isplitl [H1]; · iexact H1
      isplitl [H2]; · iexact H2
      iexact H3
  iintro ⟨⟨⟨⟨⟨H, H13⟩, H12⟩, H11⟩, H10⟩, Hb⟩
  ihave H := e3 $$ H
  icases H with ⟨Ha, Hb'⟩
  isplitl [Hb]; · iexact Hb
  isplitl [H10 H11 H12 H13]
  · isplitl [H10]; · iexact H10
    isplitl [H11]; · iexact H11
    isplitl [H12]; · iexact H12
    iexact H13
  isplitl [Ha]; · iexact Ha
  iexact Hb'

end Cert.Att

end
-- ==== Proof.Body.lean ====
/-
# A device's run

The parts of the body one after the other.
-/
module

public import proofs.«01_k».proof.Proof.Joint

@[expose] public section

set_option maxRecDepth 4000
set_option maxHeartbeats 4000000

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

variable (c : Dev nD)

/-- The buffer of partial sums before any block is in. -/
theorem pp_zero : iprop(∃ f : Buf (Elt F) (ppM.view.loc (c : Thread nD τ)), ppM.view.loc (c : Thread nD τ) ↦{fullShare} f) ⊢ ppN m c 0 := by
  unfold ppN
  iintro ⟨%f, H⟩
  iexists f
  iexact H

/-- The semaphores in use, one by one. -/
theorem live_split (Φ : ℕ → sProp 𝕄) : liveR c Φ = iprop((Φ 6 ∗ Φ 7 ∗ Φ 8 ∗ Φ 9 ∗ Φ 10 ∗ Φ 11 ∗ Φ 12 ∗ Φ 13) ∗ when (c = dev0) iprop(seg Φ 17 45 ∗ seg Φ 82 15) ∗ when (c ≠ dev0) (seg Φ 62 3) ∗ when (c ≠ dev0) (Φ (65 + c.val))) := by
  unfold liveR
  rw [when_sep (c ≠ dev0), show seg Φ 6 8 = iprop(Φ 6 ∗ Φ 7 ∗ Φ 8 ∗ Φ 9 ∗ Φ 10 ∗ Φ 11 ∗ Φ 12 ∗ Φ 13 ∗ emp) from rfl, sep_emp_e]

/-- A wait to come, from its two halves. -/
theorem wp_mk (N n : ℕ) : iprop(cred (tallyAt (dcell c n) () N) ∗ atPos ER (dcell c n) 0 ∅ 0) ⊢ wpend (F := F) c N n := .rfl

/-- The wait of the device in place `s`, nothing after the choice. -/
theorem ps_step0 (K : Dev nD × CIx → ℕ) {Q : PUnit → sProp (MT nD τ sig Unit (Elt F) ℕ UU ℕ)} {p : Prog (TpuEff nD τ sig (Elt F) Λ₀ .tc) PUnit} (s s' : ℕ) (hs : 1 ≤ s ∧ s < 16 ∧ s' = s + 1) {P : Prop} [Decidable P] (hP : P ↔ c.val = s)
    {sp' : Space} {sh : Shape} {e' : EltTy} {sem : DmaSem sig} {src : Memref sig .tc sp' sh e'} {hsrc : src.view.WordExact} {hdst : ppM.view.WordExact} (hsem : sem = Fin.ofNat 97 (65 + s)) :
    iprop(env m K ∗ owesE (F := F) c 0 ∗ psSt m c s)
      ⊢ iprop(((env m K ∗ owesE (F := F) c 0 ∗ psSt m c s') -∗ wpc c p Q)
        -∗ wpc c (dite P (fun _ => .op (.waitDma2 sem src ppM hsrc hdst) (fun _ => p)) (fun _ => p)) Q) := by
  have h := ps_step m c K (Q := Q) (kk := Prog.ret) (p := p) (hsrc := hsrc) (hdst := hdst) s s' hs hP hsem
  rwa [show p >>= Prog.ret = p from Prog.bind_pure p, show dite P (fun _ => .op (.waitDma2 sem src ppM hsrc hdst) (fun _ => p)) (fun _ => p) >>= Prog.ret = dite P (fun _ => .op (.waitDma2 sem src ppM hsrc hdst) (fun _ => p)) (fun _ => p) from Prog.bind_pure _] at h

/-- The row of broadcast waits, before and after. -/
theorem bs_start : iprop(owesE (F := F) dev0 0 ∗ seg (wpend (F := F) dev0 NG) 17 45) ⊢ wst m dev0 NG 17 17 45 := by
  unfold wst
  iintro ⟨H1, H2⟩
  isplitl [H1]; · iexact H1
  isplitl [H2]; · iexact H2
  rw [show acc (wdone m dev0) 17 (17 - 17) = iprop(emp) from rfl]
  iempintro
/-- Device 0 after the broadcasts' waits: nothing owed, and all 45 waits done. -/
theorem bs_end : wst m dev0 NG 17 62 0 ⊢ iprop(owesE (F := F) dev0 0 ∗ seg (wdone m dev0) 17 45) := by
  unfold wst
  rw [show (62 - 17 : ℕ) = 45 from rfl, seg_acc (wdone m dev0) 17 45, show seg (wpend (F := F) dev0 NG) 62 0 = iprop(emp) from rfl, emp_sep_e]

/-- The end of a run, but for the broadcasts' completions. -/
theorem close {G : sProp 𝕄} : iprop(wins m c ∗ (oM.view.loc (c : Thread nD τ) ↦{fullShare} outAt m c) ∗ ((∃ f : Buf (Elt F) (kM.view.loc (c : Thread nD τ)), kM.view.loc (c : Thread nD τ) ↦{fullShare} f) ∗ (∃ f : Buf (Elt F) (vM.view.loc (c : Thread nD τ)), vM.view.loc (c : Thread nD τ) ↦{fullShare} f) ∗ (∃ f : Buf (Elt F) (ppM.view.loc (c : Thread nD τ)), ppM.view.loc (c : Thread nD τ) ↦{fullShare} f) ∗ (∃ f : Buf (Elt F) (paM.view.loc (c : Thread nD τ)), paM.view.loc (c : Thread nD τ) ↦{fullShare} f))
      ∗ (kgPts m c (gq c) ∗ vgPts m c (gq c) ∗ qgPts m c (gq c)) ∗ when (c = dev0) (gAside m) ∗ semVal (barCell c) 0
      ∗ (semVal (dcell c 6) 0 ∗ semVal (dcell c 7) 0 ∗ semVal (dcell c 8) 0 ∗ semVal (dcell c 9) 0 ∗ semVal (dcell c 10) 0 ∗ semVal (dcell c 11) 0 ∗ semVal (dcell c 12) 0 ∗ semVal (dcell c 13) 0)
      ∗ (when (c ≠ dev0) (seg (smV (F := F) c) 62 3) ∗ when (c ≠ dev0) (smV (F := F) c (65 + c.val)) ∗ when (c = dev0) (seg (smV (F := F) dev0) 82 15) ∗ deadV (F := F) c)
      ∗ (bodyOut m c -∗ G))
    ⊢ iprop((owesE (F := F) c 0 ∗ when (c = dev0) (seg (wdone m dev0) 17 45)) -∗ G) := by
  have e : when (c = dev0) (seg (wdone m dev0) 17 45) = iprop(when (c = dev0) (seg (dmaPay m dev0) 17 45) ∗ when (c = dev0) (seg (smV (F := F) dev0) 17 45)) := by
    rw [← when_sep, ← seg_sep]; rfl
  have e2 : iprop(when (c = dev0) (seg (smV (F := F) dev0) 17 45) ∗ when (c = dev0) (seg (smV (F := F) dev0) 82 15)) = when (c = dev0) iprop(seg (smV (F := F) c) 17 45 ∗ seg (smV (F := F) c) 82 15) := by
    rw [← when_sep]
    by_cases hc : c = dev0
    · rw [hc]
    · rw [when_neg hc, when_neg hc]
  rw [e]
  unfold bodyOut scr
  iintro ⟨Hw, Ho, ⟨Hk, Hv, Hpp, Hpa⟩, HG, Hga, Sb, ⟨S6, S7, S8, S9, S10, S11, S12, S13⟩, ⟨Hbs, Sp, S82, AD⟩, Hend⟩ ⟨HO, HP, HS⟩
  iapply Hend
  ihave Hg := (g_back m c) $$ [HG Hga HP]
  · isplitl [HG]; · iexact HG
    isplitl [Hga]; · iexact Hga
    iexact HP
  icases Hg with ⟨Hg1, Hg2, Hg3⟩
  ihave H0 := (Entails.of_eq e2) $$ [HS S82]
  · isplitl [HS]; · iexact HS
    iexact S82
  isplitl [Hw]; · iexact Hw
  isplitl [Ho]; · iexact Ho
  isplitl [Hk Hv Hg1 Hg2 Hg3 Hpp Hpa]
  · isplitl [Hk]; · iexact Hk
    isplitl [Hv]; · iexact Hv
    isplitl [Hg1]; · iexact Hg1
    isplitl [Hg2]; · iexact Hg2
    isplitl [Hg3]; · iexact Hg3
    isplitl [Hpp]; · iexact Hpp
    iexact Hpa
  isplitl [HO]; · iexact HO
  isplitl [Sb]; · iexact Sb
  iapply (pos_join c)
  isplitr [AD]
  · iapply (Entails.of_eq (live_split c (smV (F := F) c)).symm)
    isplitl [S6 S7 S8 S9 S10 S11 S12 S13]
    · unfold smV
      isplitl [S6]; · iexact S6
      isplitl [S7]; · iexact S7
      isplitl [S8]; · iexact S8
      isplitl [S9]; · iexact S9
      isplitl [S10]; · iexact S10
      isplitl [S11]; · iexact S11
      isplitl [S12]; · iexact S12
      iexact S13
    isplitl [H0]; · iexact H0
    isplitl [Hbs]; · iexact Hbs
    iexact Sp
  iexact AD

/-- A device's run from start to end. -/
theorem run (K : Dev nD × CIx → ℕ) {Q : PUnit → sProp (MT nD τ sig Unit (Elt F) ℕ UU ℕ)} :
    bodyIn m K c ⊢ iprop((bodyOut m c -∗ Q ⟨⟩) -∗ wpc c (cc0_body (F := F) xM (Memref.isWhole_whole _) wqM (Memref.isWhole_whole _) kiM (Memref.isWhole_whole _) viM (Memref.isWhole_whole _) woM (Memref.isWhole_whole _) oM (Memref.isWhole_whole _) kM (Memref.isWhole_whole _) vM (Memref.isWhole_whole _) kgM (Memref.isWhole_whole _) vgM (Memref.isWhole_whole _) qgM (Memref.isWhole_whole _) ppM (Memref.isWhole_whole _) paM (Memref.isWhole_whole _) cc0_scratch7 cc0_scratch8 cc0_scratch9 cc0_scratch10 cc0_scratch11 cc0_scratch12) Q) := by
  rw [cc0_body_eq_skeleton]
  unfold cc0_body_skel
  unfold bodyIn scr toks crs
  iintro ⟨#HE, Hwin, ⟨%fo, Ho⟩, ⟨⟨%fk, Hk⟩, ⟨%fv, Hv⟩, Hkg, Hvg, Hqg, Hpp, Hpa⟩, HO, ⟨Tb, ⟨T6, T10⟩, ⟨T7, T11⟩, ⟨T8, T12⟩, ⟨T9, T13⟩, Tbc, Tps⟩, Ab, AA, ⟨Cb, ⟨C10, C11, C12, C13⟩, Cg, Cp⟩⟩ Hend
  imod (pos_split m K c) $$ [AA] with ⟨AL, AD⟩
  · isplitr; · iexact HE
    iexact AA
  ihave AL2 := (Entails.of_eq (live_split c (atP (F := F) c))) $$ AL
  icases AL2 with ⟨⟨A6, A7, A8, A9, A10, A11, A12, A13⟩, A0, Ag, Ap⟩
  ihave H := (k_free c fk) $$ [Hk]
  · iexact Hk
  icases H with ⟨Hk0, Hk1, Hk2⟩
  ihave H := (v_free c fv) $$ [Hv]
  · iexact Hv
  icases H with ⟨Hv0, Hv1, Hv2⟩
  iapply (part20 m c) $$ [Hwin Hk1 Hv1]
  · isplitl [Hwin]; · iexact Hwin
    isplitl [Hk1]; · iexact Hk1
    iexact Hv1
  iintro ⟨Hwin, Hk1, Hv1⟩
  iapply (part21 m c K) $$ [Hwin Hk1 Hv1 Hkg Hvg Hqg]
  · isplitr; · iexact HE
    isplitl [Hwin]; · iexact Hwin
    isplitl [Hk1]; · iexact Hk1
    isplitl [Hv1]; · iexact Hv1
    isplitl [Hkg]; · iexact Hkg
    isplitl [Hvg]; · iexact Hvg
    iexact Hqg
  iintro ⟨Hwin, Hk1, Hv1, Hg⟩
  unfold gNow
  icases Hg with ⟨Hg0, Hg1⟩
  ihave H := (pa_in c) $$ [Hpa]
  · iexact Hpa
  icases H with ⟨Hpa0, Hpa1⟩
  ihave Hpa0' := (Entails.of_eq (when_sep (c = dev0) _ _)) $$ Hpa0
  icases Hpa0' with ⟨Hpa0, Hpas⟩
  ihave HS := (sg_join c) $$ [Hk0 Hv0 Hk2 Hv2 Hg1 Hpas Tb]
  · isplitl [Hk0 Hv0]
    · isplitl [Hk0]; · iexact Hk0
      iexact Hv0
    isplitl [Hk2 Hv2]
    · isplitl [Hk2]; · iexact Hk2
      iexact Hv2
    isplitl [Hg1]; · iexact Hg1
    isplitl [Hpas]; · iexact Hpas
    iexact Tb
  unfold semSignalWord
  ihave HR := (Entails.of_eq (show iprop(owesE (F := F) c (O₀ c) ∗ seg (sgP (F := F) c) 1 15) = sgRun (F := F) c 1 15 from rfl)) $$ [HO HS]
  · isplitl [HO]; · iexact HO
    iexact HS
  iapply (sg1 m c K 1 2 15 14 (by decide) (d := ⟨k0_dev1 c, k0_dev1_lt c⟩) (k0_dev1_eq c) rfl rfl) $$ [HR]
  · isplitr; · iexact HE
    iexact HR
  iintro HR
  iapply (sg1 m c K 2 3 14 13 (by decide) (d := ⟨k0_dev2 c, k0_dev2_lt c⟩) (k0_dev2_eq c) rfl rfl) $$ [HR]
  · isplitr; · iexact HE
    iexact HR
  iintro HR
  iapply (sg1 m c K 3 4 13 12 (by decide) (d := ⟨k0_dev3 c, k0_dev3_lt c⟩) (k0_dev3_eq c) rfl rfl) $$ [HR]
  · isplitr; · iexact HE
    iexact HR
  iintro HR
  iapply (sg1 m c K 4 5 12 11 (by decide) (d := ⟨k0_dev4 c, k0_dev4_lt c⟩) (k0_dev4_eq c) rfl rfl) $$ [HR]
  · isplitr; · iexact HE
    iexact HR
  iintro HR
  iapply (part22 m c K (Scalar.addi (dw c) 5#32) 16#32) $$ [HR]
  · isplitr; · iexact HE
    iexact HR
  iintro HR
  iapply (part23 m c K (dwl c) (Scalar.addi (dw c) 11#32) 16#32) $$ [HR Cb Ab]
  · isplitr; · iexact HE
    isplitl [HR]; · iexact HR
    isplitl [Cb]; · iexact Cb
    iexact Ab
  iintro ⟨HO, HB, Sb⟩
  ihave H := (bar_split c) $$ [HB]
  · iexact HB
  icases H with ⟨⟨Fn, Gn⟩, ⟨Fp, Gp⟩, Fg, Fpa⟩
  ihave Hk1' := (Entails.of_eq (k_shares m c 1)) $$ Hk1
  icases Hk1' with ⟨Hk1, Hk1a, Hk1b⟩
  ihave Hv1' := (Entails.of_eq (v_shares m c 1)) $$ Hv1
  icases Hv1' with ⟨Hv1, Hv1a, Hv1b⟩
  ihave H := (br_in m c) $$ [Hg0 Fg Tbc Cg Ag]
  · isplitl [Hg0]; · iexact Hg0
    isplitl [Fg]; · iexact Fg
    isplitl [Tbc]; · iexact Tbc
    isplitl [Cg]; · iexact Cg
    iexact Ag
  icases H with ⟨Hbr, Hga⟩
  iapply (part24 m c K (dwl c) (dwr c)) $$ [HO Hk1a Fp T6 T10 Hv1a Gp T7 T11]
  · isplitr; · iexact HE
    isplitl [HO]; · iexact HO
    isplitl [Hk1a Fp T6 T10]
    · isplitl [Hk1a]; · iexact Hk1a
      isplitl [Fp]; · iexact Fp
      isplitl [T6]; · iexact T6
      iexact T10
    isplitl [Hv1a]; · iexact Hv1a
    isplitl [Gp]; · iexact Gp
    isplitl [T7]; · iexact T7
    iexact T11
  iintro ⟨HO, C6, C7⟩
  iapply (part25 m c K (dwr c) (shareDrop fullShare 2)) $$ [HO Hk1b Fn T8 T12 Hv1b Gn T9 T13 Hbr Hk1]
  · isplitr; · iexact HE
    isplitl [HO]; · iexact HO
    isplitl [Hk1b Fn T8 T12]
    · isplitl [Hk1b]; · iexact Hk1b
      isplitl [Fn]; · iexact Fn
      isplitl [T8]; · iexact T8
      iexact T12
    isplitl [Hv1b Gn T9 T13]
    · isplitl [Hv1b]; · iexact Hv1b
      isplitl [Gn]; · iexact Gn
      isplitl [T9]; · iexact T9
      iexact T13
    isplitl [Hbr]; · iexact Hbr
    iexact Hk1
  iintro ⟨HO, C8, C9, HG, Hbo, Hk1⟩
  unfold gAll
  icases HG with ⟨HG1, HG2, HG3⟩
  ihave HL := (Entails.of_eq (show iprop(kSlot m c 1 (shareDrop fullShare 2) ∗ vSlot m c 1 (shareDrop fullShare 2) ∗ qgPts m c (gq c)) = ldR m c from rfl)) $$ [Hk1 Hv1 HG3]
  · isplitl [Hk1]; · iexact Hk1
    isplitl [Hv1]; · iexact Hv1
    iexact HG3
  ihave HP := (pp_zero m c) $$ Hpp
  iapply (part26 m c) $$ [HL HP]
  · isplitl [HL]; · iexact HL
    iexact HP
  iintro ⟨HL, HP⟩
  iapply (part27 m c) $$ [HL HP]
  · isplitl [HL]; · iexact HL
    iexact HP
  iintro ⟨HL, HP⟩
  iapply (part28 m c) $$ [HL HP]
  · isplitl [HL]; · iexact HL
    iexact HP
  iintro ⟨HL, HP⟩
  iapply (part29 m c) $$ [HL HP]
  · isplitl [HL]; · iexact HL
    iexact HP
  iintro ⟨HL, HP⟩
  iapply (part30 m c) $$ [HL HP]
  · isplitl [HL]; · iexact HL
    iexact HP
  iintro ⟨HL, HP⟩
  ihave Hpaf := (Entails.of_eq (pp_in (F := F) c)) $$ [Hpa0 Fpa]
  · isplitl [Hpa0]; · iexact Hpa0
    iexact Fpa
  iapply (part31 m c K) $$ [HL HP Hpaf HO Tps]
  · isplitr; · iexact HE
    isplitl [HL]; · iexact HL
    isplitl [HP]; · iexact HP
    unfold ppHeld
    iintro Hq
    isplitl [Hq]; · iexact Hq
    isplitl [Hpaf]; · iexact Hpaf
    isplitl [HO]; · iexact HO
    iexact Tps
  iintro ⟨HL, HW1, HW2⟩
  iapply (part32 m c K (dwl c)) $$ [HW1 HW2]
  · isplitr; · iexact HE
    isplitl [HW1]; · iexact HW1
    iexact HW2
  iintro HP
  unfold ppOut
  icases HP with ⟨Cps, HO, Hp0⟩
  unfold atP
  iapply (part33 m c K (dwl c) (dwr c) (Scalar.muli (dwl c) 1#32)) $$ [HO C10 A10 C11 A11]
  · isplitr; · iexact HE
    isplitl [HO]; · iexact HO
    isplitl [C10 A10]
    · isplitl [C10]; · iexact C10
      iexact A10
    isplitl [C11]; · iexact C11
    iexact A11
  iintro ⟨HO, HS2, S10, S11⟩
  iapply (part34 m c K (dwl c) (dwr c)) $$ [HO C12 A12 C13 A13]
  · isplitr; · iexact HE
    isplitl [HO]; · iexact HO
    isplitl [C12 A12]
    · isplitl [C12]; · iexact C12
      iexact A12
    isplitl [C13]; · iexact C13
    iexact A13
  iintro ⟨HO, HS0, S12, S13⟩
  ihave H := (band_in m c) $$ [HL HG1 HG2 HS2 HS0]
  · isplitl [HL]; · iexact HL
    isplitl [HG1 HG2]
    · isplitl [HG1]; · iexact HG1
      iexact HG2
    isplitl [HS2]; · iexact HS2
    iexact HS0
  icases H with ⟨HB, HG3, Hba⟩
  iapply (part35 m c) $$ HB
  iintro HB
  iapply (part36 m c) $$ HB
  iintro HB
  iapply (part37 m c) $$ HB
  iintro HB
  iapply (part38 m c) $$ HB
  iintro HB
  iapply (part39 m c) $$ HB
  iintro HB
  iapply (part40 m c fo) $$ [HB Ho]
  · isplitl [HB]; · iexact HB
    iexact Ho
  iintro ⟨HB, Ho⟩
  iapply (part41 m c) $$ HB
  iintro HB
  iapply (part42 m c) $$ HB
  iintro HB
  iapply (part43 m c) $$ HB
  iintro HB
  iapply (part44 m c) $$ HB
  iintro HB
  iapply (part45 m c) $$ HB
  iintro HB
  ihave H := (pa_mid m c) $$ [Hp0 Cp A0]
  · isplitl [Hp0]; · iexact Hp0
    isplitl [Cp]; · iexact Cp
    iexact A0
  icases H with ⟨Hpo, Hp0, A17⟩
  ihave P6 := (wp_mk c NK 6) $$ [C6 A6]
  · isplitl [C6]; · iexact C6
    iexact A6
  ihave P7 := (wp_mk c NK 7) $$ [C7 A7]
  · isplitl [C7]; · iexact C7
    iexact A7
  iapply (part46 m c K fo) $$ [Ho HO Hpo P6 P7]
  · isplitr; · iexact HE
    isplitl [Ho]; · iexact Ho
    isplitl [HO]; · iexact HO
    isplitl [Hpo]; · iexact Hpo
    isplitl [P6]; · iexact P6
    iexact P7
  iintro ⟨Ho, HO, Hpi, W6, W7⟩
  ihave Hps := (ps_in m c) $$ [Cps Ap]
  · isplitl [Cps]; · iexact Cps
    iexact Ap
  ihave P8 := (wp_mk c NK 8) $$ [C8 A8]
  · isplitl [C8]; · iexact C8
    iexact A8
  ihave P9 := (wp_mk c NK 9) $$ [C9 A9]
  · isplitl [C9]; · iexact C9
    iexact A9
  iapply (part47 m c K) $$ [HO Hps P8 P9]
  · isplitr; · iexact HE
    isplitl [HO]; · iexact HO
    isplitl [Hps]; · iexact Hps
    isplitl [P8]; · iexact P8
    iexact P9
  iintro ⟨HO, Hps, W8, W9⟩
  iapply (part48 m c K) $$ [HO Hps]
  · isplitr; · iexact HE
    isplitl [HO]; · iexact HO
    iexact Hps
  iintro ⟨-, HO, Hps⟩
  ihave H := (bs_mid c) $$ [Hbo A17]
  · isplitl [Hbo]; · iexact Hbo
    iexact A17
  icases H with ⟨Hbp, Hbs⟩
  simp only [Prog.lift, Prog.bind_op, Prog.bind_ret, Prog.bind_assoc, Prog.pure_eq_ret]
  iapply (ps_step0 m c K 14 15 (by decide) (cond_eq c 14) rfl) $$ [HO Hps]
  · isplitr; · iexact HE
    isplitl [HO]; · iexact HO
    iexact Hps
  iintro ⟨-, HO, Hps⟩
  iapply (ps_step0 m c K 15 16 (by decide) (cond_eq c 15) rfl) $$ [HO Hps]
  · isplitr; · iexact HE
    isplitl [HO]; · iexact HO
    iexact Hps
  iintro ⟨-, HO, Hps⟩
  ihave Hpp := (pp_out m c) $$ [Hp0 Hps]
  · isplitl [Hp0]; · iexact Hp0
    iexact Hps
  icases Hpp with ⟨Hpp, Sp⟩
  ihave Hpa := (pa_out m c) $$ [Hpi Hpa1]
  · isplitl [Hpi]; · iexact Hpi
    iexact Hpa1
  icases Hpa with ⟨Hpa, S82⟩
  unfold wdone
  icases W6 with ⟨P6, S6⟩
  icases W7 with ⟨P7, S7⟩
  icases W8 with ⟨P8, S8⟩
  icases W9 with ⟨P9, S9⟩
  ihave H := (band_out m c) $$ [HB Hba P6 P7 P8 P9]
  · isplitl [HB]; · iexact HB
    isplitl [Hba]; · iexact Hba
    isplitl [P6]; · iexact P6
    isplitl [P7]; · iexact P7
    isplitl [P8]; · iexact P8
    iexact P9
  icases H with ⟨Hk, Hv, HG1, HG2⟩
  ihave Hend := (close m c) $$ [Hend Hwin Ho Hk Hv Hpp Hpa Sb S6 S7 S8 S9 S10 S11 S12 S13 Hbs Sp S82 AD HG1 HG2 HG3 Hga]
  · isplitl [Hwin]; · iexact Hwin
    isplitl [Ho]; · iexact Ho
    isplitl [Hk Hv Hpp Hpa]
    · isplitl [Hk]; · iexact Hk
      isplitl [Hv]; · iexact Hv
      isplitl [Hpp]; · iexact Hpp
      iexact Hpa
    isplitl [HG1 HG2 HG3]
    · isplitl [HG1]; · iexact HG1
      isplitl [HG2]; · iexact HG2
      iexact HG3
    isplitl [Hga]; · iexact Hga
    isplitl [Sb]; · iexact Sb
    isplitl [S6 S7 S8 S9 S10 S11 S12 S13]
    · isplitl [S6]; · iexact S6
      isplitl [S7]; · iexact S7
      isplitl [S8]; · iexact S8
      isplitl [S9]; · iexact S9
      isplitl [S10]; · iexact S10
      isplitl [S11]; · iexact S11
      isplitl [S12]; · iexact S12
      iexact S13
    isplitl [Hbs Sp S82 AD]
    · isplitl [Hbs]; · iexact Hbs
      isplitl [Sp]; · iexact Sp
      isplitl [S82]; · iexact S82
      iexact AD
    iexact Hend
  have h0 : (Scalar.cmpi .ne (Scalar.extui (Scalar.cmpi .eq (dw c) 0#32) : BitVec 32) 0#32 = 1#1) ↔ c.val = 0 := cond_eq c 0
  by_cases hc : c = dev0
  · subst hc
    rw [dif_pos (h0.mpr rfl)]
    ihave Hbp2 := (Entails.of_eq (when_pos (rfl : dev0 = dev0) (seg (wpend (F := F) dev0 NG) 17 45))) $$ Hbp
    ihave HW := (bs_start m) $$ [HO Hbp2]
    · isplitl [HO]; · iexact HO
      iexact Hbp2
    iapply (part15 m K) $$ [HW]
    · isplitr; · iexact HE
      iexact HW
    iintro HW
    iapply (part16 m K) $$ [HW]
    · isplitr; · iexact HE
      iexact HW
    iintro HW
    iapply (part17 m K) $$ [HW]
    · isplitr; · iexact HE
      iexact HW
    iintro HW
    iapply (part18 m K) $$ [HW]
    · isplitr; · iexact HE
      iexact HW
    iintro HW
    iapply (part19 m K) $$ [HW]
    · isplitr; · iexact HE
      iexact HW
    iintro HW
    iapply (w_step m dev0 K 17 59 60 3 2 (by decide) (Or.inr (Or.inl ⟨by decide, by decide, rfl⟩)) (N := NG) (dst := kgM) rfl rfl rfl) $$ [HW]
    · isplitr; · iexact HE
      iexact HW
    iintro HW
    iapply (w_step m dev0 K 17 60 61 2 1 (by decide) (Or.inr (Or.inl ⟨by decide, by decide, rfl⟩)) (N := NG) (dst := vgM) rfl rfl rfl) $$ [HW]
    · isplitr; · iexact HE
      iexact HW
    iintro HW
    iapply (w_step m dev0 K 17 61 62 1 0 (by decide) (Or.inr (Or.inl ⟨by decide, by decide, rfl⟩)) (N := NG) (dst := qgM) rfl rfl rfl) $$ [HW]
    · isplitr; · iexact HE
      iexact HW
    iintro HW
    ihave HW := (bs_end m) $$ HW
    icases HW with ⟨HO, HW⟩
    unfold wpc
    rw [wp_ret]
    imodintro
    iapply Hend
    isplitl [HO]; · iexact HO
    iapply (Entails.of_eq (when_pos (rfl : dev0 = dev0) (seg (wdone m dev0) 17 45)).symm)
    iexact HW
  · rw [dif_neg (fun h => hc (Fin.ext (h0.mp h)))]
    unfold wpc
    rw [wp_ret]
    imodintro
    iapply Hend
    isplitl [HO]; · iexact HO
    iapply (Entails.of_eq (when_neg hc (seg (wdone m dev0) 17 45)).symm)
    iapply (Entails.of_eq (when_neg hc (seg (wpend (F := F) dev0 NG) 17 45)))
    iexact Hbp
end Cert.Att
-- ==== Proof.Launch.lean ====
/-
# The launch

From the launch's memory to the run of every device.
-/
module

public import proofs.«01_k».proof.Proof.Deal
public import proofs.«01_k».proof.Proof.Body
public import proofs.«01_k».proof.Proof.Gen.KernelIdeal.Launch
public import proofs.«01_k».proof.Proof.Gen.KernelIdeal.Points
public import Idealize.ShloMosaic.Lib.Pipeline.Kit
public import Idealize.ShloMosaic.Lib.Pipeline.CollectiveSegs
public import Idealize.ShloMosaic.Lib.Tactic

@[expose] public section

set_option maxRecDepth 4000
set_option maxHeartbeats 4000000

noncomputable section

namespace Cert.Att

open Cert.KernelIdeal Cert.KernelIdeal.Gen

open Idealize.ShloMosaic
open Idealize.ShloMosaic.TcCoe
open Idealize.ShloMosaic.ValueIdx
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The one grid point -/

/-- The body is called at one grid point. -/
theorem points_one : cfg0.N = 1 := by decide
def only : Fin cfg0.N := ⟨0, by rw [points_one]; decide⟩
/-- There is one grid point. -/
theorem eq_only (t : Fin cfg0.N) : t = only := by
  have h := points_one
  exact Fin.ext (by have := t.isLt; show t.val = 0; omega)

/-! ## What a device holds around its run -/

/-- What the launch gives device `c` besides its buffers. -/
def held (c : Dev nD) : sProp 𝕄 :=
  iprop((∃ K, records m K ∗ toks (F := F) c ∗ atPos ER (barCell c) 0 ∅ 0 ∗ seg (atP (F := F) c) 6 91) ∗ crs (F := F) c ∗ levAts L lv)
/-- What it holds before its run, -/
def before0 (c : Dev nD) : sProp 𝕄 := iprop(held m c ∗ scr (F := F) c)
/-- and after. -/
def after0 (c : Dev nD) : sProp 𝕄 := iprop(scr (F := F) c ∗ semVal (barCell c) 0 ∗ seg (smV (F := F) c) 6 91)

/-- The window library's data: the arrays at their launch contents, the argument blocks staged, the result of the
    device's run in the last one. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wqstg m c
    | ⟨2, _⟩ => kstg m c
    | ⟨3, _⟩ => vstg m c
    | ⟨4, _⟩ => wostg m c
    | ⟨5, _⟩ => outAt m c
  Φ t := match t with
    | ⟨0, _⟩ => before0 m c
    | ⟨_ + 1, _⟩ => after0 (F := F) c
  q _ := fullShare
  owed t := match t with
    | ⟨0, _⟩ => O₀ c
    | ⟨_ + 1, _⟩ => 0

/-- Owning a whole buffer is holding its contents in full. -/
theorem owns_of_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the window library hands the body, and what it takes back. -/
def given (c : Dev nD) : sProp 𝕄 :=
  iprop(before0 m c ∗ (dats m ρ 0 c).owesAt () only.castSucc
    ∗ (∃ d, stg c cc0_stg0_0 ((dats m ρ 0 c).before (0 : Fin 6) only d)) ∗ (∃ d, stg c cc0_stg1_0 ((dats m ρ 0 c).before (1 : Fin 6) only d))
    ∗ (∃ d, stg c cc0_stg2_0 ((dats m ρ 0 c).before (2 : Fin 6) only d)) ∗ (∃ d, stg c cc0_stg3_0 ((dats m ρ 0 c).before (3 : Fin 6) only d))
    ∗ (∃ d, stg c cc0_stg4_0 ((dats m ρ 0 c).before (4 : Fin 6) only d)) ∗ (∃ d, stg c cc0_stg5_0 ((dats m ρ 0 c).before (5 : Fin 6) only d)))
def taken (c : Dev nD) : sProp 𝕄 :=
  iprop(after0 (F := F) c ∗ (dats m ρ 0 c).owesAt () only.succ ∗ stg c cc0_stg0_0 (xstg m c) ∗ stg c cc0_stg1_0 (wqstg m c) ∗ stg c cc0_stg2_0 (kstg m c)
    ∗ stg c cc0_stg3_0 (vstg m c) ∗ stg c cc0_stg4_0 (wostg m c) ∗ stg c cc0_stg5_0 (outAt m c))

/-- The argument windows are fetched: their staging buffers hold the blocks of the arrays. -/
theorem before_x (c : Dev nD) (d) : (dats m ρ 0 c).before (0 : Fin 6) only d = xstg m c := by unfold Dat.before; rw [if_pos (fetch0_0 only)]; rfl
/-- The query weights' window before the run holds the staged argument. -/
theorem before_wq (c : Dev nD) (d) : (dats m ρ 0 c).before (1 : Fin 6) only d = wqstg m c := by unfold Dat.before; rw [if_pos (fetch0_1 only)]; rfl
/-- The keys' window before the run holds the staged argument. -/
theorem before_k (c : Dev nD) (d) : (dats m ρ 0 c).before (2 : Fin 6) only d = kstg m c := by unfold Dat.before; rw [if_pos (fetch0_2 only)]; rfl
/-- The values' window before the run holds the staged argument. -/
theorem before_v (c : Dev nD) (d) : (dats m ρ 0 c).before (3 : Fin 6) only d = vstg m c := by unfold Dat.before; rw [if_pos (fetch0_3 only)]; rfl
/-- The output weights' window before the run holds the staged argument. -/
theorem before_wo (c : Dev nD) (d) : (dats m ρ 0 c).before (4 : Fin 6) only d = wostg m c := by unfold Dat.before; rw [if_pos (fetch0_4 only)]; rfl

/-- What is handed over is what the run starts from, -/
theorem given_in (c : Dev nD) : given m ρ c ⊢ iprop(∃ K, bodyIn m K c) := by
  unfold given before0 held bodyIn Dat.owesAt Pipeline.owesWithin
  rw [show (dats m ρ 0 c).owed only.castSucc = O₀ c from rfl]
  iintro ⟨⟨⟨⟨%K, HR, HT, HB, HA⟩, HC, HL⟩, HS⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [before_x] at h0
  rw [before_wq] at h1
  rw [before_k] at h2
  rw [before_v] at h3
  rw [before_wo] at h4
  subst h0 h1 h2 h3 h4
  iexists K
  isplitl [HR HL]
  · unfold env
    isplitl [HR]; · iexact HR
    iexact HL
  isplitl [H0 H1 H2 H3 H4]
  · unfold wins
    isplitl [H0]; · iexact H0
    isplitl [H1]; · iexact H1
    isplitl [H2]; · iexact H2
    isplitl [H3]; · iexact H3
    iexact H4
  isplitl [H5]
  · iexists g5; iexact H5
  isplitl [HS]; · iexact HS
  isplitl [HO]
  · unfold owesE; iexists W; iexact HO
  isplitl [HT]; · iexact HT
  isplitl [HB]; · iexact HB
  isplitl [HA]; · iexact HA
  iexact HC

/-- and what it ends with is what is taken back. -/
theorem out_taken (c : Dev nD) : bodyOut m c ⊢ taken m ρ c := by
  unfold bodyOut taken after0 Dat.owesAt Pipeline.owesWithin owesE wins
  rw [show (dats m ρ 0 c).owed only.succ = 0 from rfl]
  iintro ⟨⟨H0, H1, H2, H3, H4⟩, H5, HS, ⟨%W, HO⟩, HB, HA⟩
  isplitl [HS HB HA]
  · isplitl [HS]; · iexact HS
    isplitl [HB]; · iexact HB
    iexact HA
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

/-- The body, from what it is handed to what is taken back. -/
theorem body_done (c : Dev nD) : BodyObligation (dats (F := F) m ρ 0 c) (defs₀ (F := F)) 𝒱₀ () Set.univ := fun t => by
  rw [eq_only t]
  rw [bigSep_W0, bigSep_W0]
  simp only [owns_of_whole]
  show given m ρ c ⊢ wpc c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12) (fun _ => taken m ρ c)
  iintro H
  ihave HI := (given_in m ρ c) $$ H
  icases HI with ⟨%K, HI⟩
  iapply (run m c K) $$ HI
  iintro HO
  iapply (out_taken m ρ c)
  iexact HO

/-! ## The launch element -/

/-- The kernel's own transfer semaphores. -/
def osem : Fin 91 → SemLoc sig := fun i => .dma (Fin.ofNat 97 (i.val + 6))
/-- The kernel's own semaphores are apart from the windows'. -/
theorem ownFacts : Pipeline.OwnSemFacts cfg0.spec osem := by decide +kernel

/-- Every window is held in full. -/
theorem share_full (c : Dev nD) (w : Fin cfg0.W) : (dats m ρ 0 c).share w = fullShare := by unfold Dat.share; split <;> rfl

/-- The cells' numbers can be read off. -/
def cellNo (g : GSem nD τ sig) : ℕ × ℕ := (g.1.1.val, match g.2 with | .reg _ => 0 | .dma k => k.val)
/-- The device and number of a cell. -/
theorem cellNo_kcell (c : Dev nD) : cellNo (kcell (c, none)) = (c.val, 0) ∧ ∀ i : Fin 91, cellNo (kcell (c, some i)) = (c.val, i.val + 6) :=
  ⟨rfl, fun i => Prod.ext rfl (Nat.mod_eq_of_lt (by have := i.isLt; omega))⟩
/-- Different names are different cells. -/
theorem kcell_injective : Function.Injective kcell := by
  rintro ⟨c, i⟩ ⟨d, j⟩ h
  have e := congrArg cellNo h
  rcases i with _ | i <;> rcases j with _ | j
  · rw [(cellNo_kcell c).1, (cellNo_kcell d).1] at e
    exact Prod.ext (Fin.ext (congrArg Prod.fst e)) rfl
  · rw [(cellNo_kcell c).1, (cellNo_kcell d).2] at e
    exact absurd (congrArg Prod.snd e) (Nat.succ_ne_zero _).symm
  · rw [(cellNo_kcell c).2, (cellNo_kcell d).1] at e
    exact absurd (congrArg Prod.snd e) (Nat.succ_ne_zero _)
  · rw [(cellNo_kcell c).2, (cellNo_kcell d).2] at e
    have e2 : i.val + 6 = j.val + 6 := congrArg Prod.snd e
    exact Prod.ext (Fin.ext (congrArg Prod.fst e)) (congrArg some (Fin.ext (by omega)))
def theCells : Finset (GSem nD τ sig) := Finset.univ.map ⟨kcell, kcell_injective⟩

/-- The launch element: the window library's part and the kernel's own. -/
def u₀ : UU := (initOf (Pipeline.cells cfgs cellOf_inj) (Pipeline.launchToks cfgs cellOf_inj), initOf theCells theToks)

/-- What it deals a device. -/
def G (c : Dev nD) : sProp 𝕄 :=
  iprop((bigSep Finset.univ fun k : CIx => roundState ER (Rd m) (kcell (c, k)) 0)
    ∗ (bigSep Finset.univ fun k : CIx => (reached ER (kcell (c, k)) 0 : sProp 𝕄)) ∗ (bigSep Finset.univ fun k : CIx => (atPos ER (kcell (c, k)) 0 ∅ 0 : sProp 𝕄)) ∗ toks (F := F) c)
/-- What the devices make of it together. -/
def G' (c : Dev nD) : sProp 𝕄 := iprop(∃ K, records m K ∗ toks (F := F) c ∗ atPos ER (barCell c) 0 ∅ 0 ∗ seg (atP (F := F) c) 6 91)

/-- Over all cells is over the devices and each device's cells. -/
theorem over_cells (Φ : GSem nD τ sig → sProp 𝕄) : bigSep theCells Φ = bigSep Finset.univ fun c : Dev nD => bigSep Finset.univ fun k : CIx => Φ (kcell (c, k)) := by
  unfold theCells; rw [bigSep_map, bigSep_univ_prod]; rfl
/-- The launch's tokens are each device's. -/
theorem over_toks : bigSep theToks (fun x => (dutyTok ER x.1 x.2.1 x.2.2 : sProp 𝕄)) ⊢ bigSep Finset.univ fun c : Dev nD => toks (F := F) c := by
  unfold theToks; rw [bigSep_map, bigSep_univ_prod]
  exact bigSep_mono fun c _ => toks_of c

/-- The kernel's part of the launch element, dealt out. -/
theorem deal : BI.own (ER (initOf theCells theToks)) ⊢ (|==> bigSep Finset.univ (G m) : sProp 𝕄) := by
  iintro H
  imod (Rounds.fund ER (Rd m) theCells theToks) $$ H with ⟨Hs, Hr, Ha, Ht⟩
  imodintro
  ihave Hs := (Entails.of_eq (over_cells fun g => roundState ER (Rd m) g 0)) $$ Hs
  ihave Hr := (Entails.of_eq (over_cells fun g => reached ER g 0)) $$ Hr
  ihave Ha := (Entails.of_eq (over_cells fun g => atPos ER g 0 ∅ 0)) $$ Ha
  ihave Ht := (over_toks (F := F)) $$ Ht
  unfold G; simp only [bigSep_sep']
  isplitl [Hs]; · iexact Hs
  isplitl [Hr]; · iexact Hr
  isplitl [Ha]; · iexact Ha
  iexact Ht

/-- Over the cells of one device: the barrier, then the transfers in order. -/
theorem over_own (Φ : CIx → sProp 𝕄) : bigSep Finset.univ Φ = iprop(Φ none ∗ bigSep Finset.univ fun i : Fin 91 => Φ (some i)) := by
  rw [bigSep_univ_at _ (none : CIx), show (Finset.univ.erase (none : CIx)) = (Finset.univ : Finset (Fin 91)).map Function.Embedding.some from by
    ext x
    rw [Finset.mem_erase, Finset.mem_map]
    rcases x with _ | x
    · exact ⟨fun h => absurd rfl h.1, fun ⟨a, _, h⟩ => absurd h (Option.some_ne_none a)⟩
    · exact ⟨fun _ => ⟨x, Finset.mem_univ _, rfl⟩, fun _ => ⟨Option.some_ne_none x, Finset.mem_univ _⟩⟩, bigSep_map]
  rfl
/-- The kernel's own 91 semaphores, as a row from number 6. -/
theorem own_seg (Φ : ℕ → sProp 𝕄) : bigSep Finset.univ (fun i : Fin 91 => Φ (i.val + 6)) = seg Φ 6 91 := by
  rw [fin_seg (fun n => Φ (n + 6)) 91, show seg Φ 6 91 = seg (fun n => Φ (6 + n)) 0 91 from seg_shift Φ 6 0 91]
  exact seg_congr fun i _ _ => by rw [Nat.add_comm]

/-- The kernel's own semaphores, and the barrier. -/
theorem own_sems (c : Dev nD) : (Pipeline.ownSems0 (Ix := Unit) (Name := ℕ) (U := UU) (Lvl := ℕ) (Val := Elt F) (τ := τ) osem c : sProp 𝕄) = seg (smV (F := F) c) 6 91 :=
  own_seg (smV (F := F) c)
/-- The semaphore outside the kernel's own is the barrier. -/
theorem free_sems (c : Dev nD) : (unscopedSems0 c : sProp 𝕄) = semVal (barCell c) 0 := by
  unfold unscopedSems0; rw [bigSep_eq_bigSepL_of_eq [SemLoc.reg barS] (by decide +kernel) (by decide)]; rfl

/-- A device's cells opened for use. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : CIx => (reached ER (kcell (c, k)) 0 : sProp 𝕄)) ∗ (bigSep Finset.univ fun k : CIx => (atPos ER (kcell (c, k)) 0 ∅ 0 : sProp 𝕄)) ∗ toks (F := F) c) := by
  unfold G
  have ev : iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
    rw [over_own, free_sems]
    iintro ⟨H1, H2⟩
    isplitl [H2]; · iexact H2
    unfold Pipeline.ownSems0; iexact H1
  have ei : iprop((bigSep Finset.univ fun k : CIx => semVal (kcell (c, k)) 0) ∗ bigSep Finset.univ fun k : CIx => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  iintro ⟨H1, H2, Hs, Hr, Ha, Ht⟩
  ihave Hv := ev $$ [H1 H2]
  · isplitl [H1]; · iexact H1
    iexact H2
  imod ei $$ [Hv Hs] with HI
  · isplitl [Hv]; · iexact Hv
    iexact Hs
  imodintro
  isplitl [HI]; · iexact HI
  isplitl [Hr]; · iexact Hr
  isplitl [Ha]; · iexact Ha
  iexact Ht

/-- What is persistent goes to every member. -/
theorem to_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records of all cells to every device. -/
theorem share_records :
    (bigSep Finset.univ fun c : Dev nD => iprop((bigSep Finset.univ fun k => iprop(∃ κ : ℕ, cellInv ER (Rd m) κ (kcell (c, k))))
          ∗ (bigSep Finset.univ fun k : CIx => (reached ER (kcell (c, k)) 0 : sProp 𝕄)) ∗ (bigSep Finset.univ fun k : CIx => (atPos ER (kcell (c, k)) 0 ∅ 0 : sProp 𝕄)) ∗ toks (F := F) c) : sProp 𝕄)
      ⊢ bigSep Finset.univ (G' m) := by
  rw [bigSep_sep', bigSep_sep', ← bigSep_univ_prod (fun ck : Dev nD × CIx => iprop(∃ κ : ℕ, cellInv ER (Rd m) κ (kcell ck))),
    ← bigSep_univ_prod (fun ck : Dev nD × CIx => (reached ER (kcell ck) 0 : sProp 𝕄))]
  have hd : ∀ (K : Dev nD × CIx → ℕ) (c : Dev nD), iprop(records m K ∗ (bigSep Finset.univ fun k : CIx => (atPos ER (kcell (c, k)) 0 ∅ 0 : sProp 𝕄)) ∗ toks (F := F) c) ⊢ G' m c := fun K c => by
    unfold G'
    rw [over_own, show (bigSep Finset.univ fun i : Fin 91 => (atPos ER (kcell (c, some i)) 0 ∅ 0 : sProp 𝕄)) = seg (atP (F := F) c) 6 91 from own_seg (atP (F := F) c)]
    iintro ⟨HR, ⟨Hb, Ha⟩, Ht⟩
    iexists K
    isplitl [HR]; · iexact HR
    isplitl [Ht]; · iexact Ht
    isplitl [Hb]; · iexact Hb
    iexact Ha
  iintro ⟨HI, HR, HA⟩
  ihave HK := (BI.bigSep_exists_pi Finset.univ (fun (ck : Dev nD × CIx) (κ : ℕ) => (cellInv ER (Rd m) κ (kcell ck) : sProp 𝕄))) $$ HI
  icases HK with ⟨%K, HI⟩
  iapply (to_all (R := records m K) fun c _ => hd K c)
  isplitl [HI HR]
  · unfold records
    isplitl [HI]; · iexact HI
    iexact HR
  iexact HA

/-- All devices at once: every cell opened, its record with everyone. -/
theorem all_open : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (share_records m))

/-! ## Into the run and out of it -/

/-- What the launch hands a device is what its run starts from. -/
theorem held_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(held m c ∗ emp) := by
  iintro ⟨-, HL, HC, -, HG⟩
  ihave HC := (crs_of (F := F) c) $$ HC
  imodintro
  unfold held G'
  isplitl
  · isplitl [HG]; · iexact HG
    isplitl [HC]; · iexact HC
    iexact HL
  · iempintro

/-- The rest of the scoped memory is the scratch buffers. -/
theorem scr_rest (c : Dev nD) : (Pipeline.scopedRest cfg0.spec c : sProp 𝕄) = scr (F := F) c :=
  scopedRest0_eq c

/-- The run starts from what the device holds and its scratch buffers. -/
theorem into_run (c : Dev nD) :
    iprop(held m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before0 m c from rfl, scr_rest]
  unfold before0
  iintro ⟨H1, -, H2⟩
  isplitl [H1]; · iexact H1
  iexact H2

/-- After the run all semaphores are at zero and the scratch buffers are back. -/
theorem out_of_run (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after0 (F := F) c from rfl, scr_rest, own_sems, free_sems]
  unfold after0
  iintro ⟨H1, H2, H3⟩
  isplitl [H2]; · iexact H2
  isplitl [H3]; · iexact H3
  iexact H1

/-- The windows' own waits are below everything owed. -/
theorem windows_wait (c : Dev nD) : (levAts L lv : sProp 𝕄) ⊢ Pipeline.cellsWaits cfgs (dats m ρ) () 0 c :=
  Pipeline.cellsWaits_intro cfgs (dats m ρ) () 0 c fun w s t =>
    mayWait_above c _ 0 (by fin_cases w <;> fin_cases s <;> exact Nat.le_refl 0) (by
      rcases t with ⟨_ | _, ht⟩
      · exact above_O₀ c
      · exact Above.zero 0)

/-! ## The run -/

/-- Every window's array at the end. -/
def Final : PUnit × MemSt nD τ sig (Elt F) → Prop := fun r =>
  ∀ (c : Dev nD) (w : Fin cfg0.W), r.2.mem ((cfg0.win w).arr.view.loc (c : Thread nD τ)) = (dats m ρ 0 c).arrAt w cfg0.N

set_option maxRecDepth 8000 in
/-- On sixteen devices, from any memory with counters at zero and for any float values: every fair run of the program
    ends, with the windows' arrays at their final contents and every counter at zero. -/
theorem run_all : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownFacts (Pipeline.PreFacts.none _) EP defs₀ 𝒱₀ m ρ main
    (hmain := fun _ => rfl) (hbody := body_done m ρ) (hne := fun w => block_pos0 w) (harr := arr_whole0) (hstage := stage_whole0)
    (hshare := share_full m ρ) (hdistinct := winFacts0.arr_inj) (O₀ := O₀) (howed₀ := fun _ => rfl) (howedN := fun _ => rfl)
    (L := L) (lv := lv) (hL := L_of_ne) (hwaits := windows_wait m ρ) (G := G m) (G' := G' m) (u₀ := u₀)
    (hu₀ := by
      unfold u₀
      iintro Hu
      ihave H := (ownU_pair _ _) $$ Hu
      icases H with ⟨HP, HX⟩
      imod (deal m) $$ HX with HG
      imodintro
      isplitl [HP]; · iexact HP
      iexact HG)
    (hglob := all_open m) (hA := fun _ _ => rfl) (hpf := fun _ k => k.elim0)
    (X := held m) (Y := fun c => unscopedSems0 c) (Z := fun _ => iprop(emp))
    (hX := held_of m ρ) (hin := into_run m ρ) (hout := out_of_run m ρ)
    (QY := fun c s => ∀ sm : SemLoc sig, sm.isScoped .tc = false → s.sem ((c.tc : Thread nD τ), sm) = 0)
    (hY := fun c s' => by
      iintro ⟨Hu, -, HS⟩
      iapply (Pipeline.unscopedSems0_read (X := unscopedSems0 c) (c := c) fupd_intro s')
      isplitl [Hu]; · iexact Hu
      iexact HS)
    (hQ := fun _ h hs => ⟨fun c w => (h c).1 w, sem_eq_zero hs fun c => (h c).2.2⟩)

/-- The arguments end as they began; the result ends at the run's value. -/
theorem args_kept (c : Dev nD) : ∀ w : Fin 6, w ≠ 5 → (dats (F := F) m ρ 0 c).arrAt w cfg0.N = (s₀ m ρ).mem ((cfg0.win w).arr.view.loc (c : Thread nD τ)) := fun w hw =>
  (dats (F := F) m ρ 0 c).arrAt_in w (by revert w; decide) _

end Cert.Att

end
-- ==== Proof.Frames.lean ====
/-
# The frames

Every device's arguments end as they began, and every counter at zero: for the kernel, its ideal reading and the reference.
-/
module

public import proofs.«01_k».proof.Defs
public import proofs.«01_k».proof.Proof.Same
public import proofs.«01_k».proof.Proof.Launch
public import proofs.«01_k».proof.Proof.Gen.ReferenceIdeal.Run

@[expose] public section

noncomputable section

namespace Cert.Att

open Cert.KernelIdeal Cert.KernelIdeal.Gen
open Idealize.ShloMosaic Idealize.ShloMosaic.TcCoe Idealize.SL.Sem

attribute [local instance] Cert.Kernel.Gen.facts Cert.KernelIdeal.Gen.facts Cert.ReferenceIdeal.Gen.facts

/-- What a run leaves on every device: the result of that device's run in its result array, the arguments as they were. -/
theorem run_values {F : FTy → Type} [FloatOps F] [Named F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c : Thread nD τ).loc main_v1) = (dats m ρ 0 c).arrAt (5 : Fin 6) cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  (θ_run (defs (F := F)) _ _).mono (fun _ h => ⟨fun c => ⟨h.1 c (5 : Fin 6), (h.1 c (0 : Fin 6)).trans (args_kept m ρ c 0 (by decide)),
    (h.1 c (1 : Fin 6)).trans (args_kept m ρ c 1 (by decide)), (h.1 c (2 : Fin 6)).trans (args_kept m ρ c 2 (by decide)),
    (h.1 c (3 : Fin 6)).trans (args_kept m ρ c 3 (by decide)), (h.1 c (4 : Fin 6)).trans (args_kept m ρ c 4 (by decide))⟩, h.2⟩) (run_all m ρ)

/-- The ideal program runs to its end and leaves its arguments and counters alone. -/
theorem frame_ideal : Cert.quiescent_KernelIdeal := fun m ρ _ =>
  (θ_run (defs (F := Ideal)) _ _).mono (fun _ h => ⟨fun c => (h.1 c).2, h.2⟩) (run_values m ρ)

/-- So does the kernel at the bit-exact floats: it is the same text. -/
theorem frame_bits : Cert.quiescent_Kernel := fun m ρ _ => by
  rw [Cert.Same.defs_eq, Cert.Same.main_eq]
  letI := Cert.Same.namedBits
  exact (θ_run (defs (F := Bits)) _ _).mono (fun _ h => ⟨fun c => (h.1 c).2, h.2⟩) (run_values (F := Bits) m ρ)

/-- So does the reference. -/
theorem frame_reference : Cert.quiescent_ReferenceIdeal := fun m ρ _ =>
  (θ_run (Cert.ReferenceIdeal.defs (F := Ideal)) _ _).mono (fun r h => ⟨fun c => (h c).2, Idealize.ShloMosaic.sem_eq_zero_of_no_sems (by decide) r.2⟩) (Cert.ReferenceIdeal.Value.run m ρ)

/-- The named constant stands for minus infinity. -/
theorem preserved : Cert.preserves_Kernel_KernelIdeal := IdealRules.named_const.statement Cert.KernelIdeal.κ "mask" .f32 0xCE6E6B28#32 ⊥ rfl

end Cert.Att

end
-- ==== Proof.Read.lean ====
/-
# The kernel's values, element by element

Over the extended reals: one head of the band stage from its queries, keys, values and mask, and the heads' output rows.
-/
module

public import proofs.«01_k».proof.Proof.Out
public import Idealize.ShloMosaic.Lib.Pointwise

@[expose] public section

set_option maxRecDepth 16384
set_option maxHeartbeats 4000000

noncomputable section

namespace Cert.Att

open Cert.KernelIdeal Cert.KernelIdeal.Gen
open Idealize.ShloMosaic Idealize.ShloMosaic.TcCoe

/-- The masked, scaled scores of a device's rows against a list of 416 keys. -/
def scoreV (msk : IVec S128x416 1) (q : FVec Ideal S128x64 .bf16) (kc : FVec Ideal S416x64 .bf16) : FVec Ideal S128x416 .f32 :=
  select msk (mulf (matmul dot_S128x64_S416x64_S128x416_1_1_0_0_n_n none q kc (constant S128x416 .f32 0x00000000#32))
    (broadcast S128x416 (Scalar.ofBits .f32 0x3E000000#32))) (broadcast S128x416 (Named.named κ "mask" 0xCE6E6B28#32))

/-- Each row's largest entry, along the row. -/
def topV (s : FVec Ideal S128x416 .f32) : FVec Ideal S128x416 .f32 :=
  broadcastTo S128x416 (shapeCast S128x1 (multiReduction .maximumf [1] S128 s 0xFF800000#32 reduces_S128x416_S128 (.inl rfl) rfl) shapeCasts_S128_S128x1) broadcasts_S128x1_S128x416

/-- The softmax weights of those scores. -/
def softV (s : FVec Ideal S128x416 .f32) : FVec Ideal S128x416 .f32 :=
  divf (exp (subf s (topV s))) (broadcastTo S128x416 (shapeCast S128x1 (multiReduction .add [1] S128 (exp (subf s (topV s))) 0x00000000#32 reduces_S128x416_S128 (.inl rfl) rfl) shapeCasts_S128_S128x1) broadcasts_S128x1_S128x416)

/-- A score: the scaled product of query and key where the mask allows it, else minus infinity. -/
theorem scoreV_at (msk : IVec S128x416 1) (q : FVec Ideal S128x64 .bf16) (kc : FVec Ideal S416x64 .bf16) (i : Fin 128) (t : Fin 416) :
    scoreV msk q kc (ix2 i t) = if msk (ix2 i t) = 1#1 then (∑ d : Fin 64, q (ix2 i d) * kc (ix2 t d)) * Ideal.ofBits .f32 0x3E000000#32 else ⊥ := by
  pointwise [scoreV]
  rw [IdealRules.named_const.ideal_named_scalar κ "mask" _ ⊥ rfl]
  rfl

/-- The pattern of minus infinity. -/
theorem neg_inf : Ideal.ofBits .f32 0xFF800000#32 = ⊥ := by
  simp only [Ideal.ofBits, Ideal.ieee]
  rw [if_pos (by decide), if_pos (by decide), if_pos (by decide)]

/-- A row's largest score. -/
theorem topV_at (s : FVec Ideal S128x416 .f32) (i : Fin 128) (t : Fin 416) :
    topV s (ix2 i t) = Finset.univ.sup fun t => s (ix2 i t) := by
  pointwise [topV]
  rw [neg_inf]
  rfl

/-- A weight: the exponential of the score less the row's largest, over the sum of these. -/
theorem softV_at (s : FVec Ideal S128x416 .f32) (i : Fin 128) (t : Fin 416) :
    softV s (ix2 i t) = Ideal.div (Ideal.exp (s (ix2 i t) - topV s (ix2 i t))) (∑ t', Ideal.exp (s (ix2 i t') - topV s (ix2 i t'))) := by
  pointwise [softV]

/-- A list of 416 rows out of three blocks and the global rows. -/
theorem rows_at (a b c : FVec Ideal S1x1x1x128x64 .bf16) (g : FVec Ideal S1x1x32x64 .bf16) (t : Fin 416) (d : Fin 64) :
    k0_pay59 a b c g (ix2 t d) = if h : t.val < 128 then a (ix5 0 0 0 ⟨t.val, h⟩ d) else if h : t.val < 256 then b (ix5 0 0 0 ⟨t.val - 128, by omega⟩ d)
      else if h : t.val < 384 then c (ix5 0 0 0 ⟨t.val - 256, by omega⟩ d) else g (ix4 0 0 ⟨t.val - 384, by omega⟩ d) := by
  pointwise [k0_pay59]
  by_cases h1 : t.val < 128
  · rw [dif_pos h1, dif_pos h1]
  · rw [dif_neg h1, dif_neg h1]
    by_cases h2 : t.val < 256
    · rw [dif_pos (by omega), dif_pos h2]
    · rw [dif_neg (by omega), dif_neg h2]
      by_cases h3 : t.val < 384
      · rw [dif_pos (by omega), dif_pos h3]
        exact congrArg (fun z => c (ix5 0 0 0 z d)) (Fin.ext (by show t.val - 128 - 128 = t.val - 256; omega))
      · rw [dif_neg (by omega), dif_neg h3]
        exact congrArg (fun z => g (ix4 0 0 z d)) (Fin.ext (by show t.val - 128 - 128 - 128 = t.val - 384; omega))

/-- A row of weights times the values. -/
theorem ctx_at (w : FVec Ideal S128x416 .bf16) (v : FVec Ideal S416x64 .bf16) (i : Fin 128) (d : Fin 64) :
    k0_pay60 w v (ix2 i d) = ∑ t : Fin 416, w (ix2 i t) * v (ix2 t d) := by
  pointwise [k0_pay60]

/-- The queries of head `h` among all heads' columns. -/
def qHead (q : FVec Ideal S128x256 .f32) (h : Fin 4) : FVec Ideal S128x64 .bf16 :=
  match h with
  | 0 => k0_pay55 q
  | 1 => k0_pay41 q
  | 2 => k0_pay47 q
  | 3 => k0_pay66 q
/-- One head's queries are its 64 columns of the queries. -/
theorem qHead_at (q : FVec Ideal S128x256 .f32) (h : Fin 4) (i : Fin 128) (d : Fin 64) :
    qHead q h (ix2 i d) = q (ix2 i ⟨64 * h.val + d.val, by omega⟩) := by
  match h with
  | 0 => pointwise [qHead, k0_pay55]
  | 1 => pointwise [qHead, k0_pay41]
  | 2 => pointwise [qHead, k0_pay47]
  | 3 => pointwise [qHead, k0_pay66]

/-- One head of the band stage. -/
def headV (msk : IVec S128x416 1) (q : FVec Ideal S128x64 .bf16) (kc vc : FVec Ideal S416x64 .bf16) : FVec Ideal S128x64 .f32 :=
  k0_pay60 (truncf .bf16 (softV (scoreV msk q kc)) bitsLt_bf16_f32) vc

/-- The rows that four heads leave. -/
def rowsV (wo : FVec Ideal S256x512 .bf16) (x : Fin 4 → FVec Ideal S128x64 .f32) : FVec Ideal S1x128x512 .f32 :=
  shapeCast S1x128x512 (matmul dot_S128x256_S256x512_S128x512_1_0_0_1_n_n none
    (truncf .bf16 (concatenate S128x256 1 [⟨S128x64, x 0⟩, ⟨S128x64, x 1⟩, ⟨S128x64, x 2⟩, ⟨S128x64, x 3⟩] concatenates_S128x64_S128x64_S128x64_S128x64_S128x256_d1) bitsLt_bf16_f32)
    wo (constant S128x512 .f32 0x00000000#32)) shapeCasts_S128x512_S1x128x512

/-- Four heads side by side. -/
theorem cols_at (x : Fin 4 → FVec Ideal S128x64 .f32) (i : Fin 128) (e : Fin 256) :
    (concatenate S128x256 1 [⟨S128x64, x 0⟩, ⟨S128x64, x 1⟩, ⟨S128x64, x 2⟩, ⟨S128x64, x 3⟩] concatenates_S128x64_S128x64_S128x64_S128x64_S128x256_d1 : FVec Ideal S128x256 .f32) (ix2 i e)
      = x ⟨e.val / 64, by omega⟩ (ix2 i ⟨e.val % 64, by omega⟩) := by
  pointwise
  have key : ∀ (h : Fin 4) (z : Fin 64), e.val / 64 = h.val → e.val % 64 = z.val → x ⟨e.val / 64, by omega⟩ (ix2 i ⟨e.val % 64, by omega⟩) = x h (ix2 i z) := by
    intro h z e1 e2
    have a1 : (⟨e.val / 64, by omega⟩ : Fin 4) = h := Fin.ext e1
    have a2 : (⟨e.val % 64, by omega⟩ : Fin 64) = z := Fin.ext e2
    rw [a1, a2]
  by_cases h1 : e.val < 64
  · rw [dif_pos h1]; exact (key 0 _ (by show e.val / 64 = 0; omega) (by show e.val % 64 = e.val; omega)).symm
  · rw [dif_neg h1]
    by_cases h2 : e.val < 128
    · rw [dif_pos (by omega)]; exact (key 1 _ (by show e.val / 64 = 1; omega) (by show e.val % 64 = e.val - 64; omega)).symm
    · rw [dif_neg (by omega)]
      by_cases h3 : e.val < 192
      · rw [dif_pos (by omega)]; exact (key 2 _ (by show e.val / 64 = 2; omega) (by show e.val % 64 = e.val - 64 - 64; omega)).symm
      · rw [dif_neg (by omega)]; exact (key 3 _ (by show e.val / 64 = 3; omega) (by show e.val % 64 = e.val - 64 - 64 - 64; omega)).symm

/-- The output rows: the heads side by side times the output weights. -/
theorem rowsV_at (wo : FVec Ideal S256x512 .bf16) (x : Fin 4 → FVec Ideal S128x64 .f32) (i : Fin 128) (n : Fin 512) :
    rowsV wo x (ix3 0 i n) = ∑ e : Fin 256, x ⟨e.val / 64, by omega⟩ (ix2 i ⟨e.val % 64, by omega⟩) * wo (ix2 e n) := by
  refine Eq.trans ?_ (Finset.sum_congr rfl fun e _ => congrArg (· * wo (ix2 e n)) (cols_at x i e))
  unfold rowsV
  generalize (concatenate S128x256 1 [⟨S128x64, x 0⟩, ⟨S128x64, x 1⟩, ⟨S128x64, x 2⟩, ⟨S128x64, x 3⟩] concatenates_S128x64_S128x64_S128x64_S128x64_S128x256_d1 : FVec Ideal S128x256 .f32) = y
  pointwise

/-- A head at a row and a column: the weighted sum of the values. -/
theorem headV_at (msk : IVec S128x416 1) (q : FVec Ideal S128x64 .bf16) (kc vc : FVec Ideal S416x64 .bf16) (i : Fin 128) (d : Fin 64) :
    headV msk q kc vc (ix2 i d) = ∑ t : Fin 416, Ideal.div (Ideal.exp (scoreV msk q kc (ix2 i t) - Finset.univ.sup fun t => scoreV msk q kc (ix2 i t)))
      (∑ t', Ideal.exp (scoreV msk q kc (ix2 i t') - Finset.univ.sup fun t => scoreV msk q kc (ix2 i t))) * vc (ix2 t d) := by
  refine (ctx_at _ vc i d).trans (Finset.sum_congr rfl fun t _ => congrArg (· * vc (ix2 t d)) ?_)
  refine (softV_at (scoreV msk q kc) i t).trans ?_
  simp only [topV_at]

variable (m : (ℓ : Loc nD τ sig) → Buf (Elt Ideal) ℓ)

/-- The queries of batch `b`; the keys and the values that device `c` reads for batch `b` and head `h`. -/
def qB (c : Dev nD) (b : Fin 2) : FVec Ideal S128x256 .f32 := if b = 0 then q0 m c else q1 m c
def kC (c : Dev nD) (b : Fin 2) (h : Fin 4) : FVec Ideal S416x64 .bf16 :=
  k0_pay59 (kAt m c 0 b h (by decide) b.isLt h.isLt) (kAt m c 1 b h (by decide) b.isLt h.isLt) (kAt m c 2 b h (by decide) b.isLt h.isLt) (kgAt m b h b.isLt h.isLt)
def vC (c : Dev nD) (b : Fin 2) (h : Fin 4) : FVec Ideal S416x64 .bf16 :=
  k0_pay59 (vAt m c 0 b h (by decide) b.isLt h.isLt) (vAt m c 1 b h (by decide) b.isLt h.isLt) (vAt m c 2 b h (by decide) b.isLt h.isLt) (vgAt m b h b.isLt h.isLt)
/-- Head `h` of batch `b` on device `c`. -/
def hd (c : Dev nD) (b : Fin 2) (h : Fin 4) : FVec Ideal S128x64 .f32 := headV (o407 c) (qHead (qB m c b) h) (kC m c b h) (vC m c b h)

/-- The two batches' rows are the rows of four heads each. -/
theorem OB0_eq (c : Dev nD) : OB0 m c = rowsV (wo m c) (hd m c 0) := rfl
/-- The second batch's rows are the rows of four heads. -/
theorem OB1_eq (c : Dev nD) : OB1 m c = rowsV (wo m c) (hd m c 1) := rfl

end Cert.Att
-- ==== Proof.Input.lean ====
/-
# What the kernel reads, element by element

Over the extended reals: each staged block, neighbour's block, global row and partial result in terms of the devices' arguments.
-/
module

public import proofs.«01_k».proof.Proof.Read

@[expose] public section

set_option maxRecDepth 16384

noncomputable section

namespace Cert.Att
open Cert.KernelIdeal Cert.KernelIdeal.Gen Idealize.ShloMosaic Idealize.ShloMosaic.TcCoe

attribute [local instance] Cert.KernelIdeal.Gen.facts

variable (m : (ℓ : Loc nD τ sig) → Buf (Elt Ideal) ℓ)

/-! ## The arguments of a device, and the staged copies of them -/

/-- What the arguments hold on device `c`. -/
def aX (c : Dev nD) : FVec Ideal S2x128x512 .bf16 := m ((c : Thread nD τ).loc main_arg0)
def aWq (c : Dev nD) : FVec Ideal S512x256 .bf16 := m ((c : Thread nD τ).loc main_arg1)
def aK (c : Dev nD) : FVec Ideal S2x128x4x64 .bf16 := m ((c : Thread nD τ).loc main_arg2)
def aV (c : Dev nD) : FVec Ideal S2x128x4x64 .bf16 := m ((c : Thread nD τ).loc main_arg3)
def aWo (c : Dev nD) : FVec Ideal S256x512 .bf16 := m ((c : Thread nD τ).loc main_arg4)

/-- The activations' window is the whole argument. -/
theorem emb0 (j : S2x128x512.Idx) : (win0_0.blk (0 : Fin 1)).view.emb j = j := by
  funext a; apply Fin.ext
  match a with
  | ⟨0, _⟩ => show 0 * 2 + 1 * (j 0).val = (j 0).val; omega
  | ⟨1, _⟩ => show 0 * 128 + 1 * (j 1).val = (j 1).val; omega
  | ⟨2, _⟩ => show 0 * 512 + 1 * (j 2).val = (j 2).val; omega
/-- The query weights' window is the whole argument. -/
theorem emb1 (j : S512x256.Idx) : (win0_1.blk (0 : Fin 1)).view.emb j = j := by
  funext a; apply Fin.ext
  match a with
  | ⟨0, _⟩ => show 0 * 512 + 1 * (j 0).val = (j 0).val; omega
  | ⟨1, _⟩ => show 0 * 256 + 1 * (j 1).val = (j 1).val; omega
/-- The keys' window is the whole argument. -/
theorem emb2 (j : S2x128x4x64.Idx) : (win0_2.blk (0 : Fin 1)).view.emb j = j := by
  funext a; apply Fin.ext
  match a with
  | ⟨0, _⟩ => show 0 * 2 + 1 * (j 0).val = (j 0).val; omega
  | ⟨1, _⟩ => show 0 * 128 + 1 * (j 1).val = (j 1).val; omega
  | ⟨2, _⟩ => show 0 * 4 + 1 * (j 2).val = (j 2).val; omega
  | ⟨3, _⟩ => show 0 * 64 + 1 * (j 3).val = (j 3).val; omega
/-- The values' window is the whole argument. -/
theorem emb3 (j : S2x128x4x64.Idx) : (win0_3.blk (0 : Fin 1)).view.emb j = j := by
  funext a; apply Fin.ext
  match a with
  | ⟨0, _⟩ => show 0 * 2 + 1 * (j 0).val = (j 0).val; omega
  | ⟨1, _⟩ => show 0 * 128 + 1 * (j 1).val = (j 1).val; omega
  | ⟨2, _⟩ => show 0 * 4 + 1 * (j 2).val = (j 2).val; omega
  | ⟨3, _⟩ => show 0 * 64 + 1 * (j 3).val = (j 3).val; omega
/-- The output weights' window is the whole argument. -/
theorem emb4 (j : S256x512.Idx) : (win0_4.blk (0 : Fin 1)).view.emb j = j := by
  funext a; apply Fin.ext
  match a with
  | ⟨0, _⟩ => show 0 * 256 + 1 * (j 0).val = (j 0).val; omega
  | ⟨1, _⟩ => show 0 * 512 + 1 * (j 1).val = (j 1).val; omega

/-- The staged activations are the argument. -/
theorem xstg_eq (c : Dev nD) : xstg m c = aX m c := funext fun j => congrArg (aX m c) (emb0 j)
/-- The staged query weights are the argument. -/
theorem wqstg_eq (c : Dev nD) : wqstg m c = aWq m c := funext fun j => congrArg (aWq m c) (emb1 j)
/-- The staged keys are the argument. -/
theorem kstg_eq (c : Dev nD) : kstg m c = aK m c := funext fun j => congrArg (aK m c) (emb2 j)
/-- The staged values are the argument. -/
theorem vstg_eq (c : Dev nD) : vstg m c = aV m c := funext fun j => congrArg (aV m c) (emb3 j)
/-- The staged output weights are the argument. -/
theorem wostg_eq (c : Dev nD) : wostg m c = aWo m c := funext fun j => congrArg (aWo m c) (emb4 j)

/-! ## The blocks the body reads -/

/-- The stored block has batch and head first, then the row. -/
theorem turned (x : FVec Ideal S2x128x4x64 .bf16) (b : Fin 2) (h : Fin 4) (i : Fin 128) (d : Fin 64) : k0_pay4 x (ix5 0 b h i d) = x (ix4 b i h d) := by
  pointwise [k0_pay4]

/-- Where a slot's rows of one batch and head lie in the ring buffer. -/
theorem idxB (s : ℕ) (hs : s < 3) (b : Fin 2) (h : Fin 4) (i : Fin 128) (d : Fin 64) :
    (Rect.unit (s := S3x2x4x128x64) ![s, b.val, h.val, 0, 0] S1x1x1x128x64.size (inbB s b.val h.val hs b.isLt h.isLt)).emb (ix5 0 0 0 i d) = ix5 ⟨s, hs⟩ b h i d := by
  funext a; apply Fin.ext
  match a with
  | ⟨0, _⟩ => show s + 1 * 0 = s; omega
  | ⟨1, _⟩ => show b.val + 1 * 0 = b.val; omega
  | ⟨2, _⟩ => show h.val + 1 * 0 = h.val; omega
  | ⟨3, _⟩ => show 0 + 1 * i.val = i.val; omega
  | ⟨4, _⟩ => show 0 + 1 * d.val = d.val; omega

/-- Where the global rows of one batch and head lie in their buffer. -/
theorem idxG (b : Fin 2) (h : Fin 4) (i : Fin 32) (d : Fin 64) :
    (Rect.unit (s := S2x4x32x64) ![b.val, h.val, 0, 0] S1x1x32x64.size (inbG b.val h.val b.isLt h.isLt)).emb (ix4 0 0 i d) = ix4 b h i d := by
  funext a; apply Fin.ext
  match a with
  | ⟨0, _⟩ => show b.val + 1 * 0 = b.val; omega
  | ⟨1, _⟩ => show h.val + 1 * 0 = h.val; omega
  | ⟨2, _⟩ => show 0 + 1 * i.val = i.val; omega
  | ⟨3, _⟩ => show 0 + 1 * d.val = d.val; omega

/-- Slot `s` of the key buffer holds the keys of the ring neighbour at that slot. -/
theorem KB_at (c : Dev nD) (s : Fin 3) (b : Fin 2) (h : Fin 4) (i : Fin 128) (d : Fin 64) : KB m c (ix5 s b h i d) = aK m (off c (s.val + 15)) (ix4 b i h d) := by
  refine (congrArg (KS m (off c (s.val + 15))) (ix5_eq_valueIdx 0 b h i d).symm).trans ((turned _ b h i d).trans ?_)
  rw [kstg_eq]
/-- Slot `s` of the value buffer holds the values of the ring neighbour at that slot. -/
theorem VB_at (c : Dev nD) (s : Fin 3) (b : Fin 2) (h : Fin 4) (i : Fin 128) (d : Fin 64) : VB m c (ix5 s b h i d) = aV m (off c (s.val + 15)) (ix4 b i h d) := by
  refine (congrArg (VS m (off c (s.val + 15))) (ix5_eq_valueIdx 0 b h i d).symm).trans ((turned _ b h i d).trans ?_)
  rw [vstg_eq]

/-- The keys read from a slot for one batch and head. -/
theorem kAt_at (c : Dev nD) (s : ℕ) (hs : s < 3) (b : Fin 2) (h : Fin 4) (i : Fin 128) (d : Fin 64) :
    kAt m c s b h hs b.isLt h.isLt (ix5 0 0 0 i d) = aK m (off c (s + 15)) (ix4 b i h d) :=
  (congrArg (KB m c) (idxB s hs b h i d)).trans (KB_at m c ⟨s, hs⟩ b h i d)
/-- The values read from a slot for one batch and head. -/
theorem vAt_at (c : Dev nD) (s : ℕ) (hs : s < 3) (b : Fin 2) (h : Fin 4) (i : Fin 128) (d : Fin 64) :
    vAt m c s b h hs b.isLt h.isLt (ix5 0 0 0 i d) = aV m (off c (s + 15)) (ix4 b i h d) :=
  (congrArg (VB m c) (idxB s hs b h i d)).trans (VB_at m c ⟨s, hs⟩ b h i d)

/-! ## The queries -/

/-- The first batch's activations. -/
theorem x0_at (c : Dev nD) (i : Fin 128) (k : Fin 512) : x0 m c (ix3 0 i k) = aX m c (ix3 0 i k) := by
  rw [← xstg_eq]
  refine congrArg (xstg m c) (?_ : (Rect.unit (s := S2x128x512) ![0, 0, 0] S1x128x512.size inb_S2x128x512_S1x128x512_0_0_0).emb (ix3 0 i k) = ix3 0 i k)
  funext a; apply Fin.ext
  match a with
  | ⟨0, _⟩ => rfl
  | ⟨1, _⟩ => show 0 + 1 * i.val = i.val; omega
  | ⟨2, _⟩ => show 0 + 1 * k.val = k.val; omega
/-- The second batch's activations. -/
theorem x1_at (c : Dev nD) (i : Fin 128) (k : Fin 512) : x1 m c (ix3 0 i k) = aX m c (ix3 1 i k) := by
  rw [← xstg_eq]
  refine congrArg (xstg m c) (?_ : (Rect.unit (s := S2x128x512) ![1, 0, 0] S1x128x512.size inb_S2x128x512_S1x128x512_1_0_0).emb (ix3 0 i k) = ix3 1 i k)
  funext a; apply Fin.ext
  match a with
  | ⟨0, _⟩ => rfl
  | ⟨1, _⟩ => show 0 + 1 * i.val = i.val; omega
  | ⟨2, _⟩ => show 0 + 1 * k.val = k.val; omega

/-- The product of a batch's rows with the query weights. -/
theorem proj_at (w : FVec Ideal S512x256 .bf16) (x : FVec Ideal S1x128x512 .bf16) (i : Fin 128) (e : Fin 256) : k0_pay8 (F := Ideal) (k0_pay6 w) x (ix2 i e) = (∑ k : Fin 512, x (ix3 0 i k) * w (ix2 k e) : EReal) := by
  pointwise [k0_pay8, k0_pay6]

/-- The queries are the activations times the query weights. -/
theorem qB_at (c : Dev nD) (b : Fin 2) (i : Fin 128) (e : Fin 256) : qB m c b (ix2 i e) = ∑ k : Fin 512, aX m c (ix3 b i k) * aWq m c (ix2 k e) := by
  match b with
  | 0 =>
    refine (proj_at (wqstg m c) (x0 m c) i e).trans ?_
    rw [wqstg_eq]
    exact Finset.sum_congr rfl fun k _ => congrArg (· * aWq m c (ix2 k e)) (x0_at m c i k)
  | 1 =>
    refine (proj_at (wqstg m c) (x1 m c) i e).trans ?_
    rw [wqstg_eq]
    exact Finset.sum_congr rfl fun k _ => congrArg (· * aWq m c (ix2 k e)) (x1_at m c i k)

/-- The output weights, as read. -/
theorem wo_at (c : Dev nD) (e : Fin 256) (n : Fin 512) : wo m c (ix2 e n) = aWo m c (ix2 e n) := by
  show k0_pay7 (wostg m c) (ix2 e n) = _
  rw [wostg_eq]
  pointwise [k0_pay7]

/-! ## The global blocks -/

/-- The global keys are stored without their leading axis. -/
theorem first (x : FVec Ideal S1x2x4x32x64 .bf16) (b : Fin 2) (h : Fin 4) (i : Fin 32) (d : Fin 64) : k0_pay10 x (ix4 b h i d) = x (ix5 0 b h i d) := by
  pointwise [k0_pay10]

/-- The global values are stored without their leading axis. -/
theorem first' (x : FVec Ideal S1x2x4x32x64 .bf16) (b : Fin 2) (h : Fin 4) (i : Fin 32) (d : Fin 64) : k0_pay11 x (ix4 b h i d) = x (ix5 0 b h i d) := by
  pointwise [k0_pay11]

/-- Where the first 32 rows of a block's own slot lie in the ring buffer. -/
theorem idxF (b : Fin 2) (h : Fin 4) (i : Fin 32) (d : Fin 64) :
    (Rect.unit (s := S3x2x4x128x64) ![1, 0, 0, 0, 0] S1x2x4x32x64.size inb_S3x2x4x128x64_S1x2x4x32x64_1_0_0_0_0).emb (ix5 0 b h i d) = ix5 1 b h ⟨i.val, by omega⟩ d := by
  funext a; apply Fin.ext
  match a with
  | ⟨0, _⟩ => rfl
  | ⟨1, _⟩ => show 0 + 1 * b.val = b.val; omega
  | ⟨2, _⟩ => show 0 + 1 * h.val = h.val; omega
  | ⟨3, _⟩ => show 0 + 1 * i.val = i.val; omega
  | ⟨4, _⟩ => show 0 + 1 * d.val = d.val; omega

/-- The whole way round the ring from device 0 is device 0. -/
theorem own : off dev0 16 = dev0 := by decide

/-- The global keys are device 0's first 32 keys. -/
theorem kgAt_at (b : Fin 2) (h : Fin 4) (i : Fin 32) (d : Fin 64) : kgAt m b h b.isLt h.isLt (ix4 0 0 i d) = aK m dev0 (ix4 b ⟨i.val, by omega⟩ h d) := by
  refine (congrArg (KG m) (idxG b h i d)).trans ((first _ b h i d).trans ((congrArg (KB m dev0) (idxF b h i d)).trans ((KB_at m dev0 1 b h _ d).trans ?_)))
  exact congrArg (fun z => aK m z (ix4 b ⟨i.val, by omega⟩ h d)) own
/-- The global values are device 0's first 32 values. -/
theorem vgAt_at (b : Fin 2) (h : Fin 4) (i : Fin 32) (d : Fin 64) : vgAt m b h b.isLt h.isLt (ix4 0 0 i d) = aV m dev0 (ix4 b ⟨i.val, by omega⟩ h d) := by
  refine (congrArg (VG m) (idxG b h i d)).trans ((first' _ b h i d).trans ((congrArg (VB m dev0) (idxF b h i d)).trans ((VB_at m dev0 1 b h _ d).trans ?_)))
  exact congrArg (fun z => aV m z (ix4 b ⟨i.val, by omega⟩ h d)) own

/-- The global queries of the first batch, by head. -/
theorem headed0 (w : FVec Ideal S512x256 .bf16) (x : FVec Ideal S1x128x512 .bf16) (h : Fin 4) (i : Fin 32) (d : Fin 64) :
    k0_pay12 w x (ix4 0 h i d) = ∑ k : Fin 512, x (ix3 0 ⟨i.val, by omega⟩ k) * w (ix2 k ⟨64 * h.val + d.val, by omega⟩) := by
  have e : (⟨64 * h.val + d.val, by omega⟩ : Fin 256) = ⟨h.val * 64 + d.val, by omega⟩ := Fin.ext (by show 64 * h.val + d.val = h.val * 64 + d.val; omega)
  rw [e]
  pointwise [k0_pay12]
  pointwise [k0_pay8]

/-- The global queries are device 0's first 32 queries. -/
theorem qgAt_at (b : Fin 2) (h : Fin 4) (i : Fin 32) (d : Fin 64) : qgAt m b h b.isLt h.isLt (ix4 0 0 i d) = (∑ k : Fin 512, aX m dev0 (ix3 b ⟨i.val, by omega⟩ k) * aWq m dev0 (ix2 k ⟨64 * h.val + d.val, by omega⟩) : EReal) := by
  refine (congrArg (QG m) (idxG b h i d)).trans ?_
  match b with
  | 0 =>
    refine (congrArg (k0_pay12 _ _) (ix4_eq_valueIdx 0 h i d).symm).trans ((headed0 (k0_pay6 (wqstg m dev0)) (x0 m dev0) h i d).trans ?_)
    rw [wqstg_eq]
    refine Finset.sum_congr rfl fun k _ => congrArg₂ (fun x y : EReal => x * y) (x0_at m dev0 _ k) ?_
    pointwise [k0_pay6]
  | 1 =>
    refine (congrArg (k0_pay12 _ _) (ix4_eq_valueIdx 0 h i d).symm).trans ((headed0 (k0_pay6 (wqstg m dev0)) (x1 m dev0) h i d).trans ?_)
    rw [wqstg_eq]
    refine Finset.sum_congr rfl fun k _ => congrArg₂ (fun x y : EReal => x * y) (x1_at m dev0 _ k) ?_
    pointwise [k0_pay6]

/-! ## The gathered sums -/

/-- A partial result: the sum of weighted values, and in its last column the sum of the weights. -/
theorem part_val (q : FVec Ideal S1x1x32x64 .bf16) (k v : FVec Ideal S1x1x1x128x64 .bf16) (i : Fin 32) (d : Fin 65) :
    k0_pay18 (F := Ideal) q k v (ix4 0 0 i d) = if hd : d.val < 64 then
        ∑ t : Fin 128, Ideal.exp ((∑ x : Fin 64, q (ix4 0 0 i x) * k (ix5 0 0 0 t x)) * Ideal.ofBits .f32 0x3E000000#32) * v (ix5 0 0 0 t ⟨d.val, hd⟩)
      else ∑ t : Fin 128, Ideal.exp ((∑ x : Fin 64, q (ix4 0 0 i x) * k (ix5 0 0 0 t x)) * Ideal.ofBits .f32 0x3E000000#32) := by
  pointwise [k0_pay18]

/-- Merging divides the sum of the partial results by the sum of the weights. -/
theorem merged (g : FVec Ideal S16x2x4x32x65 .bf16) (b : Fin 2) (h : Fin 4) (i : Fin 32) (d : Fin 64) :
    k0_pay1 (F := Ideal) g (ix4 b h i d) = Ideal.div (∑ s : Fin 16, g (ix5 s b h i ⟨d.val, by omega⟩)) (∑ s : Fin 16, g (ix5 s b h i 64)) := by
  pointwise [k0_pay1]

/-- The output rows of the first batch's global queries. -/
theorem OG0_at (w : FVec Ideal S256x512 .bf16) (g : FVec Ideal S16x2x4x32x65 .bf16) (i : Fin 32) (n : Fin 512) :
    k0_pay2 (F := Ideal) w g (ix3 0 i n) = (∑ e : Fin 256, k0_pay1 (F := Ideal) g (ix4 0 ⟨e.val / 64, by omega⟩ i ⟨e.val % 64, by omega⟩) * w (ix2 e n) : EReal) := by
  pointwise [k0_pay2]
/-- The output rows of the second batch's global queries. -/
theorem OG1_at (w : FVec Ideal S256x512 .bf16) (g : FVec Ideal S16x2x4x32x65 .bf16) (i : Fin 32) (n : Fin 512) :
    k0_pay72 (F := Ideal) (k0_pay3 w g) (ix3 0 i n) = (∑ e : Fin 256, k0_pay1 (F := Ideal) g (ix4 1 ⟨e.val / 64, by omega⟩ i ⟨e.val % 64, by omega⟩) * w (ix2 e n) : EReal) := by
  pointwise [k0_pay72, k0_pay3]

/-- The gathered partial results hold each device's own. -/
theorem PA_at (s : Fin 16) (b : Fin 2) (h : Fin 4) (i : Fin 32) (d : Fin 65) :
    PA m (ix5 s b h i d) = part m s b h b.isLt h.isLt (ix4 0 0 i d) := by
  have e : off dev0 s.val = s := by revert s; decide
  show PP m (off dev0 s.val) (ValueIdx.ix4 b h i d) = _
  rw [e]
  exact (congrArg (part m s b h b.isLt h.isLt) (ix4_eq_valueIdx 0 0 i d).symm)

end Cert.Att
-- ==== Proof.Mask.lean ====
/-
# The masks and the keys they allow

The band's tests on words as statements on numbers, and the keys a device's 416 columns stand for: each key the reference allows a row is
exactly one allowed column.
-/
module

public import proofs.«01_k».proof.Proof.Out
public import Idealize.ShloMosaic.Lib.Pointwise

@[expose] public section

set_option maxRecDepth 16384

noncomputable section

namespace Cert.Att
open Cert.KernelIdeal Cert.KernelIdeal.Gen Idealize.ShloMosaic Idealize.ShloMosaic.TcCoe

attribute [local instance] Cert.KernelIdeal.Gen.facts

/-- Two places at most 128 apart. -/
abbrev Near (a b : ℕ) : Prop := a ≤ b + 128 ∧ b ≤ a + 128

/-- The word of a place. -/
theorem place (a i : ℕ) : IntOp.addi (Scalar.muli (BitVec.ofNat 32 a) 128#32) (BitVec.ofNat 32 i) = BitVec.ofNat 32 (128 * a + i) := by
  apply BitVec.eq_of_toNat_eq
  simp only [IntOp.addi, Scalar.muli, IntOp.muli, BitVec.toNat_add, BitVec.toNat_mul, BitVec.toNat_ofNat]
  omega

/-- The distance of two places, as a word. -/
theorem dist (a b : ℕ) (ha : a < 4096) (hb : b < 4096) : IntOp.absi (IntOp.subi (BitVec.ofNat 32 a) (BitVec.ofNat 32 b)) = BitVec.ofNat 32 (a - b + (b - a)) := by
  apply BitVec.eq_of_toNat_eq
  unfold IntOp.absi IntOp.subi
  split_ifs with h
  · rw [BitVec.msb_eq_decide, decide_eq_true_eq] at h
    simp only [BitVec.toNat_neg, BitVec.toNat_sub, BitVec.toNat_ofNat] at h ⊢
    omega
  · rw [BitVec.msb_eq_decide, decide_eq_true_eq] at h
    simp only [BitVec.toNat_sub, BitVec.toNat_ofNat] at h ⊢
    omega

/-- The test for a distance of at most 128 says that two places are near. -/
theorem close_iff (a b : ℕ) (ha : a < 4096) (hb : b < 4096) :
    IntOp.cmpi .sle (IntOp.absi (IntOp.subi (BitVec.ofNat 32 a) (BitVec.ofNat 32 b))) 128#32 = 1#1 ↔ Near a b := by
  rw [dist a b ha hb]
  have e : IntOp.cmpi .sle (BitVec.ofNat 32 (a - b + (b - a))) 128#32 = BitVec.ofBool (decide (a - b + (b - a) ≤ 128)) := by
    have h1 : (BitVec.ofNat 32 (a - b + (b - a))).toNat = a - b + (b - a) := by rw [BitVec.toNat_ofNat, Nat.mod_eq_of_lt (show a - b + (b - a) < 2 ^ 32 by omega)]
    have h2 : (BitVec.ofNat 32 (a - b + (b - a))).toInt = ((a - b + (b - a) : ℕ) : ℤ) := by
      rw [BitVec.toInt_eq_toNat_of_lt (by rw [h1]; omega), h1]
    unfold IntOp.cmpi
    congr 1
    rw [BitVec.sle_eq_decide, h2]
    apply decide_eq_decide.2
    show ((a - b + (b - a) : ℕ) : ℤ) ≤ 128 ↔ _
    omega
  rw [e]
  by_cases h : a - b + (b - a) ≤ 128
  · rw [decide_eq_true h]; exact iff_of_true rfl (show a ≤ b + 128 ∧ b ≤ a + 128 by omega)
  · rw [decide_eq_false h]
    refine iff_of_false (by decide) fun hn => h ?_
    obtain ⟨h1, h2⟩ := hn
    omega

/-- The test for a distance above 128 says that two places are not near. -/
theorem far_iff (a b : ℕ) (ha : a < 4096) (hb : b < 4096) :
    IntOp.cmpi .sgt (IntOp.absi (IntOp.subi (BitVec.ofNat 32 a) (BitVec.ofNat 32 b))) 128#32 = 1#1 ↔ ¬ Near a b := by
  rw [← close_iff a b ha hb]
  generalize IntOp.absi _ = z
  unfold IntOp.cmpi
  show BitVec.ofBool (BitVec.slt 128#32 z) = 1#1 ↔ ¬ BitVec.ofBool (BitVec.sle z 128#32) = 1#1
  rw [BitVec.sle_eq_not_slt]
  cases BitVec.slt 128#32 z <;> decide

/-- The key a column holds. -/
def keyOf (c t : ℕ) : ℕ :=
  if t < 128 then 128 * ((c + 15) % 16) + t else if t < 256 then 128 * c + (t - 128) else if t < 384 then 128 * ((c + 1) % 16) + (t - 256) else t - 384

/-- Whether a column counts for a row. -/
def okCol (c i t : ℕ) : Prop := if t < 384 then Near (128 * c + i) (keyOf c t) else ¬ Near (128 * c + i) (keyOf c t)

instance (c i t : ℕ) : Decidable (okCol c i t) := by unfold okCol; infer_instance

/-- The left neighbour's number as a word. -/
theorem dwl_eq (c : Dev nD) : dwl c = BitVec.ofNat 32 ((c.val + 15) % 16) := by revert c; decide
/-- The right neighbour's number as a word. -/
theorem dwr_eq (c : Dev nD) : dwr c = BitVec.ofNat 32 ((c.val + 1) % 16) := by revert c; decide

/-- A slot's mask: the key is within 128 of the row. -/
theorem slot_at (a b : ℕ) (i t : Fin 128) : k0_pay35 (BitVec.ofNat 32 a) (BitVec.ofNat 32 b) (ix2 i t) =
    IntOp.cmpi .sle (IntOp.absi (IntOp.subi (BitVec.ofNat 32 (128 * a + i.val)) (BitVec.ofNat 32 (128 * b + t.val)))) 128#32 := by
  pointwise [k0_pay35, k0_pay34]
  rw [place, place]

/-- The mask of the 416 columns: three slots, then the global keys not already in the band. -/
theorem band_at (v : BitVec 32) (a b c : IVec S128x128 1) (i : Fin 128) (t : Fin 416) : k0_pay38 v a b c 128#32 (ix2 i t) =
    if h1 : t.val < 128 then a (ix2 i ⟨t.val, h1⟩) else if h2 : t.val < 256 then b (ix2 i ⟨t.val - 128, by omega⟩) else
    if h3 : t.val < 384 then c (ix2 i ⟨t.val - 256, by omega⟩) else
      IntOp.cmpi .sgt (IntOp.absi (IntOp.subi (IntOp.addi (Scalar.muli v 128#32) (BitVec.ofNat 32 i.val)) (BitVec.ofNat 32 (t.val - 384)))) 128#32 := by
  pointwise [k0_pay38]
  by_cases h1 : t.val < 128
  · rw [dif_pos h1, dif_pos h1]
  · rw [dif_neg h1, dif_neg h1]
    by_cases h2 : t.val < 256
    · rw [dif_pos (by omega), dif_pos h2]
    · rw [dif_neg (by omega), dif_neg h2]
      by_cases h3 : t.val < 384
      · rw [dif_pos (by omega), dif_pos h3]
        exact congrArg (fun z => c (ix2 i z)) (Fin.ext (by show t.val - 128 - 128 = t.val - 256; omega))
      · rw [dif_neg (by omega), dif_neg h3]
        rw [show t.val - 128 - 128 - 128 = t.val - 384 by omega]

/-- The body's mask, at a row and a column. -/
theorem mask_iff (c : Dev nD) (i : Fin 128) (t : Fin 416) : o407 c (ix2 i t) = 1#1 ↔ okCol c.val i.val t.val := by
  have hc : c.val < 16 := c.isLt
  have e := band_at (dw c) (o383 c) (o390 c) (o397 c) i t
  rw [show o407 c = k0_pay38 (dw c) (o383 c) (o390 c) (o397 c) 128#32 from rfl, e]
  unfold okCol keyOf
  by_cases h1 : t.val < 128
  · rw [dif_pos h1, if_pos (by omega), if_pos h1]
    show k0_pay35 (dw c) (dwl c) (ix2 i ⟨t.val, h1⟩) = 1#1 ↔ _
    rw [dw_eq, dwl_eq, slot_at]
    exact close_iff _ _ (by omega) (by show 128 * ((c.val + 15) % 16) + t.val < 4096; omega)
  · rw [dif_neg h1, if_neg h1]
    by_cases h2 : t.val < 256
    · rw [dif_pos h2, if_pos (by omega), if_pos h2]
      show k0_pay35 (dw c) (dw c) (ix2 i ⟨t.val - 128, _⟩) = 1#1 ↔ _
      rw [dw_eq, slot_at]
      exact close_iff _ _ (by omega) (by show 128 * c.val + (t.val - 128) < 4096; omega)
    · rw [dif_neg h2, if_neg h2]
      by_cases h3 : t.val < 384
      · rw [dif_pos h3, if_pos h3, if_pos h3]
        show k0_pay35 (dw c) (dwr c) (ix2 i ⟨t.val - 256, _⟩) = 1#1 ↔ _
        rw [dw_eq, dwr_eq, slot_at]
        exact close_iff _ _ (by omega) (by show 128 * ((c.val + 1) % 16) + (t.val - 256) < 4096; omega)
      · rw [dif_neg h3, if_neg h3, if_neg h3, dw_eq, place]
        exact far_iff _ _ (by omega) (by omega)

/-! ## The columns that count hold the keys that count, each once -/

/-- A column's key is a place of the sequence. -/
theorem keyOf_lt (c t : ℕ) (hc : c < 16) (ht : t < 416) : keyOf c t < 2048 := by
  unfold keyOf; split_ifs <;> omega

/-- An allowed column's key is one the reference allows. -/
theorem ok_key (c i t : ℕ) (hc : c < 16) (ht : t < 416) (h : okCol c i t) : Near (128 * c + i) (keyOf c t) ∨ keyOf c t < 32 := by
  unfold okCol at h
  split_ifs at h with h1
  · exact .inl h
  · refine .inr ?_
    unfold keyOf
    rw [if_neg (by omega), if_neg (by omega), if_neg (by omega)]
    omega

/-- Two allowed columns of a row never have the same key. -/
theorem ok_inj (c i t t' : ℕ) (hc : c < 16) (hi : i < 128) (ht : t < 416) (ht' : t' < 416) (h : okCol c i t) (h' : okCol c i t') (e : keyOf c t = keyOf c t') : t = t' := by
  unfold okCol Near at h h'
  rw [← e] at h'
  unfold keyOf at h h' e
  split_ifs at h h' e <;> omega

/-- Every key the reference allows has an allowed column. -/
theorem ok_sur (c i j : ℕ) (hc : c < 16) (hi : i < 128) (hj : j < 2048) (h : Near (128 * c + i) j ∨ j < 32) : ∃ t, t < 416 ∧ okCol c i t ∧ keyOf c t = j := by
  by_cases hn : Near (128 * c + i) j
  · obtain ⟨n1, n2⟩ := hn
    refine ⟨128 * (j / 128 + 1 - c) + j % 128, by omega, ?_⟩
    have e : keyOf c (128 * (j / 128 + 1 - c) + j % 128) = j := by
      unfold keyOf
      split_ifs <;> omega
    refine ⟨?_, e⟩
    unfold okCol
    rw [e, if_pos (by omega)]
    exact ⟨n1, n2⟩
  · have hj : j < 32 := h.resolve_left hn
    have e : keyOf c (384 + j) = j := by
      unfold keyOf
      rw [if_neg (by omega), if_neg (by omega), if_neg (by omega)]
      omega
    refine ⟨384 + j, by omega, ?_, e⟩
    unfold okCol
    rw [e, if_neg (by omega)]
    exact hn

end Cert.Att
-- ==== Proof.Ratio.lean ====
/-
# Attention as a ratio of sums

Over the extended reals, with finite scores: dividing each weight or dividing the sum, leaving masked columns out, renaming columns, and
leaving off the largest score all give the same attended value.
-/
module

public import Idealize.ShloMosaic.PureOps.Ideal

@[expose] public section

set_option maxRecDepth 16384

noncomputable section

namespace Cert.Att
open Idealize.ShloMosaic

/-- A finite sum times a nonnegative real number, term by term. -/
theorem sum_mul_real {ι : Type*} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A finite sum of real numbers is a real number. -/
theorem sum_real {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, ← ih, EReal.coe_add]

/-- The exponential is never negative. -/
theorem exp_nonneg (x : EReal) : 0 ≤ Ideal.exp x := by
  induction x with
  | bot => rw [Ideal.exp_bot]
  | top => rw [Ideal.exp_top]; exact le_top
  | coe r => rw [Ideal.exp_coe]; exact_mod_cast (Real.exp_pos r).le

/-- Where the largest of some real scores is taken off every score, the weights' sum is not zero. -/
theorem sum_ne_zero {ι : Type*} [Fintype ι] (s : ι → EReal) (t₀ : ι) (h₀ : s t₀ ≠ ⊥) (hr : ∀ t, s t ≠ ⊤) :
    ∑ t, Ideal.exp (s t - Finset.univ.sup s) ≠ 0 := by
  obtain ⟨t, -, ht⟩ := Finset.exists_mem_eq_sup Finset.univ ⟨t₀, Finset.mem_univ _⟩ s
  have hb : s t ≠ ⊥ := fun e => h₀ (le_bot_iff.1 ((Finset.le_sup (f := s) (Finset.mem_univ t₀)).trans (ht.trans e).le))
  have h1 : Ideal.exp (s t - Finset.univ.sup s) = 1 := by
    rw [ht]
    lift s t to ℝ using ⟨hr t, hb⟩ with r
    rw [← EReal.coe_sub, sub_self, Ideal.exp_coe, Real.exp_zero]
    rfl
  have h2 : (1 : EReal) ≤ ∑ t, Ideal.exp (s t - Finset.univ.sup s) := by
    rw [← h1]
    exact Finset.single_le_sum (f := fun t => Ideal.exp (s t - Finset.univ.sup s)) (fun _ _ => exp_nonneg _) (Finset.mem_univ t)
  intro e
  rw [e] at h2
  exact absurd h2 (not_le.2 zero_lt_one)

variable {ι κ : Type*} [Fintype ι] [Fintype κ]

/-- The sum over the kept columns is the sum over the kept keys. -/
theorem sum_kept (ok : ι → Prop) (al : κ → Prop) [DecidablePred ok] [DecidablePred al] (key : ι → κ) (hmap : ∀ t, ok t → al (key t))
    (hinj : ∀ t t', ok t → ok t' → key t = key t' → t = t') (hsur : ∀ j, al j → ∃ t, ok t ∧ key t = j) (f : κ → EReal) :
    (∑ t, if ok t then f (key t) else 0) = ∑ j, if al j then f j else 0 := by
  rw [← Finset.sum_filter, ← Finset.sum_filter]
  refine Finset.sum_bij (fun t _ => key t) (fun t ht => ?_) (fun t ht t' ht' e => ?_) (fun j hj => ?_) (fun _ _ => rfl)
  · exact Finset.mem_filter.2 ⟨Finset.mem_univ _, hmap t (Finset.mem_filter.1 ht).2⟩
  · exact hinj t t' (Finset.mem_filter.1 ht).2 (Finset.mem_filter.1 ht').2 e
  · obtain ⟨t, h1, h2⟩ := hsur j (Finset.mem_filter.1 hj).2
    exact ⟨t, Finset.mem_filter.2 ⟨Finset.mem_univ _, h1⟩, h2⟩

/-- The largest score over the kept columns is the largest over the kept keys. -/
theorem sup_kept (ok : ι → Prop) (al : κ → Prop) [DecidablePred ok] [DecidablePred al] (key : ι → κ) (hmap : ∀ t, ok t → al (key t))
    (hsur : ∀ j, al j → ∃ t, ok t ∧ key t = j) (f : κ → EReal) :
    (Finset.univ.sup fun t => if ok t then f (key t) else ⊥) = Finset.univ.sup fun j => if al j then f j else ⊥ := by
  apply le_antisymm
  · refine Finset.sup_le fun t _ => ?_
    split_ifs with h
    · refine le_trans ?_ (Finset.le_sup (f := fun j => if al j then f j else ⊥) (Finset.mem_univ (key t)))
      show _ ≤ if al (key t) then f (key t) else ⊥
      rw [if_pos (hmap t h)]
    · exact bot_le
  · refine Finset.sup_le fun j _ => ?_
    split_ifs with h
    · obtain ⟨t, h1, h2⟩ := hsur j h
      refine le_trans ?_ (Finset.le_sup (f := fun t => if ok t then f (key t) else ⊥) (Finset.mem_univ t))
      show _ ≤ if ok t then f (key t) else ⊥
      rw [if_pos h1, h2]
    · exact bot_le

/-- The weighted sum of some values under scores, the largest score taken off first. -/
def attend (s v : ι → EReal) : EReal :=
  ∑ t, Ideal.div (Ideal.exp (s t - Finset.univ.sup s)) (∑ t', Ideal.exp (s t' - Finset.univ.sup s)) * v t

/-- A masked column counts nothing. -/
theorem attend_masked (ok : ι → Prop) [DecidablePred ok] (s v : ι → EReal) (hr : ∀ t, s t ≠ ⊤) (t₀ : ι) (h₀ : ok t₀) (hb : s t₀ ≠ ⊥) :
    attend (fun t => if ok t then s t else ⊥) v = ∑ t, if ok t then
      Ideal.div (Ideal.exp (s t - Finset.univ.sup fun t => if ok t then s t else ⊥)) (∑ t', if ok t' then Ideal.exp (s t' - Finset.univ.sup fun t => if ok t then s t else ⊥) else 0) * v t
      else 0 := by
  have hne := sum_ne_zero (fun t => if ok t then s t else ⊥) t₀ (by show (if ok t₀ then s t₀ else ⊥) ≠ ⊥; rwa [if_pos h₀])
    (fun t => by show (if ok t then s t else ⊥) ≠ ⊤; split_ifs; exacts [hr t, bot_ne_top])
  unfold attend
  generalize (Finset.univ.sup fun t => if ok t then s t else ⊥) = M at hne ⊢
  have hterm : ∀ t, Ideal.exp ((if ok t then s t else ⊥) - M) = if ok t then Ideal.exp (s t - M) else 0 := by
    intro t
    split_ifs
    · rfl
    · rw [EReal.bot_sub, Ideal.exp_bot]
  simp only [hterm] at hne ⊢
  generalize (∑ t, if ok t then Ideal.exp (s t - M) else 0) = L at hne ⊢
  refine Finset.sum_congr rfl fun t _ => ?_
  split_ifs
  · rfl
  · unfold Ideal.div
    rw [if_neg hne, zero_mul, zero_mul]

/-- The kept columns give what the kept keys give. -/
theorem attend_kept (ok : ι → Prop) (al : κ → Prop) [DecidablePred ok] [DecidablePred al] (key : ι → κ) (hmap : ∀ t, ok t → al (key t))
    (hinj : ∀ t t', ok t → ok t' → key t = key t' → t = t') (hsur : ∀ j, al j → ∃ t, ok t ∧ key t = j) (σ v : κ → EReal)
    (ht : ∀ j, σ j ≠ ⊤) (hb : ∀ j, σ j ≠ ⊥) (j₀ : κ) (h₀ : al j₀) :
    attend (fun t => if ok t then σ (key t) else ⊥) (fun t => v (key t)) = attend (fun j => if al j then σ j else ⊥) v := by
  obtain ⟨t₀, h1, -⟩ := hsur j₀ h₀
  rw [attend_masked ok (fun t => σ (key t)) _ (fun _ => ht _) t₀ h1 (hb _), attend_masked al σ v ht j₀ h₀ (hb _),
    sup_kept ok al key hmap hsur σ]
  rw [sum_kept ok al key hmap hinj hsur fun j => Ideal.exp (σ j - Finset.univ.sup fun j => if al j then σ j else ⊥)]
  exact sum_kept ok al key hmap hinj hsur fun j => Ideal.div (Ideal.exp (σ j - Finset.univ.sup fun j => if al j then σ j else ⊥)) _ * v j

/-- With no column masked, the scores' exponentials may be used as they are. -/
theorem attend_all [Nonempty κ] (σ : κ → ℝ) (v : κ → EReal) :
    attend (fun j => (σ j : EReal)) v = Ideal.div (∑ j, Ideal.exp (σ j) * v j) (∑ j, Ideal.exp (σ j)) := by
  obtain ⟨k, -, hk⟩ := Finset.exists_mem_eq_sup Finset.univ (Finset.univ_nonempty (α := κ)) fun j => (σ j : EReal)
  unfold attend
  rw [hk]
  generalize σ k = μ
  simp only [← EReal.coe_sub, Ideal.exp_coe, ← sum_real]
  have p1 : 0 < ∑ j, Real.exp (σ j) := Finset.sum_pos (fun _ _ => Real.exp_pos _) Finset.univ_nonempty
  have p2 : 0 < ∑ j, Real.exp (σ j - μ) := Finset.sum_pos (fun _ _ => Real.exp_pos _) Finset.univ_nonempty
  rw [Ideal.div_coe p1.ne', sum_mul_real _ _ _ (one_div_nonneg.2 p1.le)]
  refine Finset.sum_congr rfl fun j _ => ?_
  rw [Ideal.div_coe p2.ne', ← EReal.coe_mul, mul_right_comm, ← EReal.coe_mul]
  congr 2
  have e : ∑ j, Real.exp (σ j - μ) = (∑ j, Real.exp (σ j)) * Real.exp (-μ) := by
    rw [Finset.sum_mul]
    exact Finset.sum_congr rfl fun j _ => by rw [← Real.exp_add, sub_eq_add_neg]
  rw [e, sub_eq_add_neg, Real.exp_add]
  have := Real.exp_pos (-μ)
  field_simp

end Cert.Att
-- ==== Proof.Ref.lean ====
/-
# The reference, element by element

The reference's result as an attention over the keys its mask allows.
-/
module

public import proofs.«01_k».proof.Proof.Gen.ReferenceIdeal.Run
public import proofs.«01_k».proof.Proof.Mask
public import proofs.«01_k».proof.Proof.Ratio
public import proofs.«01_k».proof.Proof.Read
public import Idealize.ShloMosaic.Lib.Pointwise
public import Idealize.ShloMosaic.Lib.Routing.OpsOrder

@[expose] public section

set_option maxRecDepth 16384

noncomputable section

namespace Cert.Att
open Cert.ReferenceIdeal Cert.ReferenceIdeal.Gen Idealize.ShloMosaic Idealize.ShloMosaic.TcCoe

attribute [local instance] Cert.ReferenceIdeal.Gen.facts

/-- The reference's mask. -/
def rMask : IVec S2048x2048 1 := ori (cmpi .sle (absi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (broadcastInDim S2048x2048 ![] bcast_S_S2048x2048 (constantI S_ 32 128#32))) (ori (broadcastInDim S2048x2048 ![0, 1] bcast_S1x2048_S2048x2048_0_1 (cmpi .slt (broadcastInDim S1x2048 ![1] bcast_S2048_S1x2048_1 (iotaInDim S2048 32 0)) (broadcastInDim S1x2048 ![] bcast_S_S1x2048 (constantI S_ 32 32#32)))) (broadcastInDim S2048x2048 ![0, 1] bcast_S2048x1_S2048x2048_0_1 (cmpi .slt (broadcastInDim S2048x1 ![0] bcast_S2048_S2048x1_0 (iotaInDim S2048 32 0)) (broadcastInDim S2048x1 ![] bcast_S_S2048x1 (constantI S_ 32 32#32)))))
/-- The scores before the mask. -/
def rDot (x : FVec Ideal S2x2048x512 .bf16) (wq : FVec Ideal S512x256 .bf16) (k : FVec Ideal S2x2048x4x64 .bf16) : FVec Ideal S2x4x2048x2048 .f32 :=
  mulf (extf .f32 (truncf .bf16 (Host.dotGeneral dot_S2x2048x4x64_S2x2048x4x64_S2x4x2048x2048_3_3_1_1_02_02 none (shapeCast _ (truncf .bf16 (Host.dotGeneral dot_S2x2048x512_S512x256_S2x2048x256_2_0_01_1_n_n none x wq) bitsLt_bf16_f32) shapeCasts_S2x2048x256_S2x2048x4x64) k) bitsLt_bf16_f32) bitsLt_bf16_f32) (broadcastInDim S2x4x2048x2048 ![] bcast_S_S2x4x2048x2048 (constant S_ .f32 0x3E000000#32))
/-- The scores, masked. -/
def rSel (k : IVec S2048x2048 1) (s : FVec Ideal S2x4x2048x2048 .f32) : FVec Ideal S2x4x2048x2048 .f32 :=
  select (broadcastInDim S2x4x2048x2048 ![0, 1, 2, 3] bcast_S1x1x2048x2048_S2x4x2048x2048_0_1_2_3 (broadcastInDim S1x1x2048x2048 ![2, 3] bcast_S2048x2048_S1x1x2048x2048_2_3 k)) s (broadcastInDim S2x4x2048x2048 ![] bcast_S_S2x4x2048x2048 (id (constant S_ .f32 0xFF800000#32)))
/-- The largest score of each row. -/
def rTop (s : FVec Ideal S2x4x2048x2048 .f32) : FVec Ideal S2x4x2048 .f32 :=
  Host.reduce FloatOps.maximumf s (constant S_ .f32 0xFF800000#32) reducesTo_S2x4x2048x2048_S2x4x2048_d3 h_S_
/-- The weights, not divided. -/
def rExp (s : FVec Ideal S2x4x2048x2048 .f32) : FVec Ideal S2x4x2048x2048 .f32 :=
  Host.exp (subf s (broadcastInDim S2x4x2048x2048 ![0, 1, 2, 3] bcast_S2x4x2048x1_S2x4x2048x2048_0_1_2_3 (broadcastInDim S2x4x2048x1 ![0, 1, 2] bcast_S2x4x2048_S2x4x2048x1_0_1_2 (rTop s))))
/-- Whether a row has any key at all. -/
def rAny (k : IVec S2048x2048 1) : IVec S1x1x2048x1 1 :=
  broadcastInDim S1x1x2048x1 ![2] bcast_S2048_S1x1x2048x1_2 (Host.reduce IntOp.ori k (constantI S_ 1 0#1) reducesTo_S2048x2048_S2048_d1 h_S_)
/-- The weights' sum of each row. -/
def rSum (a : IVec S1x1x2048x1 1) (e : FVec Ideal S2x4x2048x2048 .f32) : FVec Ideal S2x4x2048x1 .f32 :=
  select (broadcastInDim S2x4x2048x1 ![0, 1, 2, 3] bcast_S1x1x2048x1_S2x4x2048x1_0_1_2_3 a) (broadcastInDim S2x4x2048x1 ![0, 1, 2] bcast_S2x4x2048_S2x4x2048x1_0_1_2 (Host.reduceAdd e (constant S_ .f32 0x00000000#32) reducesTo_S2x4x2048x2048_S2x4x2048_d3 h_S_)) (broadcastInDim S2x4x2048x1 ![] bcast_S_S2x4x2048x1 (id (constant S_ .f32 0x3F800000#32)))
/-- The weights. -/
def rW (a : IVec S1x1x2048x1 1) (e : FVec Ideal S2x4x2048x2048 .f32) : FVec Ideal S2x4x2048x2048 .f32 :=
  select (broadcastInDim S2x4x2048x2048 ![0, 1, 2, 3] bcast_S1x1x2048x1_S2x4x2048x2048_0_1_2_3 a) (Host.divf e (broadcastInDim S2x4x2048x2048 ![0, 1, 2, 3] bcast_S2x4x2048x1_S2x4x2048x2048_0_1_2_3 (rSum a e))) (broadcastInDim S2x4x2048x2048 ![] bcast_S_S2x4x2048x2048 (id (constant S_ .f32 0x00000000#32)))
/-- The heads, laid out in one row. -/
def rCtx (v : FVec Ideal S2x2048x4x64 .bf16) (w : FVec Ideal S2x4x2048x2048 .f32) : FVec Ideal S2x2048x256 .f32 :=
  shapeCast _ (transpose S2x2048x4x64 [0, 3, 1, 2] (Host.dotGeneral dot_S2x2048x4x64_S2x4x2048x2048_S2x4x64x2048_1_3_3_2_02_01 none (extf .f32 v bitsLt_bf16_f32) w) transposes_S2x4x64x2048_S2x2048x4x64_0_3_1_2) shapeCasts_S2x2048x4x64_S2x2048x256
/-- The output rows. -/
def rOut (y : FVec Ideal S2x2048x256 .f32) (wo : FVec Ideal S256x512 .bf16) : FVec Ideal S2x2048x512 .f32 :=
  Host.dotGeneral dot_S2x2048x256_S256x512_S2x2048x512_2_0_01_1_n_n none y (extf .f32 wo bitsLt_bf16_f32)

/-- The reference's result, from its arguments. -/
def rAll (x : FVec Ideal S2x2048x512 .bf16) (wq : FVec Ideal S512x256 .bf16) (k v : FVec Ideal S2x2048x4x64 .bf16) (wo : FVec Ideal S256x512 .bf16) : FVec Ideal S2x2048x512 .f32 :=
  rOut (rCtx v (rW (rAny rMask) (rExp (rSel rMask (rDot x wq k))))) wo

set_option maxHeartbeats 4000000 in
/-- The reference's result is the composed reference of its arguments. -/
theorem result_eq (m : (ℓ : Loc nD τ sig) → Buf (Elt Ideal) ℓ) (c : Dev nD) : Value.res_main_v47 m c =
    rAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v47
  rfl

/-- The output: the attended rows times the output weights. -/
theorem rOut_at (y : FVec Ideal S2x2048x256 .f32) (wo : FVec Ideal S256x512 .bf16) (b : Fin 2) (r : Fin 2048) (n : Fin 512) :
    rOut y wo (ix3 b r n) = (∑ e : Fin 256, y (ix3 b r e) * wo (ix2 e n) : EReal) := by
  pointwise [rOut]
/-- The attended rows: the weights times the values, head by head. -/
theorem rCtx_at (v : FVec Ideal S2x2048x4x64 .bf16) (w : FVec Ideal S2x4x2048x2048 .f32) (b : Fin 2) (r : Fin 2048) (e : Fin 256) :
    rCtx v w (ix3 b r e) = (∑ j : Fin 2048, v (ix4 b j ⟨e.val / 64, by omega⟩ ⟨e.val % 64, by omega⟩) * w (ix4 b ⟨e.val / 64, by omega⟩ r j) : EReal) := by
  pointwise [rCtx]
/-- A weight is an exponential over the row's sum, where the row has an allowed key. -/
theorem rW_at (a : IVec S1x1x2048x1 1) (e : FVec Ideal S2x4x2048x2048 .f32) (b : Fin 2) (h : Fin 4) (r j : Fin 2048) (ha : a (ix4 0 0 r 0) = 1#1) :
    rW a e (ix4 b h r j) = Ideal.div (e (ix4 b h r j)) (∑ j', e (ix4 b h r j')) := by
  pointwise [rW, rSum]
  rw [ha]
  rfl
/-- A row that allows its own place has an allowed key. -/
theorem rAny_at (k : IVec S2048x2048 1) (r : Fin 2048) (hk : k (ix2 r r) = 1#1) : rAny k (ix4 0 0 r 0) = 1#1 := by
  pointwise [rAny]
  exact (Idealize.ShloMosaic.Routing.fold_ori Finset.univ fun x => k (ix2 r x)).2 ⟨r, Finset.mem_univ _, hk⟩
/-- An exponential of a score less the row's largest. -/
theorem rExp_at (s : FVec Ideal S2x4x2048x2048 .f32) (b : Fin 2) (h : Fin 4) (r j : Fin 2048) :
    rExp s (ix4 b h r j) = Ideal.exp (s (ix4 b h r j) - Finset.univ.sup fun j => s (ix4 b h r j)) := by
  pointwise [rExp, rTop]
  rw [neg_inf]
  rfl
/-- A masked score: the score where the mask allows it, else minus infinity. -/
theorem rSel_at (k : IVec S2048x2048 1) (s : FVec Ideal S2x4x2048x2048 .f32) (b : Fin 2) (h : Fin 4) (r j : Fin 2048) :
    rSel k s (ix4 b h r j) = if k (ix2 r j) = 1#1 then s (ix4 b h r j) else ⊥ := by
  pointwise [rSel]
  show (if k (ix2 r j) = 1#1 then s (ix4 b h r j) else Ideal.ofBits .f32 0xFF800000#32) = _
  rw [neg_inf]
/-- A score: the scaled product of the row's query and the key. -/
theorem rDot_at (x : FVec Ideal S2x2048x512 .bf16) (wq : FVec Ideal S512x256 .bf16) (k : FVec Ideal S2x2048x4x64 .bf16) (b : Fin 2) (h : Fin 4) (r j : Fin 2048) :
    rDot x wq k (ix4 b h r j) = ((∑ d : Fin 64, (∑ l : Fin 512, x (ix3 b r l) * wq (ix2 l ⟨64 * h.val + d.val, by omega⟩) : EReal) * k (ix4 b j h d)) * Ideal.ofBits .f32 0x3E000000#32 : EReal) := by
  have e : ∀ d : Fin 64, (⟨64 * h.val + d.val, by omega⟩ : Fin 256) = ⟨h.val * 64 + d.val, by omega⟩ := fun d => Fin.ext (by show 64 * h.val + d.val = h.val * 64 + d.val; omega)
  simp only [e]
  pointwise [rDot]
/-- A bit of a disjunction. -/
theorem or_iff (x y : BitVec 1) : IntOp.ori x y = 1#1 ↔ x = 1#1 ∨ y = 1#1 := by
  revert x y; decide
/-- The test for the first 32 places. -/
theorem small_iff (n : ℕ) (h : n < 4096) : IntOp.cmpi .slt (BitVec.ofNat 32 n) 32#32 = 1#1 ↔ n < 32 := by
  have h1 : (BitVec.ofNat 32 n).toNat = n := by rw [BitVec.toNat_ofNat, Nat.mod_eq_of_lt (show n < 2 ^ 32 by omega)]
  have h2 : (BitVec.ofNat 32 n).toInt = (n : ℤ) := by
    rw [BitVec.toInt_eq_toNat_of_lt (by rw [h1]; omega), h1]
  have e : IntOp.cmpi .slt (BitVec.ofNat 32 n) 32#32 = BitVec.ofBool (decide (n < 32)) := by
    unfold IntOp.cmpi
    congr 1
    rw [BitVec.slt_eq_decide, h2]
    apply decide_eq_decide.2
    show (n : ℤ) < 32 ↔ _
    omega
  rw [e]
  by_cases h : n < 32
  · rw [decide_eq_true h]; exact iff_of_true rfl h
  · rw [decide_eq_false h]; exact iff_of_false (by decide) h
/-- The reference allows near keys, the first 32 keys, and every key for the first 32 rows. -/
theorem rMask_iff (r j : Fin 2048) : rMask (ix2 r j) = 1#1 ↔ Near r.val j.val ∨ j.val < 32 ∨ r.val < 32 := by
  pointwise [rMask]
  rw [or_iff, or_iff, close_iff _ _ (by omega) (by omega), small_iff _ (by omega), small_iff _ (by omega)]

/-- The score of a row against a key. -/
def score (x : FVec Ideal S2x2048x512 .bf16) (wq : FVec Ideal S512x256 .bf16) (k : FVec Ideal S2x2048x4x64 .bf16) (b : Fin 2) (h : Fin 4) (r j : Fin 2048) : EReal :=
  (∑ d : Fin 64, (∑ l : Fin 512, x (ix3 b r l) * wq (ix2 l ⟨64 * h.val + d.val, by omega⟩) : EReal) * k (ix4 b j h d)) * Ideal.ofBits .f32 0x3E000000#32

/-- The keys a row may look at. -/
abbrev Allowed (r j : ℕ) : Prop := Near r j ∨ j < 32 ∨ r < 32

/-- The reference's result at an element. -/
theorem rAll_at (x : FVec Ideal S2x2048x512 .bf16) (wq : FVec Ideal S512x256 .bf16) (k v : FVec Ideal S2x2048x4x64 .bf16) (wo : FVec Ideal S256x512 .bf16) (b : Fin 2) (r : Fin 2048) (n : Fin 512) :
    rAll x wq k v wo (ix3 b r n) = (∑ e : Fin 256, attend (fun j : Fin 2048 => if Allowed r.val j.val then score x wq k b ⟨e.val / 64, by omega⟩ r j else ⊥)
      (fun j => v (ix4 b j ⟨e.val / 64, by omega⟩ ⟨e.val % 64, by omega⟩)) * wo (ix2 e n) : EReal) := by
  unfold rAll
  refine (rOut_at _ wo b r n).trans (Finset.sum_congr rfl fun e _ => congrArg (fun z : EReal => z * wo (ix2 e n)) ?_)
  refine (rCtx_at v _ b r e).trans ?_
  unfold attend
  refine Finset.sum_congr rfl fun j _ => ?_
  have hs : ∀ j : Fin 2048, rSel rMask (rDot x wq k) (ix4 b ⟨e.val / 64, by omega⟩ r j) = if Allowed r.val j.val then score x wq k b ⟨e.val / 64, by omega⟩ r j else ⊥ := by
    intro j
    rw [rSel_at, rDot_at]
    exact if_congr (rMask_iff r j) rfl rfl
  rw [rW_at _ _ _ _ _ _ (rAny_at rMask r ((rMask_iff r r).2 (.inl (by show r.val ≤ r.val + 128 ∧ r.val ≤ r.val + 128; omega))))]
  simp only [rExp_at, hs]
  exact mul_comm (G := EReal) _ _

end Cert.Att
-- ==== Proof.Core.lean ====
/-
# The equation

With finite activations, query weights and keys, each device's output rows are its rows of the reference's attention.
-/
module

public import proofs.«01_k».proof.Proof.Input
public import proofs.«01_k».proof.Proof.Ref
public import Idealize.ShloMosaic.Lib.Pointwise.Sums

@[expose] public section

set_option maxRecDepth 16384

noncomputable section

namespace Cert.Att
open Cert.KernelIdeal Cert.KernelIdeal.Gen Idealize.ShloMosaic Idealize.ShloMosaic.TcCoe

attribute [local instance] Cert.KernelIdeal.Gen.facts Cert.ReferenceIdeal.Gen.facts

/-! ## Real numbers among the extended reals -/

/-- A value that is a real number. -/
def IsReal (a : EReal) : Prop := ∃ r : ℝ, a = r

/-- The product of two real numbers is real. -/
theorem IsReal.mul {a b : EReal} : IsReal a → IsReal b → IsReal (a * b)
  | ⟨x, hx⟩, ⟨y, hy⟩ => ⟨x * y, by rw [hx, hy, EReal.coe_mul]⟩
/-- A finite sum of real numbers is real. -/
theorem IsReal.sum {ι : Type*} [Fintype ι] {f : ι → EReal} (h : ∀ i, IsReal (f i)) : IsReal (∑ i, f i) := by
  choose g hg using h
  exact ⟨∑ i, g i, by rw [sum_real]; exact Finset.sum_congr rfl fun i _ => hg i⟩
/-- The scale of the scores is a real number. -/
theorem IsReal.eighth : IsReal (Ideal.ofBits .f32 0x3E000000#32) := by
  simp only [Ideal.ofBits, Ideal.ieee]
  rw [if_neg (by decide), if_neg (by decide)]
  exact ⟨_, rfl⟩
/-- A real number is not plus infinity. -/
theorem IsReal.ne_top {a : EReal} : IsReal a → a ≠ ⊤
  | ⟨x, hx⟩ => by rw [hx]; exact EReal.coe_ne_top x
/-- A real number is not minus infinity. -/
theorem IsReal.ne_bot {a : EReal} : IsReal a → a ≠ ⊥
  | ⟨x, hx⟩ => by rw [hx]; exact EReal.coe_ne_bot x

variable (m : (ℓ : Loc nD τ sig) → Buf (Elt Ideal) ℓ)
variable (X : FVec Ideal Cert.ReferenceIdeal.S2x2048x512 .bf16) (Wq : FVec Ideal S512x256 .bf16) (K V : FVec Ideal Cert.ReferenceIdeal.S2x2048x4x64 .bf16) (Wo : FVec Ideal S256x512 .bf16)

/-- A row of device `c`'s block, in the whole array. -/
abbrev row (c : Fin 16) (i : Fin 128) : Fin 2048 := ⟨128 * c.val + i.val, by omega⟩

/-- The devices' arguments are the blocks of whole arrays. -/
structure Blocks : Prop where
  x : ∀ (c : Fin 16) b i l, aX m c (ix3 b i l) = X (ix3 b (row c i) l)
  wq : ∀ c : Fin 16, aWq m c = Wq
  k : ∀ (c : Fin 16) b i h d, aK m c (ix4 b i h d) = K (ix4 b (row c i) h d)
  v : ∀ (c : Fin 16) b i h d, aV m c (ix4 b i h d) = V (ix4 b (row c i) h d)
  wo : ∀ c : Fin 16, aWo m c = Wo

/-- The key a column holds, in the whole array. -/
abbrev key (c : Fin 16) (t : Fin 416) : Fin 2048 := ⟨keyOf c.val t.val, keyOf_lt _ _ c.isLt t.isLt⟩

variable {m X Wq K V Wo}

/-- With finite activations, query weights and keys every score is a real number. -/
theorem score_real (hX : ∀ i, IsReal (X i)) (hW : ∀ i, IsReal (Wq i)) (hK : ∀ i, IsReal (K i)) (b : Fin 2) (h : Fin 4) (r j : Fin 2048) : IsReal (score X Wq K b h r j) :=
  .mul (.sum fun _ => .mul (.sum fun _ => .mul (hX _) (hW _)) (hK _)) .eighth

/-- A block array's value at a row the ladder of slots names. -/
theorem slots (a : Dev nD → FVec Ideal S2x128x4x64 .bf16) (A : FVec Ideal Cert.ReferenceIdeal.S2x2048x4x64 .bf16) (ha : ∀ (c : Fin 16) b i h d, a c (ix4 b i h d) = A (ix4 b (row c i) h d))
    (c : Fin 16) (b : Fin 2) (h : Fin 4) (p q r : FVec Ideal S1x1x1x128x64 .bf16) (g : FVec Ideal S1x1x32x64 .bf16)
    (hp : ∀ i d, p (ix5 0 0 0 i d) = a (off c 15) (ix4 b i h d)) (hq : ∀ i d, q (ix5 0 0 0 i d) = a (off c 16) (ix4 b i h d)) (hr : ∀ i d, r (ix5 0 0 0 i d) = a (off c 17) (ix4 b i h d))
    (hg : ∀ (i : Fin 32) d, g (ix4 0 0 i d) = a dev0 (ix4 b ⟨i.val, by omega⟩ h d)) (t : Fin 416) (d : Fin 64) :
    k0_pay59 p q r g (ix2 t d) = A (ix4 b (key c t) h d) := by
  refine (rows_at p q r g t d).trans ?_
  have e : ∀ (z : Fin 16) (i : Fin 128), 128 * z.val + i.val = keyOf c.val t.val → a z (ix4 b i h d) = A (ix4 b (key c t) h d) := by
    intro z i hz
    rw [ha]
    exact congrArg (fun y => A (ix4 b y h d)) (Fin.ext hz)
  have hc : c.val < 16 := c.isLt
  have ho : ∀ s, (off c s).val = (c.val + s) % 16 := fun _ => rfl
  unfold keyOf at e
  by_cases h1 : t.val < 128
  · rw [dif_pos h1, hp]
    exact e _ _ (by rw [if_pos h1, ho])
  · rw [dif_neg h1]
    by_cases h2 : t.val < 256
    · rw [dif_pos h2, hq]
      exact e _ _ (by rw [if_neg h1, if_pos h2, ho]; show 128 * ((c.val + 16) % 16) + (t.val - 128) = _; omega)
    · rw [dif_neg h2]
      by_cases h3 : t.val < 384
      · rw [dif_pos h3, hr]
        exact e _ _ (by rw [if_neg h1, if_neg h2, if_pos h3, ho]; show 128 * ((c.val + 17) % 16) + (t.val - 256) = _; omega)
      · rw [dif_neg h3, hg]
        exact e _ _ (by rw [if_neg h1, if_neg h2, if_neg h3]; show 128 * 0 + (t.val - 384) = _; omega)

/-- The keys of a device's 416 columns are rows of the whole key array. -/
theorem kC_at (H : Blocks m X Wq K V Wo) (c : Fin 16) (b : Fin 2) (h : Fin 4) (t : Fin 416) (d : Fin 64) : kC m c b h (ix2 t d) = K (ix4 b (key c t) h d) :=
  slots (aK m) K H.k c b h _ _ _ _ (kAt_at m c 0 (by decide) b h) (kAt_at m c 1 (by decide) b h) (kAt_at m c 2 (by decide) b h) (kgAt_at m b h) t d
/-- The values of a device's 416 columns are rows of the whole value array. -/
theorem vC_at (H : Blocks m X Wq K V Wo) (c : Fin 16) (b : Fin 2) (h : Fin 4) (t : Fin 416) (d : Fin 64) : vC m c b h (ix2 t d) = V (ix4 b (key c t) h d) :=
  slots (aV m) V H.v c b h _ _ _ _ (vAt_at m c 0 (by decide) b h) (vAt_at m c 1 (by decide) b h) (vAt_at m c 2 (by decide) b h) (vgAt_at m b h) t d

/-- A head of the band stage is attention over the columns that count. -/
theorem hd_at (H : Blocks m X Wq K V Wo) (c : Fin 16) (b : Fin 2) (h : Fin 4) (i : Fin 128) (d : Fin 64) :
    hd m c b h (ix2 i d) = attend (fun t : Fin 416 => if okCol c.val i.val t.val then score X Wq K b h (row c i) (key c t) else ⊥) (fun t => V (ix4 b (key c t) h d)) := by
  refine (headV_at (o407 c) _ _ _ i d).trans ?_
  have hs : ∀ t : Fin 416, scoreV (o407 c) (qHead (qB m c b) h) (kC m c b h) (ix2 i t) = if okCol c.val i.val t.val then score X Wq K b h (row c i) (key c t) else ⊥ := by
    intro t
    refine (scoreV_at _ _ _ i t).trans (if_congr (mask_iff c i t) ?_ rfl)
    unfold score
    refine congrArg (fun z : EReal => z * Ideal.ofBits .f32 0x3E000000#32) (Finset.sum_congr rfl fun x _ => ?_)
    rw [kC_at H]
    refine congrArg (fun z : EReal => z * K (ix4 b (key c t) h x)) ?_
    refine (qHead_at _ h i x).trans ((qB_at m c b i _).trans (Finset.sum_congr rfl fun l _ => ?_))
    rw [H.x, H.wq]
  unfold attend
  simp only [hs, vC_at H]

/-- So a head's row below the global ones is attention over the keys allowed. -/
theorem hd_row (H : Blocks m X Wq K V Wo) (hX : ∀ i, IsReal (X i)) (hW : ∀ i, IsReal (Wq i)) (hK : ∀ i, IsReal (K i))
    (c : Fin 16) (b : Fin 2) (h : Fin 4) (i : Fin 128) (d : Fin 64) (hr : 32 ≤ 128 * c.val + i.val) :
    hd m c b h (ix2 i d) = attend (fun j : Fin 2048 => if Allowed (128 * c.val + i.val) j.val then score X Wq K b h (row c i) j else ⊥) (fun j => V (ix4 b j h d)) := by
  refine (hd_at H c b h i d).trans ?_
  have hiff : ∀ j : ℕ, Allowed (128 * c.val + i.val) j ↔ Near (128 * c.val + i.val) j ∨ j < 32 := fun j =>
    ⟨fun a => a.elim .inl fun a => a.elim .inr fun a => absurd a (by omega), fun a => a.elim .inl fun a => .inr (.inl a)⟩
  refine attend_kept (fun t : Fin 416 => okCol c.val i.val t.val) (fun j : Fin 2048 => Allowed (128 * c.val + i.val) j.val) (key c)
    (fun t ht => (hiff _).2 (ok_key _ _ _ c.isLt t.isLt ht))
    (fun t t' ht ht' e => Fin.ext (ok_inj c.val i.val _ _ c.isLt i.isLt t.isLt t'.isLt ht ht' (congrArg Fin.val e)))
    (fun j hj => ?_) (fun j => score X Wq K b h (row c i) j) (fun j => V (ix4 b j h d))
    (fun j => (score_real hX hW hK b h _ j).ne_top) (fun j => (score_real hX hW hK b h _ j).ne_bot)
    (row c i) (.inl (by show 128 * c.val + i.val ≤ 128 * c.val + i.val + 128 ∧ 128 * c.val + i.val ≤ 128 * c.val + i.val + 128; omega))
  obtain ⟨t, ht, h1, h2⟩ := ok_sur c.val i.val j.val c.isLt i.isLt j.isLt ((hiff _).1 hj)
  exact ⟨⟨t, ht⟩, h1, Fin.ext h2⟩

/-! ## The global rows -/

/-- A device's share of the weighted sums and of the weights' sum. -/
theorem part_at (H : Blocks m X Wq K V Wo) (s : Fin 16) (b : Fin 2) (h : Fin 4) (i : Fin 32) (d : Fin 65) :
    part m s b h b.isLt h.isLt (ix4 0 0 i d) = if hd : d.val < 64 then
        ∑ t : Fin 128, Ideal.exp (score X Wq K b h ⟨i.val, by omega⟩ (row s t)) * V (ix4 b (row s t) h ⟨d.val, hd⟩)
      else ∑ t : Fin 128, Ideal.exp (score X Wq K b h ⟨i.val, by omega⟩ (row s t)) := by
  have own' : off s 16 = s := by revert s; decide
  have hs : ∀ t : Fin 128, (∑ x : Fin 64, qgAt m b h b.isLt h.isLt (ix4 0 0 i x) * kAt m s 1 b h (by decide) b.isLt h.isLt (ix5 0 0 0 t x) : EReal) * Ideal.ofBits .f32 0x3E000000#32 = score X Wq K b h ⟨i.val, by omega⟩ (row s t) := by
    intro t
    unfold score
    refine congrArg (fun z : EReal => z * Ideal.ofBits .f32 0x3E000000#32) (Finset.sum_congr rfl fun x _ => ?_)
    refine congrArg₂ (fun y z : EReal => y * z) ?_ ?_
    · refine (qgAt_at m b h i x).trans (Finset.sum_congr rfl fun l _ => ?_)
      refine congrArg₂ (fun y z : EReal => y * z) ((H.x _ b _ l).trans ?_) (congrFun (H.wq _) _)
      exact congrArg (fun z => X (ix3 b z l)) (Fin.ext (by show 128 * 0 + i.val = i.val; omega))
    · refine (kAt_at m s 1 (by decide) b h t x).trans ?_
      rw [show off s (1 + 15) = s from own']
      exact H.k s b t h x
  have hv : ∀ (t : Fin 128) (e : Fin 64), vAt m s 1 b h (by decide) b.isLt h.isLt (ix5 0 0 0 t e) = V (ix4 b (row s t) h e) := by
    intro t e
    refine (vAt_at m s 1 (by decide) b h t e).trans ?_
    rw [show off s (1 + 15) = s from own']
    exact H.v s b t h e
  refine (part_val _ _ _ i d).trans ?_
  simp only [hs, hv]

/-- The devices' shares together are attention over all keys. -/
theorem merged_at (H : Blocks m X Wq K V Wo) (hX : ∀ i, IsReal (X i)) (hW : ∀ i, IsReal (Wq i)) (hK : ∀ i, IsReal (K i)) (b : Fin 2) (h : Fin 4) (i : Fin 32) (d : Fin 64) :
    k0_pay1 (F := Ideal) (PA m) (ix4 b h i d) = attend (fun j : Fin 2048 => score X Wq K b h ⟨i.val, by omega⟩ j) (fun j => V (ix4 b j h d)) := by
  have hall : ∀ f : Fin 2048 → EReal, ∑ s : Fin 16, ∑ t : Fin 128, f (row s t) = ∑ j, f j := by
    intro f
    refine Eq.trans ?_ (Fin.sum_univ_tiles 16 128 rfl f).symm
    exact Finset.sum_congr rfl fun s _ => Finset.sum_congr rfl fun t _ => congrArg f (Fin.ext (by show 128 * s.val + t.val = s.val * 128 + t.val; omega))
  choose σ hσ using fun j => score_real hX hW hK b h ⟨i.val, by omega⟩ j
  refine (merged (PA m) b h i d).trans ?_
  have e1 : ∀ s : Fin 16, @Eq EReal (PA m (ix5 s b h i ⟨d.val, by omega⟩)) (∑ t : Fin 128, Ideal.exp (score X Wq K b h ⟨i.val, by omega⟩ (row s t)) * V (ix4 b (row s t) h d) : EReal) :=
    fun s => (PA_at m s b h i _).trans ((part_at H s b h i _).trans (dif_pos d.isLt))
  have e2 : ∀ s : Fin 16, @Eq EReal (PA m (ix5 s b h i 64)) (∑ t : Fin 128, Ideal.exp (score X Wq K b h ⟨i.val, by omega⟩ (row s t)) : EReal) :=
    fun s => (PA_at m s b h i _).trans ((part_at H s b h i _).trans (dif_neg (by decide)))
  refine (congrArg₂ Ideal.div ((Finset.sum_congr rfl fun s _ => e1 s).trans (hall fun j => Ideal.exp (score X Wq K b h ⟨i.val, by omega⟩ j) * V (ix4 b j h d)))
    ((Finset.sum_congr rfl fun s _ => e2 s).trans (hall fun j => Ideal.exp (score X Wq K b h ⟨i.val, by omega⟩ j)))).trans ?_
  simp only [hσ]
  exact (attend_all σ _).symm

/-! ## A device's block of the output -/

/-- A row of the reference's result, from its heads. -/
def want (X : FVec Ideal Cert.ReferenceIdeal.S2x2048x512 .bf16) (Wq : FVec Ideal S512x256 .bf16) (K V : FVec Ideal Cert.ReferenceIdeal.S2x2048x4x64 .bf16) (b : Fin 2) (r : Fin 2048) (e : Fin 256) : EReal :=
  attend (fun j : Fin 2048 => if Allowed r.val j.val then score X Wq K b ⟨e.val / 64, by omega⟩ r j else ⊥) (fun j => V (ix4 b j ⟨e.val / 64, by omega⟩ ⟨e.val % 64, by omega⟩))

/-- Every device holds the whole output weights. -/
theorem wo_eq (H : Blocks m X Wq K V Wo) (c : Fin 16) (e : Fin 256) (n : Fin 512) : wo m c (ix2 e n) = Wo (ix2 e n) :=
  (wo_at m c e n).trans (congrFun (H.wo c) _)

/-- A row outside the first 32 is the attended row times the output weights. -/
theorem band_row (H : Blocks m X Wq K V Wo) (hX : ∀ i, IsReal (X i)) (hW : ∀ i, IsReal (Wq i)) (hK : ∀ i, IsReal (K i))
    (c : Fin 16) (b : Fin 2) (i : Fin 128) (n : Fin 512) (hr : 32 ≤ 128 * c.val + i.val) :
    rowsV (wo m c) (hd m c b) (ix3 0 i n) = (∑ e : Fin 256, want X Wq K V b (row c i) e * Wo (ix2 e n) : EReal) := by
  refine (rowsV_at _ _ i n).trans (Finset.sum_congr rfl fun e _ => congrArg₂ (fun y z : EReal => y * z) ?_ (wo_eq H c e n))
  exact hd_row H hX hW hK c b _ i _ hr

/-- A merged row of the global queries is the attended row. -/
theorem global_row (H : Blocks m X Wq K V Wo) (hX : ∀ i, IsReal (X i)) (hW : ∀ i, IsReal (Wq i)) (hK : ∀ i, IsReal (K i)) (b : Fin 2) (i : Fin 32) (e : Fin 256) :
    k0_pay1 (F := Ideal) (PA m) (ix4 b ⟨e.val / 64, by omega⟩ i ⟨e.val % 64, by omega⟩) = want X Wq K V b ⟨i.val, by omega⟩ e := by
  refine (merged_at H hX hW hK b _ i _).trans ?_
  unfold want
  refine congrArg (fun f : Fin 2048 → EReal => attend f _) (funext fun j => (if_pos ?_).symm)
  exact .inr (.inr i.isLt)

/-- A device's output block, element by element. -/
theorem outAt_at (H : Blocks m X Wq K V Wo) (hX : ∀ i, IsReal (X i)) (hW : ∀ i, IsReal (Wq i)) (hK : ∀ i, IsReal (K i)) (c : Fin 16) (b : Fin 2) (i : Fin 128) (n : Fin 512) :
    outAt m c (ix3 b i n) = (∑ e : Fin 256, want X Wq K V b (row c i) e * Wo (ix2 e n) : EReal) := by
  have h2 : 32 ≤ 128 * c.val + i.val → out2 m c (ix3 b i n) = (∑ e : Fin 256, want X Wq K V b (row c i) e * Wo (ix2 e n) : EReal) := by
    intro hr
    refine Eq.trans ?_ (band_row H hX hW hK c b i n hr)
    match b with
    | 0 => exact (congrArg (OB0 m c) (ix3_eq_valueIdx 0 i n).symm)
    | 1 => exact (congrArg (OB1 m c) (ix3_eq_valueIdx 0 i n).symm)
  by_cases hc : c = dev0
  · rw [show outAt m c = out4 m c from if_pos hc]
    by_cases hi : i.val < 32
    · subst hc
      have hrow : row dev0 i = ⟨i.val, by omega⟩ := Fin.ext (by show 128 * 0 + i.val = i.val; omega)
      rw [hrow]
      match b with
      | 0 =>
        show (if h : (0 : ℕ) = 1 ∧ i.val < 32 then _ else if h : (0 : ℕ) = 0 ∧ i.val < 32 then OG0 m dev0 (ValueIdx.ix3 0 ⟨i.val, h.2⟩ n) else _) = _
        rw [dif_neg (by omega), dif_pos ⟨rfl, hi⟩]
        refine (congrArg (OG0 m dev0) (ix3_eq_valueIdx 0 _ n).symm).trans ((OG0_at _ _ ⟨i.val, hi⟩ n).trans (Finset.sum_congr rfl fun e _ => congrArg₂ (fun y z : EReal => y * z) (global_row H hX hW hK 0 ⟨i.val, hi⟩ e) (wo_eq H _ e n)))
      | 1 =>
        show (if h : (1 : ℕ) = 1 ∧ i.val < 32 then OG1 m dev0 (ValueIdx.ix3 0 ⟨i.val, h.2⟩ n) else _) = _
        rw [dif_pos ⟨rfl, hi⟩]
        refine (congrArg (OG1 m dev0) (ix3_eq_valueIdx 0 _ n).symm).trans ((OG1_at _ _ ⟨i.val, hi⟩ n).trans (Finset.sum_congr rfl fun e _ => congrArg₂ (fun y z : EReal => y * z) (global_row H hX hW hK 1 ⟨i.val, hi⟩ e) (wo_eq H _ e n)))
    · refine Eq.trans ?_ (h2 (by omega))
      show (if h : b.val = 1 ∧ i.val < 32 then _ else if h : b.val = 0 ∧ i.val < 32 then _ else _) = _
      rw [dif_neg (by omega), dif_neg (by omega)]
  · rw [show outAt m c = out2 m c from if_neg hc]
    refine h2 ?_
    have : c.val ≠ 0 := fun e => hc (Fin.ext e)
    omega

end Cert.Att
-- ==== Proof.Agree.lean ====
/-
# Each device's result is its block of the reference's

The precondition gives finite blocks on every device, hence finite whole arrays; the equation then gives the claim.
-/
module

public import proofs.«01_k».proof.Proof.Core
public import proofs.«01_k».proof.Proof.Frames

@[expose] public section

set_option maxRecDepth 16384

noncomputable section

namespace Cert.Att
open Cert.KernelIdeal Cert.KernelIdeal.Gen Idealize.ShloMosaic Idealize.ShloMosaic.TcCoe Idealize.SL.Sem

/-- The side conditions of the precondition, over a device's blocks and over the whole arrays. -/
theorem preFacts : Cert.Pre_finite_KernelIdeal.Facts := ⟨by decide, by decide, by decide⟩
/-- The side conditions of the precondition over the whole arrays. -/
theorem preFacts' : Cert.Pre_finite_ReferenceIdeal.Facts := ⟨by decide, by decide, by decide⟩

attribute [local instance] Cert.KernelIdeal.Gen.facts Cert.ReferenceIdeal.Gen.facts preFacts preFacts'

/-- The bits of the precondition's constant are plus infinity. -/
theorem pos_inf : Ideal.ofBits .bf16 0x7F80#16 = ⊤ := by
  simp only [Ideal.ofBits, Ideal.ieee]
  rw [if_pos (by decide), if_pos (by decide), if_neg (by decide)]

/-- A value below infinity in size is a real number. -/
theorem real_of_test (a : EReal) (h : Ideal.cmp .olt (max a (-a)) (Ideal.ofBits .bf16 0x7F80#16) = 1#1) : IsReal a := by
  rw [pos_inf] at h
  have hlt : max a (-a) < ⊤ := by
    by_contra hn
    have h' : BitVec.ofBool (decide (max a (-a) < ⊤)) = 1#1 := h
    rw [decide_eq_false hn] at h'
    exact absurd h' (by decide)
  induction a with
  | bot => exact absurd hlt (by rw [EReal.neg_bot, max_eq_right bot_le]; exact lt_irrefl _)
  | top => exact absurd hlt (by rw [max_eq_left le_top]; exact lt_irrefl _)
  | coe r => exact ⟨r, rfl⟩

/-- What the precondition says of one device's blocks. -/
theorem real_blocks (x : FVec Ideal S2x128x512 .bf16) (w : FVec Ideal S512x256 .bf16) (k v : FVec Ideal S2x128x4x64 .bf16) (o : FVec Ideal S256x512 .bf16)
    (h : (Cert.Pre_finite_KernelIdeal.fn (F := Ideal) x w k v o).1 = (fun _ => 1#1) ∧ (Cert.Pre_finite_KernelIdeal.fn (F := Ideal) x w k v o).2.1 = (fun _ => 1#1)
      ∧ (Cert.Pre_finite_KernelIdeal.fn (F := Ideal) x w k v o).2.2 = (fun _ => 1#1)) :
    (∀ i, IsReal (x i)) ∧ (∀ i, IsReal (w i)) ∧ ∀ i, IsReal (k i) :=
  ⟨fun i => real_of_test _ (congrFun h.1 i), fun i => real_of_test _ (congrFun h.2.1 i), fun i => real_of_test _ (congrFun h.2.2 i)⟩

/-- Where a block's element lies in the whole array. -/
theorem block3 {α : Type} (c : Fin 16) (A : (⟨3, ![2, 2048, 512]⟩ : Shape).Idx → α) (b : Fin 2) (i : Fin 128) (l : Fin 512) :
    Layout.block ⟨3, ![2, 128, 512]⟩ ⟨3, ![2, 2048, 512]⟩ 1 16 c A (by decide) (ix3 b i l) = A (ix3 b (row c i) l) := by
  rw [Layout.block_apply]
  refine congrArg A (funext fun a => Fin.ext ?_)
  rw [Layout.Tiles.idx_val]
  match a with
  | ⟨0, _⟩ => rfl
  | ⟨1, _⟩ => show c.val * 128 + i.val = 128 * c.val + i.val; omega
  | ⟨2, _⟩ => rfl
/-- An element of a device's block of a four-dimensional array cut along the sequence. -/
theorem block4 {α : Type} (c : Fin 16) (A : (⟨4, ![2, 2048, 4, 64]⟩ : Shape).Idx → α) (b : Fin 2) (i : Fin 128) (h : Fin 4) (d : Fin 64) :
    Layout.block ⟨4, ![2, 128, 4, 64]⟩ ⟨4, ![2, 2048, 4, 64]⟩ 1 16 c A (by decide) (ix4 b i h d) = A (ix4 b (row c i) h d) := by
  rw [Layout.block_apply]
  refine congrArg A (funext fun a => Fin.ext ?_)
  rw [Layout.Tiles.idx_val]
  match a with
  | ⟨0, _⟩ => rfl
  | ⟨1, _⟩ => show c.val * 128 + i.val = 128 * c.val + i.val; omega
  | ⟨2, _⟩ => rfl
  | ⟨3, _⟩ => rfl

/-- A row of the whole array is a row of some device's block. -/
theorem row_of (r : Fin 2048) : r = row ⟨r.val / 128, by omega⟩ ⟨r.val % 128, by omega⟩ := Fin.ext (by show r.val = 128 * (r.val / 128) + r.val % 128; omega)

/-- Where every device's blocks are real, the whole arrays are. -/
theorem whole_real {m : (ℓ : Loc nD τ sig) → Buf (Elt Ideal) ℓ} {X : FVec Ideal Cert.ReferenceIdeal.S2x2048x512 .bf16} {Wq : FVec Ideal S512x256 .bf16} {K V : FVec Ideal Cert.ReferenceIdeal.S2x2048x4x64 .bf16} {Wo : FVec Ideal S256x512 .bf16}
    (H : Blocks m X Wq K V Wo) (hf : ∀ c, (∀ i, IsReal (aX m c i)) ∧ (∀ i, IsReal (aWq m c i)) ∧ ∀ i, IsReal (aK m c i)) :
    (∀ i, IsReal (X i)) ∧ (∀ i, IsReal (Wq i)) ∧ ∀ i, IsReal (K i) := by
  have hx : ∀ b r l, IsReal (X (ix3 b r l)) := by
    intro b r l
    rw [row_of r, ← H.x]
    exact (hf _).1 _
  have hk : ∀ b r h d, IsReal (K (ix4 b r h d)) := by
    intro b r h d
    rw [row_of r, ← H.k]
    exact (hf _).2.2 _
  refine ⟨fun i => ?_, fun i => ?_, fun i => ?_⟩
  · rw [eq_ix3 i]; exact hx _ _ _
  · rw [← H.wq 0]; exact (hf 0).2.1 i
  · rw [eq_ix4 i]; exact hk _ _ _ _

/-- The output window is the whole output block. -/
theorem emb5 (j : S2x128x512.Idx) : (win0_5.blk (0 : Fin 1)).view.emb j = j := by
  funext a; apply Fin.ext
  match a with
  | ⟨0, _⟩ => show 0 * 2 + 1 * (j 0).val = (j 0).val; omega
  | ⟨1, _⟩ => show 0 * 128 + 1 * (j 1).val = (j 1).val; omega
  | ⟨2, _⟩ => show 0 * 512 + 1 * (j 2).val = (j 2).val; omega

/-- The result array after the run is the device's output block. -/
theorem result_at (m : (ℓ : Loc nD τ sig) → Buf (Elt Ideal) ℓ) (ρ : Dev nD → PrngReg) (c : Dev nD) (j : S2x128x512.Idx) : (dats m ρ 0 c).arrAt (5 : Fin 6) cfg0.N j = outAt m c j := by
  have e := (dats m ρ 0 c).arrAt_emb_eq_flushed (5 : Fin 6) (fun t t' _ _ h => absurd (Subsingleton.elim (α := Fin 1) t t') h) (0 : Fin 1) (flush0_5 (0 : Fin 1)) j
  refine (congrArg ((dats m ρ 0 c).arrAt (5 : Fin 6) cfg0.N) (emb5 j)).symm.trans (e.trans ?_)
  rfl

set_option maxHeartbeats 1000000 in
/-- The kernel's output blocks are the blocks of the reference's result. -/
theorem agree : Cert.algebraic_KernelIdeal_ReferenceIdeal_pre_finite_KernelIdeal := by
  intro m g m' g' hp hb
  refine ⟨Cert.ReferenceIdeal.Value.res_main_v47 m' 0, ?_, ?_⟩
  · refine (θ_run (defs (F := Ideal)) _ _).mono (fun r h c => ⟨?_, (h.1 c).2⟩) (run_values m g)
    refine (h.1 c).1.trans (funext fun j => (result_at m g c j).trans ?_)
    have H : Blocks m (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))
        (m' (((0 : Dev Cert.ReferenceIdeal.nD).tc : Thread Cert.ReferenceIdeal.nD Cert.ReferenceIdeal.τ).loc Cert.ReferenceIdeal.main_arg4)) :=
      ⟨fun c b i l => (congrFun (hb c).1 _).trans (block3 c _ b i l), fun c => (hb c).2.1, fun c b i h d => (congrFun (hb c).2.2.1 _).trans (block4 c _ b i h d),
        fun c b i h d => (congrFun (hb c).2.2.2.1 _).trans (block4 c _ b i h d), fun c => (hb c).2.2.2.2⟩
    have hf := fun c => real_blocks _ _ _ _ _ (hp c)
    obtain ⟨hX, hW, hK⟩ := whole_real H hf
    rw [eq_ix3 j]
    refine (outAt_at H hX hW hK c (j 0) (j 1) (j 2)).trans (Eq.trans ?_ (block3 c _ (j 0) (j 1) (j 2)).symm)
    refine Eq.trans ?_ (congrFun (result_eq m' 0) _).symm
    exact (rAll_at _ _ _ _ _ (j 0) (row c (j 1)) (j 2)).symm
  · exact (θ_run (Cert.ReferenceIdeal.defs (F := Ideal)) _ _).mono (fun r h => h 0) (Cert.ReferenceIdeal.Value.run m' g')

end Cert.Att
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- All the claims: the three programs run to their end with every semaphore at zero, with and without the precondition; the idealized kernel keeps the kernel's course; and with finite activations, query weights and keys each device's result is its block of the reference's. -/
theorem claim : Cert.Claim := ⟨Cert.Kernel.Gen.facts, Cert.KernelIdeal.Gen.facts, Cert.ReferenceIdeal.Gen.facts,
  Cert.Att.preFacts, Cert.Att.preFacts',
  Cert.Att.frame_bits, Cert.Att.frame_ideal, (fun m ρ _ => Cert.Att.frame_ideal m ρ trivial),
  Cert.Att.frame_reference, (fun m ρ _ => Cert.Att.frame_reference m ρ trivial), Cert.Att.preserved, Cert.Att.agree⟩

end Cert.Proof

end
